-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)) (v3 : (c : Dev Cert.KernelIdeal.nD) → Buf (Elt Ideal) ((c.tc : Thread Cert.KernelIdeal.nD Cert.KernelIdeal.τ).loc Cert.KernelIdeal.main_v78_3)) (v4 : (c : Dev Cert.KernelIdeal.nD) → Buf (Elt Ideal) ((c.tc : Thread Cert.KernelIdeal.nD Cert.KernelIdeal.τ).loc Cert.KernelIdeal.main_v78_4)) (v5 : (c : Dev Cert.KernelIdeal.nD) → Buf (Elt Ideal) ((c.tc : Thread Cert.KernelIdeal.nD Cert.KernelIdeal.τ).loc Cert.KernelIdeal.main_v78_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_v78_3) = v3 c
          ∧ r.2.mem ((c.tc : Thread Cert.KernelIdeal.nD Cert.KernelIdeal.τ).loc Cert.KernelIdeal.main_v78_4) = v4 c
          ∧ r.2.mem ((c.tc : Thread Cert.KernelIdeal.nD Cert.KernelIdeal.τ).loc Cert.KernelIdeal.main_v78_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_v175) = v4 c
          ∧ r.2.mem ((c.tc : Thread Cert.ReferenceIdeal.nD Cert.ReferenceIdeal.τ).loc Cert.ReferenceIdeal.main_v179) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2176x5120 : Shape := ⟨2, ![2176, 5120]⟩
abbrev S2176x16 : Shape := ⟨2, ![2176, 16]⟩
abbrev S64 : Shape := ⟨1, ![64]⟩
abbrev S2064x1024 : Shape := ⟨2, ![2064, 1024]⟩
abbrev S_ : Shape := ⟨0, ![]⟩

class Facts : Prop where
  bcast_S_S2176x5120 : S_.BroadcastsInDim S2176x5120 (![] : Fin 0 → Fin S2176x5120.rank)
  bcast_S_S2176x16 : S_.BroadcastsInDim S2176x16 (![] : Fin 0 → Fin S2176x16.rank)
  bcast_S_S64 : S_.BroadcastsInDim S64 (![] : Fin 0 → Fin S64.rank)
  bcast_S_S2064x1024 : S_.BroadcastsInDim S2064x1024 (![] : Fin 0 → Fin S2064x1024.rank)

variable [Facts]

def fn_part1 {F : FTy → Type} [FloatOps F] (main_arg3 : FVec F S64 .f32) (main_arg4 : FVec F S2064x1024 .f32) (main_v4 : IVec S2176x5120 1) (main_v9 : IVec S2176x16 1) (main_v14 : IVec S64 1) (main_v16 : IVec S64 1) : IVec S2176x5120 1 × IVec S2176x16 1 × IVec S64 1 × IVec S64 1 × IVec S2064x1024 1 :=
  let main_cst_6 : FVec F S_ .f32 := constant S_ .f32 0x7F800000#32
  let main_v17 : FVec F S64 .f32 := broadcastInDim S64 ![] bcast_S_S64 main_cst_6
  let main_v18 : IVec S64 1 := cmpf .olt main_arg3 main_v17
  let main_v19 : IVec S64 1 := andi main_v16 main_v18
  let main_cst_7 : FVec F S_ .f32 := constant S_ .f32 0xFF800000#32
  let main_v20 : FVec F S2064x1024 .f32 := broadcastInDim S2064x1024 ![] bcast_S_S2064x1024 main_cst_7
  let main_v21 : IVec S2064x1024 1 := cmpf .ogt main_arg4 main_v20
  let main_cst_8 : FVec F S_ .f32 := constant S_ .f32 0x7F800000#32
  let main_v22 : FVec F S2064x1024 .f32 := broadcastInDim S2064x1024 ![] bcast_S_S2064x1024 main_cst_8
  let main_v23 : IVec S2064x1024 1 := cmpf .olt main_arg4 main_v22
  let main_v24 : IVec S2064x1024 1 := andi main_v21 main_v23
  (main_v4, main_v9, main_v14, main_v19, main_v24)

def fn {F : FTy → Type} [FloatOps F] (main_arg0 : FVec F S2176x5120 .f32) (main_arg1 : FVec F S2176x16 .f32) (main_arg2 : FVec F S64 .f32) (main_arg3 : FVec F S64 .f32) (main_arg4 : FVec F S2064x1024 .f32) : IVec S2176x5120 1 × IVec S2176x16 1 × IVec S64 1 × IVec S64 1 × IVec S2064x1024 1 :=
  let main_cst : FVec F S_ .f32 := constant S_ .f32 0xFF800000#32
  let main_v0 : FVec F S2176x5120 .f32 := broadcastInDim S2176x5120 ![] bcast_S_S2176x5120 main_cst
  let main_v1 : IVec S2176x5120 1 := cmpf .ogt main_arg0 main_v0
  let main_cst_0 : FVec F S_ .f32 := constant S_ .f32 0x7F800000#32
  let main_v2 : FVec F S2176x5120 .f32 := broadcastInDim S2176x5120 ![] bcast_S_S2176x5120 main_cst_0
  let main_v3 : IVec S2176x5120 1 := cmpf .olt main_arg0 main_v2
  let main_v4 : IVec S2176x5120 1 := andi main_v1 main_v3
  let main_cst_1 : FVec F S_ .f32 := constant S_ .f32 0xFF800000#32
  let main_v5 : FVec F S2176x16 .f32 := broadcastInDim S2176x16 ![] bcast_S_S2176x16 main_cst_1
  let main_v6 : IVec S2176x16 1 := cmpf .ogt main_arg1 main_v5
  let main_cst_2 : FVec F S_ .f32 := constant S_ .f32 0x7F800000#32
  let main_v7 : FVec F S2176x16 .f32 := broadcastInDim S2176x16 ![] bcast_S_S2176x16 main_cst_2
  let main_v8 : IVec S2176x16 1 := cmpf .olt main_arg1 main_v7
  let main_v9 : IVec S2176x16 1 := andi main_v6 main_v8
  let main_cst_3 : FVec F S_ .f32 := constant S_ .f32 0xFF800000#32
  let main_v10 : FVec F S64 .f32 := broadcastInDim S64 ![] bcast_S_S64 main_cst_3
  let main_v11 : IVec S64 1 := cmpf .ogt main_arg2 main_v10
  let main_cst_4 : FVec F S_ .f32 := constant S_ .f32 0x7F800000#32
  let main_v12 : FVec F S64 .f32 := broadcastInDim S64 ![] bcast_S_S64 main_cst_4
  let main_v13 : IVec S64 1 := cmpf .olt main_arg2 main_v12
  let main_v14 : IVec S64 1 := andi main_v11 main_v13
  let main_cst_5 : FVec F S_ .f32 := constant S_ .f32 0xFF800000#32
  let main_v15 : FVec F S64 .f32 := broadcastInDim S64 ![] bcast_S_S64 main_cst_5
  let main_v16 : IVec S64 1 := cmpf .ogt main_arg3 main_v15
  fn_part1 (F := F) main_arg3 main_arg4 main_v4 main_v9 main_v14 main_v16
-- ==== Pre_finite2.lean ====
abbrev S2176x2048 : Shape := ⟨2, ![2176, 2048]⟩
abbrev S5632x2048 : Shape := ⟨2, ![5632, 2048]⟩
abbrev S2176x5632 : Shape := ⟨2, ![2176, 5632]⟩
abbrev S_ : Shape := ⟨0, ![]⟩

class Facts : Prop where
  bitsLt_bf16_f32 : FTy.bits .bf16 < FTy.bits .f32
  bcast_S_S2176x2048 : S_.BroadcastsInDim S2176x2048 (![] : Fin 0 → Fin S2176x2048.rank)
  bcast_S_S5632x2048 : S_.BroadcastsInDim S5632x2048 (![] : Fin 0 → Fin S5632x2048.rank)
  bcast_S_S2176x5632 : S_.BroadcastsInDim S2176x5632 (![] : Fin 0 → Fin S2176x5632.rank)

variable [Facts]

def fn_part1 {F : FTy → Type} [FloatOps F] (main_arg3 : FVec F S2176x5632 .bf16) (main_v6 : IVec S2176x2048 1) (main_v13 : IVec S5632x2048 1) (main_v16 : IVec S2176x5632 1) (main_v17 : FVec F S2176x5632 .f32) (main_cst_4 : FVec F S_ .f32) : IVec S2176x2048 1 × IVec S5632x2048 1 × IVec S2176x5632 1 × IVec S2176x5632 1 :=
  let main_v18 : FVec F S2176x5632 .f32 := broadcastInDim S2176x5632 ![] bcast_S_S2176x5632 main_cst_4
  let main_v19 : IVec S2176x5632 1 := cmpf .olt main_v17 main_v18
  let main_v20 : IVec S2176x5632 1 := andi main_v16 main_v19
  let main_v21 : FVec F S2176x5632 .f32 := (extf .f32 · bitsLt_bf16_f32) main_arg3
  let main_cst_5 : FVec F S_ .f32 := constant S_ .f32 0xFF800000#32
  let main_v22 : FVec F S2176x5632 .f32 := broadcastInDim S2176x5632 ![] bcast_S_S2176x5632 main_cst_5
  let main_v23 : IVec S2176x5632 1 := cmpf .ogt main_v21 main_v22
  let main_v24 : FVec F S2176x5632 .f32 := (extf .f32 · bitsLt_bf16_f32) main_arg3
  let main_cst_6 : FVec F S_ .f32 := constant S_ .f32 0x7F800000#32
  let main_v25 : FVec F S2176x5632 .f32 := broadcastInDim S2176x5632 ![] bcast_S_S2176x5632 main_cst_6
  let main_v26 : IVec S2176x5632 1 := cmpf .olt main_v24 main_v25
  let main_v27 : IVec S2176x5632 1 := andi main_v23 main_v26
  (main_v6, main_v13, main_v20, main_v27)

def fn {F : FTy → Type} [FloatOps F] (main_arg0 : FVec F S2176x2048 .bf16) (main_arg1 : FVec F S5632x2048 .bf16) (main_arg2 : FVec F S2176x5632 .bf16) (main_arg3 : FVec F S2176x5632 .bf16) : IVec S2176x2048 1 × IVec S5632x2048 1 × IVec S2176x5632 1 × IVec S2176x5632 1 :=
  let main_v0 : FVec F S2176x2048 .f32 := (extf .f32 · bitsLt_bf16_f32) main_arg0
  let main_cst : FVec F S_ .f32 := constant S_ .f32 0xFF800000#32
  let main_v1 : FVec F S2176x2048 .f32 := broadcastInDim S2176x2048 ![] bcast_S_S2176x2048 main_cst
  let main_v2 : IVec S2176x2048 1 := cmpf .ogt main_v0 main_v1
  let main_v3 : FVec F S2176x2048 .f32 := (extf .f32 · bitsLt_bf16_f32) main_arg0
  let main_cst_0 : FVec F S_ .f32 := constant S_ .f32 0x7F800000#32
  let main_v4 : FVec F S2176x2048 .f32 := broadcastInDim S2176x2048 ![] bcast_S_S2176x2048 main_cst_0
  let main_v5 : IVec S2176x2048 1 := cmpf .olt main_v3 main_v4
  let main_v6 : IVec S2176x2048 1 := andi main_v2 main_v5
  let main_v7 : FVec F S5632x2048 .f32 := (extf .f32 · bitsLt_bf16_f32) main_arg1
  let main_cst_1 : FVec F S_ .f32 := constant S_ .f32 0xFF800000#32
  let main_v8 : FVec F S5632x2048 .f32 := broadcastInDim S5632x2048 ![] bcast_S_S5632x2048 main_cst_1
  let main_v9 : IVec S5632x2048 1 := cmpf .ogt main_v7 main_v8
  let main_v10 : FVec F S5632x2048 .f32 := (extf .f32 · bitsLt_bf16_f32) main_arg1
  let main_cst_2 : FVec F S_ .f32 := constant S_ .f32 0x7F800000#32
  let main_v11 : FVec F S5632x2048 .f32 := broadcastInDim S5632x2048 ![] bcast_S_S5632x2048 main_cst_2
  let main_v12 : IVec S5632x2048 1 := cmpf .olt main_v10 main_v11
  let main_v13 : IVec S5632x2048 1 := andi main_v9 main_v12
  let main_v14 : FVec F S2176x5632 .f32 := (extf .f32 · bitsLt_bf16_f32) main_arg2
  let main_cst_3 : FVec F S_ .f32 := constant S_ .f32 0xFF800000#32
  let main_v15 : FVec F S2176x5632 .f32 := broadcastInDim S2176x5632 ![] bcast_S_S2176x5632 main_cst_3
  let main_v16 : IVec S2176x5632 1 := cmpf .ogt main_v14 main_v15
  let main_v17 : FVec F S2176x5632 .f32 := (extf .f32 · bitsLt_bf16_f32) main_arg2
  let main_cst_4 : FVec F S_ .f32 := constant S_ .f32 0x7F800000#32
  fn_part1 (F := F) main_arg3 main_v6 main_v13 main_v16 main_v17 main_cst_4
-- ==== Kernel.lean ====
abbrev S2176x5120 : Shape := ⟨2, ![2176, 5120]⟩
abbrev S2176x16 : Shape := ⟨2, ![2176, 16]⟩
abbrev S64 : Shape := ⟨1, ![64]⟩
abbrev S2064x1024 : Shape := ⟨2, ![2064, 1024]⟩
abbrev S128x128 : Shape := ⟨2, ![128, 128]⟩
abbrev S2176x1024 : Shape := ⟨2, ![2176, 1024]⟩
abbrev S2176x16x64 : Shape := ⟨3, ![2176, 16, 64]⟩
abbrev S_ : Shape := ⟨0, ![]⟩
abbrev S2176x16x1 : Shape := ⟨3, ![2176, 16, 1]⟩
abbrev S1x1x64 : Shape := ⟨3, ![1, 1, 64]⟩
abbrev S16x2176 : Shape := ⟨2, ![16, 2176]⟩
abbrev S2176 : Shape := ⟨1, ![2176]⟩
abbrev S16x2176x2176 : Shape := ⟨3, ![16, 2176, 2176]⟩
abbrev S16x2176x1 : Shape := ⟨3, ![16, 2176, 1]⟩
abbrev S16x1x2176 : Shape := ⟨3, ![16, 1, 2176]⟩
abbrev S2176x1 : Shape := ⟨2, ![2176, 1]⟩
abbrev S1x2176 : Shape := ⟨2, ![1, 2176]⟩
abbrev S2176x2176 : Shape := ⟨2, ![2176, 2176]⟩
abbrev S16x2064x2176 : Shape := ⟨3, ![16, 2064, 2176]⟩
abbrev S16x2064 : Shape := ⟨2, ![16, 2064]⟩
abbrev S16x2064x1 : Shape := ⟨3, ![16, 2064, 1]⟩
abbrev S2064x16 : Shape := ⟨2, ![2064, 16]⟩
abbrev S8x2x2176 : Shape := ⟨3, ![8, 2, 2176]⟩
abbrev S8x8x2176 : Shape := ⟨3, ![8, 8, 2176]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S2176x128 : Shape := ⟨2, ![2176, 128]⟩
abbrev S1x8x2176 : Shape := ⟨3, ![1, 8, 2176]⟩
abbrev S8x2176 : Shape := ⟨2, ![8, 2176]⟩
abbrev S128x1 : Shape := ⟨2, ![128, 1]⟩
abbrev S1x1x128 : Shape := ⟨3, ![1, 1, 128]⟩
abbrev S128 : Shape := ⟨1, ![128]⟩
abbrev S256x128 : Shape := ⟨2, ![256, 128]⟩
abbrev S384x128 : Shape := ⟨2, ![384, 128]⟩
abbrev S256x384 : Shape := ⟨2, ![256, 384]⟩
abbrev S256x1 : Shape := ⟨2, ![256, 1]⟩
abbrev S1x1x384 : Shape := ⟨3, ![1, 1, 384]⟩
abbrev S1x384 : Shape := ⟨2, ![1, 384]⟩
abbrev S256 : Shape := ⟨1, ![256]⟩
abbrev S384 : Shape := ⟨1, ![384]⟩
abbrev S384x256 : Shape := ⟨2, ![384, 256]⟩
abbrev S640x128 : Shape := ⟨2, ![640, 128]⟩
abbrev S256x640 : Shape := ⟨2, ![256, 640]⟩
abbrev S1x1x640 : Shape := ⟨3, ![1, 1, 640]⟩
abbrev S1x640 : Shape := ⟨2, ![1, 640]⟩
abbrev S640 : Shape := ⟨1, ![640]⟩
abbrev S640x256 : Shape := ⟨2, ![640, 256]⟩
abbrev S896x128 : Shape := ⟨2, ![896, 128]⟩
abbrev S256x896 : Shape := ⟨2, ![256, 896]⟩
abbrev S1x1x896 : Shape := ⟨3, ![1, 1, 896]⟩
abbrev S1x896 : Shape := ⟨2, ![1, 896]⟩
abbrev S896 : Shape := ⟨1, ![896]⟩
abbrev S896x256 : Shape := ⟨2, ![896, 256]⟩
abbrev S1152x128 : Shape := ⟨2, ![1152, 128]⟩
abbrev S256x1152 : Shape := ⟨2, ![256, 1152]⟩
abbrev S1x1x1152 : Shape := ⟨3, ![1, 1, 1152]⟩
abbrev S1x1152 : Shape := ⟨2, ![1, 1152]⟩
abbrev S1152 : Shape := ⟨1, ![1152]⟩
abbrev S1152x256 : Shape := ⟨2, ![1152, 256]⟩
abbrev S1408x128 : Shape := ⟨2, ![1408, 128]⟩
abbrev S256x1408 : Shape := ⟨2, ![256, 1408]⟩
abbrev S1x1x1408 : Shape := ⟨3, ![1, 1, 1408]⟩
abbrev S1x1408 : Shape := ⟨2, ![1, 1408]⟩
abbrev S1408 : Shape := ⟨1, ![1408]⟩
abbrev S1408x256 : Shape := ⟨2, ![1408, 256]⟩
abbrev S1664x128 : Shape := ⟨2, ![1664, 128]⟩
abbrev S256x1664 : Shape := ⟨2, ![256, 1664]⟩
abbrev S1x1x1664 : Shape := ⟨3, ![1, 1, 1664]⟩
abbrev S1x1664 : Shape := ⟨2, ![1, 1664]⟩
abbrev S1664 : Shape := ⟨1, ![1664]⟩
abbrev S1664x256 : Shape := ⟨2, ![1664, 256]⟩
abbrev S1920x128 : Shape := ⟨2, ![1920, 128]⟩
abbrev S256x1920 : Shape := ⟨2, ![256, 1920]⟩
abbrev S1x1x1920 : Shape := ⟨3, ![1, 1, 1920]⟩
abbrev S1x1920 : Shape := ⟨2, ![1, 1920]⟩
abbrev S1920 : Shape := ⟨1, ![1920]⟩
abbrev S1920x256 : Shape := ⟨2, ![1920, 256]⟩
abbrev S256x2176 : Shape := ⟨2, ![256, 2176]⟩
abbrev S1x1x2176 : Shape := ⟨3, ![1, 1, 2176]⟩
abbrev S2176x256 : Shape := ⟨2, ![2176, 256]⟩
abbrev S8x128 : Shape := ⟨2, ![8, 128]⟩

abbrev nBuf : Space → Nat
  | .hbm => 111
  | .vmem => 37
  | .smem => 0
  | _ => 0

abbrev bufTy : (tb : Table) → Fin (tcTables nBuf tb) → BufTy
  | .hbm, ⟨0, _⟩ => ⟨S2176x5120, .f32⟩
  | .hbm, ⟨1, _⟩ => ⟨S2176x16, .f32⟩
  | .hbm, ⟨2, _⟩ => ⟨S64, .f32⟩
  | .hbm, ⟨3, _⟩ => ⟨S64, .f32⟩
  | .hbm, ⟨4, _⟩ => ⟨S2064x1024, .f32⟩
  | .hbm, ⟨5, _⟩ => ⟨S128x128, .f32⟩
  | .hbm, ⟨6, _⟩ => ⟨S128x128, .f32⟩
  | .hbm, ⟨7, _⟩ => ⟨S2176x1024, .f32⟩
  | .hbm, ⟨8, _⟩ => ⟨S2176x1024, .f32⟩
  | .hbm, ⟨9, _⟩ => ⟨S2176x16x64, .f32⟩
  | .hbm, ⟨10, _⟩ => ⟨S2176x16x64, .f32⟩
  | .hbm, ⟨11, _⟩ => ⟨S_, .f32⟩
  | .hbm, ⟨12, _⟩ => ⟨S2176x16, .f32⟩
  | .hbm, ⟨13, _⟩ => ⟨S2176x16x1, .f32⟩
  | .hbm, ⟨14, _⟩ => ⟨S_, .f32⟩
  | .hbm, ⟨15, _⟩ => ⟨S2176x16x1, .f32⟩
  | .hbm, ⟨16, _⟩ => ⟨S2176x16x1, .f32⟩
  | .hbm, ⟨17, _⟩ => ⟨S_, .f32⟩
  | .hbm, ⟨18, _⟩ => ⟨S2176x16x1, .f32⟩
  | .hbm, ⟨19, _⟩ => ⟨S2176x16x1, .f32⟩
  | .hbm, ⟨20, _⟩ => ⟨S2176x16x1, .f32⟩
  | .hbm, ⟨21, _⟩ => ⟨S2176x16x64, .f32⟩
  | .hbm, ⟨22, _⟩ => ⟨S2176x16x64, .f32⟩
  | .hbm, ⟨23, _⟩ => ⟨S1x1x64, .f32⟩
  | .hbm, ⟨24, _⟩ => ⟨S2176x16x64, .f32⟩
  | .hbm, ⟨25, _⟩ => ⟨S2176x16x64, .f32⟩
  | .hbm, ⟨26, _⟩ => ⟨S2176x16x64, .f32⟩
  | .hbm, ⟨27, _⟩ => ⟨S2176x16x64, .f32⟩
  | .hbm, ⟨28, _⟩ => ⟨S_, .f32⟩
  | .hbm, ⟨29, _⟩ => ⟨S2176x16, .f32⟩
  | .hbm, ⟨30, _⟩ => ⟨S2176x16x1, .f32⟩
  | .hbm, ⟨31, _⟩ => ⟨S_, .f32⟩
  | .hbm, ⟨32, _⟩ => ⟨S2176x16x1, .f32⟩
  | .hbm, ⟨33, _⟩ => ⟨S2176x16x1, .f32⟩
  | .hbm, ⟨34, _⟩ => ⟨S_, .f32⟩
  | .hbm, ⟨35, _⟩ => ⟨S2176x16x1, .f32⟩
  | .hbm, ⟨36, _⟩ => ⟨S2176x16x1, .f32⟩
  | .hbm, ⟨37, _⟩ => ⟨S2176x16x1, .f32⟩
  | .hbm, ⟨38, _⟩ => ⟨S2176x16x64, .f32⟩
  | .hbm, ⟨39, _⟩ => ⟨S2176x16x64, .f32⟩
  | .hbm, ⟨40, _⟩ => ⟨S1x1x64, .f32⟩
  | .hbm, ⟨41, _⟩ => ⟨S2176x16x64, .f32⟩
  | .hbm, ⟨42, _⟩ => ⟨S2176x16x64, .f32⟩
  | .hbm, ⟨43, _⟩ => ⟨S16x2176, .f32⟩
  | .hbm, ⟨44, _⟩ => ⟨S2176, .i32⟩
  | .hbm, ⟨45, _⟩ => ⟨S16x2176x2176, .f32⟩
  | .hbm, ⟨46, _⟩ => ⟨S_, .f32⟩
  | .hbm, ⟨47, _⟩ => ⟨S16x2176x2176, .f32⟩
  | .hbm, ⟨48, _⟩ => ⟨S16x2176x2176, .f32⟩
  | .hbm, ⟨49, _⟩ => ⟨S16x2176x1, .f32⟩
  | .hbm, ⟨50, _⟩ => ⟨S16x2176x2176, .f32⟩
  | .hbm, ⟨51, _⟩ => ⟨S16x2176x2176, .f32⟩
  | .hbm, ⟨52, _⟩ => ⟨S16x1x2176, .f32⟩
  | .hbm, ⟨53, _⟩ => ⟨S16x2176x2176, .f32⟩
  | .hbm, ⟨54, _⟩ => ⟨S16x2176x2176, .f32⟩
  | .hbm, ⟨55, _⟩ => ⟨S2176x1, .i32⟩
  | .hbm, ⟨56, _⟩ => ⟨S1x2176, .i32⟩
  | .hbm, ⟨57, _⟩ => ⟨S2176x2176, .i32⟩
  | .hbm, ⟨58, _⟩ => ⟨S2176x2176, .i32⟩
  | .hbm, ⟨59, _⟩ => ⟨S2176x2176, .i1⟩
  | .hbm, ⟨60, _⟩ => ⟨S_, .i32⟩
  | .hbm, ⟨61, _⟩ => ⟨S1x2176, .i32⟩
  | .hbm, ⟨62, _⟩ => ⟨S1x2176, .i1⟩
  | .hbm, ⟨63, _⟩ => ⟨S2176x2176, .i1⟩
  | .hbm, ⟨64, _⟩ => ⟨S2176x2176, .i1⟩
  | .hbm, ⟨65, _⟩ => ⟨S_, .f32⟩
  | .hbm, ⟨66, _⟩ => ⟨S_, .f32⟩
  | .hbm, ⟨67, _⟩ => ⟨S16x2176x2176, .i1⟩
  | .hbm, ⟨68, _⟩ => ⟨S16x2176x2176, .f32⟩
  | .hbm, ⟨69, _⟩ => ⟨S16x2176x2176, .f32⟩
  | .hbm, ⟨70, _⟩ => ⟨S16x2064x2176, .f32⟩
  | .hbm, ⟨71, _⟩ => ⟨S_, .f32⟩
  | .hbm, ⟨72, _⟩ => ⟨S16x2064, .f32⟩
  | .hbm, ⟨73, _⟩ => ⟨S16x2064x1, .f32⟩
  | .hbm, ⟨74, _⟩ => ⟨S16x2064x2176, .f32⟩
  | .hbm, ⟨75, _⟩ => ⟨S16x2064x2176, .f32⟩
  | .hbm, ⟨76, _⟩ => ⟨S16x2064x2176, .f32⟩
  | .hbm, ⟨77, _⟩ => ⟨S_, .f32⟩
  | .hbm, ⟨78, _⟩ => ⟨S16x2064, .f32⟩
  | .hbm, ⟨79, _⟩ => ⟨S16x2064, .f32⟩
  | .hbm, ⟨80, _⟩ => ⟨S16x2064, .f32⟩
  | .hbm, ⟨81, _⟩ => ⟨S2064x16, .f32⟩
  | .hbm, ⟨82, _⟩ => ⟨S_, .i32⟩
  | .hbm, ⟨83, _⟩ => ⟨S_, .f32⟩
  | .hbm, ⟨84, _⟩ => ⟨S2176x16, .f32⟩
  | .hbm, ⟨85, _⟩ => ⟨S2176x16x64, .f32⟩
  | .hbm, ⟨86, _⟩ => ⟨S2176x1024, .f32⟩
  | .hbm, ⟨87, _⟩ => ⟨S16x2176, .f32⟩
  | .hbm, ⟨88, _⟩ => ⟨S8x2x2176, .f32⟩
  | .hbm, ⟨89, _⟩ => ⟨S_, .i32⟩
  | .hbm, ⟨90, _⟩ => ⟨S_, .f32⟩
  | .hbm, ⟨91, _⟩ => ⟨S8x8x2176, .f32⟩
  | .hbm, ⟨92, _⟩ => ⟨S_, .i32⟩
  | .hbm, ⟨93, _⟩ => ⟨S_, .f32⟩
  | .hbm, ⟨94, _⟩ => ⟨S2176x1024, .f32⟩
  | .hbm, ⟨95, _⟩ => ⟨S1x64, .f32⟩
  | .hbm, ⟨96, _⟩ => ⟨S1x1x1x64, .f32⟩
  | .hbm, ⟨97, _⟩ => ⟨S1x1x2x64, .f32⟩
  | .hbm, ⟨98, _⟩ => ⟨S1x128, .f32⟩
  | .hbm, ⟨99, _⟩ => ⟨S1x64, .f32⟩
  | .hbm, ⟨100, _⟩ => ⟨S1x1x1x64, .f32⟩
  | .hbm, ⟨101, _⟩ => ⟨S1x1x2x64, .f32⟩
  | .hbm, ⟨102, _⟩ => ⟨S1x128, .f32⟩
  | .hbm, ⟨103, _⟩ => ⟨S2176x16x64, .f32⟩
  | .hbm, ⟨104, _⟩ => ⟨S2176x1024, .f32⟩
  | .hbm, ⟨105, _⟩ => ⟨S2176x1024, .f32⟩
  | .hbm, ⟨106, _⟩ => ⟨S2176x1024, .f32⟩
  | .hbm, ⟨107, _⟩ => ⟨S2176x1024, .f32⟩
  | .hbm, ⟨108, _⟩ => ⟨S8x8x2176, .f32⟩
  | .hbm, ⟨109, _⟩ => ⟨S1x128, .f32⟩
  | .hbm, ⟨110, _⟩ => ⟨S1x128, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S1x8x2176, .f32⟩
  | .local _ .vmem, ⟨9, _⟩ => ⟨S1x8x2176, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S2176x128, .f32⟩
  | .local _ .vmem, ⟨15, _⟩ => ⟨S2176x128, .f32⟩
  | .local _ .vmem, ⟨16, _⟩ => ⟨S2176x128, .f32⟩
  | .local _ .vmem, ⟨17, _⟩ => ⟨S2176x128, .f32⟩
  | .local _ .vmem, ⟨18, _⟩ => ⟨S2176x128, .f32⟩
  | .local _ .vmem, ⟨19, _⟩ => ⟨S2176x128, .f32⟩
  | .local _ .vmem, ⟨20, _⟩ => ⟨S2176x128, .f32⟩
  | .local _ .vmem, ⟨21, _⟩ => ⟨S2176x128, .f32⟩
  | .local _ .vmem, ⟨22, _⟩ => ⟨S2176x128, .f32⟩
  | .local _ .vmem, ⟨23, _⟩ => ⟨S2176x128, .f32⟩
  | .local _ .vmem, ⟨24, _⟩ => ⟨S1x8x2176, .f32⟩
  | .local _ .vmem, ⟨25, _⟩ => ⟨S1x8x2176, .f32⟩
  | .local _ .vmem, ⟨26, _⟩ => ⟨S1x128, .f32⟩
  | .local _ .vmem, ⟨27, _⟩ => ⟨S1x128, .f32⟩
  | .local _ .vmem, ⟨28, _⟩ => ⟨S2176x128, .bf16⟩
  | .local _ .vmem, ⟨29, _⟩ => ⟨S2176x128, .bf16⟩
  | .local _ .vmem, ⟨30, _⟩ => ⟨S2176x128, .bf16⟩
  | .local _ .vmem, ⟨31, _⟩ => ⟨S2176x128, .bf16⟩
  | .local _ .vmem, ⟨32, _⟩ => ⟨S2176x128, .bf16⟩
  | .local _ .vmem, ⟨33, _⟩ => ⟨S2176x128, .bf16⟩
  | .local _ .vmem, ⟨34, _⟩ => ⟨S2176x128, .f32⟩
  | .local _ .vmem, ⟨35, _⟩ => ⟨S2176x128, .f32⟩
  | .local _ .vmem, ⟨36, _⟩ => ⟨S2176x128, .f32⟩
  | _, _ => ⟨S2176x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_call1_v0 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_call2_v0 : Ref sig .tc := ⟨.hbm, 90, rfl⟩
abbrev main_v66 : Ref sig .tc := ⟨.hbm, 91, rfl⟩
abbrev main_c_13 : Ref sig .tc := ⟨.hbm, 92, rfl⟩
abbrev main_call3_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78_0 : Ref sig .tc := ⟨.hbm, 105, rfl⟩
abbrev main_v78_1 : Ref sig .tc := ⟨.hbm, 106, rfl⟩
abbrev main_v78_2 : Ref sig .tc := ⟨.hbm, 107, rfl⟩
abbrev main_v78_3 : Ref sig .tc := ⟨.hbm, 108, rfl⟩
abbrev main_v78_4 : Ref sig .tc := ⟨.hbm, 109, rfl⟩
abbrev main_v78_5 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2176x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2176x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2176x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2176x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x2176 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2176x5120 : Shape := ⟨2, ![2176, 5120]⟩
abbrev S2176x16 : Shape := ⟨2, ![2176, 16]⟩
abbrev S64 : Shape := ⟨1, ![64]⟩
abbrev S2064x1024 : Shape := ⟨2, ![2064, 1024]⟩
abbrev S2176x1024 : Shape := ⟨2, ![2176, 1024]⟩
abbrev S2176x16x64 : Shape := ⟨3, ![2176, 16, 64]⟩
abbrev S_ : Shape := ⟨0, ![]⟩
abbrev S2176x16x1 : Shape := ⟨3, ![2176, 16, 1]⟩
abbrev S1x1x64 : Shape := ⟨3, ![1, 1, 64]⟩
abbrev S16x2176 : Shape := ⟨2, ![16, 2176]⟩
abbrev S2176 : Shape := ⟨1, ![2176]⟩
abbrev S16x2176x2176 : Shape := ⟨3, ![16, 2176, 2176]⟩
abbrev S16x2176x1 : Shape := ⟨3, ![16, 2176, 1]⟩
abbrev S16x1x2176 : Shape := ⟨3, ![16, 1, 2176]⟩
abbrev S2176x1 : Shape := ⟨2, ![2176, 1]⟩
abbrev S1x2176 : Shape := ⟨2, ![1, 2176]⟩
abbrev S2176x2176 : Shape := ⟨2, ![2176, 2176]⟩
abbrev S16x2064x2176 : Shape := ⟨3, ![16, 2064, 2176]⟩
abbrev S16x2064 : Shape := ⟨2, ![16, 2064]⟩
abbrev S16x2064x1 : Shape := ⟨3, ![16, 2064, 1]⟩
abbrev S16x64x2064 : Shape := ⟨3, ![16, 64, 2064]⟩
abbrev S2064x16x64 : Shape := ⟨3, ![2064, 16, 64]⟩
abbrev S16x64x2176 : Shape := ⟨3, ![16, 64, 2176]⟩
abbrev S16x2176x64 : Shape := ⟨3, ![16, 2176, 64]⟩
abbrev S8x2x2176 : Shape := ⟨3, ![8, 2, 2176]⟩
abbrev S8x8x2176 : Shape := ⟨3, ![8, 8, 2176]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩

abbrev nBuf : Space → Nat
  | .hbm => 233
  | .vmem => 0
  | .smem => 0
  | _ => 0

abbrev hbmTy0_0 (i : Nat) : BufTy := match i % 128 with
  | 0 => ⟨S2176x5120, .f32⟩
  | 1 => ⟨S2176x16, .f32⟩
  | 2 => ⟨S64, .f32⟩
  | 3 => ⟨S64, .f32⟩
  | 4 => ⟨S2064x1024, .f32⟩
  | 5 => ⟨S2176x1024, .f32⟩
  | 6 => ⟨S2176x1024, .f32⟩
  | 7 => ⟨S2176x1024, .f32⟩
  | 8 => ⟨S2176x16x64, .f32⟩
  | 9 => ⟨S2176x16x64, .f32⟩
  | 10 => ⟨S2176x16x64, .f32⟩
  | 11 => ⟨S_, .f32⟩
  | 12 => ⟨S2176x16, .f32⟩
  | 13 => ⟨S2176x16x1, .f32⟩
  | 14 => ⟨S_, .f32⟩
  | 15 => ⟨S2176x16x1, .f32⟩
  | 16 => ⟨S2176x16x1, .f32⟩
  | 17 => ⟨S_, .f32⟩
  | 18 => ⟨S2176x16x1, .f32⟩
  | 19 => ⟨S2176x16x1, .f32⟩
  | 20 => ⟨S2176x16x1, .f32⟩
  | 21 => ⟨S2176x16x1, .f32⟩
  | 22 => ⟨S_, .f32⟩
  | 23 => ⟨S2176x16x1, .f32⟩
  | 24 => ⟨S2176x16x1, .f32⟩
  | 25 => ⟨S2176x16x64, .f32⟩
  | 26 => ⟨S2176x16x64, .f32⟩
  | 27 => ⟨S1x1x64, .f32⟩
  | 28 => ⟨S2176x16x64, .f32⟩
  | 29 => ⟨S2176x16x64, .f32⟩
  | 30 => ⟨S2176x16x64, .f32⟩
  | 31 => ⟨S2176x16x64, .f32⟩
  | 32 => ⟨S_, .f32⟩
  | 33 => ⟨S2176x16, .f32⟩
  | 34 => ⟨S2176x16x1, .f32⟩
  | 35 => ⟨S_, .f32⟩
  | 36 => ⟨S2176x16x1, .f32⟩
  | 37 => ⟨S2176x16x1, .f32⟩
  | 38 => ⟨S_, .f32⟩
  | 39 => ⟨S2176x16x1, .f32⟩
  | 40 => ⟨S2176x16x1, .f32⟩
  | 41 => ⟨S2176x16x1, .f32⟩
  | 42 => ⟨S2176x16x1, .f32⟩
  | 43 => ⟨S_, .f32⟩
  | 44 => ⟨S2176x16x1, .f32⟩
  | 45 => ⟨S2176x16x1, .f32⟩
  | 46 => ⟨S2176x16x64, .f32⟩
  | 47 => ⟨S2176x16x64, .f32⟩
  | 48 => ⟨S1x1x64, .f32⟩
  | 49 => ⟨S2176x16x64, .f32⟩
  | 50 => ⟨S2176x16x64, .f32⟩
  | 51 => ⟨S16x2176, .f32⟩
  | 52 => ⟨S2176, .i32⟩
  | 53 => ⟨S16x2176x2176, .f32⟩
  | 54 => ⟨S_, .f32⟩
  | 55 => ⟨S16x2176x2176, .f32⟩
  | 56 => ⟨S16x2176x2176, .f32⟩
  | 57 => ⟨S16x2176x1, .f32⟩
  | 58 => ⟨S16x2176x2176, .f32⟩
  | 59 => ⟨S16x2176x2176, .f32⟩
  | 60 => ⟨S16x1x2176, .f32⟩
  | 61 => ⟨S16x2176x2176, .f32⟩
  | 62 => ⟨S16x2176x2176, .f32⟩
  | 63 => ⟨S2176x1, .i32⟩
  | 64 => ⟨S1x2176, .i32⟩
  | 65 => ⟨S2176x2176, .i32⟩
  | 66 => ⟨S2176x2176, .i32⟩
  | 67 => ⟨S2176x2176, .i1⟩
  | 68 => ⟨S_, .i32⟩
  | 69 => ⟨S1x2176, .i32⟩
  | 70 => ⟨S1x2176, .i1⟩
  | 71 => ⟨S2176x2176, .i1⟩
  | 72 => ⟨S2176x2176, .i1⟩
  | 73 => ⟨S_, .f32⟩
  | 74 => ⟨S_, .f32⟩
  | 75 => ⟨S16x2176x2176, .i1⟩
  | 76 => ⟨S16x2176x2176, .f32⟩
  | 77 => ⟨S16x2176x2176, .f32⟩
  | 78 => ⟨S_, .f32⟩
  | 79 => ⟨S16x2176x2176, .f32⟩
  | 80 => ⟨S16x2064x2176, .f32⟩
  | 81 => ⟨S_, .f32⟩
  | 82 => ⟨S16x2064, .f32⟩
  | 83 => ⟨S16x2064x1, .f32⟩
  | 84 => ⟨S16x2064x2176, .f32⟩
  | 85 => ⟨S16x2064x2176, .i1⟩
  | 86 => ⟨S16x2064x2176, .f32⟩
  | 87 => ⟨S_, .f32⟩
  | 88 => ⟨S16x2064, .f32⟩
  | 89 => ⟨S_, .f32⟩
  | 90 => ⟨S16x2064, .f32⟩
  | 91 => ⟨S16x2064, .f32⟩
  | 92 => ⟨S_, .f32⟩
  | 93 => ⟨S16x2064, .f32⟩
  | 94 => ⟨S16x2064, .i1⟩
  | 95 => ⟨S_, .f32⟩
  | 96 => ⟨S16x2064, .f32⟩
  | 97 => ⟨S16x2064, .i1⟩
  | 98 => ⟨S_, .f32⟩
  | 99 => ⟨S16x2064, .f32⟩
  | 100 => ⟨S_, .f32⟩
  | 101 => ⟨S16x2064, .f32⟩
  | 102 => ⟨S_, .f32⟩
  | 103 => ⟨S16x2064, .f32⟩
  | 104 => ⟨S16x2064, .f32⟩
  | 105 => ⟨S16x2064, .f32⟩
  | 106 => ⟨S16x2064x1, .f32⟩
  | 107 => ⟨S16x2064x2176, .f32⟩
  | 108 => ⟨S16x2064x2176, .f32⟩
  | 109 => ⟨S16x2064x2176, .f32⟩
  | 110 => ⟨S_, .f32⟩
  | 111 => ⟨S16x2064, .f32⟩
  | 112 => ⟨S16x2064x1, .f32⟩
  | 113 => ⟨S16x2064x2176, .f32⟩
  | 114 => ⟨S16x2064x2176, .f32⟩
  | 115 => ⟨S16x2064x1, .f32⟩
  | 116 => ⟨S_, .f32⟩
  | 117 => ⟨S16x2064x1, .f32⟩
  | 118 => ⟨S16x2064x1, .f32⟩
  | 119 => ⟨S16x64x2064, .f32⟩
  | 120 => ⟨S2064x16x64, .f32⟩
  | 121 => ⟨S2064x1024, .f32⟩
  | 122 => ⟨S2064x16x64, .f32⟩
  | 123 => ⟨S16x64x2064, .f32⟩
  | 124 => ⟨S16x2064x2176, .f32⟩
  | 125 => ⟨S16x64x2176, .f32⟩
  | 126 => ⟨S2176x16x64, .f32⟩
  | 127 => ⟨S16x2064x2176, .f32⟩
  | _ => ⟨S2176x5120, .f32⟩

abbrev hbmTy0_1 (i : Nat) : BufTy := match i % 128 with
  | 0 => ⟨S16x2064x2176, .f32⟩
  | 1 => ⟨S16x2064x2176, .f32⟩
  | 2 => ⟨S_, .f32⟩
  | 3 => ⟨S16x2064, .f32⟩
  | 4 => ⟨S16x2064x1, .f32⟩
  | 5 => ⟨S16x2064x1, .f32⟩
  | 6 => ⟨S16x2064x2176, .f32⟩
  | 7 => ⟨S16x2064x2176, .f32⟩
  | 8 => ⟨S_, .f32⟩
  | 9 => ⟨S16x2064, .f32⟩
  | 10 => ⟨S16x2064x2176, .f32⟩
  | 11 => ⟨S16x2064x2176, .f32⟩
  | 12 => ⟨S16x2064x2176, .f32⟩
  | 13 => ⟨S_, .f32⟩
  | 14 => ⟨S16x2176x2176, .f32⟩
  | 15 => ⟨S_, .f32⟩
  | 16 => ⟨S16x2176x2176, .f32⟩
  | 17 => ⟨S16x2176x2176, .f32⟩
  | 18 => ⟨S16x2176x2176, .f32⟩
  | 19 => ⟨S_, .f32⟩
  | 20 => ⟨S16x2176, .f32⟩
  | 21 => ⟨S16x1x2176, .f32⟩
  | 22 => ⟨S_, .f32⟩
  | 23 => ⟨S16x2176, .f32⟩
  | 24 => ⟨S_, .f32⟩
  | 25 => ⟨S16x2176, .f32⟩
  | 26 => ⟨S16x2176x1, .f32⟩
  | 27 => ⟨S_, .f32⟩
  | 28 => ⟨S16x2176, .f32⟩
  | 29 => ⟨S16x2176, .f32⟩
  | 30 => ⟨S_, .f32⟩
  | 31 => ⟨S16x2176x2176, .f32⟩
  | 32 => ⟨S16x2176x2176, .f32⟩
  | 33 => ⟨S16x2176x64, .f32⟩
  | 34 => ⟨S2176x16x64, .f32⟩
  | 35 => ⟨S16x2176x64, .f32⟩
  | 36 => ⟨S2176x16x64, .f32⟩
  | 37 => ⟨S2176x16, .f32⟩
  | 38 => ⟨S2176x16x64, .f32⟩
  | 39 => ⟨S_, .f32⟩
  | 40 => ⟨S64, .f32⟩
  | 41 => ⟨S1x1x64, .f32⟩
  | 42 => ⟨S2176x16x64, .f32⟩
  | 43 => ⟨S2176x16x64, .f32⟩
  | 44 => ⟨S_, .f32⟩
  | 45 => ⟨S64, .f32⟩
  | 46 => ⟨S2176x16x64, .f32⟩
  | 47 => ⟨S_, .f32⟩
  | 48 => ⟨S2176x16, .f32⟩
  | 49 => ⟨S2176x16x1, .f32⟩
  | 50 => ⟨S2176x16x64, .f32⟩
  | 51 => ⟨S2176x16x64, .f32⟩
  | 52 => ⟨S2176x16x1, .f32⟩
  | 53 => ⟨S_, .f32⟩
  | 54 => ⟨S2176x16x1, .f32⟩
  | 55 => ⟨S2176x16x1, .f32⟩
  | 56 => ⟨S_, .f32⟩
  | 57 => ⟨S2176x16, .f32⟩
  | 58 => ⟨S2176x16x64, .f32⟩
  | 59 => ⟨S2176x16x64, .f32⟩
  | 60 => ⟨S2176x16x64, .f32⟩
  | 61 => ⟨S2176x16x64, .f32⟩
  | 62 => ⟨S2176x16x64, .f32⟩
  | 63 => ⟨S2176x1024, .f32⟩
  | 64 => ⟨S2176x16x64, .f32⟩
  | 65 => ⟨S_, .f32⟩
  | 66 => ⟨S64, .f32⟩
  | 67 => ⟨S1x1x64, .f32⟩
  | 68 => ⟨S2176x16x64, .f32⟩
  | 69 => ⟨S2176x16x64, .f32⟩
  | 70 => ⟨S_, .f32⟩
  | 71 => ⟨S64, .f32⟩
  | 72 => ⟨S2176x16x64, .f32⟩
  | 73 => ⟨S_, .f32⟩
  | 74 => ⟨S2176x16, .f32⟩
  | 75 => ⟨S2176x16x1, .f32⟩
  | 76 => ⟨S2176x16x64, .f32⟩
  | 77 => ⟨S2176x16x64, .f32⟩
  | 78 => ⟨S2176x16x1, .f32⟩
  | 79 => ⟨S_, .f32⟩
  | 80 => ⟨S2176x16x1, .f32⟩
  | 81 => ⟨S2176x16x1, .f32⟩
  | 82 => ⟨S_, .f32⟩
  | 83 => ⟨S2176x16, .f32⟩
  | 84 => ⟨S2176x16x64, .f32⟩
  | 85 => ⟨S2176x16x64, .f32⟩
  | 86 => ⟨S2176x16x64, .f32⟩
  | 87 => ⟨S2176x16x64, .f32⟩
  | 88 => ⟨S2176x16x64, .f32⟩
  | 89 => ⟨S2176x1024, .f32⟩
  | 90 => ⟨S2176x1024, .f32⟩
  | 91 => ⟨S16x2176, .f32⟩
  | 92 => ⟨S8x2x2176, .f32⟩
  | 93 => ⟨S8x2x2176, .f32⟩
  | 94 => ⟨S_, .i32⟩
  | 95 => ⟨S_, .f32⟩
  | 96 => ⟨S8x8x2176, .f32⟩
  | 97 => ⟨S1x64, .f32⟩
  | 98 => ⟨S1x1x1x64, .f32⟩
  | 99 => ⟨S1x1x2x64, .f32⟩
  | 100 => ⟨S1x128, .f32⟩
  | 101 => ⟨S1x64, .f32⟩
  | 102 => ⟨S1x1x1x64, .f32⟩
  | 103 => ⟨S1x1x2x64, .f32⟩
  | 104 => ⟨S1x128, .f32⟩
  | _ => ⟨S2176x5120, .f32⟩

abbrev hbmTy (i : Nat) : BufTy := match i / 128 with
  | 0 => hbmTy0_0 i
  | 1 => hbmTy0_1 i
  | _ => ⟨S2176x5120, .f32⟩

abbrev bufTy : (tb : Table) → Fin (tcTables nBuf tb) → BufTy
  | .hbm, ⟨i, _⟩ => hbmTy i
  | _, _ => ⟨S2176x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_call0_v0 : Ref sig .tc := ⟨.hbm, 74, rfl⟩
abbrev main_v58_1 : Ref sig .tc := ⟨.hbm, 75, rfl⟩
abbrev main_call0_v2 : Ref sig .tc := ⟨.hbm, 76, rfl⟩
abbrev main_v58_0 : Ref sig .tc := ⟨.hbm, 77, rfl⟩
abbrev main_call0_cst : Ref sig .tc := ⟨.hbm, 78, rfl⟩
abbrev main_v58_2 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_21 : Ref sig .tc := ⟨.hbm, 141, rfl⟩
abbrev main_v108 : Ref sig .tc := ⟨.hbm, 142, rfl⟩
abbrev main_call1_cst : Ref sig .tc := ⟨.hbm, 143, rfl⟩
abbrev main_call1_v0 : Ref sig .tc := ⟨.hbm, 144, rfl⟩
abbrev main_v109 : Ref sig .tc := ⟨.hbm, 145, rfl⟩
abbrev main_v110 : Ref sig .tc := ⟨.hbm, 146, rfl⟩
abbrev main_cst_22 : Ref sig .tc := ⟨.hbm, 147, rfl⟩
abbrev main_v111 : Ref sig .tc := ⟨.hbm, 148, rfl⟩
abbrev main_v112 : Ref sig .tc := ⟨.hbm, 149, rfl⟩
abbrev main_cst_23 : Ref sig .tc := ⟨.hbm, 150, rfl⟩
abbrev main_v113 : Ref sig .tc := ⟨.hbm, 151, rfl⟩
abbrev main_cst_24 : Ref sig .tc := ⟨.hbm, 152, rfl⟩
abbrev main_v114 : Ref sig .tc := ⟨.hbm, 153, rfl⟩
abbrev main_v115 : Ref sig .tc := ⟨.hbm, 154, rfl⟩
abbrev main_cst_25 : Ref sig .tc := ⟨.hbm, 155, rfl⟩
abbrev main_v116 : Ref sig .tc := ⟨.hbm, 156, rfl⟩
abbrev main_v117 : Ref sig .tc := ⟨.hbm, 157, rfl⟩
abbrev main_cst_26 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_27 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_28 : Ref sig .tc := ⟨.hbm, 172, rfl⟩
abbrev main_v130 : Ref sig .tc := ⟨.hbm, 173, rfl⟩
abbrev main_v131 : Ref sig .tc := ⟨.hbm, 174, rfl⟩
abbrev main_cst_29 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_30 : Ref sig .tc := ⟨.hbm, 181, rfl⟩
abbrev main_v137 : Ref sig .tc := ⟨.hbm, 182, rfl⟩
abbrev main_v138 : Ref sig .tc := ⟨.hbm, 183, rfl⟩
abbrev main_cst_31 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_32 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_33 : Ref sig .tc := ⟨.hbm, 198, rfl⟩
abbrev main_v151 : Ref sig .tc := ⟨.hbm, 199, rfl⟩
abbrev main_v152 : Ref sig .tc := ⟨.hbm, 200, rfl⟩
abbrev main_cst_34 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_35 : Ref sig .tc := ⟨.hbm, 207, rfl⟩
abbrev main_v158 : Ref sig .tc := ⟨.hbm, 208, rfl⟩
abbrev main_v159 : Ref sig .tc := ⟨.hbm, 209, rfl⟩
abbrev main_cst_36 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_c_37 : Ref sig .tc := ⟨.hbm, 222, rfl⟩
abbrev main_call2_v0 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩

abbrev nD : Nat := 1
abbrev τ : Topo := Topo.v7x

variable {F : FTy → Type} [FloatOps F]

def κ : String → Option EReal := fun
  | "mask" => some ⊥
  | _ => none
-- ==== Kernel2.lean ====
abbrev S2176x2048 : Shape := ⟨2, ![2176, 2048]⟩
abbrev S5632x2048 : Shape := ⟨2, ![5632, 2048]⟩
abbrev S2176x5632 : Shape := ⟨2, ![2176, 5632]⟩
abbrev S544x1024 : Shape := ⟨2, ![544, 1024]⟩
abbrev S1408x1024 : Shape := ⟨2, ![1408, 1024]⟩
abbrev S544x1408 : Shape := ⟨2, ![544, 1408]⟩

abbrev nBuf : Space → Nat
  | .hbm => 6
  | .vmem => 13
  | .smem => 0
  | _ => 0

abbrev bufTy : (tb : Table) → Fin (tcTables nBuf tb) → BufTy
  | .hbm, ⟨0, _⟩ => ⟨S2176x2048, .bf16⟩
  | .hbm, ⟨1, _⟩ => ⟨S5632x2048, .bf16⟩
  | .hbm, ⟨2, _⟩ => ⟨S2176x5632, .bf16⟩
  | .hbm, ⟨3, _⟩ => ⟨S2176x5632, .bf16⟩
  | .hbm, ⟨4, _⟩ => ⟨S2176x5632, .bf16⟩
  | .hbm, ⟨5, _⟩ => ⟨S2176x5632, .bf16⟩
  | .local _ .vmem, ⟨0, _⟩ => ⟨S544x1024, .bf16⟩
  | .local _ .vmem, ⟨1, _⟩ => ⟨S544x1024, .bf16⟩
  | .local _ .vmem, ⟨2, _⟩ => ⟨S1408x1024, .bf16⟩
  | .local _ .vmem, ⟨3, _⟩ => ⟨S1408x1024, .bf16⟩
  | .local _ .vmem, ⟨4, _⟩ => ⟨S544x1408, .bf16⟩
  | .local _ .vmem, ⟨5, _⟩ => ⟨S544x1408, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .bf16⟩
  | .local _ .vmem, ⟨11, _⟩ => ⟨S544x1408, .bf16⟩
  | .local _ .vmem, ⟨12, _⟩ => ⟨S544x1408, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S544x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S2176x2048 : Shape := ⟨2, ![2176, 2048]⟩
abbrev S5632x2048 : Shape := ⟨2, ![5632, 2048]⟩
abbrev S2176x5632 : Shape := ⟨2, ![2176, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S5632x2048, .bf16⟩
  | .hbm, ⟨2, _⟩ => ⟨S2176x5632, .bf16⟩
  | .hbm, ⟨3, _⟩ => ⟨S2176x5632, .bf16⟩
  | .hbm, ⟨4, _⟩ => ⟨S2176x5632, .f32⟩
  | .hbm, ⟨5, _⟩ => ⟨S2176x5632, .f32⟩
  | .hbm, ⟨6, _⟩ => ⟨S2176x5632, .f32⟩
  | .hbm, ⟨7, _⟩ => ⟨S_, .f32⟩
  | .hbm, ⟨8, _⟩ => ⟨S2176x5632, .f32⟩
  | .hbm, ⟨9, _⟩ => ⟨S2176x5632, .f32⟩
  | .hbm, ⟨10, _⟩ => ⟨S_, .f32⟩
  | .hbm, ⟨11, _⟩ => ⟨S2176x5632, .f32⟩
  | .hbm, ⟨12, _⟩ => ⟨S2176x5632, .f32⟩
  | .hbm, ⟨13, _⟩ => ⟨S_, .f32⟩
  | .hbm, ⟨14, _⟩ => ⟨S2176x5632, .f32⟩
  | .hbm, ⟨15, _⟩ => ⟨S2176x5632, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S2176x5632, .f32⟩
  | .hbm, ⟨20, _⟩ => ⟨S5632x2048, .f32⟩
  | .hbm, ⟨21, _⟩ => ⟨S2176x2048, .f32⟩
  | .hbm, ⟨22, _⟩ => ⟨S_, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S_, .f32⟩
  | .hbm, ⟨27, _⟩ => ⟨S2176x2048, .f32⟩
  | .hbm, ⟨28, _⟩ => ⟨S2176x2048, .f32⟩
  | .hbm, ⟨29, _⟩ => ⟨S2176x5632, .f32⟩
  | .hbm, ⟨30, _⟩ => ⟨S2176x5632, .f32⟩
  | .hbm, ⟨31, _⟩ => ⟨S2176x5632, .f32⟩
  | .hbm, ⟨32, _⟩ => ⟨S2176x5632, .bf16⟩
  | .hbm, ⟨33, _⟩ => ⟨S2176x5632, .f32⟩
  | .hbm, ⟨34, _⟩ => ⟨S2176x5632, .f32⟩
  | .hbm, ⟨35, _⟩ => ⟨S2176x5632, .f32⟩
  | .hbm, ⟨36, _⟩ => ⟨S2176x5632, .f32⟩
  | .hbm, ⟨37, _⟩ => ⟨S2176x5632, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S2176x2048 : Shape := ⟨2, ![2176, 2048]⟩
abbrev S2176x5632 : Shape := ⟨2, ![2176, 5632]⟩
abbrev S4x2048x1408 : Shape := ⟨3, ![4, 2048, 1408]⟩
abbrev S2176x1024 : Shape := ⟨2, ![2176, 1024]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2176x5632, .bf16⟩
  | .hbm, ⟨2, _⟩ => ⟨S4x2048x1408, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2176x2048 : Shape := ⟨2, ![2176, 2048]⟩
abbrev S2176x5632 : Shape := ⟨2, ![2176, 5632]⟩
abbrev S_ : Shape := ⟨0, ![]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x5632, .bf16⟩
  | .hbm, ⟨2, _⟩ => ⟨S_, .bf16⟩
  | .hbm, ⟨3, _⟩ => ⟨S4x2048x1408, .bf16⟩
  | .hbm, ⟨4, _⟩ => ⟨S2176x2048, .f32⟩
  | .hbm, ⟨5, _⟩ => ⟨S2048x4x1408, .bf16⟩
  | .hbm, ⟨6, _⟩ => ⟨S2048x5632, .bf16⟩
  | .hbm, ⟨7, _⟩ => ⟨S2048x5632, .f32⟩
  | .hbm, ⟨8, _⟩ => ⟨S2176x5632, .f32⟩
  | .hbm, ⟨9, _⟩ => ⟨S2176x5632, .f32⟩
  | .hbm, ⟨10, _⟩ => ⟨S5632x2048, .f32⟩
  | .hbm, ⟨11, _⟩ => ⟨S2048x5632, .f32⟩
  | .hbm, ⟨12, _⟩ => ⟨S2048x5632, .bf16⟩
  | .hbm, ⟨13, _⟩ => ⟨S2048x4x1408, .bf16⟩
  | .hbm, ⟨14, _⟩ => ⟨S4x2048x1408, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S2176x5632 : Shape := ⟨2, ![2176, 5632]⟩
abbrev S2176x2048 : Shape := ⟨2, ![2176, 2048]⟩
abbrev S5632x2048 : Shape := ⟨2, ![5632, 2048]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S5632x2048, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2176x5632 : Shape := ⟨2, ![2176, 5632]⟩
abbrev S2176x2048 : Shape := ⟨2, ![2176, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S2176x2048, .bf16⟩
  | .hbm, ⟨2, _⟩ => ⟨S_, .bf16⟩
  | .hbm, ⟨3, _⟩ => ⟨S5632x2048, .bf16⟩
  | .hbm, ⟨4, _⟩ => ⟨S2176x5632, .f32⟩
  | .hbm, ⟨5, _⟩ => ⟨S5632x2048, .f32⟩
  | .hbm, ⟨6, _⟩ => ⟨S2176x2048, .f32⟩
  | .hbm, ⟨7, _⟩ => ⟨S_, .f32⟩
  | .hbm, ⟨8, _⟩ => ⟨S2176x2048, .f32⟩
  | .hbm, ⟨9, _⟩ => ⟨S2176x2048, .f32⟩
  | .hbm, ⟨10, _⟩ => ⟨S2176x2048, .f32⟩
  | .hbm, ⟨11, _⟩ => ⟨S_, .f32⟩
  | .hbm, ⟨12, _⟩ => ⟨S2176x2048, .f32⟩
  | .hbm, ⟨13, _⟩ => ⟨S2176x2048, .f32⟩
  | .hbm, ⟨14, _⟩ => ⟨S2048x5632, .f32⟩
  | .hbm, ⟨15, _⟩ => ⟨S5632x2048, .f32⟩
  | .hbm, ⟨16, _⟩ => ⟨S5632x2048, .bf16⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S2176x2048 : Shape := ⟨2, ![2176, 2048]⟩
abbrev S4x2048x1408 : Shape := ⟨3, ![4, 2048, 1408]⟩
abbrev S2176x5632 : Shape := ⟨2, ![2176, 5632]⟩
abbrev S544x1024 : Shape := ⟨2, ![544, 1024]⟩
abbrev S1x1024x1408 : Shape := ⟨3, ![1, 1024, 1408]⟩
abbrev S544x1408 : Shape := ⟨2, ![544, 1408]⟩
abbrev S1024x1408 : Shape := ⟨2, ![1024, 1408]⟩

abbrev nBuf : Space → Nat
  | .hbm => 5
  | .vmem => 11
  | .smem => 0
  | _ => 0

abbrev bufTy : (tb : Table) → Fin (tcTables nBuf tb) → BufTy
  | .hbm, ⟨0, _⟩ => ⟨S2176x2048, .bf16⟩
  | .hbm, ⟨1, _⟩ => ⟨S4x2048x1408, .bf16⟩
  | .hbm, ⟨2, _⟩ => ⟨S2176x5632, .bf16⟩
  | .hbm, ⟨3, _⟩ => ⟨S2176x5632, .bf16⟩
  | .hbm, ⟨4, _⟩ => ⟨S2176x5632, .bf16⟩
  | .local _ .vmem, ⟨0, _⟩ => ⟨S544x1024, .bf16⟩
  | .local _ .vmem, ⟨1, _⟩ => ⟨S544x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S544x1408, .bf16⟩
  | .local _ .vmem, ⟨5, _⟩ => ⟨S544x1408, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S544x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S2176x2048 : Shape := ⟨2, ![2176, 2048]⟩
abbrev S4x2048x1408 : Shape := ⟨3, ![4, 2048, 1408]⟩
abbrev S2176x5632 : Shape := ⟨2, ![2176, 5632]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S4x2048x1408, .bf16⟩
  | .hbm, ⟨2, _⟩ => ⟨S2176x5632, .bf16⟩
  | .hbm, ⟨3, _⟩ => ⟨S2176x2048, .f32⟩
  | .hbm, ⟨4, _⟩ => ⟨S2048x4x1408, .bf16⟩
  | .hbm, ⟨5, _⟩ => ⟨S2048x5632, .bf16⟩
  | .hbm, ⟨6, _⟩ => ⟨S2048x5632, .f32⟩
  | .hbm, ⟨7, _⟩ => ⟨S2176x5632, .f32⟩
  | .hbm, ⟨8, _⟩ => ⟨S2176x5632, .f32⟩
  | .hbm, ⟨9, _⟩ => ⟨S2176x5632, .f32⟩
  | .hbm, ⟨10, _⟩ => ⟨S2176x5632, .f32⟩
  | .hbm, ⟨11, _⟩ => ⟨S_, .f32⟩
  | .hbm, ⟨12, _⟩ => ⟨S2176x5632, .f32⟩
  | .hbm, ⟨13, _⟩ => ⟨S2176x5632, .f32⟩
  | .hbm, ⟨14, _⟩ => ⟨S_, .f32⟩
  | .hbm, ⟨15, _⟩ => ⟨S2176x5632, .f32⟩
  | .hbm, ⟨16, _⟩ => ⟨S2176x5632, .f32⟩
  | .hbm, ⟨17, _⟩ => ⟨S2176x5632, .f32⟩
  | .hbm, ⟨18, _⟩ => ⟨S2176x5632, .f32⟩
  | .hbm, ⟨19, _⟩ => ⟨S2176x5632, .bf16⟩
  | .hbm, ⟨20, _⟩ => ⟨S2176x5632, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel6.lean ====
abbrev S2176x2048 : Shape := ⟨2, ![2176, 2048]⟩
abbrev S4x2048x1408 : Shape := ⟨3, ![4, 2048, 1408]⟩
abbrev S2176x5632 : Shape := ⟨2, ![2176, 5632]⟩
abbrev S1088x1024 : Shape := ⟨2, ![1088, 1024]⟩
abbrev S1x1024x1408 : Shape := ⟨3, ![1, 1024, 1408]⟩
abbrev S1088x1408 : Shape := ⟨2, ![1088, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S4x2048x1408, .bf16⟩
  | .hbm, ⟨2, _⟩ => ⟨S2176x5632, .bf16⟩
  | .local _ .vmem, ⟨0, _⟩ => ⟨S1088x1024, .bf16⟩
  | .local _ .vmem, ⟨1, _⟩ => ⟨S1088x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1408, .bf16⟩
  | .local _ .vmem, ⟨5, _⟩ => ⟨S1088x1408, .bf16⟩
  | .local _ .vmem, ⟨6, _⟩ => ⟨S1088x1408, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2176x2048 : Shape := ⟨2, ![2176, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S2176x5632 : Shape := ⟨2, ![2176, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S4x2048x1408, .bf16⟩
  | .hbm, ⟨2, _⟩ => ⟨S2176x2048, .f32⟩
  | .hbm, ⟨3, _⟩ => ⟨S2048x4x1408, .bf16⟩
  | .hbm, ⟨4, _⟩ => ⟨S2048x5632, .bf16⟩
  | .hbm, ⟨5, _⟩ => ⟨S2048x5632, .f32⟩
  | .hbm, ⟨6, _⟩ => ⟨S2176x5632, .f32⟩
  | .hbm, ⟨7, _⟩ => ⟨S2176x5632, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S2176x5632 : Shape := ⟨2, ![2176, 5632]⟩
abbrev S5632x2048 : Shape := ⟨2, ![5632, 2048]⟩
abbrev S2176x2048 : Shape := ⟨2, ![2176, 2048]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x2048, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2176x5632 : Shape := ⟨2, ![2176, 5632]⟩
abbrev S5632x2048 : Shape := ⟨2, ![5632, 2048]⟩
abbrev S2176x2048 : Shape := ⟨2, ![2176, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x5632, .f32⟩
  | .hbm, ⟨4, _⟩ => ⟨S5632x2048, .f32⟩
  | .hbm, ⟨5, _⟩ => ⟨S2176x2048, .f32⟩
  | .hbm, ⟨6, _⟩ => ⟨S_, .f32⟩
  | .hbm, ⟨7, _⟩ => ⟨S2176x2048, .f32⟩
  | .hbm, ⟨8, _⟩ => ⟨S2176x2048, .f32⟩
  | .hbm, ⟨9, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S2176x5632 : Shape := ⟨2, ![2176, 5632]⟩
abbrev S4x2048x1408 : Shape := ⟨3, ![4, 2048, 1408]⟩
abbrev S2176x2048 : Shape := ⟨2, ![2176, 2048]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2176x5632, .bf16⟩
  | .hbm, ⟨1, _⟩ => ⟨S4x2048x1408, .bf16⟩
  | .hbm, ⟨2, _⟩ => ⟨S2176x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2176x5632 : Shape := ⟨2, ![2176, 5632]⟩
abbrev S4x2048x1408 : Shape := ⟨3, ![4, 2048, 1408]⟩
abbrev S_ : Shape := ⟨0, ![]⟩
abbrev S2176x2048 : Shape := ⟨2, ![2176, 2048]⟩
abbrev S2048x4x1408 : Shape := ⟨3, ![2048, 4, 1408]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S4x2048x1408, .bf16⟩
  | .hbm, ⟨2, _⟩ => ⟨S_, .f32⟩
  | .hbm, ⟨3, _⟩ => ⟨S2176x2048, .f32⟩
  | .hbm, ⟨4, _⟩ => ⟨S2048x4x1408, .bf16⟩
  | .hbm, ⟨5, _⟩ => ⟨S2048x5632, .bf16⟩
  | .hbm, ⟨6, _⟩ => ⟨S2048x5632, .f32⟩
  | .hbm, ⟨7, _⟩ => ⟨S2176x5632, .f32⟩
  | .hbm, ⟨8, _⟩ => ⟨S2176x5632, .f32⟩
  | .hbm, ⟨9, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2176x5632 : Shape := ⟨2, ![2176, 5632]⟩
abbrev S4x2048x1408 : Shape := ⟨3, ![4, 2048, 1408]⟩
abbrev S2176x2048 : Shape := ⟨2, ![2176, 2048]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S2176x5632, .bf16⟩
  | .hbm, ⟨1, _⟩ => ⟨S4x2048x1408, .bf16⟩
  | .hbm, ⟨2, _⟩ => ⟨S2176x2048, .f32⟩
  | .hbm, ⟨3, _⟩ => ⟨S2176x2048, .f32⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2176x5632 : Shape := ⟨2, ![2176, 5632]⟩
abbrev S4x2048x1408 : Shape := ⟨3, ![4, 2048, 1408]⟩
abbrev S2176x2048 : Shape := ⟨2, ![2176, 2048]⟩
abbrev S_ : Shape := ⟨0, ![]⟩
abbrev S2048x4x1408 : Shape := ⟨3, ![2048, 4, 1408]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S4x2048x1408, .bf16⟩
  | .hbm, ⟨2, _⟩ => ⟨S2176x2048, .f32⟩
  | .hbm, ⟨3, _⟩ => ⟨S_, .f32⟩
  | .hbm, ⟨4, _⟩ => ⟨S2176x2048, .f32⟩
  | .hbm, ⟨5, _⟩ => ⟨S2048x4x1408, .bf16⟩
  | .hbm, ⟨6, _⟩ => ⟨S2048x5632, .bf16⟩
  | .hbm, ⟨7, _⟩ => ⟨S2048x5632, .f32⟩
  | .hbm, ⟨8, _⟩ => ⟨S2176x5632, .f32⟩
  | .hbm, ⟨9, _⟩ => ⟨S2176x5632, .f32⟩
  | .hbm, ⟨10, _⟩ => ⟨S2176x2048, .f32⟩
  | .hbm, ⟨11, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S2176x2048 : Shape := ⟨2, ![2176, 2048]⟩
abbrev S2048x2048 : Shape := ⟨2, ![2048, 2048]⟩
abbrev S1088x1024 : Shape := ⟨2, ![1088, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2176x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2176x2048 : Shape := ⟨2, ![2176, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2176x2048 : Shape := ⟨2, ![2176, 2048]⟩
abbrev S2048x2048 : Shape := ⟨2, ![2048, 2048]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2176x2048 : Shape := ⟨2, ![2176, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S_, .f32⟩
  | .hbm, ⟨3, _⟩ => ⟨S2176x2048, .f32⟩
  | .hbm, ⟨4, _⟩ => ⟨S2048x2048, .f32⟩
  | .hbm, ⟨5, _⟩ => ⟨S2176x2048, .f32⟩
  | .hbm, ⟨6, _⟩ => ⟨S2176x2048, .f32⟩
  | .hbm, ⟨7, _⟩ => ⟨S2176x2048, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2176x2048 : Shape := ⟨2, ![2176, 2048]⟩
abbrev S2048x2048 : Shape := ⟨2, ![2048, 2048]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S2048x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2176x2048 : Shape := ⟨2, ![2176, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x2048, .bf16⟩
  | .hbm, ⟨2, _⟩ => ⟨S_, .bf16⟩
  | .hbm, ⟨3, _⟩ => ⟨S2048x2048, .bf16⟩
  | .hbm, ⟨4, _⟩ => ⟨S2176x2048, .f32⟩
  | .hbm, ⟨5, _⟩ => ⟨S2048x2048, .f32⟩
  | .hbm, ⟨6, _⟩ => ⟨S2176x2048, .f32⟩
  | .hbm, ⟨7, _⟩ => ⟨S2176x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S2176x2048 : Shape := ⟨2, ![2176, 2048]⟩
abbrev S2048x5120 : Shape := ⟨2, ![2048, 5120]⟩
abbrev S2176x5120 : Shape := ⟨2, ![2176, 5120]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2048x5120, .bf16⟩
  | .hbm, ⟨2, _⟩ => ⟨S2176x5120, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2176x2048 : Shape := ⟨2, ![2176, 2048]⟩
abbrev S2048x5120 : Shape := ⟨2, ![2048, 5120]⟩
abbrev S2176x5120 : Shape := ⟨2, ![2176, 5120]⟩

abbrev nBuf : Space → Nat
  | .hbm => 5
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x5120, .bf16⟩
  | .hbm, ⟨2, _⟩ => ⟨S2176x2048, .f32⟩
  | .hbm, ⟨3, _⟩ => ⟨S2048x5120, .f32⟩
  | .hbm, ⟨4, _⟩ => ⟨S2176x5120, .f32⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2176x5120 : Shape := ⟨2, ![2176, 5120]⟩
abbrev S2048x5120 : Shape := ⟨2, ![2048, 5120]⟩
abbrev S2176x2048 : Shape := ⟨2, ![2176, 2048]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x5120, .bf16⟩
  | .hbm, ⟨1, _⟩ => ⟨S2048x5120, .bf16⟩
  | .hbm, ⟨2, _⟩ => ⟨S2176x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S2176x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2176x5120 : Shape := ⟨2, ![2176, 5120]⟩
abbrev S2048x5120 : Shape := ⟨2, ![2048, 5120]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x5120, .bf16⟩
  | .hbm, ⟨1, _⟩ => ⟨S2048x5120, .bf16⟩
  | .hbm, ⟨2, _⟩ => ⟨S_, .f32⟩
  | .hbm, ⟨3, _⟩ => ⟨S2176x2048, .f32⟩
  | .hbm, ⟨4, _⟩ => ⟨S2048x5120, .f32⟩
  | .hbm, ⟨5, _⟩ => ⟨S2176x5120, .f32⟩
  | .hbm, ⟨6, _⟩ => ⟨S2176x5120, .f32⟩
  | .hbm, ⟨7, _⟩ => ⟨S2176x2048, .f32⟩
  | _, _ => ⟨S2176x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2176x2048 : Shape := ⟨2, ![2176, 2048]⟩
abbrev S2176x5120 : Shape := ⟨2, ![2176, 5120]⟩
abbrev S2048x5120 : Shape := ⟨2, ![2048, 5120]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2176x2048, .bf16⟩
  | .hbm, ⟨1, _⟩ => ⟨S2176x5120, .bf16⟩
  | .hbm, ⟨2, _⟩ => ⟨S2048x5120, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2176x2048 : Shape := ⟨2, ![2176, 2048]⟩
abbrev S2176x5120 : Shape := ⟨2, ![2176, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2176x5120, .bf16⟩
  | .hbm, ⟨2, _⟩ => ⟨S_, .bf16⟩
  | .hbm, ⟨3, _⟩ => ⟨S2048x5120, .bf16⟩
  | .hbm, ⟨4, _⟩ => ⟨S2176x2048, .f32⟩
  | .hbm, ⟨5, _⟩ => ⟨S2048x5120, .f32⟩
  | .hbm, ⟨6, _⟩ => ⟨S2176x5120, .f32⟩
  | .hbm, ⟨7, _⟩ => ⟨S2176x5120, .f32⟩
  | .hbm, ⟨8, _⟩ => ⟨S5120x2048, .f32⟩
  | .hbm, ⟨9, _⟩ => ⟨S2048x5120, .f32⟩
  | .hbm, ⟨10, _⟩ => ⟨S2048x5120, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Spec.lean ====
/-
  The gradient of forgetting attention over the real numbers, head by head.

  A row of queries, of keys and of values is 16 heads of 64 lanes. Queries and keys are divided by their root mean
  square; a query sees the keys at or before it that hold a token (position 112 on); the first 112 rows hold none.
-/
module

public import Idealize.ShloMosaic.PureOps.Ideal
public import Idealize.ShloMosaic.PureOps.Ideal.Laws

@[expose] public section

noncomputable section

namespace Cert.Fox

open Finset

/-- The arguments as real numbers: the projected rows, the cumulated forget logits, the two gains, the upstream
gradient of the rows that hold tokens. -/
structure Inputs where
  u : Fin 2176 → Fin 5120 → ℝ
  c : Fin 2176 → Fin 16 → ℝ
  qg : Fin 64 → ℝ
  kg : Fin 64 → ℝ
  dout : Fin 2064 → Fin 1024 → ℝ

/-- The constant added under the root. -/
def eps : ℝ := 8796093 / 2 ^ 43

theorem eps_pos : 0 < eps := by unfold eps; positivity

/-- Lane `d` of head `h`. -/
def lane (h : Fin 16) (d : Fin 64) : Fin 1024 := ⟨64 * h.val + d.val, by omega⟩

/-- The mean square of a head plus `eps`. -/
def ms (x : Fin 64 → ℝ) : ℝ := (∑ d, x d * x d) / 64 + eps

theorem ms_pos (x : Fin 64 → ℝ) : 0 < ms x :=
  add_pos_of_nonneg_of_pos (div_nonneg (sum_nonneg fun d _ => mul_self_nonneg _) (by norm_num)) eps_pos

/-- One over the root mean square. -/
def ir (x : Fin 64 → ℝ) : ℝ := (√(ms x))⁻¹

/-- A head divided by its root mean square. -/
def nrm (x : Fin 64 → ℝ) (d : Fin 64) : ℝ := x d * ir x

/-- The gradient of `nrm x * g` in `x`, at the upstream gradient `dy`. -/
def nrmBwd (x g dy : Fin 64 → ℝ) (d : Fin 64) : ℝ :=
  ir x * (dy d * g d - nrm x d * ((∑ e, dy e * g e * nrm x e) / 64))

variable (I : Inputs)

namespace Inputs

def xq (t : Fin 2176) (h : Fin 16) (d : Fin 64) : ℝ := I.u t ⟨64 * h.val + d.val, by omega⟩
def xk (t : Fin 2176) (h : Fin 16) (d : Fin 64) : ℝ := I.u t ⟨1024 + (64 * h.val + d.val), by omega⟩
def xv (t : Fin 2176) (h : Fin 16) (d : Fin 64) : ℝ := I.u t ⟨2048 + (64 * h.val + d.val), by omega⟩

/-- The upstream gradient, zero on the rows that hold no token. -/
def dor (t : Fin 2176) (h : Fin 16) (d : Fin 64) : ℝ :=
  if ht : 112 ≤ t.val then I.dout ⟨t.val - 112, by omega⟩ (lane h d) else 0

def qn (t : Fin 2176) (h : Fin 16) (d : Fin 64) : ℝ := nrm (I.xq t h) d * I.qg d
def kn (t : Fin 2176) (h : Fin 16) (d : Fin 64) : ℝ := nrm (I.xk t h) d * I.kg d

/-- The logit of query `q` at key `k`. -/
def score (h : Fin 16) (q k : Fin 2176) : ℝ :=
  (∑ d, I.qn q h d * I.kn k h d) * (1 / 8) + I.c q h - I.c k h

/-- Query `q` sees key `k`. -/
def sees (q k : Fin 2176) : Prop := k.val ≤ q.val ∧ 112 ≤ k.val

instance (q k : Fin 2176) : Decidable (sees q k) := inferInstanceAs (Decidable (_ ∧ _))

/-- The sum of the exponentials a row sees. -/
def tot (h : Fin 16) (q : Fin 2176) : ℝ := ∑ k, if sees q k then Real.exp (I.score h q k) else 0

/-- The weight of key `k` in row `q`. -/
def wt (h : Fin 16) (q k : Fin 2176) : ℝ := if sees q k then Real.exp (I.score h q k) / I.tot h q else 0

def dp (h : Fin 16) (q k : Fin 2176) : ℝ := ∑ d, I.dor q h d * I.xv k h d

/-- The gradient in the logit. -/
def ds (h : Fin 16) (q k : Fin 2176) : ℝ :=
  I.wt h q k * I.dp h q k - I.wt h q k * ∑ k', I.wt h q k' * I.dp h q k'

def dqn (t : Fin 2176) (h : Fin 16) (d : Fin 64) : ℝ := ∑ k, I.ds h t k * (1 / 8) * I.kn k h d
def dkn (t : Fin 2176) (h : Fin 16) (d : Fin 64) : ℝ := ∑ q, I.ds h q t * (1 / 8) * I.qn q h d

def dq (t : Fin 2176) (h : Fin 16) (d : Fin 64) : ℝ := nrmBwd (I.xq t h) I.qg (I.dqn t h) d
def dk (t : Fin 2176) (h : Fin 16) (d : Fin 64) : ℝ := nrmBwd (I.xk t h) I.kg (I.dkn t h) d
def dv (t : Fin 2176) (h : Fin 16) (d : Fin 64) : ℝ := ∑ q, I.wt h q t * I.dor q h d
def dck (h : Fin 16) (k : Fin 2176) : ℝ := ∑ q, I.ds h q k
def dqg (d : Fin 64) : ℝ := ∑ t, ∑ h, I.dqn t h d * nrm (I.xq t h) d
def dkg (d : Fin 64) : ℝ := ∑ t, ∑ h, I.dkn t h d * nrm (I.xk t h) d

theorem tot_pos (h : Fin 16) (q : Fin 2176) (hq : 112 ≤ q.val) : 0 < I.tot h q := by
  unfold tot
  refine lt_of_lt_of_le (Real.exp_pos (I.score h q q)) ?_
  have := single_le_sum (f := fun k => if sees q k then Real.exp (I.score h q k) else 0)
    (fun k _ => by split <;> positivity) (mem_univ q)
  simpa [sees, hq] using this

theorem wt_of_lt (h : Fin 16) (q k : Fin 2176) (hq : q.val < 112) : I.wt h q k = 0 := by
  unfold wt; rw [if_neg]; unfold sees; omega

theorem sum_wt (h : Fin 16) (q : Fin 2176) (hq : 112 ≤ q.val) : ∑ k, I.wt h q k = 1 := by
  have ht := I.tot_pos h q hq
  have : ∀ k, I.wt h q k = (if sees q k then Real.exp (I.score h q k) else 0) / I.tot h q := by
    intro k; unfold wt; split <;> simp
  simp only [this]
  rw [← sum_div]
  exact div_self ht.ne'

theorem ds_of_lt (h : Fin 16) (q k : Fin 2176) (hq : q.val < 112) : I.ds h q k = 0 := by
  unfold ds; rw [I.wt_of_lt h q k hq]; ring

theorem ds_of_not_sees (h : Fin 16) (q k : Fin 2176) (hk : ¬ sees q k) : I.ds h q k = 0 := by
  unfold ds wt; rw [if_neg hk]; ring

/-- The gradients of a row's logits sum to zero. -/
theorem sum_ds (h : Fin 16) (q : Fin 2176) : ∑ k, I.ds h q k = 0 := by
  by_cases hq : q.val < 112
  · exact sum_eq_zero fun k _ => I.ds_of_lt h q k hq
  · unfold ds
    rw [sum_sub_distrib, ← sum_mul, I.sum_wt h q (by omega), one_mul, sub_self]

theorem dor_of_lt (t : Fin 2176) (h : Fin 16) (d : Fin 64) (ht : t.val < 112) : I.dor t h d = 0 := by
  unfold dor; rw [dif_neg]; omega

end Inputs

/-- The gradient of the root-mean-square division, as the transposed chain of its operations computes it. -/
theorem nrmBwd_eq (x g dy : Fin 64 → ℝ) (d : Fin 64) :
    dy d * g d * ir x + x d * ((∑ e, x e * (dy e * g e)) * (-(1 / 2) * (ir x / ms x)) / 64)
      + ((∑ e, x e * (dy e * g e)) * (-(1 / 2) * (ir x / ms x)) / 64) * x d = nrmBwd x g dy d := by
  have hm := ms_pos x
  have hr : ir x / ms x = ir x * ir x * ir x := by
    have h2 : ir x * ir x = (ms x)⁻¹ := by
      unfold ir; rw [← mul_inv, Real.mul_self_sqrt hm.le]
    rw [h2, div_eq_mul_inv, mul_comm]
  have hs : ∑ e, dy e * g e * nrm x e = (∑ e, x e * (dy e * g e)) * ir x := by
    rw [sum_mul]; exact sum_congr rfl fun e _ => by unfold nrm; ring
  unfold nrmBwd
  rw [hs, hr]
  unfold nrm
  ring

/-- The position of the `q`-th row that holds a token. -/
def tok (q : Fin 2064) : Fin 2176 := ⟨112 + q.val, by omega⟩

/-- A sum over the rows that hold tokens is the sum over all rows of a function that vanishes on the others. -/
theorem sum_tok (f : Fin 2176 → ℝ) (hf : ∀ q : Fin 2176, q.val < 112 → f q = 0) : ∑ q, f (tok q) = ∑ q, f q := by
  have h := Fin.sum_univ_add (M := ℝ) (a := 112) (b := 2064) f
  rw [sum_eq_zero fun i _ => hf (Fin.castAdd 2064 i) i.isLt, zero_add] at h
  exact h.symm

/-- Head `r` of pair `j`: head `2 j + r`. -/
def headOf (j : Fin 8) (r : Fin 2) : Fin 16 := ⟨2 * j.val + r.val, by omega⟩
/-- The head of a column of 1024, and its lane. -/
def colHead (j : Fin 1024) : Fin 16 := ⟨j.val / 64, by omega⟩
def colLane (j : Fin 1024) : Fin 64 := ⟨j.val % 64, by omega⟩
/-- A column of 128 is two heads of 64 lanes: the lane, and which of the two. -/
def gainLane (l : Fin 128) : Fin 64 := ⟨l.val % 64, by omega⟩
def half (l : Fin 128) : Fin 2 := ⟨l.val / 64, by omega⟩

end Cert.Fox

end
-- ==== Proof.Scalars.lean ====
/- Real arithmetic inside the extended reals: literals, sums, quotients and exponentials of real numbers. -/
module

public import proofs.«01_k».proof.Proof.Spec
public import Idealize.ShloMosaic.PureOps.Ideal
public import Idealize.ShloMosaic.PureOps.Ideal.Laws

@[expose] public section

noncomputable section

namespace Cert.Fox

open Idealize.ShloMosaic Finset

theorem bits_64 : Ideal.ofBits .f32 0x42800000#32 = ((64 : ℝ) : EReal) := by
  simp [Ideal.ofBits, Ideal.ieee, -EReal.coe_mul]; norm_num
theorem bits_eps : Ideal.ofBits .f32 0x358637BD#32 = ((eps : ℝ) : EReal) := by
  unfold eps
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_64th : Ideal.ofBits .f32 0x3C800000#32 = ((1 / 64 : ℝ) : EReal) := by
  simp [Ideal.ofBits, Ideal.ieee, -EReal.coe_mul]; norm_num
theorem bits_bot : Ideal.ofBits .f32 0xFF800000#32 = (⊥ : EReal) := by
  simp [Ideal.ofBits, Ideal.ieee]

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

theorem div_real {x y : ℝ} (h : y ≠ 0) : Ideal.div (x : EReal) (y : EReal) = ((x / y : ℝ) : EReal) := by
  rw [Ideal.div_coe h, ← EReal.coe_mul, mul_one_div]

theorem rsqrt_ms (x : Fin 64 → ℝ) : Ideal.rsqrt ((ms x : ℝ) : EReal) = ((ir x : ℝ) : EReal) := by
  have h := ms_pos x
  rw [Ideal.rsqrt_coe, if_neg (not_lt.2 h.le), if_neg h.ne']; rfl

/-- A small natural number read as a signed word. -/
theorem toInt_small {n : Nat} (h : n < 4096) : (BitVec.ofNat 32 n).toInt = n := by
  rw [BitVec.toInt_eq_toNat_of_lt] <;> rw [BitVec.toNat_ofNat] <;> omega

/-- The attention mask on positions: key `k` at or before query `q`, and from position 112 on. -/
theorem select_mask {α : Type} {q k : Nat} (hq : q < 4096) (hk : k < 4096) (a b : α) :
    Scalar.select (IntOp.andi (IntOp.cmpi CmpIPredicate.sle (BitVec.ofNat 32 k) (BitVec.ofNat 32 q))
      (IntOp.cmpi CmpIPredicate.sge (BitVec.ofNat 32 k) 112#32)) a b = if k ≤ q ∧ 112 ≤ k then a else b := by
  have h1 : (BitVec.ofNat 32 k).sle (BitVec.ofNat 32 q) = decide (k ≤ q) := by
    rw [BitVec.sle_eq_decide, toInt_small hq, toInt_small hk]; simp
  have h2 : (112#32).sle (BitVec.ofNat 32 k) = decide (112 ≤ k) := by
    rw [BitVec.sle_eq_decide, toInt_small hk, toInt_small (n := 112) (by omega)]
    simp only [decide_eq_decide]; omega
  unfold IntOp.andi IntOp.cmpi Scalar.select
  simp only [h1, h2]
  by_cases h : k ≤ q <;> by_cases h' : 112 ≤ k <;> simp [h, h']

/-- A weight and its real counterpart: `exp (s - M)` for a seen key, nothing for another. -/
theorem exp_sub_ite (p : Prop) [Decidable p] (s M : ℝ) :
    Ideal.exp ((if p then ((s : ℝ) : EReal) else ⊥) - ((M : ℝ) : EReal)) = ((if p then Real.exp (s - M) else 0 : ℝ) : EReal) := by
  split
  · rw [← EReal.coe_sub, Ideal.exp_coe]
  · rw [EReal.bot_sub, Ideal.exp_bot]; rfl

/-- The maximum of finitely many reals and at least one of them is a real. -/
theorem fold_max_real {n : Nat} (f : Fin n → EReal) (s : ℝ) (k : Fin n) (hk : f k = ((s : ℝ) : EReal))
    (hf : ∀ i, f i < ⊤) : ∃ M : ℝ, Finset.univ.fold max (⊥ : EReal) f = ((M : ℝ) : EReal) := by
  have hb : (univ.fold max (⊥ : EReal) f) ≠ ⊥ := by
    have h1 : f k ≤ univ.fold max (⊥ : EReal) f := (Finset.le_fold_max _).2 (Or.inr ⟨k, mem_univ k, le_rfl⟩)
    intro h
    rw [h] at h1
    rw [hk] at h1
    exact EReal.coe_ne_bot _ (le_bot_iff.1 h1)
  have ht : (univ.fold max (⊥ : EReal) f) ≠ ⊤ := by
    have : univ.fold max (⊥ : EReal) f < ⊤ := by
      rw [Finset.fold_max_lt]
      exact ⟨bot_lt_top, fun i _ => hf i⟩
    exact this.ne
  exact ⟨_, (EReal.coe_toReal ht hb).symm⟩

end Cert.Fox

end
-- ==== Proof.Finite.lean ====
/- An element between the infinities is a real number. -/
module

public import proofs.«01_k».proof.Proof.Scalars

@[expose] public section

noncomputable section

namespace Cert.Fox

open Idealize.ShloMosaic

theorem bits_top : Ideal.ofBits .f32 0x7F800000#32 = (⊤ : EReal) := by
  simp [Ideal.ofBits, Ideal.ieee]

/-- An element above minus infinity and below infinity is a real number. -/
theorem real_of_between (x : EReal)
    (h : IntOp.andi (Ideal.cmp .ogt x (Ideal.ofBits .f32 0xFF800000#32)) (Ideal.cmp .olt x (Ideal.ofBits .f32 0x7F800000#32)) = 1#1) :
    x = ((x.toReal : ℝ) : EReal) := by
  rw [bits_bot, bits_top] at h
  refine (EReal.coe_toReal ?_ ?_).symm
  · rintro rfl
    simp [Ideal.cmp, IntOp.andi] at h
  · rintro rfl
    simp [Ideal.cmp, IntOp.andi] at h

end Cert.Fox

end
-- ==== Proof.Ref.lean ====
/- The reference's operations over the real numbers: each value at an index is the formula of `Spec.lean`. -/
module

public import proofs.«01_k».proof.Proof.Spec
public import proofs.«01_k».proof.Proof.Scalars
public import proofs.«01_k».proof.Proof.Gen.ReferenceIdeal.Read
public import Idealize.ShloMosaic.Lib.Pointwise

@[expose] public section

noncomputable section

namespace Cert.Fox.Ref

open Cert.ReferenceIdeal Cert.ReferenceIdeal.Gen Cert.ReferenceIdeal.Read Idealize.ShloMosaic Finset

variable (I : Inputs)
  (x0 : (⟨S2176x5120, .f32⟩ : BufTy).Contents (Elt Ideal)) (x1 : (⟨S2176x16, .f32⟩ : BufTy).Contents (Elt Ideal))
  (x2 x3 : (⟨S64, .f32⟩ : BufTy).Contents (Elt Ideal)) (x4 : (⟨S2064x1024, .f32⟩ : BufTy).Contents (Elt Ideal))

/-- The arguments hold the real numbers of `I`. -/
structure Holds : Prop where
  u : ∀ t j, x0 (ix2 t j) = ((I.u t j : ℝ) : EReal)
  c : ∀ t h, x1 (ix2 t h) = ((I.c t h : ℝ) : EReal)
  qg : ∀ d, x2 (ix1 d) = ((I.qg d : ℝ) : EReal)
  kg : ∀ d, x3 (ix1 d) = ((I.kg d : ℝ) : EReal)
  dout : ∀ t j, x4 (ix2 t j) = ((I.dout t j : ℝ) : EReal)

variable {I x0 x1 x2 x3 x4} (H : Holds I x0 x1 x2 x3 x4)
include H

/-! ### Heads and their norms -/

theorem v4 (t : Fin 2176) (h : Fin 16) (d : Fin 64) :
    val_main_v4 (F := Ideal) x0 (ix3 t h d) = ((I.xq t h d : ℝ) : EReal) := by
  pointwise [val_main_v4, val_main_v0]
  rw [H.u]
  exact congrArg (fun j => ((I.u t j : ℝ) : EReal)) (Fin.ext (by
    show h.val * 64 + d.val = 64 * h.val + d.val; omega))

theorem v21 (t : Fin 2176) (h : Fin 16) (d : Fin 64) :
    val_main_v21 (F := Ideal) x0 (ix3 t h d) = ((I.xk t h d : ℝ) : EReal) := by
  pointwise [val_main_v21, val_main_v1]
  rw [H.u]
  exact congrArg (fun j => ((I.u t j : ℝ) : EReal)) (Fin.ext (by
    show 1024 + (h.val * 64 + d.val) = 1024 + (64 * h.val + d.val); omega))

theorem v3 (t : Fin 2176) (h : Fin 16) (d : Fin 64) :
    val_main_v3 (F := Ideal) x0 (ix3 t h d) = ((I.xv t h d : ℝ) : EReal) := by
  pointwise [val_main_v3, val_main_v2]
  rw [H.u]
  exact congrArg (fun j => ((I.u t j : ℝ) : EReal)) (Fin.ext (by
    show 2048 + (h.val * 64 + d.val) = 2048 + (64 * h.val + d.val); omega))

theorem v11 (t : Fin 2176) (h : Fin 16) (e : Fin 1) :
    val_main_v11 (F := Ideal) x0 (ix3 t h e) = ((ms (I.xq t h) : ℝ) : EReal) := by
  pointwise [val_main_v6, val_main_v5, val_main_cst, val_main_v7, val_main_v8, val_main_v9, val_main_v10, val_main_v11,
    val_main_cst_0, val_main_cst_1]
  simp only [v4 H, bits_64, bits_eps, ← EReal.coe_mul, coe_sum]
  rw [div_real (by norm_num), ← EReal.coe_add]; rfl

theorem v28 (t : Fin 2176) (h : Fin 16) (e : Fin 1) :
    val_main_v28 (F := Ideal) x0 (ix3 t h e) = ((ms (I.xk t h) : ℝ) : EReal) := by
  pointwise [val_main_v22, val_main_v23, val_main_cst_3, val_main_v24, val_main_v25, val_main_v26, val_main_v27, val_main_v28,
    val_main_cst_4, val_main_cst_5]
  simp only [v21 H, bits_64, bits_eps, ← EReal.coe_mul, coe_sum]
  rw [div_real (by norm_num), ← EReal.coe_add]; rfl

theorem v12 (t : Fin 2176) (h : Fin 16) (e : Fin 1) :
    val_main_v12 (F := Ideal) x0 (ix3 t h e) = ((ir (I.xq t h) : ℝ) : EReal) := by
  pointwise [val_main_v12]
  rw [v11 H, rsqrt_ms]

theorem v29 (t : Fin 2176) (h : Fin 16) (e : Fin 1) :
    val_main_v29 (F := Ideal) x0 (ix3 t h e) = ((ir (I.xk t h) : ℝ) : EReal) := by
  pointwise [val_main_v29]
  rw [v28 H, rsqrt_ms]

theorem v15 (t : Fin 2176) (h : Fin 16) (e : Fin 1) :
    val_main_v15 (F := Ideal) x0 (ix3 t h e) = ((-(1 / 2) * (ir (I.xq t h) / ms (I.xq t h)) : ℝ) : EReal) := by
  pointwise [val_main_v15, val_main_v14, val_main_v13, val_main_cst_2]
  rw [v11 H, v12 H, bits_neg_half, div_real (ms_pos _).ne', ← EReal.coe_mul]

theorem v32 (t : Fin 2176) (h : Fin 16) (e : Fin 1) :
    val_main_v32 (F := Ideal) x0 (ix3 t h e) = ((-(1 / 2) * (ir (I.xk t h) / ms (I.xk t h)) : ℝ) : EReal) := by
  pointwise [val_main_v32, val_main_v31, val_main_v30, val_main_cst_6]
  rw [v28 H, v29 H, bits_neg_half, div_real (ms_pos _).ne', ← EReal.coe_mul]

theorem v17 (t : Fin 2176) (h : Fin 16) (d : Fin 64) :
    val_main_v17 (F := Ideal) x0 (ix3 t h d) = ((nrm (I.xq t h) d : ℝ) : EReal) := by
  pointwise [val_main_v17, val_main_v16]
  rw [v4 H, v12 H, ← EReal.coe_mul]; rfl

theorem v34 (t : Fin 2176) (h : Fin 16) (d : Fin 64) :
    val_main_v34 (F := Ideal) x0 (ix3 t h d) = ((nrm (I.xk t h) d : ℝ) : EReal) := by
  pointwise [val_main_v34, val_main_v33]
  rw [v21 H, v29 H, ← EReal.coe_mul]; rfl

theorem v20 (t : Fin 2176) (h : Fin 16) (d : Fin 64) :
    val_main_v20 (F := Ideal) x0 x2 (ix3 t h d) = ((I.qn t h d : ℝ) : EReal) := by
  pointwise [val_main_v20, val_main_v19, val_main_v18]
  rw [v17 H, H.qg, ← EReal.coe_mul]; rfl

theorem v37 (t : Fin 2176) (h : Fin 16) (d : Fin 64) :
    val_main_v37 (F := Ideal) x0 x3 (ix3 t h d) = ((I.kn t h d : ℝ) : EReal) := by
  pointwise [val_main_v37, val_main_v36, val_main_v35]
  rw [v34 H, H.kg, ← EReal.coe_mul]; rfl

/-! ### Logits and weights -/

theorem v48 (h : Fin 16) (q k : Fin 2176) :
    val_main_v48 (F := Ideal) x0 x1 x2 x3 (ix3 h q k) = ((I.score h q k : ℝ) : EReal) := by
  pointwise [val_main_v48, val_main_v47, val_main_v46, val_main_v45, val_main_v44, val_main_v43, val_main_v42,
    val_main_v41, val_main_v40, val_main_v38, val_main_cst_7]
  simp only [v20 H, v37 H, H.c, bits_eighth, ← EReal.coe_mul, coe_sum, ← EReal.coe_add, ← EReal.coe_sub]
  rfl

theorem v58 (h : Fin 16) (q k : Fin 2176) :
    val_main_v58_0 (F := Ideal) x0 x1 x2 x3 (ix3 h q k) = if Inputs.sees q k then ((I.score h q k : ℝ) : EReal) else ⊥ := by
  pointwise [val_main_v58_0, val_main_v58_1, val_main_v57, val_main_v56, val_main_v55, val_main_v54, val_main_v53, val_main_v52,
    val_main_v51, val_main_v50, val_main_v49, val_main_v39, val_main_c, val_main_cst_8, val_main_call0_v2, val_main_call0_v0]
  rw [select_mask (by omega) (by omega), v48 H]
  have hb : id (constant (F := Ideal) S_ FTy.f32 4286578688#32) ix0 = (⊥ : EReal) := bits_bot
  rw [hb]; rfl

theorem v59 (h : Fin 16) (q : Fin 2064) (k : Fin 2176) :
    val_main_v59 (F := Ideal) x0 x1 x2 x3 (ix3 h q k)
      = if Inputs.sees (tok q) k then ((I.score h (tok q) k : ℝ) : EReal) else ⊥ := by
  pointwise [val_main_v59]
  exact v58 H h (tok q) k

end Cert.Fox.Ref

end
-- ==== Proof.Pre.lean ====
/- Finite arguments hold real numbers. -/
module

public import proofs.«01_k».proof.Defs
public import proofs.«01_k».proof.Proof.Finite
public import proofs.«01_k».proof.Proof.Ref
public import proofs.«01_k».proof.Proof.Gen.KernelIdeal

@[expose] public section

noncomputable section

namespace Cert.Fox

open Idealize.ShloMosaic Finset

theorem preFacts : Cert.Pre_finite.Facts := ⟨by decide, by decide, by decide, by decide⟩

/-- The real numbers five arrays hold. -/
def inputsOf (x0 : FVec Ideal Cert.ReferenceIdeal.S2176x5120 .f32) (x1 : FVec Ideal Cert.ReferenceIdeal.S2176x16 .f32)
    (x2 x3 : FVec Ideal Cert.ReferenceIdeal.S64 .f32) (x4 : FVec Ideal Cert.ReferenceIdeal.S2064x1024 .f32) : Inputs where
  u t j := EReal.toReal (x0 (ix2 t j))
  c t h := EReal.toReal (x1 (ix2 t h))
  qg d := EReal.toReal (x2 (ix1 d))
  kg d := EReal.toReal (x3 (ix1 d))
  dout t j := EReal.toReal (x4 (ix2 t j))

theorem holds_of_finite [Cert.Pre_finite.Facts] (x0 : FVec Ideal Cert.ReferenceIdeal.S2176x5120 .f32)
    (x1 : FVec Ideal Cert.ReferenceIdeal.S2176x16 .f32)
    (x2 x3 : FVec Ideal Cert.ReferenceIdeal.S64 .f32) (x4 : FVec Ideal Cert.ReferenceIdeal.S2064x1024 .f32)
    (h0 : (Cert.Pre_finite.fn (F := Ideal) x0 x1 x2 x3 x4).1 = fun _ => 1#1)
    (h1 : (Cert.Pre_finite.fn (F := Ideal) x0 x1 x2 x3 x4).2.1 = fun _ => 1#1)
    (h2 : (Cert.Pre_finite.fn (F := Ideal) x0 x1 x2 x3 x4).2.2.1 = fun _ => 1#1)
    (h3 : (Cert.Pre_finite.fn (F := Ideal) x0 x1 x2 x3 x4).2.2.2.1 = fun _ => 1#1)
    (h4 : (Cert.Pre_finite.fn (F := Ideal) x0 x1 x2 x3 x4).2.2.2.2 = fun _ => 1#1) :
    Ref.Holds (inputsOf x0 x1 x2 x3 x4) x0 x1 x2 x3 x4 where
  u t j := real_of_between _ (congrFun h0 (ix2 t j))
  c t h := real_of_between _ (congrFun h1 (ix2 t h))
  qg d := real_of_between _ (congrFun h2 (ix1 d))
  kg d := real_of_between _ (congrFun h3 (ix1 d))
  dout t j := real_of_between _ (congrFun h4 (ix2 t j))

end Cert.Fox

end
-- ==== Proof.RefB.lean ====
/- The reference's weights and the gradient in its logits. -/
module

public import proofs.«01_k».proof.Proof.Ref

@[expose] public section

noncomputable section

namespace Cert.Fox.Ref

open Cert.ReferenceIdeal Cert.ReferenceIdeal.Gen Cert.ReferenceIdeal.Read Idealize.ShloMosaic Finset

variable {I : Inputs}
  {x0 : (⟨S2176x5120, .f32⟩ : BufTy).Contents (Elt Ideal)} {x1 : (⟨S2176x16, .f32⟩ : BufTy).Contents (Elt Ideal)}
  {x2 x3 : (⟨S64, .f32⟩ : BufTy).Contents (Elt Ideal)} {x4 : (⟨S2064x1024, .f32⟩ : BufTy).Contents (Elt Ideal)}
  (H : Holds I x0 x1 x2 x3 x4)
include H

theorem v60 (h : Fin 16) (q : Fin 2064) :
    val_main_v60 (F := Ideal) x0 x1 x2 x3 (ix2 h q)
      = Finset.univ.fold max (⊥ : EReal) (fun k => val_main_v59 (F := Ideal) x0 x1 x2 x3 (ix3 h q k)) := by
  unfold val_main_v60
  generalize val_main_v59 (F := Ideal) x0 x1 x2 x3 = y
  pointwise [val_main_cst_9]
  rw [bits_bot]

theorem v67 (h : Fin 16) (q : Fin 2064) :
    ∃ M : ℝ, val_main_v67 (F := Ideal) x0 x1 x2 x3 (ix2 h q) = ((M : ℝ) : EReal) := by
  have hs : Inputs.sees (tok q) (tok q) := ⟨Nat.le_refl _, by show 112 ≤ 112 + q.val; omega⟩
  obtain ⟨M, hM⟩ := fold_max_real (fun k => val_main_v59 (F := Ideal) x0 x1 x2 x3 (ix3 h q k)) (I.score h (tok q) (tok q)) (tok q)
    (by rw [v59 H, if_pos hs]) (fun k => by
      rw [v59 H]; split
      · exact EReal.coe_lt_top _
      · exact bot_lt_top)
  refine ⟨M, ?_⟩
  have h66 : val_main_v66 (F := Ideal) (ix2 h q) = (⊥ : EReal) := bits_bot
  rw [val_main_v67_apply, v60 H, hM, Ideal.maximumf_def, h66]
  exact max_eq_right bot_le

/-- One row's exponentials and their sum, up to a common positive factor. -/
theorem v80 (h : Fin 16) (q : Fin 2064) :
    ∃ l : ℝ, 0 < l ∧ (∀ k, val_main_v80 (F := Ideal) x0 x1 x2 x3 (ix3 h q k) = ((I.wt h (tok q) k * l : ℝ) : EReal))
      ∧ val_main_v81 (F := Ideal) x0 x1 x2 x3 (ix2 h q) = ((l : ℝ) : EReal) := by
  obtain ⟨M, hM⟩ := v67 H h q
  have ht := I.tot_pos h (tok q) (Nat.le_add_right _ _)
  have hl : 0 < I.tot h (tok q) * Real.exp (-M) := mul_pos ht (Real.exp_pos _)
  have h80 : ∀ k, val_main_v80 (F := Ideal) x0 x1 x2 x3 (ix3 h q k)
      = ((I.wt h (tok q) k * (I.tot h (tok q) * Real.exp (-M)) : ℝ) : EReal) := by
    intro k
    pointwise [val_main_v80, val_main_v79, val_main_v78, val_main_v77]
    rw [hM, v59 H, exp_sub_ite]
    refine congrArg (fun r : ℝ => (r : EReal)) ?_
    unfold Inputs.wt
    split
    · rw [sub_eq_add_neg, Real.exp_add, div_mul_eq_mul_div, ← mul_assoc, mul_right_comm, mul_div_assoc, div_self ht.ne', mul_one]
    · rw [zero_mul]
  refine ⟨_, hl, h80, ?_⟩
  pointwise [val_main_v81, val_main_cst_17]
  simp only [h80, coe_sum]
  rw [← sum_mul, I.sum_wt h (tok q) (Nat.le_add_right _ _), one_mul]

theorem v84 (h : Fin 16) (q : Fin 2064) (k : Fin 2176) :
    val_main_v84 (F := Ideal) x0 x1 x2 x3 (ix3 h q k) = ((I.wt h (tok q) k : ℝ) : EReal) := by
  obtain ⟨l, hl, h80, h81⟩ := v80 H h q
  pointwise [val_main_v84, val_main_v83, val_main_v82]
  rw [h80, h81, div_real hl.ne', mul_div_cancel_right₀ _ hl.ne']

/-! ### The gradient in the logits -/

theorem v92 (h : Fin 16) (q : Fin 2064) (d : Fin 64) :
    val_main_v92 (F := Ideal) x4 (ix3 h d q) = ((I.dor (tok q) h d : ℝ) : EReal) := by
  pointwise [val_main_v92, val_main_v91]
  rw [H.dout]
  unfold Inputs.dor
  rw [dif_pos (show 112 ≤ (tok q).val from Nat.le_add_right _ _)]
  refine congrArg (fun r : ℝ => (r : EReal)) (congrArg₂ I.dout ?_ ?_)
  · exact Fin.ext (by show q.val = 112 + q.val - 112; omega)
  · exact Fin.ext (by show h.val * 64 + d.val = 64 * h.val + d.val; omega)

theorem v93 (h : Fin 16) (q : Fin 2064) (k : Fin 2176) :
    val_main_v93 (F := Ideal) x0 x4 (ix3 h q k) = ((I.dp h (tok q) k : ℝ) : EReal) := by
  pointwise [val_main_v93]
  simp only [v92 H, v3 H, ← EReal.coe_mul, coe_sum]
  rfl

theorem v107 (h : Fin 16) (q : Fin 2064) (k : Fin 2176) :
    val_main_v107 (F := Ideal) x0 x1 x2 x3 x4 (ix3 h q k) = ((I.ds h (tok q) k : ℝ) : EReal) := by
  obtain ⟨l, hl, h80, h81⟩ := v80 H h q
  pointwise [val_main_v107, val_main_v106, val_main_v105, val_main_v104, val_main_v103, val_main_v102, val_main_v101,
    val_main_v100, val_main_v99, val_main_v98, val_main_v97, val_main_v96, val_main_v87, val_main_v86, val_main_v85,
    val_main_v82, val_main_cst_18, val_main_cst_19, val_main_cst_20]
  simp only [h80, h81, v93 H, ← EReal.coe_mul]
  have h1 : Ideal.div 1 ((l * l : ℝ) : EReal) = ((1 / (l * l) : ℝ) : EReal) := by
    rw [← EReal.coe_one, div_real (mul_pos hl hl).ne']
  simp only [h1, div_real hl.ne', ← EReal.coe_mul, coe_sum, ← EReal.coe_neg, ← EReal.coe_add]
  refine congrArg (fun r : ℝ => (r : EReal)) ?_
  rw [Fin.sum_univ_one]
  have h2 : ∑ x, I.dp h (tok q) x * (1 / (l * l)) * (I.wt h (tok q) x * l)
      = (∑ x, I.wt h (tok q) x * I.dp h (tok q) x) / l := by
    rw [sum_div]; exact sum_congr rfl fun x _ => by field_simp
  rw [h2]
  unfold Inputs.ds
  field_simp
  ring

/-- A function of the rows that hold tokens, set on all rows. -/
theorem v108 (h : Fin 16) (q k : Fin 2176) :
    val_main_v108 (F := Ideal) x0 x1 x2 x3 x4 (ix3 h q k) = ((I.ds h q k : ℝ) : EReal) := by
  have := v107 H
  unfold val_main_v108
  generalize val_main_v107 (F := Ideal) x0 x1 x2 x3 x4 = y at *
  pointwise [val_main_cst_21]
  by_cases hq : 112 ≤ q.val
  · have e : tok ⟨q.val - 112, by omega⟩ = q := Fin.ext (by show 112 + (q.val - 112) = q.val; omega)
    rw [dif_pos ⟨hq, by omega⟩, this, e]
  · rw [dif_neg (fun h => hq h.1), I.ds_of_lt h q k (by omega)]; rfl

theorem v109 (h : Fin 16) (q k : Fin 2176) :
    val_main_v109 (F := Ideal) x0 x1 x2 x3 x4 (ix3 h q k) = ((I.ds h q k : ℝ) : EReal) := by
  pointwise [val_main_v109, val_main_v58_1, val_main_v57, val_main_v56, val_main_v55, val_main_v54, val_main_v53, val_main_v52,
    val_main_v51, val_main_v50, val_main_v49, val_main_v39, val_main_c, val_main_call1_v0, val_main_call1_cst]
  rw [select_mask (by omega) (by omega), v108 H]
  split
  · rfl
  · next hk => rw [I.ds_of_not_sees h q k hk]; rfl

end Cert.Fox.Ref

end
-- ==== Proof.RefC.lean ====
/- The reference's gradients in its arguments. -/
module

public import proofs.«01_k».proof.Proof.RefB

@[expose] public section

noncomputable section

namespace Cert.Fox.Ref

open Cert.ReferenceIdeal Cert.ReferenceIdeal.Gen Cert.ReferenceIdeal.Read Idealize.ShloMosaic Finset

variable {I : Inputs}
  {x0 : (⟨S2176x5120, .f32⟩ : BufTy).Contents (Elt Ideal)} {x1 : (⟨S2176x16, .f32⟩ : BufTy).Contents (Elt Ideal)}
  {x2 x3 : (⟨S64, .f32⟩ : BufTy).Contents (Elt Ideal)} {x4 : (⟨S2064x1024, .f32⟩ : BufTy).Contents (Elt Ideal)}
  (H : Holds I x0 x1 x2 x3 x4)

/-- The host's sum over the first two of three axes. -/
theorem hostSum_two {n0 n1 n2 : Nat} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d) = init + ∑ a : Fin n0, ∑ b : Fin n1, v (ix3 a b d) := by
  unfold Ideal.hostReduceAdd
  have key : ∀ i : (⟨3, ![n0, n1, n2]⟩ : Shape).Idx, h.drop i = ix1 d ↔ i 2 = d := by
    intro i
    constructor
    · intro e
      exact Fin.ext (congrArg Fin.val (congrFun e 0))
    · intro e
      funext b
      match b with
      | ⟨0, _⟩ => exact Fin.ext (congrArg Fin.val e)
  refine congrArg (init + ·) ?_
  rw [sum_filter, sum_idx3]
  refine sum_congr rfl fun a _ => sum_congr rfl fun b _ => ?_
  rw [sum_eq_single d (fun c _ hc => if_neg fun e => hc ((key _).1 e)) (fun hd => absurd (mem_univ d) hd)]
  exact if_pos ((key _).2 rfl)

include H

/-! ### The gradients in the normalised rows, the values and the logits' offsets -/

theorem v121 (t : Fin 2176) (h : Fin 16) (d : Fin 64) :
    val_main_v121 (F := Ideal) x0 x1 x2 x3 x4 (ix3 t h d) = ((I.dkn t h d : ℝ) : EReal) := by
  pointwise [val_main_v121, val_main_v120, val_main_v119, val_main_v118, val_main_cst_26]
  simp only [v109 H, v20 H, bits_eighth, ← EReal.coe_mul, coe_sum]
  rfl

theorem v123 (t : Fin 2176) (h : Fin 16) (d : Fin 64) :
    val_main_v123 (F := Ideal) x0 x1 x2 x3 x4 (ix3 t h d) = ((I.dqn t h d : ℝ) : EReal) := by
  pointwise [val_main_v123, val_main_v122, val_main_v119, val_main_v118, val_main_cst_26]
  simp only [v109 H, v37 H, bits_eighth, ← EReal.coe_mul, coe_sum]
  rfl

theorem v95 (t : Fin 2176) (h : Fin 16) (d : Fin 64) :
    val_main_v95 (F := Ideal) x0 x1 x2 x3 x4 (ix3 t h d) = ((I.dv t h d : ℝ) : EReal) := by
  pointwise [val_main_v95, val_main_v94]
  simp only [v92 H, v84 H, ← EReal.coe_mul, coe_sum]
  refine congrArg (fun r : ℝ => (r : EReal)) ?_
  unfold Inputs.dv
  rw [← sum_tok _ fun q hq => by rw [I.wt_of_lt h q t hq, zero_mul]]
  exact sum_congr rfl fun q _ => mul_comm _ _

theorem v117 (h : Fin 16) (k : Fin 2176) :
    val_main_v117 (F := Ideal) x0 x1 x2 x3 x4 (ix2 h k) = ((-I.dck h k : ℝ) : EReal) := by
  pointwise [val_main_v117, val_main_v116, val_main_v115, val_main_v114, val_main_v113, val_main_v112, val_main_v111,
    val_main_v110, val_main_cst_22, val_main_cst_23, val_main_cst_24, val_main_cst_25]
  simp only [v109 H, ← EReal.coe_neg, coe_sum, ← EReal.coe_add]
  refine congrArg (fun r : ℝ => (r : EReal)) ?_
  simp only [Fin.sum_univ_one, I.sum_ds, add_zero, sum_neg_distrib]
  rfl

theorem v170 (j : Fin 8) (r : Fin 2) (k : Fin 2176) :
    val_main_v170 (F := Ideal) x0 x1 x2 x3 x4 (ix3 j r k) = ((I.dck (headOf j r) k : ℝ) : EReal) := by
  pointwise [val_main_v170, val_main_v169, val_main_v168, val_main_v124]
  rw [v117 H, EReal.coe_neg, neg_neg]
  refine congrArg (fun g => ((I.dck g k : ℝ) : EReal)) (Fin.ext ?_)
  show j.val * 2 + r.val = 2 * j.val + r.val
  omega

theorem v171 (j r : Fin 8) (k : Fin 2176) :
    val_main_v171 (F := Ideal) x0 x1 x2 x3 x4 (ix3 j r k)
      = if hr : r.val < 2 then ((I.dck (headOf j ⟨r.val, hr⟩) k : ℝ) : EReal) else 0 := by
  have h170 := v170 H
  unfold val_main_v171
  generalize val_main_v170 (F := Ideal) x0 x1 x2 x3 x4 = y at *
  pointwise [val_main_call2_v0, val_main_c_37]
  split
  · rw [h170]
  · show ((((0#32).toInt : ℤ) : ℝ) : EReal) = 0
    simp

/-! ### The gradients of the rows and of the gains -/

theorem v144 (t : Fin 2176) (h : Fin 16) (d : Fin 64) :
    val_main_v144 (F := Ideal) x0 x1 x2 x3 x4 (ix3 t h d) = ((I.dk t h d : ℝ) : EReal) := by
  pointwise [val_main_v144, val_main_v143, val_main_v142, val_main_v141, val_main_v140, val_main_v139, val_main_v138,
    val_main_v137, val_main_v136, val_main_v135, val_main_v134, val_main_v133, val_main_v132, val_main_v131, val_main_v129,
    val_main_v128, val_main_v35, val_main_cst_29, val_main_cst_30, val_main_cst_31]
  simp only [v121 H, H.kg, v29 H, v32 H, v21 H, bits_64, ← EReal.coe_mul, coe_sum, div_real (show (64 : ℝ) ≠ 0 by norm_num),
    ← EReal.coe_add]
  refine congrArg (fun r : ℝ => (r : EReal)) ?_
  simp only [Fin.sum_univ_one]
  exact nrmBwd_eq (I.xk t h) I.kg (I.dkn t h) d

theorem v165 (t : Fin 2176) (h : Fin 16) (d : Fin 64) :
    val_main_v165 (F := Ideal) x0 x1 x2 x3 x4 (ix3 t h d) = ((I.dq t h d : ℝ) : EReal) := by
  pointwise [val_main_v165, val_main_v164, val_main_v163, val_main_v162, val_main_v161, val_main_v160, val_main_v159,
    val_main_v158, val_main_v157, val_main_v156, val_main_v155, val_main_v154, val_main_v153, val_main_v152, val_main_v150,
    val_main_v149, val_main_v18, val_main_cst_34, val_main_cst_35, val_main_cst_36]
  simp only [v123 H, H.qg, v12 H, v15 H, v4 H, bits_64, ← EReal.coe_mul, coe_sum, div_real (show (64 : ℝ) ≠ 0 by norm_num),
    ← EReal.coe_add]
  refine congrArg (fun r : ℝ => (r : EReal)) ?_
  simp only [Fin.sum_univ_one]
  exact nrmBwd_eq (I.xq t h) I.qg (I.dqn t h) d

theorem v166 (t : Fin 2176) (j : Fin 1024) :
    val_main_v166 (F := Ideal) x0 x1 x2 x3 x4 (ix2 t j) = ((I.dq t (colHead j) (colLane j) : ℝ) : EReal) := by
  pointwise [val_main_v166]
  exact v165 H t (colHead j) (colLane j)

theorem v145 (t : Fin 2176) (j : Fin 1024) :
    val_main_v145 (F := Ideal) x0 x1 x2 x3 x4 (ix2 t j) = ((I.dk t (colHead j) (colLane j) : ℝ) : EReal) := by
  pointwise [val_main_v145]
  exact v144 H t (colHead j) (colLane j)

theorem v167 (t : Fin 2176) (j : Fin 1024) :
    val_main_v167 (F := Ideal) x0 x1 x2 x3 x4 (ix2 t j) = ((I.dv t (colHead j) (colLane j) : ℝ) : EReal) := by
  pointwise [val_main_v167]
  exact v95 H t (colHead j) (colLane j)

theorem v151 (d : Fin 64) :
    val_main_v151 (F := Ideal) x0 x1 x2 x3 x4 (ix1 d) = ((I.dqg d : ℝ) : EReal) := by
  have h147 : val_main_v147 (F := Ideal) x0 x1 x2 x3 x4 (ix1 d) = ((I.dqg d : ℝ) : EReal) := by
    unfold val_main_v147 Host.reduceAdd
    rw [Ideal.hostReduceAdd_def, hostSum_two]
    pointwise [val_main_v146, val_main_cst_32]
    simp only [v17 H, v123 H, ← EReal.coe_mul, coe_sum]
    refine congrArg (fun r : ℝ => (r : EReal)) (sum_congr rfl fun t _ => sum_congr rfl fun h _ => mul_comm _ _)
  unfold val_main_v151 Host.reduceAdd
  rw [Ideal.hostReduceAdd_def, hostSum_two]
  pointwise [val_main_v148, val_main_cst_33]
  rw [Fin.sum_univ_one, Fin.sum_univ_one, h147]

theorem v130 (d : Fin 64) :
    val_main_v130 (F := Ideal) x0 x1 x2 x3 x4 (ix1 d) = ((I.dkg d : ℝ) : EReal) := by
  have h126 : val_main_v126 (F := Ideal) x0 x1 x2 x3 x4 (ix1 d) = ((I.dkg d : ℝ) : EReal) := by
    unfold val_main_v126 Host.reduceAdd
    rw [Ideal.hostReduceAdd_def, hostSum_two]
    pointwise [val_main_v125, val_main_cst_27]
    simp only [v34 H, v121 H, ← EReal.coe_mul, coe_sum]
    refine congrArg (fun r : ℝ => (r : EReal)) (sum_congr rfl fun t _ => sum_congr rfl fun h _ => mul_comm _ _)
  unfold val_main_v130 Host.reduceAdd
  rw [Ideal.hostReduceAdd_def, hostSum_two]
  pointwise [val_main_v127, val_main_cst_28]
  rw [Fin.sum_univ_one, Fin.sum_univ_one, h126]

theorem v175 (l : Fin 128) :
    val_main_v175 (F := Ideal) x0 x1 x2 x3 x4 (ix2 0 l) = ((I.dqg (gainLane l) : ℝ) : EReal) := by
  pointwise [val_main_v175, val_main_v174, val_main_v173, val_main_v172]
  exact v151 H (gainLane l)

theorem v179 (l : Fin 128) :
    val_main_v179 (F := Ideal) x0 x1 x2 x3 x4 (ix2 0 l) = ((I.dkg (gainLane l) : ℝ) : EReal) := by
  pointwise [val_main_v179, val_main_v178, val_main_v177, val_main_v176]
  exact v130 H (gainLane l)

end Cert.Fox.Ref

end
-- ==== Proof.HostDefs.lean ====
/-
  The kernel's own host lines before the grid runs, value by value: the norms of the queries and the keys, the scores,
  the logarithms of the rows' sums, and the arrays the grid's blocks are cut from.
-/
module

public import proofs.«01_k».proof.Proof.Gen.KernelIdeal.Value
public import Idealize.ShloMosaic.Lib.StableHlo.ReadAt
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {F : FTy → Type} [FloatOps F] [Named F]

def h_v0 (x0 : (⟨S2176x5120, .f32⟩ : BufTy).Contents (Elt F)) : (⟨S2176x1024, .f32⟩ : BufTy).Contents (Elt F) :=
  ((extractStridedSlice S2176x1024 ![0, 0] · slices_S2176x5120_S2176x1024_0_0)) x0
def h_v1 (x0 : (⟨S2176x5120, .f32⟩ : BufTy).Contents (Elt F)) : (⟨S2176x1024, .f32⟩ : BufTy).Contents (Elt F) :=
  ((extractStridedSlice S2176x1024 ![0, 1024] · slices_S2176x5120_S2176x1024_0_1024)) x0
def h_v2 (x0 : (⟨S2176x5120, .f32⟩ : BufTy).Contents (Elt F)) : (⟨S2176x16x64, .f32⟩ : BufTy).Contents (Elt F) :=
  shapeCast _ (h_v0 (F := F) x0) shapeCasts_S2176x1024_S2176x16x64
def h_v3 (x0 : (⟨S2176x5120, .f32⟩ : BufTy).Contents (Elt F)) : (⟨S2176x16x64, .f32⟩ : BufTy).Contents (Elt F) :=
  (mulf) (h_v2 (F := F) x0) (h_v2 (F := F) x0)
def h_cst_1 : (⟨S_, .f32⟩ : BufTy).Contents (Elt F) :=
  (constant S_ .f32 0x00000000#32)
def h_v4 (x0 : (⟨S2176x5120, .f32⟩ : BufTy).Contents (Elt F)) : (⟨S2176x16, .f32⟩ : BufTy).Contents (Elt F) :=
  ((fun x v => Host.reduceAdd x v reducesTo_S2176x16x64_S2176x16_d2 h_S_)) (h_v3 (F := F) x0) (h_cst_1 (F := F))
def h_v5 (x0 : (⟨S2176x5120, .f32⟩ : BufTy).Contents (Elt F)) : (⟨S2176x16x1, .f32⟩ : BufTy).Contents (Elt F) :=
  (broadcastInDim S2176x16x1 ![0, 1] bcast_S2176x16_S2176x16x1_0_1) (h_v4 (F := F) x0)
def h_cst_2 : (⟨S_, .f32⟩ : BufTy).Contents (Elt F) :=
  (constant S_ .f32 0x42800000#32)
def h_v6 : (⟨S2176x16x1, .f32⟩ : BufTy).Contents (Elt F) :=
  (broadcastInDim S2176x16x1 ![] bcast_S_S2176x16x1) (h_cst_2 (F := F))
def h_v7 (x0 : (⟨S2176x5120, .f32⟩ : BufTy).Contents (Elt F)) : (⟨S2176x16x1, .f32⟩ : BufTy).Contents (Elt F) :=
  (Host.divf) (h_v5 (F := F) x0) (h_v6 (F := F))
def h_cst_3 : (⟨S_, .f32⟩ : BufTy).Contents (Elt F) :=
  (constant S_ .f32 0x358637BD#32)
def h_v8 : (⟨S2176x16x1, .f32⟩ : BufTy).Contents (Elt F) :=
  (broadcastInDim S2176x16x1 ![] bcast_S_S2176x16x1) (h_cst_3 (F := F))
def h_v9 (x0 : (⟨S2176x5120, .f32⟩ : BufTy).Contents (Elt F)) : (⟨S2176x16x1, .f32⟩ : BufTy).Contents (Elt F) :=
  (addf) (h_v7 (F := F) x0) (h_v8 (F := F))
def h_v10 (x0 : (⟨S2176x5120, .f32⟩ : BufTy).Contents (Elt F)) : (⟨S2176x16x1, .f32⟩ : BufTy).Contents (Elt F) :=
  (Host.rsqrt) (h_v9 (F := F) x0)
def h_v11 (x0 : (⟨S2176x5120, .f32⟩ : BufTy).Contents (Elt F)) : (⟨S2176x16x64, .f32⟩ : BufTy).Contents (Elt F) :=
  (broadcastInDim S2176x16x64 ![0, 1, 2] bcast_S2176x16x1_S2176x16x64_0_1_2) (h_v10 (F := F) x0)
def h_v12 (x0 : (⟨S2176x5120, .f32⟩ : BufTy).Contents (Elt F)) : (⟨S2176x16x64, .f32⟩ : BufTy).Contents (Elt F) :=
  (mulf) (h_v2 (F := F) x0) (h_v11 (F := F) x0)
def h_v13 (x2 : (⟨S64, .f32⟩ : BufTy).Contents (Elt F)) : (⟨S1x1x64, .f32⟩ : BufTy).Contents (Elt F) :=
  (broadcastInDim S1x1x64 ![2] bcast_S64_S1x1x64_2) x2
def h_v14 (x2 : (⟨S64, .f32⟩ : BufTy).Contents (Elt F)) : (⟨S2176x16x64, .f32⟩ : BufTy).Contents (Elt F) :=
  (broadcastInDim S2176x16x64 ![0, 1, 2] bcast_S1x1x64_S2176x16x64_0_1_2) (h_v13 (F := F) x2)
def h_v15 (x0 : (⟨S2176x5120, .f32⟩ : BufTy).Contents (Elt F)) (x2 : (⟨S64, .f32⟩ : BufTy).Contents (Elt F)) : (⟨S2176x16x64, .f32⟩ : BufTy).Contents (Elt F) :=
  (mulf) (h_v12 (F := F) x0) (h_v14 (F := F) x2)
def h_v16 (x0 : (⟨S2176x5120, .f32⟩ : BufTy).Contents (Elt F)) : (⟨S2176x16x64, .f32⟩ : BufTy).Contents (Elt F) :=
  shapeCast _ (h_v1 (F := F) x0) shapeCasts_S2176x1024_S2176x16x64
def h_v17 (x0 : (⟨S2176x5120, .f32⟩ : BufTy).Contents (Elt F)) : (⟨S2176x16x64, .f32⟩ : BufTy).Contents (Elt F) :=
  (mulf) (h_v16 (F := F) x0) (h_v16 (F := F) x0)
def h_cst_4 : (⟨S_, .f32⟩ : BufTy).Contents (Elt F) :=
  (constant S_ .f32 0x00000000#32)
def h_v18 (x0 : (⟨S2176x5120, .f32⟩ : BufTy).Contents (Elt F)) : (⟨S2176x16, .f32⟩ : BufTy).Contents (Elt F) :=
  ((fun x v => Host.reduceAdd x v reducesTo_S2176x16x64_S2176x16_d2 h_S_)) (h_v17 (F := F) x0) (h_cst_4 (F := F))
def h_v19 (x0 : (⟨S2176x5120, .f32⟩ : BufTy).Contents (Elt F)) : (⟨S2176x16x1, .f32⟩ : BufTy).Contents (Elt F) :=
  (broadcastInDim S2176x16x1 ![0, 1] bcast_S2176x16_S2176x16x1_0_1) (h_v18 (F := F) x0)
def h_cst_5 : (⟨S_, .f32⟩ : BufTy).Contents (Elt F) :=
  (constant S_ .f32 0x42800000#32)
def h_v20 : (⟨S2176x16x1, .f32⟩ : BufTy).Contents (Elt F) :=
  (broadcastInDim S2176x16x1 ![] bcast_S_S2176x16x1) (h_cst_5 (F := F))
def h_v21 (x0 : (⟨S2176x5120, .f32⟩ : BufTy).Contents (Elt F)) : (⟨S2176x16x1, .f32⟩ : BufTy).Contents (Elt F) :=
  (Host.divf) (h_v19 (F := F) x0) (h_v20 (F := F))
def h_cst_6 : (⟨S_, .f32⟩ : BufTy).Contents (Elt F) :=
  (constant S_ .f32 0x358637BD#32)
def h_v22 : (⟨S2176x16x1, .f32⟩ : BufTy).Contents (Elt F) :=
  (broadcastInDim S2176x16x1 ![] bcast_S_S2176x16x1) (h_cst_6 (F := F))
def h_v23 (x0 : (⟨S2176x5120, .f32⟩ : BufTy).Contents (Elt F)) : (⟨S2176x16x1, .f32⟩ : BufTy).Contents (Elt F) :=
  (addf) (h_v21 (F := F) x0) (h_v22 (F := F))
def h_v24 (x0 : (⟨S2176x5120, .f32⟩ : BufTy).Contents (Elt F)) : (⟨S2176x16x1, .f32⟩ : BufTy).Contents (Elt F) :=
  (Host.rsqrt) (h_v23 (F := F) x0)
def h_v25 (x0 : (⟨S2176x5120, .f32⟩ : BufTy).Contents (Elt F)) : (⟨S2176x16x64, .f32⟩ : BufTy).Contents (Elt F) :=
  (broadcastInDim S2176x16x64 ![0, 1, 2] bcast_S2176x16x1_S2176x16x64_0_1_2) (h_v24 (F := F) x0)
def h_v26 (x0 : (⟨S2176x5120, .f32⟩ : BufTy).Contents (Elt F)) : (⟨S2176x16x64, .f32⟩ : BufTy).Contents (Elt F) :=
  (mulf) (h_v16 (F := F) x0) (h_v25 (F := F) x0)
def h_v27 (x3 : (⟨S64, .f32⟩ : BufTy).Contents (Elt F)) : (⟨S1x1x64, .f32⟩ : BufTy).Contents (Elt F) :=
  (broadcastInDim S1x1x64 ![2] bcast_S64_S1x1x64_2) x3
def h_v28 (x3 : (⟨S64, .f32⟩ : BufTy).Contents (Elt F)) : (⟨S2176x16x64, .f32⟩ : BufTy).Contents (Elt F) :=
  (broadcastInDim S2176x16x64 ![0, 1, 2] bcast_S1x1x64_S2176x16x64_0_1_2) (h_v27 (F := F) x3)
def h_v29 (x0 : (⟨S2176x5120, .f32⟩ : BufTy).Contents (Elt F)) (x3 : (⟨S64, .f32⟩ : BufTy).Contents (Elt F)) : (⟨S2176x16x64, .f32⟩ : BufTy).Contents (Elt F) :=
  (mulf) (h_v26 (F := F) x0) (h_v28 (F := F) x3)
def h_v30 (x1 : (⟨S2176x16, .f32⟩ : BufTy).Contents (Elt F)) : (⟨S16x2176, .f32⟩ : BufTy).Contents (Elt F) :=
  ((transpose S16x2176 [1, 0] · transposes_S2176x16_S16x2176_1_0)) x1
def h_v31 : (⟨S2176, .i32⟩ : BufTy).Contents (Elt F) :=
  (iotaInDim S2176 32 0)
def h_v32 (x0 : (⟨S2176x5120, .f32⟩ : BufTy).Contents (Elt F)) (x2 : (⟨S64, .f32⟩ : BufTy).Contents (Elt F)) (x3 : (⟨S64, .f32⟩ : BufTy).Contents (Elt F)) : (⟨S16x2176x2176, .f32⟩ : BufTy).Contents (Elt F) :=
  ((fun l r => Host.dotGeneral dot_S2176x16x64_S2176x16x64_S16x2176x2176_2_2_0_0_1_1 none l r)) (h_v15 (F := F) x0 x2) (h_v29 (F := F) x0 x3)
def h_cst_7 : (⟨S_, .f32⟩ : BufTy).Contents (Elt F) :=
  (constant S_ .f32 0x3E000000#32)
def h_v33 : (⟨S16x2176x2176, .f32⟩ : BufTy).Contents (Elt F) :=
  (broadcastInDim S16x2176x2176 ![] bcast_S_S16x2176x2176) (h_cst_7 (F := F))
def h_v34 (x0 : (⟨S2176x5120, .f32⟩ : BufTy).Contents (Elt F)) (x2 : (⟨S64, .f32⟩ : BufTy).Contents (Elt F)) (x3 : (⟨S64, .f32⟩ : BufTy).Contents (Elt F)) : (⟨S16x2176x2176, .f32⟩ : BufTy).Contents (Elt F) :=
  (mulf) (h_v32 (F := F) x0 x2 x3) (h_v33 (F := F))
def h_v35 (x1 : (⟨S2176x16, .f32⟩ : BufTy).Contents (Elt F)) : (⟨S16x2176x1, .f32⟩ : BufTy).Contents (Elt F) :=
  (broadcastInDim S16x2176x1 ![0, 1] bcast_S16x2176_S16x2176x1_0_1) (h_v30 (F := F) x1)
def h_v36 (x1 : (⟨S2176x16, .f32⟩ : BufTy).Contents (Elt F)) : (⟨S16x2176x2176, .f32⟩ : BufTy).Contents (Elt F) :=
  (broadcastInDim S16x2176x2176 ![0, 1, 2] bcast_S16x2176x1_S16x2176x2176_0_1_2) (h_v35 (F := F) x1)
def h_v37 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2176x2176, .f32⟩ : BufTy).Contents (Elt F) :=
  (addf) (h_v34 (F := F) x0 x2 x3) (h_v36 (F := F) x1)
def h_v38 (x1 : (⟨S2176x16, .f32⟩ : BufTy).Contents (Elt F)) : (⟨S16x1x2176, .f32⟩ : BufTy).Contents (Elt F) :=
  (broadcastInDim S16x1x2176 ![0, 2] bcast_S16x2176_S16x1x2176_0_2) (h_v30 (F := F) x1)
def h_v39 (x1 : (⟨S2176x16, .f32⟩ : BufTy).Contents (Elt F)) : (⟨S16x2176x2176, .f32⟩ : BufTy).Contents (Elt F) :=
  (broadcastInDim S16x2176x2176 ![0, 1, 2] bcast_S16x1x2176_S16x2176x2176_0_1_2) (h_v38 (F := F) x1)
def h_v40 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2176x2176, .f32⟩ : BufTy).Contents (Elt F) :=
  (subf) (h_v37 (F := F) x0 x1 x2 x3) (h_v39 (F := F) x1)
def h_v41 : (⟨S2176x1, .i32⟩ : BufTy).Contents (Elt F) :=
  (broadcastInDim S2176x1 ![0] bcast_S2176_S2176x1_0) (h_v31 (F := F))
def h_v42 : (⟨S1x2176, .i32⟩ : BufTy).Contents (Elt F) :=
  (broadcastInDim S1x2176 ![1] bcast_S2176_S1x2176_1) (h_v31 (F := F))
def h_v43 : (⟨S2176x2176, .i32⟩ : BufTy).Contents (Elt F) :=
  (broadcastInDim S2176x2176 ![0, 1] bcast_S1x2176_S2176x2176_0_1) (h_v42 (F := F))
def h_v44 : (⟨S2176x2176, .i32⟩ : BufTy).Contents (Elt F) :=
  (broadcastInDim S2176x2176 ![0, 1] bcast_S2176x1_S2176x2176_0_1) (h_v41 (F := F))
def h_v45 : (⟨S2176x2176, .i1⟩ : BufTy).Contents (Elt F) :=
  (cmpi .sle) (h_v43 (F := F)) (h_v44 (F := F))
def h_c : (⟨S_, .i32⟩ : BufTy).Contents (Elt F) :=
  (constantI S_ 32 112#32)
def h_v46 : (⟨S1x2176, .i32⟩ : BufTy).Contents (Elt F) :=
  (broadcastInDim S1x2176 ![] bcast_S_S1x2176) (h_c (F := F))
def h_v47 : (⟨S1x2176, .i1⟩ : BufTy).Contents (Elt F) :=
  (cmpi .sge) (h_v42 (F := F)) (h_v46 (F := F))
def h_v48 : (⟨S2176x2176, .i1⟩ : BufTy).Contents (Elt F) :=
  (broadcastInDim S2176x2176 ![0, 1] bcast_S1x2176_S2176x2176_0_1) (h_v47 (F := F))
def h_v49 : (⟨S2176x2176, .i1⟩ : BufTy).Contents (Elt F) :=
  (andi) (h_v45 (F := F)) (h_v48 (F := F))
def h_cst_8 : (⟨S_, .f32⟩ : BufTy).Contents (Elt F) :=
  (constant S_ .f32 0xFF800000#32)
def h_call0_v0 : (⟨S_, .f32⟩ : BufTy).Contents (Elt F) :=
  (id) (h_cst_8 (F := F))
def h_call0_v1 : (⟨S16x2176x2176, .i1⟩ : BufTy).Contents (Elt F) :=
  ((broadcastInDim S16x2176x2176 ![1, 2] bcast_S2176x2176_S16x2176x2176_1_2)) (h_v49 (F := F))
def h_call0_v2 : (⟨S16x2176x2176, .f32⟩ : BufTy).Contents (Elt F) :=
  ((broadcastInDim S16x2176x2176 ![] bcast_S_S16x2176x2176)) (h_call0_v0 (F := F))
def h_v50 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2176x2176, .f32⟩ : BufTy).Contents (Elt F) :=
  (select) (h_call0_v1 (F := F)) (h_v40 (F := F) x0 x1 x2 x3) (h_call0_v2 (F := F))
def h_v51 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064x2176, .f32⟩ : BufTy).Contents (Elt F) :=
  ((extractStridedSlice S16x2064x2176 ![0, 112, 0] · slices_S16x2176x2176_S16x2064x2176_0_112_0)) (h_v50 (F := F) x0 x1 x2 x3)
def h_cst_9 : (⟨S_, .f32⟩ : BufTy).Contents (Elt F) :=
  (constant S_ .f32 0xFF800000#32)
def h_v52 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064, .f32⟩ : BufTy).Contents (Elt F) :=
  ((fun x v => Host.reduce FloatOps.maximumf x v reducesTo_S16x2064x2176_S16x2064_d2 h_S_)) (h_v51 (F := F) x0 x1 x2 x3) (h_cst_9 (F := F))
def h_v53 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064x1, .f32⟩ : BufTy).Contents (Elt F) :=
  (broadcastInDim S16x2064x1 ![0, 1] bcast_S16x2064_S16x2064x1_0_1) (h_v52 (F := F) x0 x1 x2 x3)
def h_v54 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064x2176, .f32⟩ : BufTy).Contents (Elt F) :=
  (broadcastInDim S16x2064x2176 ![0, 1, 2] bcast_S16x2064x1_S16x2064x2176_0_1_2) (h_v53 (F := F) x0 x1 x2 x3)
def h_v55 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064x2176, .f32⟩ : BufTy).Contents (Elt F) :=
  (subf) (h_v51 (F := F) x0 x1 x2 x3) (h_v54 (F := F) x0 x1 x2 x3)
def h_v56 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064x2176, .f32⟩ : BufTy).Contents (Elt F) :=
  (Host.exp) (h_v55 (F := F) x0 x1 x2 x3)
def h_cst_10 : (⟨S_, .f32⟩ : BufTy).Contents (Elt F) :=
  (constant S_ .f32 0x00000000#32)
def h_v57 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064, .f32⟩ : BufTy).Contents (Elt F) :=
  ((fun x v => Host.reduceAdd x v reducesTo_S16x2064x2176_S16x2064_d2 h_S_)) (h_v56 (F := F) x0 x1 x2 x3) (h_cst_10 (F := F))
def h_v58 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064, .f32⟩ : BufTy).Contents (Elt F) :=
  (Host.log) (h_v57 (F := F) x0 x1 x2 x3)
def h_v59 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S16x2064, .f32⟩ : BufTy).Contents (Elt F) :=
  (addf) (h_v52 (F := F) x0 x1 x2 x3) (h_v58 (F := F) x0 x1 x2 x3)
def h_v60 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S2064x16, .f32⟩ : BufTy).Contents (Elt F) :=
  ((transpose S2064x16 [1, 0] · transposes_S16x2064_S2064x16_1_0)) (h_v59 (F := F) x0 x1 x2 x3)
def h_c_11 : (⟨S_, .i32⟩ : BufTy).Contents (Elt F) :=
  (constantI S_ 32 0#32)
def h_call1_v0 : (⟨S_, .f32⟩ : BufTy).Contents (Elt F) :=
  ((sitofp .f32)) (h_c_11 (F := F))
def h_v61 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S2176x16, .f32⟩ : BufTy).Contents (Elt F) :=
  ((fun x v => pad S2176x16 ![112, 0] ![0, 0] ![0, 0] x v pads_S2064x16_S2176x16_11200_000 h_S_)) (h_v60 (F := F) x0 x1 x2 x3) (h_call1_v0 (F := F))
def h_v62 (x1 : (⟨S2176x16, .f32⟩ : BufTy).Contents (Elt F)) : (⟨S2176x16x64, .f32⟩ : BufTy).Contents (Elt F) :=
  (broadcastInDim S2176x16x64 ![0, 1] bcast_S2176x16_S2176x16x64_0_1) x1
def h_v63 (x1 : (⟨S2176x16, .f32⟩ : BufTy).Contents (Elt F)) : (⟨S2176x1024, .f32⟩ : BufTy).Contents (Elt F) :=
  shapeCast _ (h_v62 (F := F) x1) shapeCasts_S2176x16x64_S2176x1024
def h_v64 (x1 : (⟨S2176x16, .f32⟩ : BufTy).Contents (Elt F)) : (⟨S16x2176, .f32⟩ : BufTy).Contents (Elt F) :=
  ((transpose S16x2176 [1, 0] · transposes_S2176x16_S16x2176_1_0)) x1
def h_v65 (x1 : (⟨S2176x16, .f32⟩ : BufTy).Contents (Elt F)) : (⟨S8x2x2176, .f32⟩ : BufTy).Contents (Elt F) :=
  shapeCast _ (h_v64 (F := F) x1) shapeCasts_S16x2176_S8x2x2176
def h_c_12 : (⟨S_, .i32⟩ : BufTy).Contents (Elt F) :=
  (constantI S_ 32 0#32)
def h_call2_v0 : (⟨S_, .f32⟩ : BufTy).Contents (Elt F) :=
  ((sitofp .f32)) (h_c_12 (F := F))
def h_v66 (x1 : (⟨S2176x16, .f32⟩ : BufTy).Contents (Elt F)) : (⟨S8x8x2176, .f32⟩ : BufTy).Contents (Elt F) :=
  ((fun x v => pad S8x8x2176 ![0, 0, 0] ![0, 6, 0] ![0, 0, 0] x v pads_S8x2x2176_S8x8x2176_000_060_000 h_S_)) (h_v65 (F := F) x1) (h_call2_v0 (F := F))
def h_c_13 : (⟨S_, .i32⟩ : BufTy).Contents (Elt F) :=
  (constantI S_ 32 0#32)
def h_call3_v0 : (⟨S_, .f32⟩ : BufTy).Contents (Elt F) :=
  ((sitofp .f32)) (h_c_13 (F := F))
def h_v67 (x4 : (⟨S2064x1024, .f32⟩ : BufTy).Contents (Elt F)) : (⟨S2176x1024, .f32⟩ : BufTy).Contents (Elt F) :=
  ((fun x v => pad S2176x1024 ![112, 0] ![0, 0] ![0, 0] x v pads_S2064x1024_S2176x1024_11200_000 h_S_)) x4 (h_call3_v0 (F := F))
def h_v68 (x2 : (⟨S64, .f32⟩ : BufTy).Contents (Elt F)) : (⟨S1x64, .f32⟩ : BufTy).Contents (Elt F) :=
  shapeCast _ x2 shapeCasts_S64_S1x64
def h_v69 (x2 : (⟨S64, .f32⟩ : BufTy).Contents (Elt F)) : (⟨S1x1x1x64, .f32⟩ : BufTy).Contents (Elt F) :=
  shapeCast _ (h_v68 (F := F) x2) shapeCasts_S1x64_S1x1x1x64
def h_v70 (x2 : (⟨S64, .f32⟩ : BufTy).Contents (Elt F)) : (⟨S1x1x2x64, .f32⟩ : BufTy).Contents (Elt F) :=
  (broadcastInDim S1x1x2x64 ![0, 1, 2, 3] bcast_S1x1x1x64_S1x1x2x64_0_1_2_3) (h_v69 (F := F) x2)
def h_v71 (x2 : (⟨S64, .f32⟩ : BufTy).Contents (Elt F)) : (⟨S1x128, .f32⟩ : BufTy).Contents (Elt F) :=
  shapeCast _ (h_v70 (F := F) x2) shapeCasts_S1x1x2x64_S1x128
def h_v72 (x3 : (⟨S64, .f32⟩ : BufTy).Contents (Elt F)) : (⟨S1x64, .f32⟩ : BufTy).Contents (Elt F) :=
  shapeCast _ x3 shapeCasts_S64_S1x64
def h_v73 (x3 : (⟨S64, .f32⟩ : BufTy).Contents (Elt F)) : (⟨S1x1x1x64, .f32⟩ : BufTy).Contents (Elt F) :=
  shapeCast _ (h_v72 (F := F) x3) shapeCasts_S1x64_S1x1x1x64
def h_v74 (x3 : (⟨S64, .f32⟩ : BufTy).Contents (Elt F)) : (⟨S1x1x2x64, .f32⟩ : BufTy).Contents (Elt F) :=
  (broadcastInDim S1x1x2x64 ![0, 1, 2, 3] bcast_S1x1x1x64_S1x1x2x64_0_1_2_3) (h_v73 (F := F) x3)
def h_v75 (x3 : (⟨S64, .f32⟩ : BufTy).Contents (Elt F)) : (⟨S1x128, .f32⟩ : BufTy).Contents (Elt F) :=
  shapeCast _ (h_v74 (F := F) x3) shapeCasts_S1x1x2x64_S1x128
def h_v76 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S2176x16x64, .f32⟩ : BufTy).Contents (Elt F) :=
  (broadcastInDim S2176x16x64 ![0, 1] bcast_S2176x16_S2176x16x64_0_1) (h_v61 (F := F) x0 x1 x2 x3)
def h_v77 (x0 : (⟨S2176x5120, .f32⟩ : BufTy).Contents (Elt F)) (x1 : (⟨S2176x16, .f32⟩ : BufTy).Contents (Elt F)) (x2 : (⟨S64, .f32⟩ : BufTy).Contents (Elt F)) (x3 : (⟨S64, .f32⟩ : BufTy).Contents (Elt F)) : (⟨S2176x1024, .f32⟩ : BufTy).Contents (Elt F) :=
  shapeCast _ (h_v76 (F := F) x0 x1 x2 x3) shapeCasts_S2176x16x64_S2176x1024

variable (m : (ℓ : Loc nD τ sig) → Buf (Elt Ideal) ℓ) (c : Dev nD)

theorem V_v77 : V m c main_v77 = h_v77 (m ((c : Thread nD τ).loc main_arg0)) (m ((c : Thread nD τ).loc main_arg1))
    (m ((c : Thread nD τ).loc main_arg2)) (m ((c : Thread nD τ).loc main_arg3)) := by
  unfold_abbrev_sides
  after_reads_simp
  simp -implicitDefEqProofs only [StableHlo.TRef.toBuf, StableHlo.TRef.ofBuf, cast_cast, cast_eq, id_eq, h_v0, h_v1, h_v2, h_v3, h_cst_1, h_v4, h_v5, h_cst_2, h_v6, h_v7, h_cst_3, h_v8, h_v9, h_v10, h_v11, h_v12, h_v13, h_v14, h_v15, h_v16, h_v17, h_cst_4, h_v18, h_v19, h_cst_5, h_v20, h_v21, h_cst_6, h_v22, h_v23, h_v24, h_v25, h_v26, h_v27, h_v28, h_v29, h_v30, h_v31, h_v32, h_cst_7, h_v33, h_v34, h_v35, h_v36, h_v37, h_v38, h_v39, h_v40, h_v41, h_v42, h_v43, h_v44, h_v45, h_c, h_v46, h_v47, h_v48, h_v49, h_cst_8, h_call0_v0, h_call0_v1, h_call0_v2, h_v50, h_v51, h_cst_9, h_v52, h_v53, h_v54, h_v55, h_v56, h_cst_10, h_v57, h_v58, h_v59, h_v60, h_c_11, h_call1_v0, h_v61, h_v62, h_v63, h_v64, h_v65, h_c_12, h_call2_v0, h_v66, h_c_13, h_call3_v0, h_v67, h_v68, h_v69, h_v70, h_v71, h_v72, h_v73, h_v74, h_v75, h_v76, h_v77]
  clean_types
  sl_kernel_rfl
theorem V_v63 : V m c main_v63 = h_v63 (m ((c : Thread nD τ).loc main_arg1)) := by
  entry_read
  rfl
theorem V_v66 : V m c main_v66 = h_v66 (m ((c : Thread nD τ).loc main_arg1)) := by
  entry_read
  rfl
theorem V_v67 : V m c main_v67 = h_v67 (m ((c : Thread nD τ).loc main_arg4)) := by
  entry_read
  rfl
theorem V_v71 : V m c main_v71 = h_v71 (m ((c : Thread nD τ).loc main_arg2)) := by
  entry_read
  rfl
theorem V_v75 : V m c main_v75 = h_v75 (m ((c : Thread nD τ).loc main_arg3)) := by
  entry_read
  rfl
theorem V_cst : V m c main_cst = fun i => FloatOps.ofBits (F := Ideal) .f32 (lit0 (S128x128.rowMajor i)) := by
  unfold_abbrev_sides
  simp only [StableHlo.after_cons, StableHlo.after_nil, List.flatten_cons, List.flatten_nil, List.append_nil, List.cons_append, List.nil_append]
  after_results_simp
  rfl
theorem V_cst_0 : V m c main_cst_0 = fun i => FloatOps.ofBits (F := Ideal) .f32 (lit1 (S128x128.rowMajor i)) := by
  unfold_abbrev_sides
  simp only [StableHlo.after_cons, StableHlo.after_nil, List.flatten_cons, List.flatten_nil, List.append_nil, List.cons_append, List.nil_append]
  after_results_simp
  rfl

end Cert.Fox.Ker

end
-- ==== Proof.Cut.lean ====
/-
  Rectangles of rows: what a list of writes holds at a row and a lane, and what a load of a band of rows reads.
-/
module

public import Idealize.ShloMosaic.Lib.Pipeline.Value
public import Idealize.ShloMosaic.Lib.Pointwise

@[expose] public section

noncomputable section

namespace Cert.Fox

open Idealize.ShloMosaic Idealize.SL.Sem Finset

variable {Val : EltTy → Type} [∀ e, Nonempty (Val e)] {e : EltTy}

theorem emb_band {N W K V o b : ℕ} (inb : ∀ a, (![o, b] : Fin 2 → ℕ) a + (![K, V] : Fin 2 → ℕ) a ≤ (![N, W] : Fin 2 → ℕ) a)
    (r : Fin K) (l : Fin V) (hr : o + r.val < N) (hl : b + l.val < W) :
    (Rect.unit (s := ⟨2, ![N, W]⟩) ![o, b] ![K, V] inb).emb (ix2 r l) = (ix2 ⟨o + r.val, hr⟩ ⟨b + l.val, hl⟩ : (⟨2, ![N, W]⟩ : Shape).Idx) := by
  funext a
  refine Fin.ext ?_
  fin_cases a <;> simp [Rect.emb_apply, ix2]

theorem band_lt {N W K V o b : ℕ} (inb : ∀ a, (![o, b] : Fin 2 → ℕ) a + (![K, V] : Fin 2 → ℕ) a ≤ (![N, W] : Fin 2 → ℕ) a)
    (r : Fin K) : o + r.val < N := by
  have h : o + K ≤ N := inb 0
  omega

theorem lane_lt {N W K V o b : ℕ} (inb : ∀ a, (![o, b] : Fin 2 → ℕ) a + (![K, V] : Fin 2 → ℕ) a ≤ (![N, W] : Fin 2 → ℕ) a)
    (l : Fin V) : b + l.val < W := by
  have h : b + V ≤ W := inb 1
  omega

theorem slab_lt {N W K V o b c : ℕ}
    (inb : ∀ a, (![o, b, c] : Fin 3 → ℕ) a + (![1, K, V] : Fin 3 → ℕ) a ≤ (![1, N, W] : Fin 3 → ℕ) a) (r : Fin K) : b + r.val < N := by
  have h : b + K ≤ N := inb 1
  omega

theorem slab_lane_lt {N W K V o b c : ℕ}
    (inb : ∀ a, (![o, b, c] : Fin 3 → ℕ) a + (![1, K, V] : Fin 3 → ℕ) a ≤ (![1, N, W] : Fin 3 → ℕ) a) (l : Fin V) : c + l.val < W := by
  have h : c + V ≤ W := inb 2
  omega

/-- A band of whole rows written last holds its rows; the others hold what the earlier writes left. -/
theorem canon_band {N W K o : ℕ} (inb : ∀ a, (![o, 0] : Fin 2 → ℕ) a + (![K, W] : Fin 2 → ℕ) a ≤ (![N, W] : Fin 2 → ℕ) a)
    (P : (Rect.unit (s := ⟨2, ![N, W]⟩) ![o, 0] ![K, W] inb).shape.Idx → Val e)
    (L : List (View.Piece Val ⟨2, ![N, W]⟩ e)) (k : Fin N) (l : Fin W) :
    View.canon (⟨Rect.unit (s := ⟨2, ![N, W]⟩) ![o, 0] ![K, W] inb, P⟩ :: L) (ix2 k l)
      = if h : o ≤ k.val ∧ k.val < o + K then P (ix2 ⟨k.val - o, by omega⟩ l) else View.canon L (ix2 k l) := by
  split
  · next h =>
    have hk : (ix2 k l : (⟨2, ![N, W]⟩ : Shape).Idx)
        = (Rect.unit (s := ⟨2, ![N, W]⟩) ![o, 0] ![K, W] inb).emb (ix2 ⟨k.val - o, by omega⟩ l) := by
      funext a
      refine Fin.ext ?_
      fin_cases a <;> simp [Rect.emb_apply, ix2]
      omega
    rw [hk, View.canon_cons_emb]
  · next h =>
    refine View.canon_cons_of_not_mem _ _ ?_
    intro hm
    obtain ⟨y, hy⟩ := LoadRect.exists_idx_of_mem _ hm
    have h0 : o + 1 * (y 0).val = k.val := congrArg Fin.val (congrFun hy 0)
    have hlt : (y 0).val < K := (y 0).isLt
    omega

/-- A load of a band of rows. -/
theorem readCov_band {sig : RefSig} {κ : Kind} {sp : Space} {N W K V o b : ℕ} (v : View sig κ sp ⟨2, ![N, W]⟩ e)
    (inb : ∀ a, (![o, b] : Fin 2 → ℕ) a + (![K, V] : Fin 2 → ℕ) a ≤ (![N, W] : Fin 2 → ℕ) a)
    (L : List (View.Piece Val ⟨2, ![N, W]⟩ e)) (r : Fin K) (l : Fin V) :
    v.readCov L (Rect.unit (s := ⟨2, ![N, W]⟩) ![o, b] ![K, V] inb).toLoadRect (ix2 r l)
      = View.canon L (ix2 ⟨o + r.val, band_lt inb r⟩ ⟨b + l.val, lane_lt inb l⟩) := by
  rw [View.readCov_eq_canon']
  exact congrArg (View.canon L) (emb_band inb r l _ _)

/-- A load of a band of rows from contents that are `x` at every index. -/
theorem readAt_band {sig : RefSig} {κ : Kind} {sp : Space} {N W K V o b : ℕ} (m : Memref sig κ sp ⟨2, ![N, W]⟩ e)
    (hm : m.IsWhole) (x : (⟨2, ![N, W]⟩ : Shape).Idx → Val e)
    (inb : ∀ a, (![o, b] : Fin 2 → ℕ) a + (![K, V] : Fin 2 → ℕ) a ≤ (![N, W] : Fin 2 → ℕ) a)
    (r : Fin K) (l : Fin V) :
    View.readAt Val m.view (Rect.unit (s := ⟨2, ![N, W]⟩) ![o, b] ![K, V] inb).toLoadRect (hm.unread x) (ix2 r l)
      = x (ix2 ⟨o + r.val, band_lt inb r⟩ ⟨b + l.val, lane_lt inb l⟩) := by
  rw [View.readAt_eq_ld, Memref.IsWhole.read_unread]
  exact congrArg x (emb_band inb r l _ _)

theorem emb_slab {N W K V o b c : ℕ}
    (inb : ∀ a, (![o, b, c] : Fin 3 → ℕ) a + (![1, K, V] : Fin 3 → ℕ) a ≤ (![1, N, W] : Fin 3 → ℕ) a)
    (z : Fin 1) (r : Fin K) (l : Fin V) (hr : b + r.val < N) (hl : c + l.val < W) :
    (Rect.unit (s := ⟨3, ![1, N, W]⟩) ![o, b, c] ![1, K, V] inb).emb (ix3 z r l)
      = (ix3 0 ⟨b + r.val, hr⟩ ⟨c + l.val, hl⟩ : (⟨3, ![1, N, W]⟩ : Shape).Idx) := by
  have h0 := inb 0
  funext a
  refine Fin.ext ?_
  fin_cases a <;> simp [Rect.emb_apply, ix3] at h0 ⊢
  omega

/-- The same at rank three. -/
theorem readAt_slab {sig : RefSig} {κ : Kind} {sp : Space} {N W K V o b c : ℕ} (m : Memref sig κ sp ⟨3, ![1, N, W]⟩ e)
    (hm : m.IsWhole) (x : (⟨3, ![1, N, W]⟩ : Shape).Idx → Val e)
    (inb : ∀ a, (![o, b, c] : Fin 3 → ℕ) a + (![1, K, V] : Fin 3 → ℕ) a ≤ (![1, N, W] : Fin 3 → ℕ) a)
    (z : Fin 1) (r : Fin K) (l : Fin V) :
    View.readAt Val m.view (Rect.unit (s := ⟨3, ![1, N, W]⟩) ![o, b, c] ![1, K, V] inb).toLoadRect (hm.unread x) (ix3 z r l)
      = x (ix3 0 ⟨b + r.val, slab_lt inb r⟩ ⟨c + l.val, slab_lane_lt inb l⟩) := by
  rw [View.readAt_eq_ld, Memref.IsWhole.read_unread]
  exact congrArg x (emb_slab inb z r l _ _)

theorem readCov_slab {sig : RefSig} {κ : Kind} {sp : Space} {N W K V o b c : ℕ} (v : View sig κ sp ⟨3, ![1, N, W]⟩ e)
    (inb : ∀ a, (![o, b, c] : Fin 3 → ℕ) a + (![1, K, V] : Fin 3 → ℕ) a ≤ (![1, N, W] : Fin 3 → ℕ) a)
    (L : List (View.Piece Val ⟨3, ![1, N, W]⟩ e)) (z : Fin 1) (r : Fin K) (l : Fin V) :
    v.readCov L (Rect.unit (s := ⟨3, ![1, N, W]⟩) ![o, b, c] ![1, K, V] inb).toLoadRect (ix3 z r l)
      = View.canon L (ix3 0 ⟨b + r.val, slab_lt inb r⟩ ⟨c + l.val, slab_lane_lt inb l⟩) := by
  rw [View.readCov_eq_canon']
  exact congrArg (View.canon L) (emb_slab inb z r l _ _)

/-- One row of lanes written last. -/
theorem canon_slab {N W V b : ℕ}
    (inb : ∀ a, (![0, b, 0] : Fin 3 → ℕ) a + (![1, 1, V] : Fin 3 → ℕ) a ≤ (![1, N, W] : Fin 3 → ℕ) a)
    (P : (Rect.unit (s := ⟨3, ![1, N, W]⟩) ![0, b, 0] ![1, 1, V] inb).shape.Idx → Val e)
    (L : List (View.Piece Val ⟨3, ![1, N, W]⟩ e)) (k : Fin N) (l : Fin W) :
    View.canon (⟨Rect.unit (s := ⟨3, ![1, N, W]⟩) ![0, b, 0] ![1, 1, V] inb, P⟩ :: L) (ix3 0 k l)
      = if h : k.val = b ∧ l.val < V then P (ix3 0 0 ⟨l.val, h.2⟩) else View.canon L (ix3 0 k l) := by
  split
  · next h =>
    have hk : (ix3 0 k l : (⟨3, ![1, N, W]⟩ : Shape).Idx)
        = (Rect.unit (s := ⟨3, ![1, N, W]⟩) ![0, b, 0] ![1, 1, V] inb).emb (ix3 0 0 ⟨l.val, h.2⟩) := by
      funext a
      refine Fin.ext ?_
      fin_cases a <;> simp [Rect.emb_apply, ix3]
      omega
    rw [hk, View.canon_cons_emb]
  · next h =>
    refine View.canon_cons_of_not_mem _ _ ?_
    intro hm
    obtain ⟨y, hy⟩ := LoadRect.exists_idx_of_mem _ hm
    have h1 : b + 1 * (y 1).val = k.val := congrArg Fin.val (congrFun hy 1)
    have h2 : 0 + 1 * (y 2).val = l.val := congrArg Fin.val (congrFun hy 2)
    have hlt : (y 1).val < 1 := (y 1).isLt
    have hlt2 : (y 2).val < V := (y 2).isLt
    omega

end Cert.Fox

end
-- ==== Proof.Pair.lean ====
/-
  Two heads side by side in 128 lanes, over the real numbers: the halves of a row that one head keeps, the products of
  rows, the sums that grow block of rows by block of rows.
-/
module

public import proofs.«01_k».proof.Proof.Scalars

@[expose] public section

noncomputable section

namespace Cert.Fox

open Idealize.ShloMosaic Finset

/-- A sum over 128 lanes that keeps one half of them. -/
theorem sum_half (b : Fin 2) (F : Fin 128 → ℝ) (f : Fin 64 → ℝ) (h : ∀ l, half l = b → F l = f (gainLane l)) :
    ∑ l, (if half l = b then F l else 0) = ∑ d, f d := by
  have e : ∀ l, (if half l = b then F l else 0) = if half l = b then f (gainLane l) else 0 := by
    intro l; split
    · next hl => exact h l hl
    · rfl
  simp only [e]
  have hs := Fin.sum_univ_add (M := ℝ) (a := 64) (b := 64) (fun l : Fin (64 + 64) => if half l = b then f (gainLane l) else 0)
  refine hs.trans ?_
  have h0 : ∀ d : Fin 64, half (Fin.castAdd 64 d : Fin (64 + 64)) = 0 := fun d => Fin.ext (by
    show d.val / 64 = 0; omega)
  have h1 : ∀ d : Fin 64, half (Fin.natAdd 64 d : Fin (64 + 64)) = 1 := fun d => Fin.ext (by
    show (64 + d.val) / 64 = 1; omega)
  have g0 : ∀ d : Fin 64, gainLane (Fin.castAdd 64 d : Fin (64 + 64)) = d := fun d => Fin.ext (by
    show d.val % 64 = d.val; omega)
  have g1 : ∀ d : Fin 64, gainLane (Fin.natAdd 64 d : Fin (64 + 64)) = d := fun d => Fin.ext (by
    show (64 + d.val) % 64 = d.val; omega)
  simp only [h0, h1, g0, g1]
  fin_cases b <;> simp

/-- The first `n` terms of a sum over the rows. -/
def part (f : Fin 2176 → ℝ) (n : ℕ) : ℝ := ∑ i ∈ range n, if h : i < 2176 then f ⟨i, h⟩ else 0

theorem part_zero (f : Fin 2176 → ℝ) : part f 0 = 0 := by simp [part]

theorem part_add (f : Fin 2176 → ℝ) (r m n : ℕ) (e : r + m = n) (hn : n ≤ 2176) :
    part f r + ∑ x : Fin m, f ⟨r + x.val, by omega⟩ = part f n := by
  subst e
  unfold part
  rw [sum_range_add]
  refine congrArg (_ + ·) ?_
  rw [← Fin.sum_univ_eq_sum_range (fun i => if h : r + i < 2176 then f ⟨r + i, h⟩ else 0) m]
  exact sum_congr rfl fun x _ => by rw [dif_pos]

theorem part_eq (f : Fin 2176 → ℝ) (n : ℕ) (hn : n ≤ 2176) : ∑ x : Fin n, f ⟨x.val, by omega⟩ = part f n := by
  have h := part_add f 0 n n (by omega) hn
  rw [part_zero, zero_add] at h
  rw [← h]
  exact sum_congr rfl fun x _ => congrArg f (Fin.ext (Nat.zero_add _).symm)

theorem part_all (f : Fin 2176 → ℝ) : part f 2176 = ∑ q, f q := (part_eq f 2176 le_rfl).symm

/-- Terms that vanish do not change it. -/
theorem part_of_zero (f : Fin 2176 → ℝ) (r n : ℕ) (hr : r ≤ n) (hz : ∀ q : Fin 2176, q.val < n → f q = 0) :
    part f r = part f n := by
  have z : ∀ m, m ≤ n → part f m = 0 := fun m hm => sum_eq_zero fun i hi => by
    split
    · exact hz _ (lt_of_lt_of_le (mem_range.1 hi) hm)
    · rfl
  rw [z r hr, z n le_rfl]

/-- A sum whose terms vanish from row `n` on. -/
theorem part_cut (f : Fin 2176 → ℝ) (n : ℕ) (hn : n ≤ 2176) (hz : ∀ q : Fin 2176, n ≤ q.val → f q = 0) :
    part f n = ∑ q, f q := by
  rw [← part_all]
  have h := part_add f n (2176 - n) 2176 (by omega) le_rfl
  rw [← h, sum_eq_zero, add_zero]
  intro x _
  exact hz _ (Nat.le_add_right _ _)

namespace Inputs

variable (I : Inputs)

/-- The rows of pair `j`, and those rows with one head kept. -/
def ql (j : Fin 8) (t : Fin 2176) (l : Fin 128) : ℝ := I.qn t (headOf j (half l)) (gainLane l)
def kl (j : Fin 8) (t : Fin 2176) (l : Fin 128) : ℝ := I.kn t (headOf j (half l)) (gainLane l)
def vl (j : Fin 8) (t : Fin 2176) (l : Fin 128) : ℝ := I.xv t (headOf j (half l)) (gainLane l)
def dl (j : Fin 8) (t : Fin 2176) (l : Fin 128) : ℝ := I.dor t (headOf j (half l)) (gainLane l)
def qm (j : Fin 8) (b : Fin 2) (t : Fin 2176) (l : Fin 128) : ℝ := if half l = b then I.ql j t l else 0
def dm (j : Fin 8) (b : Fin 2) (t : Fin 2176) (l : Fin 128) : ℝ := if half l = b then I.dl j t l else 0

theorem score_sum (j : Fin 8) (b : Fin 2) (q k : Fin 2176) :
    ∑ l, ((I.qm j b q l : ℝ) : EReal) * ((I.kl j k l : ℝ) : EReal)
      = ((∑ d, I.qn q (headOf j b) d * I.kn k (headOf j b) d : ℝ) : EReal) := by
  simp only [← EReal.coe_mul, coe_sum]
  refine congrArg (fun r : ℝ => (r : EReal)) ?_
  simp only [qm, ite_mul, zero_mul]
  exact sum_half b _ _ fun l hl => by rw [← hl]; rfl

theorem dp_sum (j : Fin 8) (b : Fin 2) (q k : Fin 2176) :
    ∑ l, ((I.dm j b q l : ℝ) : EReal) * ((I.vl j k l : ℝ) : EReal) = ((I.dp (headOf j b) q k : ℝ) : EReal) := by
  simp only [← EReal.coe_mul, coe_sum]
  refine congrArg (fun r : ℝ => (r : EReal)) ?_
  simp only [dm, ite_mul, zero_mul]
  exact sum_half b _ _ fun l hl => by rw [← hl]; rfl

/-- What the logarithms of the rows' sums have to be. -/
def IsLse (M : Fin 2176 → Fin 16 → ℝ) : Prop :=
  ∀ t h k, 112 ≤ t.val → Real.exp (I.score h t k - M t h) = Real.exp (I.score h t k) / I.tot h t

theorem wt_of_parts {M : Fin 2176 → Fin 16 → ℝ} (hM : I.IsLse M) (h : Fin 16) (q k : ℕ) (hq : q < 2176) (hk : k < 2176) :
    Ideal.exp (Scalar.select (IntOp.andi (IntOp.cmpi CmpIPredicate.sle (BitVec.ofNat 32 k) (BitVec.ofNat 32 q))
        (IntOp.cmpi CmpIPredicate.sge (BitVec.ofNat 32 k) 112#32))
        (((∑ d, I.qn ⟨q, hq⟩ h d * I.kn ⟨k, hk⟩ h d : ℝ) : EReal) * ((1 / 8 : ℝ) : EReal)
          + ((I.c ⟨q, hq⟩ h : ℝ) : EReal) - ((I.c ⟨k, hk⟩ h : ℝ) : EReal)) (⊥ : EReal)
        - ((M ⟨q, hq⟩ h : ℝ) : EReal)) = ((I.wt h ⟨q, hq⟩ ⟨k, hk⟩ : ℝ) : EReal) := by
  rw [select_mask (by omega) (by omega), ← EReal.coe_mul, ← EReal.coe_add, ← EReal.coe_sub, exp_sub_ite]
  refine congrArg (fun r : ℝ => (r : EReal)) ?_
  unfold wt
  by_cases hs : k ≤ q ∧ 112 ≤ k
  · rw [if_pos hs, if_pos (show sees ⟨q, hq⟩ ⟨k, hk⟩ from hs)]
    exact hM ⟨q, hq⟩ h ⟨k, hk⟩ (le_trans hs.2 hs.1)
  · rw [if_neg hs, if_neg (show ¬ sees ⟨q, hq⟩ ⟨k, hk⟩ from hs)]

theorem ds_cut (h : Fin 16) (q : Fin 2176) (k : Fin 2176) (n : ℕ) (hq : q.val < n) (hn : n ≤ 2176) :
    ((I.wt h q k : ℝ) : EReal) * ((I.dp h q k : ℝ) : EReal)
      - ((I.wt h q k : ℝ) : EReal) * ∑ x : Fin n, ((I.wt h q ⟨x.val, by omega⟩ : ℝ) : EReal) * ((I.dp h q ⟨x.val, by omega⟩ : ℝ) : EReal)
      = ((I.ds h q k : ℝ) : EReal) := by
  simp only [← EReal.coe_mul, coe_sum, ← EReal.coe_sub]
  refine congrArg (fun r : ℝ => (r : EReal)) ?_
  unfold ds
  rw [part_eq (fun k => I.wt h q k * I.dp h q k) n hn, part_cut _ n hn]
  intro k' hk'
  have : I.wt h q k' = 0 := by
    unfold wt; rw [if_neg]; unfold sees; omega
  simp only [this, zero_mul]

/-- The gradient in a logit, from the weights and the products of the keys up to the end of the row's block. -/
theorem ds_of_parts (h : Fin 16) (r m n : ℕ) (e : r + m = n) (hn : n ≤ 2176) (x : Fin m) (k : ℕ) (hk : k < 2176) :
    ((I.wt h ⟨r + x.val, by omega⟩ ⟨k, hk⟩ : ℝ) : EReal) * ((I.dp h ⟨r + x.val, by omega⟩ ⟨k, hk⟩ : ℝ) : EReal)
      - ((I.wt h ⟨r + x.val, by omega⟩ ⟨k, hk⟩ : ℝ) : EReal) * ∑ y : Fin n,
        ((I.wt h ⟨r + x.val, by omega⟩ ⟨y.val, by omega⟩ : ℝ) : EReal) * ((I.dp h ⟨r + x.val, by omega⟩ ⟨y.val, by omega⟩ : ℝ) : EReal)
      = ((I.ds h ⟨r + x.val, by omega⟩ ⟨k, hk⟩ : ℝ) : EReal) :=
  I.ds_cut h _ _ n (show r + x.val < n by omega) hn

/-- The same in the first block. -/
theorem ds_of_parts_zero (h : Fin 16) (n : ℕ) (hn : n ≤ 2176) (x : Fin n) (k : ℕ) (hk : k < 2176) :
    ((I.wt h ⟨x.val, by omega⟩ ⟨k, hk⟩ : ℝ) : EReal) * ((I.dp h ⟨x.val, by omega⟩ ⟨k, hk⟩ : ℝ) : EReal)
      - ((I.wt h ⟨x.val, by omega⟩ ⟨k, hk⟩ : ℝ) : EReal) * ∑ y : Fin n,
        ((I.wt h ⟨x.val, by omega⟩ ⟨y.val, by omega⟩ : ℝ) : EReal) * ((I.dp h ⟨x.val, by omega⟩ ⟨y.val, by omega⟩ : ℝ) : EReal)
      = ((I.ds h ⟨x.val, by omega⟩ ⟨k, hk⟩ : ℝ) : EReal) :=
  I.ds_cut h _ _ n (show x.val < n by omega) hn

theorem wt_of_not_sees (h : Fin 16) (q k : Fin 2176) (hk : ¬ sees q k) : I.wt h q k = 0 := by
  unfold wt; rw [if_neg hk]

/-- What row `q` adds to the gradients of value, key and logarithm at key `k`. -/
def vf (j : Fin 8) (b : Fin 2) (k : Fin 2176) (l : Fin 128) (q : Fin 2176) : ℝ := I.wt (headOf j b) q k * I.dm j b q l
def kf (j : Fin 8) (b : Fin 2) (k : Fin 2176) (l : Fin 128) (q : Fin 2176) : ℝ :=
  I.ds (headOf j b) q k * (1 / 8) * I.qm j b q l
def cf (j : Fin 8) (b : Fin 2) (k : Fin 2176) (q : Fin 2176) : ℝ := I.ds (headOf j b) q k

theorem vf_zero (j : Fin 8) (b : Fin 2) (k : Fin 2176) (l : Fin 128) (q : Fin 2176) (h : q.val < k.val) : I.vf j b k l q = 0 := by
  unfold vf; rw [I.wt_of_not_sees _ _ _ fun hs => absurd hs.1 (by omega), zero_mul]
theorem kf_zero (j : Fin 8) (b : Fin 2) (k : Fin 2176) (l : Fin 128) (q : Fin 2176) (h : q.val < k.val) : I.kf j b k l q = 0 := by
  unfold kf; rw [I.ds_of_not_sees _ _ _ fun hs => absurd hs.1 (by omega), zero_mul, zero_mul]
theorem cf_zero (j : Fin 8) (b : Fin 2) (k : Fin 2176) (q : Fin 2176) (h : q.val < k.val) : I.cf j b k q = 0 :=
  I.ds_of_not_sees _ _ _ fun hs => absurd hs.1 (by omega)

end Inputs

end Cert.Fox

end
-- ==== Proof.Block.lean ====
/-
  The blocks a point of the grid reads and the rows it keeps: queries, keys, values and upstream rows of two heads.
-/
module

public import proofs.«01_k».proof.Proof.Gen.KernelIdeal.Value
public import proofs.«01_k».proof.Proof.Cut
public import proofs.«01_k».proof.Proof.Pair
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {I : Inputs} {j : Fin 8} {M : Fin 2176 → Fin 16 → ℝ}
variable {x0 x1 x2 x3 : Vec Ideal S2176x128 .f32} {x4 : Vec Ideal S1x8x2176 .f32} {x5 x6 : Vec Ideal S1x128 .f32}
  {x7 x8 : Vec Ideal S128x128 .f32} {x9 x10 : Vec Ideal S2176x128 .f32}

/-- The blocks a point of the grid reads, for pair `j` of heads; `M` are the logarithms of the rows' sums. -/
structure Blk (I : Inputs) (j : Fin 8) (M : Fin 2176 → Fin 16 → ℝ) (x0 x1 x2 x3 : Vec Ideal S2176x128 .f32)
    (x4 : Vec Ideal S1x8x2176 .f32) (x5 x6 : Vec Ideal S1x128 .f32) (x7 x8 : Vec Ideal S128x128 .f32)
    (x9 x10 : Vec Ideal S2176x128 .f32) : Prop where
  q : ∀ t l, x0 (ix2 t l) = ((I.xq t (headOf j (half l)) (gainLane l) : ℝ) : EReal)
  k : ∀ t l, x1 (ix2 t l) = ((I.xk t (headOf j (half l)) (gainLane l) : ℝ) : EReal)
  v : ∀ t l, x2 (ix2 t l) = ((I.vl j t l : ℝ) : EReal)
  c : ∀ t l, x3 (ix2 t l) = ((I.c t (headOf j (half l)) : ℝ) : EReal)
  ct : ∀ (b : Fin 2) k, x4 (ix3 0 ⟨b.val, by omega⟩ k) = ((I.c k (headOf j b) : ℝ) : EReal)
  qg : ∀ l, x5 (ix2 0 l) = ((I.qg (gainLane l) : ℝ) : EReal)
  kg : ∀ l, x6 (ix2 0 l) = ((I.kg (gainLane l) : ℝ) : EReal)
  bd : ∀ k l, x7 (ix2 k l) = ((if half k = half l then 1 / 64 else 0 : ℝ) : EReal)
  fold : ∀ k l, x8 (ix2 k l) = ((if gainLane k = gainLane l then 1 else 0 : ℝ) : EReal)
  dout : ∀ t l, x9 (ix2 t l) = ((I.dl j t l : ℝ) : EReal)
  lse : ∀ t l, x10 (ix2 t l) = ((M t (headOf j (half l)) : ℝ) : EReal)
  isLse : I.IsLse M

theorem Blk.c_0 (H : Blk I j M x0 x1 x2 x3 x4 x5 x6 x7 x8 x9 x10) (t : Fin 2176) (h : 0 < 128) :
    x3 (ix2 t ⟨0, h⟩) = ((I.c t (headOf j 0) : ℝ) : EReal) :=
  (H.c t ⟨0, h⟩).trans (by rw [show half ⟨0, h⟩ = 0 from Fin.ext (by show 0 / 64 = 0; norm_num)])
theorem Blk.c_1 (H : Blk I j M x0 x1 x2 x3 x4 x5 x6 x7 x8 x9 x10) (t : Fin 2176) (h : 64 < 128) :
    x3 (ix2 t ⟨64, h⟩) = ((I.c t (headOf j 1) : ℝ) : EReal) :=
  (H.c t ⟨64, h⟩).trans (by rw [show half ⟨64, h⟩ = 1 from Fin.ext (by show 64 / 64 = 1; norm_num)])
theorem Blk.lse_0 (H : Blk I j M x0 x1 x2 x3 x4 x5 x6 x7 x8 x9 x10) (t : Fin 2176) (h : 0 < 128) :
    x10 (ix2 t ⟨0, h⟩) = ((M t (headOf j 0) : ℝ) : EReal) :=
  (H.lse t ⟨0, h⟩).trans (by rw [show half ⟨0, h⟩ = 0 from Fin.ext (by show 0 / 64 = 0; norm_num)])
theorem Blk.lse_1 (H : Blk I j M x0 x1 x2 x3 x4 x5 x6 x7 x8 x9 x10) (t : Fin 2176) (h : 64 < 128) :
    x10 (ix2 t ⟨64, h⟩) = ((M t (headOf j 1) : ℝ) : EReal) :=
  (H.lse t ⟨64, h⟩).trans (by rw [show half ⟨64, h⟩ = 1 from Fin.ext (by show 64 / 64 = 1; norm_num)])
theorem Blk.ct_0 (H : Blk I j M x0 x1 x2 x3 x4 x5 x6 x7 x8 x9 x10) (k : Fin 2176) (h : 0 < 8) :
    x4 (ix3 0 ⟨0, h⟩ k) = ((I.c k (headOf j 0) : ℝ) : EReal) := H.ct 0 k
theorem Blk.ct_1 (H : Blk I j M x0 x1 x2 x3 x4 x5 x6 x7 x8 x9 x10) (k : Fin 2176) (h : 1 < 8) :
    x4 (ix3 0 ⟨1, h⟩ k) = ((I.c k (headOf j 1) : ℝ) : EReal) := H.ct 1 k

theorem mask_bot : Named.named (F := Ideal) (φ := .f32) κ "mask" 0xF149F2CA#32 = (⊥ : EReal) :=
  IdealRules.named_const.ideal_named_scalar κ "mask" (φ := .f32) 0xF149F2CA#32 ⊥ rfl

theorem select_half {α : Type} (l : Fin 128) (a b : α) :
    Scalar.select (IntOp.cmpi CmpIPredicate.slt (BitVec.ofNat 32 l.val) 64#32) a b = if half l = 0 then a else b := by
  have h1 : (BitVec.ofNat 32 l.val).slt 64#32 = decide (l.val < 64) := by
    rw [BitVec.slt_eq_decide, toInt_small (by omega), toInt_small (n := 64) (by omega)]
    simp only [decide_eq_decide]; omega
  have h2 : half l = 0 ↔ l.val < 64 := by
    rw [Fin.ext_iff]; show l.val / 64 = 0 ↔ _; omega
  unfold IntOp.cmpi Scalar.select
  simp only [h1, h2]
  by_cases h : l.val < 64 <;> simp [h]

theorem addi_ofNat (a b : ℕ) : IntOp.addi (BitVec.ofNat 32 a) (BitVec.ofNat 32 b) = BitVec.ofNat 32 (a + b) := by
  unfold IntOp.addi; rw [BitVec.ofNat_add]

theorem half_ne {l : Fin 128} : half l ≠ 0 ↔ half l = 1 := by
  rw [Ne, Fin.ext_iff, Fin.ext_iff]; show ¬ l.val / 64 = 0 ↔ l.val / 64 = 1; omega

/-- The mean of the squares of a head's lanes, as the product with the block diagonal takes it. -/
theorem mean_half (l : Fin 128) (f : Fin 2 → Fin 64 → ℝ) :
    ∑ x : Fin 128, ((f (half x) (gainLane x) * f (half x) (gainLane x) * (if half x = half l then 1 / 64 else 0) : ℝ) : EReal)
      = (((∑ d, f (half l) d * f (half l) d) / 64 : ℝ) : EReal) := by
  rw [coe_sum]
  refine congrArg (fun r : ℝ => (r : EReal)) ?_
  rw [sum_div, ← sum_half (half l) (fun x => f (half x) (gainLane x) * f (half x) (gainLane x) / 64) _ fun x hx => by rw [hx]]
  refine sum_congr rfl fun x _ => ?_
  split
  · ring
  · ring

variable {c : Dev nD} {i : grid0.Coords}
  {a1 : Memref sig .tc .vmem S2176x128 .f32} {h1 : a1.IsWhole}
  {a2 : Memref sig .tc .vmem S2176x128 .f32} {h2 : a2.IsWhole}
  {a3 : Memref sig .tc .vmem S2176x128 .f32} {h3 : a3.IsWhole}
  {a4 : Memref sig .tc .vmem S2176x128 .f32} {h4 : a4.IsWhole}
  {a5 : Memref sig .tc .vmem S1x8x2176 .f32} {h5 : a5.IsWhole}
  {a6 : Memref sig .tc .vmem S1x128 .f32} {h6 : a6.IsWhole}
  {a7 : Memref sig .tc .vmem S1x128 .f32} {h7 : a7.IsWhole}
  {a8 : Memref sig .tc .vmem S128x128 .f32} {h8 : a8.IsWhole}
  {a9 : Memref sig .tc .vmem S128x128 .f32} {h9 : a9.IsWhole}
  {a10 : Memref sig .tc .vmem S2176x128 .f32} {h10 : a10.IsWhole}
  {a11 : Memref sig .tc .vmem S2176x128 .f32} {h11 : a11.IsWhole}
  {a12 : Memref sig .tc .vmem S2176x128 .f32} {h12 : a12.IsWhole}
  {a13 : Memref sig .tc .vmem S2176x128 .f32} {h13 : a13.IsWhole}
  {a14 : Memref sig .tc .vmem S2176x128 .f32} {h14 : a14.IsWhole}
  {a15 : Memref sig .tc .vmem S1x8x2176 .f32} {h15 : a15.IsWhole}
  {a16 : Memref sig .tc .vmem S1x128 .f32} {h16 : a16.IsWhole}
  {a17 : Memref sig .tc .vmem S1x128 .f32} {h17 : a17.IsWhole}
  {a18 : Memref sig .tc .vmem S2176x128 .bf16} {h18 : a18.IsWhole}
  {a19 : Memref sig .tc .vmem S2176x128 .bf16} {h19 : a19.IsWhole}
  {a20 : Memref sig .tc .vmem S2176x128 .bf16} {h20 : a20.IsWhole}
  {a21 : Memref sig .tc .vmem S2176x128 .bf16} {h21 : a21.IsWhole}
  {a22 : Memref sig .tc .vmem S2176x128 .bf16} {h22 : a22.IsWhole}
  {a23 : Memref sig .tc .vmem S2176x128 .bf16} {h23 : a23.IsWhole}
  {a24 : Memref sig .tc .vmem S2176x128 .f32} {h24 : a24.IsWhole}
  {a25 : Memref sig .tc .vmem S2176x128 .f32} {h25 : a25.IsWhole}
  {a26 : Memref sig .tc .vmem S2176x128 .f32} {h26 : a26.IsWhole}

theorem HS0_1_at (H : Blk I j M x0 x1 x2 x3 x4 x5 x6 x7 x8 x9 x10) (t : Fin 2176) (l : Fin 128) :
    View.canon (kernelRun0_B.sl.HS0_1 c a1 h1 a6 h6 a8 h8 x0 x5 x7 : List (View.Piece (Elt Ideal) S2176x128 _)) (ix2 t l) = ((I.qm j 0 t l : ℝ) : EReal) := by
  unfold kernelRun0_B.sl.HS0_1
  refine (canon_band _ _ _ t l).trans ?_
  rw [dif_pos ⟨Nat.zero_le _, by omega⟩]
  sl_unfold_run_values
  unfold_payloads
  pointwise
  simp only [readAt_band, zero_add, Fin.eta, H.q, H.qg, H.bd, bits_eps, ← EReal.coe_mul, Fin.val_zero, Fin.zero_eta]
  rw [mean_half l (fun b d => I.xq t (headOf j b) d), ← EReal.coe_add]
  rw [show (∑ d, I.xq t (headOf j (half l)) d * I.xq t (headOf j (half l)) d) / 64 + eps = ms (I.xq t (headOf j (half l))) from rfl,
    rsqrt_ms, ← EReal.coe_mul, ← EReal.coe_mul]
  rw [select_half]
  unfold Inputs.qm
  split <;> rfl

theorem HS1_1_at (H : Blk I j M x0 x1 x2 x3 x4 x5 x6 x7 x8 x9 x10) (t : Fin 2176) (l : Fin 128) :
    View.canon (kernelRun0_B.sl.HS1_1 c a1 h1 a6 h6 a8 h8 x0 x5 x7 : List (View.Piece (Elt Ideal) S2176x128 _)) (ix2 t l) = ((I.qm j 1 t l : ℝ) : EReal) := by
  unfold kernelRun0_B.sl.HS1_1
  refine (canon_band _ _ _ t l).trans ?_
  rw [dif_pos ⟨Nat.zero_le _, by omega⟩]
  sl_unfold_run_values
  unfold_payloads
  pointwise
  simp only [readAt_band, zero_add, Fin.eta, H.q, H.qg, H.bd, bits_eps, ← EReal.coe_mul, Fin.val_zero, Fin.zero_eta]
  rw [mean_half l (fun b d => I.xq t (headOf j b) d), ← EReal.coe_add]
  rw [show (∑ d, I.xq t (headOf j (half l)) d * I.xq t (headOf j (half l)) d) / 64 + eps = ms (I.xq t (headOf j (half l))) from rfl,
    rsqrt_ms, ← EReal.coe_mul, ← EReal.coe_mul]
  rw [select_half]
  unfold Inputs.qm
  by_cases h : half l = 0
  · rw [if_pos h, if_neg (by rw [h]; decide)]; rfl
  · rw [if_neg h, if_pos (half_ne.1 h)]; rfl

theorem HS2_1_at (H : Blk I j M x0 x1 x2 x3 x4 x5 x6 x7 x8 x9 x10) (t : Fin 2176) (l : Fin 128) :
    View.canon (kernelRun0_B.sl.HS2_1 c a2 h2 a7 h7 a8 h8 x1 x6 x7 : List (View.Piece (Elt Ideal) S2176x128 _)) (ix2 t l) = ((I.kl j t l : ℝ) : EReal) := by
  unfold kernelRun0_B.sl.HS2_1
  refine (canon_band _ _ _ t l).trans ?_
  rw [dif_pos ⟨Nat.zero_le _, by omega⟩]
  sl_unfold_run_values
  unfold_payloads
  pointwise
  simp only [readAt_band, zero_add, Fin.eta, H.k, H.kg, H.bd, bits_eps, ← EReal.coe_mul, Fin.val_zero, Fin.zero_eta]
  rw [mean_half l (fun b d => I.xk t (headOf j b) d), ← EReal.coe_add]
  rw [show (∑ d, I.xk t (headOf j (half l)) d * I.xk t (headOf j (half l)) d) / 64 + eps = ms (I.xk t (headOf j (half l))) from rfl,
    rsqrt_ms, ← EReal.coe_mul, ← EReal.coe_mul]
  rfl

theorem HS3_1_at (H : Blk I j M x0 x1 x2 x3 x4 x5 x6 x7 x8 x9 x10) (t : Fin 2176) (l : Fin 128) :
    View.canon (kernelRun0_B.sl.HS3_1 c a3 h3 x2 : List (View.Piece (Elt Ideal) S2176x128 _)) (ix2 t l) = ((I.vl j t l : ℝ) : EReal) := by
  unfold kernelRun0_B.sl.HS3_1
  refine (canon_band _ _ _ t l).trans ?_
  rw [dif_pos ⟨Nat.zero_le _, by omega⟩]
  sl_unfold_run_values
  unfold_payloads
  pointwise
  simp only [readAt_band, zero_add, Fin.eta, H.v]

theorem HS4_1_at (H : Blk I j M x0 x1 x2 x3 x4 x5 x6 x7 x8 x9 x10) (t : Fin 2176) (l : Fin 128) :
    View.canon (kernelRun0_B.sl.HS4_1 c a10 h10 x9 : List (View.Piece (Elt Ideal) S2176x128 _)) (ix2 t l) = ((I.dm j 0 t l : ℝ) : EReal) := by
  unfold kernelRun0_B.sl.HS4_1
  refine (canon_band _ _ _ t l).trans ?_
  rw [dif_pos ⟨Nat.zero_le _, by omega⟩]
  sl_unfold_run_values
  unfold_payloads
  pointwise
  simp only [readAt_band, zero_add, Fin.eta, H.dout]
  rw [select_half]
  unfold Inputs.dm
  split <;> rfl

theorem HS5_1_at (H : Blk I j M x0 x1 x2 x3 x4 x5 x6 x7 x8 x9 x10) (t : Fin 2176) (l : Fin 128) :
    View.canon (kernelRun0_B.sl.HS5_1 c a10 h10 x9 : List (View.Piece (Elt Ideal) S2176x128 _)) (ix2 t l) = ((I.dm j 1 t l : ℝ) : EReal) := by
  unfold kernelRun0_B.sl.HS5_1
  refine (canon_band _ _ _ t l).trans ?_
  rw [dif_pos ⟨Nat.zero_le _, by omega⟩]
  sl_unfold_run_values
  unfold_payloads
  pointwise
  simp only [readAt_band, zero_add, Fin.eta, H.dout]
  rw [select_half]
  unfold Inputs.dm
  by_cases h : half l = 0
  · rw [if_pos h, if_neg (by rw [h]; decide)]; rfl
  · rw [if_neg h, if_pos (half_ne.1 h)]

end Cert.Fox.Ker

end
-- ==== Proof.Values.lean ====
/-
  The gradient in the values, block of rows by block of rows: after each block and head, the sum over the rows so far.
-/
module

public import proofs.«01_k».proof.Proof.Block
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {I : Inputs} {j : Fin 8} {M : Fin 2176 → Fin 16 → ℝ}
variable {x0 x1 x2 x3 : Vec Ideal S2176x128 .f32} {x4 : Vec Ideal S1x8x2176 .f32} {x5 x6 : Vec Ideal S1x128 .f32}
  {x7 x8 : Vec Ideal S128x128 .f32} {x9 x10 : Vec Ideal S2176x128 .f32}

variable {c : Dev nD} {i : grid0.Coords}
  {a1 : Memref sig .tc .vmem S2176x128 .f32} {h1 : a1.IsWhole}
  {a2 : Memref sig .tc .vmem S2176x128 .f32} {h2 : a2.IsWhole}
  {a3 : Memref sig .tc .vmem S2176x128 .f32} {h3 : a3.IsWhole}
  {a4 : Memref sig .tc .vmem S2176x128 .f32} {h4 : a4.IsWhole}
  {a5 : Memref sig .tc .vmem S1x8x2176 .f32} {h5 : a5.IsWhole}
  {a6 : Memref sig .tc .vmem S1x128 .f32} {h6 : a6.IsWhole}
  {a7 : Memref sig .tc .vmem S1x128 .f32} {h7 : a7.IsWhole}
  {a8 : Memref sig .tc .vmem S128x128 .f32} {h8 : a8.IsWhole}
  {a9 : Memref sig .tc .vmem S128x128 .f32} {h9 : a9.IsWhole}
  {a10 : Memref sig .tc .vmem S2176x128 .f32} {h10 : a10.IsWhole}
  {a11 : Memref sig .tc .vmem S2176x128 .f32} {h11 : a11.IsWhole}
  {a12 : Memref sig .tc .vmem S2176x128 .f32} {h12 : a12.IsWhole}
  {a13 : Memref sig .tc .vmem S2176x128 .f32} {h13 : a13.IsWhole}
  {a14 : Memref sig .tc .vmem S2176x128 .f32} {h14 : a14.IsWhole}
  {a15 : Memref sig .tc .vmem S1x8x2176 .f32} {h15 : a15.IsWhole}
  {a16 : Memref sig .tc .vmem S1x128 .f32} {h16 : a16.IsWhole}
  {a17 : Memref sig .tc .vmem S1x128 .f32} {h17 : a17.IsWhole}
  {a18 : Memref sig .tc .vmem S2176x128 .bf16} {h18 : a18.IsWhole}
  {a19 : Memref sig .tc .vmem S2176x128 .bf16} {h19 : a19.IsWhole}
  {a20 : Memref sig .tc .vmem S2176x128 .bf16} {h20 : a20.IsWhole}
  {a21 : Memref sig .tc .vmem S2176x128 .bf16} {h21 : a21.IsWhole}
  {a22 : Memref sig .tc .vmem S2176x128 .bf16} {h22 : a22.IsWhole}
  {a23 : Memref sig .tc .vmem S2176x128 .bf16} {h23 : a23.IsWhole}
  {a24 : Memref sig .tc .vmem S2176x128 .f32} {h24 : a24.IsWhole}
  {a25 : Memref sig .tc .vmem S2176x128 .f32} {h25 : a25.IsWhole}
  {a26 : Memref sig .tc .vmem S2176x128 .f32} {h26 : a26.IsWhole}

theorem HS8_1_at (k : ℕ) (hk : k < 2176) (l : Fin 128) :
    View.canon (kernelRun0_B.sl.HS8_1  : List (View.Piece (Elt Ideal) S2176x128 _)) (ix2 ⟨k, hk⟩ l)
      = ((part (I.vf j 0 ⟨k, hk⟩ l) 0 + part (I.vf j 1 ⟨k, hk⟩ l) 0 : ℝ) : EReal) := by
  unfold kernelRun0_B.sl.HS8_1
  refine (canon_band _ _ _ ⟨k, hk⟩ l).trans ?_
  rw [dif_pos ⟨Nat.zero_le _, show k < 0 + 2176 by omega⟩, part_zero, part_zero]
  sl_unfold_run_values
  unfold_payloads
  pointwise
  exact EReal.coe_zero.symm

theorem HS8_2_at (H : Blk I j M x0 x1 x2 x3 x4 x5 x6 x7 x8 x9 x10) (k : ℕ) (hk : k < 2176) (l : Fin 128) :
    View.canon (kernelRun0_B.sl.HS8_2 c a1 h1 a2 h2 a4 h4 a5 h5 a6 h6 a7 h7 a8 h8 a10 h10 a11 h11 a18 a20 a22 a26 x0 x1 x3 x4 x5 x6 x7 x9 x10 : List (View.Piece (Elt Ideal) S2176x128 _)) (ix2 ⟨k, hk⟩ l)
      = ((part (I.vf j 0 ⟨k, hk⟩ l) 128 + part (I.vf j 1 ⟨k, hk⟩ l) 0 : ℝ) : EReal) := by
  unfold kernelRun0_B.sl.HS8_2
  refine (canon_band _ _ _ ⟨k, hk⟩ l).trans ?_
  by_cases hc : k < 128
  · rw [dif_pos ⟨Nat.zero_le _, show k < 0 + 128 by omega⟩]
    sl_unfold_run_values
    unfold_payloads
    pointwise
    simp only [readCov_band, readAt_band, readAt_slab, readCov_slab, zero_add, add_zero, Fin.val_zero, HS8_1_at (I := I) (j := j), HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    simp only [part_zero, add_zero, zero_add]
    exact part_eq (I.vf j 0 ⟨k, hk⟩ l) 128 (by norm_num)
  · rw [dif_neg (by rintro ⟨-, h⟩; exact hc (by omega))]
    refine (HS8_1_at (I := I) (j := j) k hk l).trans (congrArg (fun r : ℝ => (r : EReal)) ?_)
    rw [part_of_zero (I.vf j 0 ⟨k, hk⟩ l) 0 128 (by norm_num) fun q hq => I.vf_zero j 0 ⟨k, hk⟩ l q (lt_of_lt_of_le hq (not_lt.1 hc))]

theorem HS8_3_at (H : Blk I j M x0 x1 x2 x3 x4 x5 x6 x7 x8 x9 x10) (k : ℕ) (hk : k < 2176) (l : Fin 128) :
    View.canon (kernelRun0_B.sl.HS8_3 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 128 + part (I.vf j 1 ⟨k, hk⟩ l) 128 : ℝ) : EReal) := by
  unfold kernelRun0_B.sl.HS8_3
  refine (canon_band _ _ _ ⟨k, hk⟩ l).trans ?_
  by_cases hc : k < 128
  · rw [dif_pos ⟨Nat.zero_le _, show k < 0 + 128 by omega⟩]
    sl_unfold_run_values
    unfold_payloads
    pointwise
    simp only [readCov_band, readAt_band, readAt_slab, readCov_slab, zero_add, add_zero, Fin.val_zero, HS8_2_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    simp only [part_zero, add_zero]
    exact congrArg (_ + ·) (part_eq (I.vf j 1 ⟨k, hk⟩ l) 128 (by norm_num))
  · rw [dif_neg (by rintro ⟨-, h⟩; exact hc (by omega))]
    refine (HS8_2_at H k hk l).trans (congrArg (fun r : ℝ => (r : EReal)) ?_)
    rw [part_of_zero (I.vf j 1 ⟨k, hk⟩ l) 0 128 (by norm_num) fun q hq => I.vf_zero j 1 ⟨k, hk⟩ l q (lt_of_lt_of_le hq (not_lt.1 hc))]

theorem HS8_4_at (H : Blk I j M x0 x1 x2 x3 x4 x5 x6 x7 x8 x9 x10) (k : ℕ) (hk : k < 2176) (l : Fin 128) :
    View.canon (kernelRun0_B.sl.HS8_4 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 384 + part (I.vf j 1 ⟨k, hk⟩ l) 128 : ℝ) : EReal) := by
  unfold kernelRun0_B.sl.HS8_4
  refine (canon_band _ _ _ ⟨k, hk⟩ l).trans ?_
  by_cases hc : k < 384
  · rw [dif_pos ⟨Nat.zero_le _, show k < 0 + 384 by omega⟩]
    sl_unfold_run_values
    unfold_payloads
    pointwise
    simp only [readCov_band, readAt_band, readAt_slab, readCov_slab, zero_add, add_zero, Fin.val_zero, HS8_3_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 128 256 384 (by norm_num) (by norm_num)))
  · rw [dif_neg (by rintro ⟨-, h⟩; exact hc (by omega))]
    refine (HS8_3_at H k hk l).trans (congrArg (fun r : ℝ => (r : EReal)) ?_)
    rw [part_of_zero (I.vf j 0 ⟨k, hk⟩ l) 128 384 (by norm_num) fun q hq => I.vf_zero j 0 ⟨k, hk⟩ l q (lt_of_lt_of_le hq (not_lt.1 hc))]

theorem HS8_5_at (H : Blk I j M x0 x1 x2 x3 x4 x5 x6 x7 x8 x9 x10) (k : ℕ) (hk : k < 2176) (l : Fin 128) :
    View.canon (kernelRun0_B.sl.HS8_5 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 384 + part (I.vf j 1 ⟨k, hk⟩ l) 384 : ℝ) : EReal) := by
  unfold kernelRun0_B.sl.HS8_5
  refine (canon_band _ _ _ ⟨k, hk⟩ l).trans ?_
  by_cases hc : k < 384
  · rw [dif_pos ⟨Nat.zero_le _, show k < 0 + 384 by omega⟩]
    sl_unfold_run_values
    unfold_payloads
    pointwise
    simp only [readCov_band, readAt_band, readAt_slab, readCov_slab, zero_add, add_zero, Fin.val_zero, HS8_4_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 128 256 384 (by norm_num) (by norm_num)))
  · rw [dif_neg (by rintro ⟨-, h⟩; exact hc (by omega))]
    refine (HS8_4_at H k hk l).trans (congrArg (fun r : ℝ => (r : EReal)) ?_)
    rw [part_of_zero (I.vf j 1 ⟨k, hk⟩ l) 128 384 (by norm_num) fun q hq => I.vf_zero j 1 ⟨k, hk⟩ l q (lt_of_lt_of_le hq (not_lt.1 hc))]

theorem HS8_6_at (H : Blk I j M x0 x1 x2 x3 x4 x5 x6 x7 x8 x9 x10) (k : ℕ) (hk : k < 2176) (l : Fin 128) :
    View.canon (kernelRun0_B.sl.HS8_6 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 640 + part (I.vf j 1 ⟨k, hk⟩ l) 384 : ℝ) : EReal) := by
  unfold kernelRun0_B.sl.HS8_6
  refine (canon_band _ _ _ ⟨k, hk⟩ l).trans ?_
  by_cases hc : k < 640
  · rw [dif_pos ⟨Nat.zero_le _, show k < 0 + 640 by omega⟩]
    sl_unfold_run_values
    unfold_payloads
    pointwise
    simp only [readCov_band, readAt_band, readAt_slab, readCov_slab, zero_add, add_zero, Fin.val_zero, HS8_5_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 384 256 640 (by norm_num) (by norm_num)))
  · rw [dif_neg (by rintro ⟨-, h⟩; exact hc (by omega))]
    refine (HS8_5_at H k hk l).trans (congrArg (fun r : ℝ => (r : EReal)) ?_)
    rw [part_of_zero (I.vf j 0 ⟨k, hk⟩ l) 384 640 (by norm_num) fun q hq => I.vf_zero j 0 ⟨k, hk⟩ l q (lt_of_lt_of_le hq (not_lt.1 hc))]

theorem HS8_7_at (H : Blk I j M x0 x1 x2 x3 x4 x5 x6 x7 x8 x9 x10) (k : ℕ) (hk : k < 2176) (l : Fin 128) :
    View.canon (kernelRun0_B.sl.HS8_7 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 640 + part (I.vf j 1 ⟨k, hk⟩ l) 640 : ℝ) : EReal) := by
  unfold kernelRun0_B.sl.HS8_7
  refine (canon_band _ _ _ ⟨k, hk⟩ l).trans ?_
  by_cases hc : k < 640
  · rw [dif_pos ⟨Nat.zero_le _, show k < 0 + 640 by omega⟩]
    sl_unfold_run_values
    unfold_payloads
    pointwise
    simp only [readCov_band, readAt_band, readAt_slab, readCov_slab, zero_add, add_zero, Fin.val_zero, HS8_6_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 384 256 640 (by norm_num) (by norm_num)))
  · rw [dif_neg (by rintro ⟨-, h⟩; exact hc (by omega))]
    refine (HS8_6_at H k hk l).trans (congrArg (fun r : ℝ => (r : EReal)) ?_)
    rw [part_of_zero (I.vf j 1 ⟨k, hk⟩ l) 384 640 (by norm_num) fun q hq => I.vf_zero j 1 ⟨k, hk⟩ l q (lt_of_lt_of_le hq (not_lt.1 hc))]

theorem HS8_8_at (H : Blk I j M x0 x1 x2 x3 x4 x5 x6 x7 x8 x9 x10) (k : ℕ) (hk : k < 2176) (l : Fin 128) :
    View.canon (kernelRun0_B.sl.HS8_8 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 896 + part (I.vf j 1 ⟨k, hk⟩ l) 640 : ℝ) : EReal) := by
  unfold kernelRun0_B.sl.HS8_8
  refine (canon_band _ _ _ ⟨k, hk⟩ l).trans ?_
  by_cases hc : k < 896
  · rw [dif_pos ⟨Nat.zero_le _, show k < 0 + 896 by omega⟩]
    sl_unfold_run_values
    unfold_payloads
    pointwise
    simp only [readCov_band, readAt_band, readAt_slab, readCov_slab, zero_add, add_zero, Fin.val_zero, HS8_7_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 640 256 896 (by norm_num) (by norm_num)))
  · rw [dif_neg (by rintro ⟨-, h⟩; exact hc (by omega))]
    refine (HS8_7_at H k hk l).trans (congrArg (fun r : ℝ => (r : EReal)) ?_)
    rw [part_of_zero (I.vf j 0 ⟨k, hk⟩ l) 640 896 (by norm_num) fun q hq => I.vf_zero j 0 ⟨k, hk⟩ l q (lt_of_lt_of_le hq (not_lt.1 hc))]

theorem HS8_9_at (H : Blk I j M x0 x1 x2 x3 x4 x5 x6 x7 x8 x9 x10) (k : ℕ) (hk : k < 2176) (l : Fin 128) :
    View.canon (kernelRun0_B.sl.HS8_9 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 896 + part (I.vf j 1 ⟨k, hk⟩ l) 896 : ℝ) : EReal) := by
  unfold kernelRun0_B.sl.HS8_9
  refine (canon_band _ _ _ ⟨k, hk⟩ l).trans ?_
  by_cases hc : k < 896
  · rw [dif_pos ⟨Nat.zero_le _, show k < 0 + 896 by omega⟩]
    sl_unfold_run_values
    unfold_payloads
    pointwise
    simp only [readCov_band, readAt_band, readAt_slab, readCov_slab, zero_add, add_zero, Fin.val_zero, HS8_8_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 640 256 896 (by norm_num) (by norm_num)))
  · rw [dif_neg (by rintro ⟨-, h⟩; exact hc (by omega))]
    refine (HS8_8_at H k hk l).trans (congrArg (fun r : ℝ => (r : EReal)) ?_)
    rw [part_of_zero (I.vf j 1 ⟨k, hk⟩ l) 640 896 (by norm_num) fun q hq => I.vf_zero j 1 ⟨k, hk⟩ l q (lt_of_lt_of_le hq (not_lt.1 hc))]

theorem HS8_10_at (H : Blk I j M x0 x1 x2 x3 x4 x5 x6 x7 x8 x9 x10) (k : ℕ) (hk : k < 2176) (l : Fin 128) :
    View.canon (kernelRun0_B.sl.HS8_10 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1152 + part (I.vf j 1 ⟨k, hk⟩ l) 896 : ℝ) : EReal) := by
  unfold kernelRun0_B.sl.HS8_10
  refine (canon_band _ _ _ ⟨k, hk⟩ l).trans ?_
  by_cases hc : k < 1152
  · rw [dif_pos ⟨Nat.zero_le _, show k < 0 + 1152 by omega⟩]
    sl_unfold_run_values
    unfold_payloads
    pointwise
    simp only [readCov_band, readAt_band, readAt_slab, readCov_slab, zero_add, add_zero, Fin.val_zero, HS8_9_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 896 256 1152 (by norm_num) (by norm_num)))
  · rw [dif_neg (by rintro ⟨-, h⟩; exact hc (by omega))]
    refine (HS8_9_at H k hk l).trans (congrArg (fun r : ℝ => (r : EReal)) ?_)
    rw [part_of_zero (I.vf j 0 ⟨k, hk⟩ l) 896 1152 (by norm_num) fun q hq => I.vf_zero j 0 ⟨k, hk⟩ l q (lt_of_lt_of_le hq (not_lt.1 hc))]

theorem HS8_11_at (H : Blk I j M x0 x1 x2 x3 x4 x5 x6 x7 x8 x9 x10) (k : ℕ) (hk : k < 2176) (l : Fin 128) :
    View.canon (kernelRun0_B.sl.HS8_11 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1152 + part (I.vf j 1 ⟨k, hk⟩ l) 1152 : ℝ) : EReal) := by
  unfold kernelRun0_B.sl.HS8_11
  refine (canon_band _ _ _ ⟨k, hk⟩ l).trans ?_
  by_cases hc : k < 1152
  · rw [dif_pos ⟨Nat.zero_le _, show k < 0 + 1152 by omega⟩]
    sl_unfold_run_values
    unfold_payloads
    pointwise
    simp only [readCov_band, readAt_band, readAt_slab, readCov_slab, zero_add, add_zero, Fin.val_zero, HS8_10_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 896 256 1152 (by norm_num) (by norm_num)))
  · rw [dif_neg (by rintro ⟨-, h⟩; exact hc (by omega))]
    refine (HS8_10_at H k hk l).trans (congrArg (fun r : ℝ => (r : EReal)) ?_)
    rw [part_of_zero (I.vf j 1 ⟨k, hk⟩ l) 896 1152 (by norm_num) fun q hq => I.vf_zero j 1 ⟨k, hk⟩ l q (lt_of_lt_of_le hq (not_lt.1 hc))]

theorem HS8_12_at (H : Blk I j M x0 x1 x2 x3 x4 x5 x6 x7 x8 x9 x10) (k : ℕ) (hk : k < 2176) (l : Fin 128) :
    View.canon (kernelRun0_B.sl.HS8_12 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1408 + part (I.vf j 1 ⟨k, hk⟩ l) 1152 : ℝ) : EReal) := by
  unfold kernelRun0_B.sl.HS8_12
  refine (canon_band _ _ _ ⟨k, hk⟩ l).trans ?_
  by_cases hc : k < 1408
  · rw [dif_pos ⟨Nat.zero_le _, show k < 0 + 1408 by omega⟩]
    sl_unfold_run_values
    unfold_payloads
    pointwise
    simp only [readCov_band, readAt_band, readAt_slab, readCov_slab, zero_add, add_zero, Fin.val_zero, HS8_11_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 1152 256 1408 (by norm_num) (by norm_num)))
  · rw [dif_neg (by rintro ⟨-, h⟩; exact hc (by omega))]
    refine (HS8_11_at H k hk l).trans (congrArg (fun r : ℝ => (r : EReal)) ?_)
    rw [part_of_zero (I.vf j 0 ⟨k, hk⟩ l) 1152 1408 (by norm_num) fun q hq => I.vf_zero j 0 ⟨k, hk⟩ l q (lt_of_lt_of_le hq (not_lt.1 hc))]

theorem HS8_13_at (H : Blk I j M x0 x1 x2 x3 x4 x5 x6 x7 x8 x9 x10) (k : ℕ) (hk : k < 2176) (l : Fin 128) :
    View.canon (kernelRun0_B.sl.HS8_13 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1408 + part (I.vf j 1 ⟨k, hk⟩ l) 1408 : ℝ) : EReal) := by
  unfold kernelRun0_B.sl.HS8_13
  refine (canon_band _ _ _ ⟨k, hk⟩ l).trans ?_
  by_cases hc : k < 1408
  · rw [dif_pos ⟨Nat.zero_le _, show k < 0 + 1408 by omega⟩]
    sl_unfold_run_values
    unfold_payloads
    pointwise
    simp only [readCov_band, readAt_band, readAt_slab, readCov_slab, zero_add, add_zero, Fin.val_zero, HS8_12_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 1152 256 1408 (by norm_num) (by norm_num)))
  · rw [dif_neg (by rintro ⟨-, h⟩; exact hc (by omega))]
    refine (HS8_12_at H k hk l).trans (congrArg (fun r : ℝ => (r : EReal)) ?_)
    rw [part_of_zero (I.vf j 1 ⟨k, hk⟩ l) 1152 1408 (by norm_num) fun q hq => I.vf_zero j 1 ⟨k, hk⟩ l q (lt_of_lt_of_le hq (not_lt.1 hc))]

theorem HS8_14_at (H : Blk I j M x0 x1 x2 x3 x4 x5 x6 x7 x8 x9 x10) (k : ℕ) (hk : k < 2176) (l : Fin 128) :
    View.canon (kernelRun0_B.sl.HS8_14 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1664 + part (I.vf j 1 ⟨k, hk⟩ l) 1408 : ℝ) : EReal) := by
  unfold kernelRun0_B.sl.HS8_14
  refine (canon_band _ _ _ ⟨k, hk⟩ l).trans ?_
  by_cases hc : k < 1664
  · rw [dif_pos ⟨Nat.zero_le _, show k < 0 + 1664 by omega⟩]
    sl_unfold_run_values
    unfold_payloads
    pointwise
    simp only [readCov_band, readAt_band, readAt_slab, readCov_slab, zero_add, add_zero, Fin.val_zero, HS8_13_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 1408 256 1664 (by norm_num) (by norm_num)))
  · rw [dif_neg (by rintro ⟨-, h⟩; exact hc (by omega))]
    refine (HS8_13_at H k hk l).trans (congrArg (fun r : ℝ => (r : EReal)) ?_)
    rw [part_of_zero (I.vf j 0 ⟨k, hk⟩ l) 1408 1664 (by norm_num) fun q hq => I.vf_zero j 0 ⟨k, hk⟩ l q (lt_of_lt_of_le hq (not_lt.1 hc))]

theorem HS8_15_at (H : Blk I j M x0 x1 x2 x3 x4 x5 x6 x7 x8 x9 x10) (k : ℕ) (hk : k < 2176) (l : Fin 128) :
    View.canon (kernelRun0_B.sl.HS8_15 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1664 + part (I.vf j 1 ⟨k, hk⟩ l) 1664 : ℝ) : EReal) := by
  unfold kernelRun0_B.sl.HS8_15
  refine (canon_band _ _ _ ⟨k, hk⟩ l).trans ?_
  by_cases hc : k < 1664
  · rw [dif_pos ⟨Nat.zero_le _, show k < 0 + 1664 by omega⟩]
    sl_unfold_run_values
    unfold_payloads
    pointwise
    simp only [readCov_band, readAt_band, readAt_slab, readCov_slab, zero_add, add_zero, Fin.val_zero, HS8_14_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 1408 256 1664 (by norm_num) (by norm_num)))
  · rw [dif_neg (by rintro ⟨-, h⟩; exact hc (by omega))]
    refine (HS8_14_at H k hk l).trans (congrArg (fun r : ℝ => (r : EReal)) ?_)
    rw [part_of_zero (I.vf j 1 ⟨k, hk⟩ l) 1408 1664 (by norm_num) fun q hq => I.vf_zero j 1 ⟨k, hk⟩ l q (lt_of_lt_of_le hq (not_lt.1 hc))]

theorem HS8_16_at (H : Blk I j M x0 x1 x2 x3 x4 x5 x6 x7 x8 x9 x10) (k : ℕ) (hk : k < 2176) (l : Fin 128) :
    View.canon (kernelRun0_B.sl.HS8_16 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1920 + part (I.vf j 1 ⟨k, hk⟩ l) 1664 : ℝ) : EReal) := by
  unfold kernelRun0_B.sl.HS8_16
  refine (canon_band _ _ _ ⟨k, hk⟩ l).trans ?_
  by_cases hc : k < 1920
  · rw [dif_pos ⟨Nat.zero_le _, show k < 0 + 1920 by omega⟩]
    sl_unfold_run_values
    unfold_payloads
    pointwise
    simp only [readCov_band, readAt_band, readAt_slab, readCov_slab, zero_add, add_zero, Fin.val_zero, HS8_15_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 1664 256 1920 (by norm_num) (by norm_num)))
  · rw [dif_neg (by rintro ⟨-, h⟩; exact hc (by omega))]
    refine (HS8_15_at H k hk l).trans (congrArg (fun r : ℝ => (r : EReal)) ?_)
    rw [part_of_zero (I.vf j 0 ⟨k, hk⟩ l) 1664 1920 (by norm_num) fun q hq => I.vf_zero j 0 ⟨k, hk⟩ l q (lt_of_lt_of_le hq (not_lt.1 hc))]

theorem HS8_17_at (H : Blk I j M x0 x1 x2 x3 x4 x5 x6 x7 x8 x9 x10) (k : ℕ) (hk : k < 2176) (l : Fin 128) :
    View.canon (kernelRun0_B.sl.HS8_17 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 1920 + part (I.vf j 1 ⟨k, hk⟩ l) 1920 : ℝ) : EReal) := by
  unfold kernelRun0_B.sl.HS8_17
  refine (canon_band _ _ _ ⟨k, hk⟩ l).trans ?_
  by_cases hc : k < 1920
  · rw [dif_pos ⟨Nat.zero_le _, show k < 0 + 1920 by omega⟩]
    sl_unfold_run_values
    unfold_payloads
    pointwise
    simp only [readCov_band, readAt_band, readAt_slab, readCov_slab, zero_add, add_zero, Fin.val_zero, HS8_16_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 1664 256 1920 (by norm_num) (by norm_num)))
  · rw [dif_neg (by rintro ⟨-, h⟩; exact hc (by omega))]
    refine (HS8_16_at H k hk l).trans (congrArg (fun r : ℝ => (r : EReal)) ?_)
    rw [part_of_zero (I.vf j 1 ⟨k, hk⟩ l) 1664 1920 (by norm_num) fun q hq => I.vf_zero j 1 ⟨k, hk⟩ l q (lt_of_lt_of_le hq (not_lt.1 hc))]

theorem HS8_18_at (H : Blk I j M x0 x1 x2 x3 x4 x5 x6 x7 x8 x9 x10) (k : ℕ) (hk : k < 2176) (l : Fin 128) :
    View.canon (kernelRun0_B.sl.HS8_18 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 2176 + part (I.vf j 1 ⟨k, hk⟩ l) 1920 : ℝ) : EReal) := by
  unfold kernelRun0_B.sl.HS8_18
  refine (canon_band _ _ _ ⟨k, hk⟩ l).trans ?_
  by_cases hc : k < 2176
  · rw [dif_pos ⟨Nat.zero_le _, show k < 0 + 2176 by omega⟩]
    sl_unfold_run_values
    unfold_payloads
    pointwise
    simp only [readCov_band, readAt_band, readAt_slab, readCov_slab, zero_add, add_zero, Fin.val_zero, HS8_17_at H, HS0_1_at H, HS2_1_at H, HS3_1_at H, HS4_1_at H, H.c_0, H.ct_0, H.lse_0, bits_eighth, mask_bot, addi_ofNat, I.score_sum, I.dp_sum,
      I.wt_of_parts H.isLse]
    simp only [← EReal.coe_mul, coe_sum, ← EReal.coe_add]
    refine congrArg (fun r : ℝ => (r : EReal)) ?_
    exact (add_right_comm _ _ _).trans (congrArg (· + _) (part_add (I.vf j 0 ⟨k, hk⟩ l) 1920 256 2176 (by norm_num) (by norm_num)))
  · rw [dif_neg (by rintro ⟨-, h⟩; exact hc (by omega))]
    refine (HS8_17_at H k hk l).trans (congrArg (fun r : ℝ => (r : EReal)) ?_)
    rw [part_of_zero (I.vf j 0 ⟨k, hk⟩ l) 1920 2176 (by norm_num) fun q hq => I.vf_zero j 0 ⟨k, hk⟩ l q (lt_of_lt_of_le hq (not_lt.1 hc))]

theorem HS8_19_at (H : Blk I j M x0 x1 x2 x3 x4 x5 x6 x7 x8 x9 x10) (k : ℕ) (hk : k < 2176) (l : Fin 128) :
    View.canon (kernelRun0_B.sl.HS8_19 c a1 h1 a2 h2 a4 h4 a5 h5 a6 h6 a7 h7 a8 h8 a10 h10 a11 h11 a18 a19 a20 a22 a23 a26 x0 x1 x3 x4 x5 x6 x7 x9 x10 : List (View.Piece (Elt Ideal) S2176x128 _)) (ix2 ⟨k, hk⟩ l)
      = ((part (I.vf j 0 ⟨k, hk⟩ l) 2176 + part (I.vf j 1 ⟨k, hk⟩ l) 2176 : ℝ) : EReal) := by
  unfold kernelRun0_B.sl.HS8_19
  refine (canon_band _ _ _ ⟨k, hk⟩ l).trans ?_
  by_cases hc : k < 2176
  · rw [dif_pos ⟨Nat.zero_le _, show k < 0 + 2176 by omega⟩]
    sl_unfold_run_values
    unfold_payloads
    pointwise
    simp only [readCov_band, readAt_band, readAt_slab, readCov_slab, zero_add, add_zero, Fin.val_zero, HS8_18_at H, HS1_1_at H, HS2_1_at H, HS3_1_at H, HS5_1_at H, H.c_1, H.ct_1, H.lse_1, bits_eighth, mask_bot, addi_ofNat, I.score_sum, I.dp_sum,
      I.wt_of_parts H.isLse]
    simp only [← EReal.coe_mul, coe_sum, ← EReal.coe_add]
    refine congrArg (fun r : ℝ => (r : EReal)) ?_
    exact (add_assoc _ _ _).trans (congrArg (_ + ·) (part_add (I.vf j 1 ⟨k, hk⟩ l) 1920 256 2176 (by norm_num) (by norm_num)))
  · rw [dif_neg (by rintro ⟨-, h⟩; exact hc (by omega))]
    refine (HS8_18_at H k hk l).trans (congrArg (fun r : ℝ => (r : EReal)) ?_)
    rw [part_of_zero (I.vf j 1 ⟨k, hk⟩ l) 1920 2176 (by norm_num) fun q hq => I.vf_zero j 1 ⟨k, hk⟩ l q (lt_of_lt_of_le hq (not_lt.1 hc))]

end Cert.Fox.Ker

end
-- ==== Proof.Keys.lean ====
/-
  The gradient in the keys before the division by the root mean square, block of rows by block of rows.
-/
module

public import proofs.«01_k».proof.Proof.Block
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {I : Inputs} {j : Fin 8} {M : Fin 2176 → Fin 16 → ℝ}
variable {x0 x1 x2 x3 : Vec Ideal S2176x128 .f32} {x4 : Vec Ideal S1x8x2176 .f32} {x5 x6 : Vec Ideal S1x128 .f32}
  {x7 x8 : Vec Ideal S128x128 .f32} {x9 x10 : Vec Ideal S2176x128 .f32}

variable {c : Dev nD} {i : grid0.Coords}
  {a1 : Memref sig .tc .vmem S2176x128 .f32} {h1 : a1.IsWhole}
  {a2 : Memref sig .tc .vmem S2176x128 .f32} {h2 : a2.IsWhole}
  {a3 : Memref sig .tc .vmem S2176x128 .f32} {h3 : a3.IsWhole}
  {a4 : Memref sig .tc .vmem S2176x128 .f32} {h4 : a4.IsWhole}
  {a5 : Memref sig .tc .vmem S1x8x2176 .f32} {h5 : a5.IsWhole}
  {a6 : Memref sig .tc .vmem S1x128 .f32} {h6 : a6.IsWhole}
  {a7 : Memref sig .tc .vmem S1x128 .f32} {h7 : a7.IsWhole}
  {a8 : Memref sig .tc .vmem S128x128 .f32} {h8 : a8.IsWhole}
  {a9 : Memref sig .tc .vmem S128x128 .f32} {h9 : a9.IsWhole}
  {a10 : Memref sig .tc .vmem S2176x128 .f32} {h10 : a10.IsWhole}
  {a11 : Memref sig .tc .vmem S2176x128 .f32} {h11 : a11.IsWhole}
  {a12 : Memref sig .tc .vmem S2176x128 .f32} {h12 : a12.IsWhole}
  {a13 : Memref sig .tc .vmem S2176x128 .f32} {h13 : a13.IsWhole}
  {a14 : Memref sig .tc .vmem S2176x128 .f32} {h14 : a14.IsWhole}
  {a15 : Memref sig .tc .vmem S1x8x2176 .f32} {h15 : a15.IsWhole}
  {a16 : Memref sig .tc .vmem S1x128 .f32} {h16 : a16.IsWhole}
  {a17 : Memref sig .tc .vmem S1x128 .f32} {h17 : a17.IsWhole}
  {a18 : Memref sig .tc .vmem S2176x128 .bf16} {h18 : a18.IsWhole}
  {a19 : Memref sig .tc .vmem S2176x128 .bf16} {h19 : a19.IsWhole}
  {a20 : Memref sig .tc .vmem S2176x128 .bf16} {h20 : a20.IsWhole}
  {a21 : Memref sig .tc .vmem S2176x128 .bf16} {h21 : a21.IsWhole}
  {a22 : Memref sig .tc .vmem S2176x128 .bf16} {h22 : a22.IsWhole}
  {a23 : Memref sig .tc .vmem S2176x128 .bf16} {h23 : a23.IsWhole}
  {a24 : Memref sig .tc .vmem S2176x128 .f32} {h24 : a24.IsWhole}
  {a25 : Memref sig .tc .vmem S2176x128 .f32} {h25 : a25.IsWhole}
  {a26 : Memref sig .tc .vmem S2176x128 .f32} {h26 : a26.IsWhole}

theorem HS7_1_at (k : ℕ) (hk : k < 2176) (l : Fin 128) :
    View.canon (kernelRun0_B.sl.HS7_1  : List (View.Piece (Elt Ideal) S2176x128 _)) (ix2 ⟨k, hk⟩ l)
      = ((part (I.kf j 0 ⟨k, hk⟩ l) 0 + part (I.kf j 1 ⟨k, hk⟩ l) 0 : ℝ) : EReal) := by
  unfold kernelRun0_B.sl.HS7_1
  refine (canon_band _ _ _ ⟨k, hk⟩ l).trans ?_
  rw [dif_pos ⟨Nat.zero_le _, show k < 0 + 2176 by omega⟩, part_zero, part_zero]
  sl_unfold_run_values
  unfold_payloads
  pointwise
  exact EReal.coe_zero.symm

theorem HS7_2_at (H : Blk I j M x0 x1 x2 x3 x4 x5 x6 x7 x8 x9 x10) (k : ℕ) (hk : k < 2176) (l : Fin 128) :
    View.canon (kernelRun0_B.sl.HS7_2 c a1 h1 a2 h2 a3 h3 a4 h4 a5 h5 a6 h6 a7 h7 a8 h8 a10 h10 a11 h11 a18 a20 a21 a22 a25 x0 x1 x2 x3 x4 x5 x6 x7 x9 x10 : List (View.Piece (Elt Ideal) S2176x128 _)) (ix2 ⟨k, hk⟩ l)
      = ((part (I.kf j 0 ⟨k, hk⟩ l) 128 + part (I.kf j 1 ⟨k, hk⟩ l) 0 : ℝ) : EReal) := by
  unfold kernelRun0_B.sl.HS7_2
  refine (canon_band _ _ _ ⟨k, hk⟩ l).trans ?_
  by_cases hc : k < 128
  · rw [dif_pos ⟨Nat.zero_le _, show k < 0 + 128 by omega⟩]
    sl_unfold_run_values
    unfold_payloads
    pointwise
    simp only [readCov_band, readAt_band, readAt_slab, readCov_slab, zero_add, add_zero, Fin.val_zero, HS7_1_at (I := I) (j := j), HS0_1_at H, HS2_1_at H, HS3_1_at H, HS4_1_at H, H.c_0, H.ct_0, H.lse_0, bits_eighth, mask_bot, addi_ofNat, I.score_sum, I.dp_sum,
      I.wt_of_parts H.isLse, I.ds_of_parts_zero (headOf j 0) 128 (by norm_num)]
    simp only [← EReal.coe_mul, coe_sum, ← EReal.coe_add]
    refine congrArg (fun r : ℝ => (r : EReal)) ?_
    simp only [part_zero, add_zero, zero_add]
    exact part_eq (I.kf j 0 ⟨k, hk⟩ l) 128 (by norm_num)
  · rw [dif_neg (by rintro ⟨-, h⟩; exact hc (by omega))]
    refine (HS7_1_at (I := I) (j := j) k hk l).trans (congrArg (fun r : ℝ => (r : EReal)) ?_)
    rw [part_of_zero (I.kf j 0 ⟨k, hk⟩ l) 0 128 (by norm_num) fun q hq => I.kf_zero j 0 ⟨k, hk⟩ l q (lt_of_lt_of_le hq (not_lt.1 hc))]

theorem HS7_3_at (H : Blk I j M x0 x1 x2 x3 x4 x5 x6 x7 x8 x9 x10) (k : ℕ) (hk : k < 2176) (l : Fin 128) :
    View.canon (kernelRun0_B.sl.HS7_3 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 128 + part (I.kf j 1 ⟨k, hk⟩ l) 128 : ℝ) : EReal) := by
  unfold kernelRun0_B.sl.HS7_3
  refine (canon_band _ _ _ ⟨k, hk⟩ l).trans ?_
  by_cases hc : k < 128
  · rw [dif_pos ⟨Nat.zero_le _, show k < 0 + 128 by omega⟩]
    sl_unfold_run_values
    unfold_payloads
    pointwise
    simp only [readCov_band, readAt_band, readAt_slab, readCov_slab, zero_add, add_zero, Fin.val_zero, HS7_2_at H, HS1_1_at H, HS2_1_at H, HS3_1_at H, HS5_1_at H, H.c_1, H.ct_1, H.lse_1, bits_eighth, mask_bot, addi_ofNat, I.score_sum, I.dp_sum,
      I.wt_of_parts H.isLse, I.ds_of_parts_zero (headOf j 1) 128 (by norm_num)]
    simp only [← EReal.coe_mul, coe_sum, ← EReal.coe_add]
    refine congrArg (fun r : ℝ => (r : EReal)) ?_
    simp only [part_zero, add_zero]
    exact congrArg (_ + ·) (part_eq (I.kf j 1 ⟨k, hk⟩ l) 128 (by norm_num))
  · rw [dif_neg (by rintro ⟨-, h⟩; exact hc (by omega))]
    refine (HS7_2_at H k hk l).trans (congrArg (fun r : ℝ => (r : EReal)) ?_)
    rw [part_of_zero (I.kf j 1 ⟨k, hk⟩ l) 0 128 (by norm_num) fun q hq => I.kf_zero j 1 ⟨k, hk⟩ l q (lt_of_lt_of_le hq (not_lt.1 hc))]

theorem HS7_4_at (H : Blk I j M x0 x1 x2 x3 x4 x5 x6 x7 x8 x9 x10) (k : ℕ) (hk : k < 2176) (l : Fin 128) :
    View.canon (kernelRun0_B.sl.HS7_4 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 384 + part (I.kf j 1 ⟨k, hk⟩ l) 128 : ℝ) : EReal) := by
  unfold kernelRun0_B.sl.HS7_4
  refine (canon_band _ _ _ ⟨k, hk⟩ l).trans ?_
  by_cases hc : k < 384
  · rw [dif_pos ⟨Nat.zero_le _, show k < 0 + 384 by omega⟩]
    sl_unfold_run_values
    unfold_payloads
    pointwise
    simp only [readCov_band, readAt_band, readAt_slab, readCov_slab, zero_add, add_zero, Fin.val_zero, HS7_3_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 128 256 384 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 128 256 384 (by norm_num) (by norm_num)))
  · rw [dif_neg (by rintro ⟨-, h⟩; exact hc (by omega))]
    refine (HS7_3_at H k hk l).trans (congrArg (fun r : ℝ => (r : EReal)) ?_)
    rw [part_of_zero (I.kf j 0 ⟨k, hk⟩ l) 128 384 (by norm_num) fun q hq => I.kf_zero j 0 ⟨k, hk⟩ l q (lt_of_lt_of_le hq (not_lt.1 hc))]

theorem HS7_5_at (H : Blk I j M x0 x1 x2 x3 x4 x5 x6 x7 x8 x9 x10) (k : ℕ) (hk : k < 2176) (l : Fin 128) :
    View.canon (kernelRun0_B.sl.HS7_5 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 384 + part (I.kf j 1 ⟨k, hk⟩ l) 384 : ℝ) : EReal) := by
  unfold kernelRun0_B.sl.HS7_5
  refine (canon_band _ _ _ ⟨k, hk⟩ l).trans ?_
  by_cases hc : k < 384
  · rw [dif_pos ⟨Nat.zero_le _, show k < 0 + 384 by omega⟩]
    sl_unfold_run_values
    unfold_payloads
    pointwise
    simp only [readCov_band, readAt_band, readAt_slab, readCov_slab, zero_add, add_zero, Fin.val_zero, HS7_4_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 128 256 384 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 128 256 384 (by norm_num) (by norm_num)))
  · rw [dif_neg (by rintro ⟨-, h⟩; exact hc (by omega))]
    refine (HS7_4_at H k hk l).trans (congrArg (fun r : ℝ => (r : EReal)) ?_)
    rw [part_of_zero (I.kf j 1 ⟨k, hk⟩ l) 128 384 (by norm_num) fun q hq => I.kf_zero j 1 ⟨k, hk⟩ l q (lt_of_lt_of_le hq (not_lt.1 hc))]

theorem HS7_6_at (H : Blk I j M x0 x1 x2 x3 x4 x5 x6 x7 x8 x9 x10) (k : ℕ) (hk : k < 2176) (l : Fin 128) :
    View.canon (kernelRun0_B.sl.HS7_6 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 640 + part (I.kf j 1 ⟨k, hk⟩ l) 384 : ℝ) : EReal) := by
  unfold kernelRun0_B.sl.HS7_6
  refine (canon_band _ _ _ ⟨k, hk⟩ l).trans ?_
  by_cases hc : k < 640
  · rw [dif_pos ⟨Nat.zero_le _, show k < 0 + 640 by omega⟩]
    sl_unfold_run_values
    unfold_payloads
    pointwise
    simp only [readCov_band, readAt_band, readAt_slab, readCov_slab, zero_add, add_zero, Fin.val_zero, HS7_5_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 384 256 640 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 384 256 640 (by norm_num) (by norm_num)))
  · rw [dif_neg (by rintro ⟨-, h⟩; exact hc (by omega))]
    refine (HS7_5_at H k hk l).trans (congrArg (fun r : ℝ => (r : EReal)) ?_)
    rw [part_of_zero (I.kf j 0 ⟨k, hk⟩ l) 384 640 (by norm_num) fun q hq => I.kf_zero j 0 ⟨k, hk⟩ l q (lt_of_lt_of_le hq (not_lt.1 hc))]

theorem HS7_7_at (H : Blk I j M x0 x1 x2 x3 x4 x5 x6 x7 x8 x9 x10) (k : ℕ) (hk : k < 2176) (l : Fin 128) :
    View.canon (kernelRun0_B.sl.HS7_7 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 640 + part (I.kf j 1 ⟨k, hk⟩ l) 640 : ℝ) : EReal) := by
  unfold kernelRun0_B.sl.HS7_7
  refine (canon_band _ _ _ ⟨k, hk⟩ l).trans ?_
  by_cases hc : k < 640
  · rw [dif_pos ⟨Nat.zero_le _, show k < 0 + 640 by omega⟩]
    sl_unfold_run_values
    unfold_payloads
    pointwise
    simp only [readCov_band, readAt_band, readAt_slab, readCov_slab, zero_add, add_zero, Fin.val_zero, HS7_6_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 384 256 640 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 384 256 640 (by norm_num) (by norm_num)))
  · rw [dif_neg (by rintro ⟨-, h⟩; exact hc (by omega))]
    refine (HS7_6_at H k hk l).trans (congrArg (fun r : ℝ => (r : EReal)) ?_)
    rw [part_of_zero (I.kf j 1 ⟨k, hk⟩ l) 384 640 (by norm_num) fun q hq => I.kf_zero j 1 ⟨k, hk⟩ l q (lt_of_lt_of_le hq (not_lt.1 hc))]

theorem HS7_8_at (H : Blk I j M x0 x1 x2 x3 x4 x5 x6 x7 x8 x9 x10) (k : ℕ) (hk : k < 2176) (l : Fin 128) :
    View.canon (kernelRun0_B.sl.HS7_8 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 896 + part (I.kf j 1 ⟨k, hk⟩ l) 640 : ℝ) : EReal) := by
  unfold kernelRun0_B.sl.HS7_8
  refine (canon_band _ _ _ ⟨k, hk⟩ l).trans ?_
  by_cases hc : k < 896
  · rw [dif_pos ⟨Nat.zero_le _, show k < 0 + 896 by omega⟩]
    sl_unfold_run_values
    unfold_payloads
    pointwise
    simp only [readCov_band, readAt_band, readAt_slab, readCov_slab, zero_add, add_zero, Fin.val_zero, HS7_7_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 640 256 896 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 640 256 896 (by norm_num) (by norm_num)))
  · rw [dif_neg (by rintro ⟨-, h⟩; exact hc (by omega))]
    refine (HS7_7_at H k hk l).trans (congrArg (fun r : ℝ => (r : EReal)) ?_)
    rw [part_of_zero (I.kf j 0 ⟨k, hk⟩ l) 640 896 (by norm_num) fun q hq => I.kf_zero j 0 ⟨k, hk⟩ l q (lt_of_lt_of_le hq (not_lt.1 hc))]

theorem HS7_9_at (H : Blk I j M x0 x1 x2 x3 x4 x5 x6 x7 x8 x9 x10) (k : ℕ) (hk : k < 2176) (l : Fin 128) :
    View.canon (kernelRun0_B.sl.HS7_9 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 896 + part (I.kf j 1 ⟨k, hk⟩ l) 896 : ℝ) : EReal) := by
  unfold kernelRun0_B.sl.HS7_9
  refine (canon_band _ _ _ ⟨k, hk⟩ l).trans ?_
  by_cases hc : k < 896
  · rw [dif_pos ⟨Nat.zero_le _, show k < 0 + 896 by omega⟩]
    sl_unfold_run_values
    unfold_payloads
    pointwise
    simp only [readCov_band, readAt_band, readAt_slab, readCov_slab, zero_add, add_zero, Fin.val_zero, HS7_8_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 640 256 896 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 640 256 896 (by norm_num) (by norm_num)))
  · rw [dif_neg (by rintro ⟨-, h⟩; exact hc (by omega))]
    refine (HS7_8_at H k hk l).trans (congrArg (fun r : ℝ => (r : EReal)) ?_)
    rw [part_of_zero (I.kf j 1 ⟨k, hk⟩ l) 640 896 (by norm_num) fun q hq => I.kf_zero j 1 ⟨k, hk⟩ l q (lt_of_lt_of_le hq (not_lt.1 hc))]

theorem HS7_10_at (H : Blk I j M x0 x1 x2 x3 x4 x5 x6 x7 x8 x9 x10) (k : ℕ) (hk : k < 2176) (l : Fin 128) :
    View.canon (kernelRun0_B.sl.HS7_10 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1152 + part (I.kf j 1 ⟨k, hk⟩ l) 896 : ℝ) : EReal) := by
  unfold kernelRun0_B.sl.HS7_10
  refine (canon_band _ _ _ ⟨k, hk⟩ l).trans ?_
  by_cases hc : k < 1152
  · rw [dif_pos ⟨Nat.zero_le _, show k < 0 + 1152 by omega⟩]
    sl_unfold_run_values
    unfold_payloads
    pointwise
    simp only [readCov_band, readAt_band, readAt_slab, readCov_slab, zero_add, add_zero, Fin.val_zero, HS7_9_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 896 256 1152 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 896 256 1152 (by norm_num) (by norm_num)))
  · rw [dif_neg (by rintro ⟨-, h⟩; exact hc (by omega))]
    refine (HS7_9_at H k hk l).trans (congrArg (fun r : ℝ => (r : EReal)) ?_)
    rw [part_of_zero (I.kf j 0 ⟨k, hk⟩ l) 896 1152 (by norm_num) fun q hq => I.kf_zero j 0 ⟨k, hk⟩ l q (lt_of_lt_of_le hq (not_lt.1 hc))]

theorem HS7_11_at (H : Blk I j M x0 x1 x2 x3 x4 x5 x6 x7 x8 x9 x10) (k : ℕ) (hk : k < 2176) (l : Fin 128) :
    View.canon (kernelRun0_B.sl.HS7_11 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1152 + part (I.kf j 1 ⟨k, hk⟩ l) 1152 : ℝ) : EReal) := by
  unfold kernelRun0_B.sl.HS7_11
  refine (canon_band _ _ _ ⟨k, hk⟩ l).trans ?_
  by_cases hc : k < 1152
  · rw [dif_pos ⟨Nat.zero_le _, show k < 0 + 1152 by omega⟩]
    sl_unfold_run_values
    unfold_payloads
    pointwise
    simp only [readCov_band, readAt_band, readAt_slab, readCov_slab, zero_add, add_zero, Fin.val_zero, HS7_10_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 896 256 1152 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 896 256 1152 (by norm_num) (by norm_num)))
  · rw [dif_neg (by rintro ⟨-, h⟩; exact hc (by omega))]
    refine (HS7_10_at H k hk l).trans (congrArg (fun r : ℝ => (r : EReal)) ?_)
    rw [part_of_zero (I.kf j 1 ⟨k, hk⟩ l) 896 1152 (by norm_num) fun q hq => I.kf_zero j 1 ⟨k, hk⟩ l q (lt_of_lt_of_le hq (not_lt.1 hc))]

theorem HS7_12_at (H : Blk I j M x0 x1 x2 x3 x4 x5 x6 x7 x8 x9 x10) (k : ℕ) (hk : k < 2176) (l : Fin 128) :
    View.canon (kernelRun0_B.sl.HS7_12 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1408 + part (I.kf j 1 ⟨k, hk⟩ l) 1152 : ℝ) : EReal) := by
  unfold kernelRun0_B.sl.HS7_12
  refine (canon_band _ _ _ ⟨k, hk⟩ l).trans ?_
  by_cases hc : k < 1408
  · rw [dif_pos ⟨Nat.zero_le _, show k < 0 + 1408 by omega⟩]
    sl_unfold_run_values
    unfold_payloads
    pointwise
    simp only [readCov_band, readAt_band, readAt_slab, readCov_slab, zero_add, add_zero, Fin.val_zero, HS7_11_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 1152 256 1408 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 1152 256 1408 (by norm_num) (by norm_num)))
  · rw [dif_neg (by rintro ⟨-, h⟩; exact hc (by omega))]
    refine (HS7_11_at H k hk l).trans (congrArg (fun r : ℝ => (r : EReal)) ?_)
    rw [part_of_zero (I.kf j 0 ⟨k, hk⟩ l) 1152 1408 (by norm_num) fun q hq => I.kf_zero j 0 ⟨k, hk⟩ l q (lt_of_lt_of_le hq (not_lt.1 hc))]

theorem HS7_13_at (H : Blk I j M x0 x1 x2 x3 x4 x5 x6 x7 x8 x9 x10) (k : ℕ) (hk : k < 2176) (l : Fin 128) :
    View.canon (kernelRun0_B.sl.HS7_13 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1408 + part (I.kf j 1 ⟨k, hk⟩ l) 1408 : ℝ) : EReal) := by
  unfold kernelRun0_B.sl.HS7_13
  refine (canon_band _ _ _ ⟨k, hk⟩ l).trans ?_
  by_cases hc : k < 1408
  · rw [dif_pos ⟨Nat.zero_le _, show k < 0 + 1408 by omega⟩]
    sl_unfold_run_values
    unfold_payloads
    pointwise
    simp only [readCov_band, readAt_band, readAt_slab, readCov_slab, zero_add, add_zero, Fin.val_zero, HS7_12_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 1152 256 1408 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 1152 256 1408 (by norm_num) (by norm_num)))
  · rw [dif_neg (by rintro ⟨-, h⟩; exact hc (by omega))]
    refine (HS7_12_at H k hk l).trans (congrArg (fun r : ℝ => (r : EReal)) ?_)
    rw [part_of_zero (I.kf j 1 ⟨k, hk⟩ l) 1152 1408 (by norm_num) fun q hq => I.kf_zero j 1 ⟨k, hk⟩ l q (lt_of_lt_of_le hq (not_lt.1 hc))]

theorem HS7_14_at (H : Blk I j M x0 x1 x2 x3 x4 x5 x6 x7 x8 x9 x10) (k : ℕ) (hk : k < 2176) (l : Fin 128) :
    View.canon (kernelRun0_B.sl.HS7_14 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1664 + part (I.kf j 1 ⟨k, hk⟩ l) 1408 : ℝ) : EReal) := by
  unfold kernelRun0_B.sl.HS7_14
  refine (canon_band _ _ _ ⟨k, hk⟩ l).trans ?_
  by_cases hc : k < 1664
  · rw [dif_pos ⟨Nat.zero_le _, show k < 0 + 1664 by omega⟩]
    sl_unfold_run_values
    unfold_payloads
    pointwise
    simp only [readCov_band, readAt_band, readAt_slab, readCov_slab, zero_add, add_zero, Fin.val_zero, HS7_13_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 1408 256 1664 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 1408 256 1664 (by norm_num) (by norm_num)))
  · rw [dif_neg (by rintro ⟨-, h⟩; exact hc (by omega))]
    refine (HS7_13_at H k hk l).trans (congrArg (fun r : ℝ => (r : EReal)) ?_)
    rw [part_of_zero (I.kf j 0 ⟨k, hk⟩ l) 1408 1664 (by norm_num) fun q hq => I.kf_zero j 0 ⟨k, hk⟩ l q (lt_of_lt_of_le hq (not_lt.1 hc))]

theorem HS7_15_at (H : Blk I j M x0 x1 x2 x3 x4 x5 x6 x7 x8 x9 x10) (k : ℕ) (hk : k < 2176) (l : Fin 128) :
    View.canon (kernelRun0_B.sl.HS7_15 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1664 + part (I.kf j 1 ⟨k, hk⟩ l) 1664 : ℝ) : EReal) := by
  unfold kernelRun0_B.sl.HS7_15
  refine (canon_band _ _ _ ⟨k, hk⟩ l).trans ?_
  by_cases hc : k < 1664
  · rw [dif_pos ⟨Nat.zero_le _, show k < 0 + 1664 by omega⟩]
    sl_unfold_run_values
    unfold_payloads
    pointwise
    simp only [readCov_band, readAt_band, readAt_slab, readCov_slab, zero_add, add_zero, Fin.val_zero, HS7_14_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 1408 256 1664 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 1408 256 1664 (by norm_num) (by norm_num)))
  · rw [dif_neg (by rintro ⟨-, h⟩; exact hc (by omega))]
    refine (HS7_14_at H k hk l).trans (congrArg (fun r : ℝ => (r : EReal)) ?_)
    rw [part_of_zero (I.kf j 1 ⟨k, hk⟩ l) 1408 1664 (by norm_num) fun q hq => I.kf_zero j 1 ⟨k, hk⟩ l q (lt_of_lt_of_le hq (not_lt.1 hc))]

theorem HS7_16_at (H : Blk I j M x0 x1 x2 x3 x4 x5 x6 x7 x8 x9 x10) (k : ℕ) (hk : k < 2176) (l : Fin 128) :
    View.canon (kernelRun0_B.sl.HS7_16 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1920 + part (I.kf j 1 ⟨k, hk⟩ l) 1664 : ℝ) : EReal) := by
  unfold kernelRun0_B.sl.HS7_16
  refine (canon_band _ _ _ ⟨k, hk⟩ l).trans ?_
  by_cases hc : k < 1920
  · rw [dif_pos ⟨Nat.zero_le _, show k < 0 + 1920 by omega⟩]
    sl_unfold_run_values
    unfold_payloads
    pointwise
    simp only [readCov_band, readAt_band, readAt_slab, readCov_slab, zero_add, add_zero, Fin.val_zero, HS7_15_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 1664 256 1920 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 1664 256 1920 (by norm_num) (by norm_num)))
  · rw [dif_neg (by rintro ⟨-, h⟩; exact hc (by omega))]
    refine (HS7_15_at H k hk l).trans (congrArg (fun r : ℝ => (r : EReal)) ?_)
    rw [part_of_zero (I.kf j 0 ⟨k, hk⟩ l) 1664 1920 (by norm_num) fun q hq => I.kf_zero j 0 ⟨k, hk⟩ l q (lt_of_lt_of_le hq (not_lt.1 hc))]

theorem HS7_17_at (H : Blk I j M x0 x1 x2 x3 x4 x5 x6 x7 x8 x9 x10) (k : ℕ) (hk : k < 2176) (l : Fin 128) :
    View.canon (kernelRun0_B.sl.HS7_17 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 1920 + part (I.kf j 1 ⟨k, hk⟩ l) 1920 : ℝ) : EReal) := by
  unfold kernelRun0_B.sl.HS7_17
  refine (canon_band _ _ _ ⟨k, hk⟩ l).trans ?_
  by_cases hc : k < 1920
  · rw [dif_pos ⟨Nat.zero_le _, show k < 0 + 1920 by omega⟩]
    sl_unfold_run_values
    unfold_payloads
    pointwise
    simp only [readCov_band, readAt_band, readAt_slab, readCov_slab, zero_add, add_zero, Fin.val_zero, HS7_16_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 1664 256 1920 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 1664 256 1920 (by norm_num) (by norm_num)))
  · rw [dif_neg (by rintro ⟨-, h⟩; exact hc (by omega))]
    refine (HS7_16_at H k hk l).trans (congrArg (fun r : ℝ => (r : EReal)) ?_)
    rw [part_of_zero (I.kf j 1 ⟨k, hk⟩ l) 1664 1920 (by norm_num) fun q hq => I.kf_zero j 1 ⟨k, hk⟩ l q (lt_of_lt_of_le hq (not_lt.1 hc))]

theorem HS7_18_at (H : Blk I j M x0 x1 x2 x3 x4 x5 x6 x7 x8 x9 x10) (k : ℕ) (hk : k < 2176) (l : Fin 128) :
    View.canon (kernelRun0_B.sl.HS7_18 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 2176 + part (I.kf j 1 ⟨k, hk⟩ l) 1920 : ℝ) : EReal) := by
  unfold kernelRun0_B.sl.HS7_18
  refine (canon_band _ _ _ ⟨k, hk⟩ l).trans ?_
  by_cases hc : k < 2176
  · rw [dif_pos ⟨Nat.zero_le _, show k < 0 + 2176 by omega⟩]
    sl_unfold_run_values
    unfold_payloads
    pointwise
    simp only [readCov_band, readAt_band, readAt_slab, readCov_slab, zero_add, add_zero, Fin.val_zero, HS7_17_at H, HS0_1_at H, HS2_1_at H, HS3_1_at H, HS4_1_at H, H.c_0, H.ct_0, H.lse_0, bits_eighth, mask_bot, addi_ofNat, I.score_sum, I.dp_sum,
      I.wt_of_parts H.isLse, I.ds_of_parts (headOf j 0) 1920 256 2176 (by norm_num) (by norm_num)]
    simp only [← EReal.coe_mul, coe_sum, ← EReal.coe_add]
    refine congrArg (fun r : ℝ => (r : EReal)) ?_
    exact (add_right_comm _ _ _).trans (congrArg (· + _) (part_add (I.kf j 0 ⟨k, hk⟩ l) 1920 256 2176 (by norm_num) (by norm_num)))
  · rw [dif_neg (by rintro ⟨-, h⟩; exact hc (by omega))]
    refine (HS7_17_at H k hk l).trans (congrArg (fun r : ℝ => (r : EReal)) ?_)
    rw [part_of_zero (I.kf j 0 ⟨k, hk⟩ l) 1920 2176 (by norm_num) fun q hq => I.kf_zero j 0 ⟨k, hk⟩ l q (lt_of_lt_of_le hq (not_lt.1 hc))]

theorem HS7_19_at (H : Blk I j M x0 x1 x2 x3 x4 x5 x6 x7 x8 x9 x10) (k : ℕ) (hk : k < 2176) (l : Fin 128) :
    View.canon (kernelRun0_B.sl.HS7_19 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 ⟨k, hk⟩ l)
      = ((part (I.kf j 0 ⟨k, hk⟩ l) 2176 + part (I.kf j 1 ⟨k, hk⟩ l) 2176 : ℝ) : EReal) := by
  unfold kernelRun0_B.sl.HS7_19
  refine (canon_band _ _ _ ⟨k, hk⟩ l).trans ?_
  by_cases hc : k < 2176
  · rw [dif_pos ⟨Nat.zero_le _, show k < 0 + 2176 by omega⟩]
    sl_unfold_run_values
    unfold_payloads
    pointwise
    simp only [readCov_band, readAt_band, readAt_slab, readCov_slab, zero_add, add_zero, Fin.val_zero, HS7_18_at H, HS1_1_at H, HS2_1_at H, HS3_1_at H, HS5_1_at H, H.c_1, H.ct_1, H.lse_1, bits_eighth, mask_bot, addi_ofNat, I.score_sum, I.dp_sum,
      I.wt_of_parts H.isLse, I.ds_of_parts (headOf j 1) 1920 256 2176 (by norm_num) (by norm_num)]
    simp only [← EReal.coe_mul, coe_sum, ← EReal.coe_add]
    refine congrArg (fun r : ℝ => (r : EReal)) ?_
    exact (add_assoc _ _ _).trans (congrArg (_ + ·) (part_add (I.kf j 1 ⟨k, hk⟩ l) 1920 256 2176 (by norm_num) (by norm_num)))
  · rw [dif_neg (by rintro ⟨-, h⟩; exact hc (by omega))]
    refine (HS7_18_at H k hk l).trans (congrArg (fun r : ℝ => (r : EReal)) ?_)
    rw [part_of_zero (I.kf j 1 ⟨k, hk⟩ l) 1920 2176 (by norm_num) fun q hq => I.kf_zero j 1 ⟨k, hk⟩ l q (lt_of_lt_of_le hq (not_lt.1 hc))]

end Cert.Fox.Ker

end
-- ==== Proof.Logs.lean ====
/-
  The gradient in the logarithms of the keys, block of rows by block of rows.
-/
module

public import proofs.«01_k».proof.Proof.Block
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {I : Inputs} {j : Fin 8} {M : Fin 2176 → Fin 16 → ℝ}
variable {x0 x1 x2 x3 : Vec Ideal S2176x128 .f32} {x4 : Vec Ideal S1x8x2176 .f32} {x5 x6 : Vec Ideal S1x128 .f32}
  {x7 x8 : Vec Ideal S128x128 .f32} {x9 x10 : Vec Ideal S2176x128 .f32}

variable {c : Dev nD} {i : grid0.Coords}
  {a1 : Memref sig .tc .vmem S2176x128 .f32} {h1 : a1.IsWhole}
  {a2 : Memref sig .tc .vmem S2176x128 .f32} {h2 : a2.IsWhole}
  {a3 : Memref sig .tc .vmem S2176x128 .f32} {h3 : a3.IsWhole}
  {a4 : Memref sig .tc .vmem S2176x128 .f32} {h4 : a4.IsWhole}
  {a5 : Memref sig .tc .vmem S1x8x2176 .f32} {h5 : a5.IsWhole}
  {a6 : Memref sig .tc .vmem S1x128 .f32} {h6 : a6.IsWhole}
  {a7 : Memref sig .tc .vmem S1x128 .f32} {h7 : a7.IsWhole}
  {a8 : Memref sig .tc .vmem S128x128 .f32} {h8 : a8.IsWhole}
  {a9 : Memref sig .tc .vmem S128x128 .f32} {h9 : a9.IsWhole}
  {a10 : Memref sig .tc .vmem S2176x128 .f32} {h10 : a10.IsWhole}
  {a11 : Memref sig .tc .vmem S2176x128 .f32} {h11 : a11.IsWhole}
  {a12 : Memref sig .tc .vmem S2176x128 .f32} {h12 : a12.IsWhole}
  {a13 : Memref sig .tc .vmem S2176x128 .f32} {h13 : a13.IsWhole}
  {a14 : Memref sig .tc .vmem S2176x128 .f32} {h14 : a14.IsWhole}
  {a15 : Memref sig .tc .vmem S1x8x2176 .f32} {h15 : a15.IsWhole}
  {a16 : Memref sig .tc .vmem S1x128 .f32} {h16 : a16.IsWhole}
  {a17 : Memref sig .tc .vmem S1x128 .f32} {h17 : a17.IsWhole}
  {a18 : Memref sig .tc .vmem S2176x128 .bf16} {h18 : a18.IsWhole}
  {a19 : Memref sig .tc .vmem S2176x128 .bf16} {h19 : a19.IsWhole}
  {a20 : Memref sig .tc .vmem S2176x128 .bf16} {h20 : a20.IsWhole}
  {a21 : Memref sig .tc .vmem S2176x128 .bf16} {h21 : a21.IsWhole}
  {a22 : Memref sig .tc .vmem S2176x128 .bf16} {h22 : a22.IsWhole}
  {a23 : Memref sig .tc .vmem S2176x128 .bf16} {h23 : a23.IsWhole}
  {a24 : Memref sig .tc .vmem S2176x128 .f32} {h24 : a24.IsWhole}
  {a25 : Memref sig .tc .vmem S2176x128 .f32} {h25 : a25.IsWhole}
  {a26 : Memref sig .tc .vmem S2176x128 .f32} {h26 : a26.IsWhole}

theorem H14_1_at (r : Fin 8) (k : ℕ) (hk : k < 2176) :
    View.canon (kernelRun0_B.sl.H14_1  : List (View.Piece (Elt Ideal) S1x8x2176 _)) (ix3 0 r ⟨k, hk⟩)
      = ((if r.val = 0 then part (I.cf j 0 ⟨k, hk⟩) 0 else if r.val = 1 then part (I.cf j 1 ⟨k, hk⟩) 0 else 0 : ℝ) : EReal) := by
  unfold kernelRun0_B.sl.H14_1
  rw [View.canon_unit_zero (by funext a; fin_cases a <;> rfl)]
  simp only [part_zero, ite_self, EReal.coe_zero]
  unfold_payloads
  pointwise

theorem H14_2_at (H : Blk I j M x0 x1 x2 x3 x4 x5 x6 x7 x8 x9 x10) (r : Fin 8) (k : ℕ) (hk : k < 2176) :
    View.canon (kernelRun0_B.sl.H14_2 c a1 h1 a2 h2 a3 h3 a4 h4 a5 h5 a6 h6 a7 h7 a8 h8 a10 h10 a11 h11 a15 a18 a20 a21 a22 x0 x1 x2 x3 x4 x5 x6 x7 x9 x10 : List (View.Piece (Elt Ideal) S1x8x2176 _)) (ix3 0 r ⟨k, hk⟩)
      = ((if r.val = 0 then part (I.cf j 0 ⟨k, hk⟩) 128 else if r.val = 1 then part (I.cf j 1 ⟨k, hk⟩) 0 else 0 : ℝ) : EReal) := by
  unfold kernelRun0_B.sl.H14_2
  refine (canon_slab _ _ _ r ⟨k, hk⟩).trans ?_
  by_cases hr : r.val = 0
  · obtain rfl : r = ⟨0, by norm_num⟩ := Fin.ext hr
    by_cases hc : k < 128
    · rw [dif_pos ⟨rfl, hc⟩]
      sl_unfold_run_values
      unfold_payloads
      pointwise
      simp only [readCov_band, readAt_band, readAt_slab, readCov_slab, zero_add, add_zero, Fin.val_zero, H14_1_at (I := I) (j := j), HS0_1_at H, HS2_1_at H, HS3_1_at H, HS4_1_at H, H.c_0, H.ct_0, H.lse_0, bits_eighth, mask_bot, addi_ofNat, I.score_sum, I.dp_sum,
        I.wt_of_parts H.isLse, I.ds_of_parts_zero (headOf j 0) 128 (by norm_num), if_true]
      simp only [coe_sum, ← EReal.coe_add]
      refine congrArg (fun r : ℝ => (r : EReal)) ?_
      simp only [part_zero, zero_add]
      exact part_eq (I.cf j 0 ⟨k, hk⟩) 128 (by norm_num)
    · rw [dif_neg (fun h => hc h.2)]
      refine (H14_1_at (I := I) (j := j) _ k hk).trans (congrArg (fun r : ℝ => (r : EReal)) ?_)
      rw [part_of_zero (I.cf j 0 ⟨k, hk⟩) 0 128 (by norm_num) fun q hq => I.cf_zero j 0 ⟨k, hk⟩ q (lt_of_lt_of_le hq (not_lt.1 hc))]
  · rw [dif_neg (fun h => hr h.1)]
    refine (H14_1_at (I := I) (j := j) r k hk).trans (congrArg (fun r : ℝ => (r : EReal)) ?_)
    rw [if_neg hr, if_neg hr]

theorem H14_3_at (H : Blk I j M x0 x1 x2 x3 x4 x5 x6 x7 x8 x9 x10) (r : Fin 8) (k : ℕ) (hk : k < 2176) :
    View.canon (kernelRun0_B.sl.H14_3 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 128 else if r.val = 1 then part (I.cf j 1 ⟨k, hk⟩) 128 else 0 : ℝ) : EReal) := by
  unfold kernelRun0_B.sl.H14_3
  refine (canon_slab _ _ _ r ⟨k, hk⟩).trans ?_
  by_cases hr : r.val = 1
  · obtain rfl : r = ⟨1, by norm_num⟩ := Fin.ext hr
    by_cases hc : k < 128
    · rw [dif_pos ⟨rfl, hc⟩]
      sl_unfold_run_values
      unfold_payloads
      pointwise
      simp only [readCov_band, readAt_band, readAt_slab, readCov_slab, zero_add, add_zero, Fin.val_zero, H14_2_at H, HS1_1_at H, HS2_1_at H, HS3_1_at H, HS5_1_at H, H.c_1, H.ct_1, H.lse_1, bits_eighth, mask_bot, addi_ofNat, I.score_sum, I.dp_sum,
        I.wt_of_parts H.isLse, I.ds_of_parts_zero (headOf j 1) 128 (by norm_num), if_true, one_ne_zero, if_false]
      simp only [coe_sum, ← EReal.coe_add]
      refine congrArg (fun r : ℝ => (r : EReal)) ?_
      simp only [part_zero, zero_add]
      exact part_eq (I.cf j 1 ⟨k, hk⟩) 128 (by norm_num)
    · rw [dif_neg (fun h => hc h.2)]
      refine (H14_2_at H _ k hk).trans (congrArg (fun r : ℝ => (r : EReal)) ?_)
      rw [part_of_zero (I.cf j 1 ⟨k, hk⟩) 0 128 (by norm_num) fun q hq => I.cf_zero j 1 ⟨k, hk⟩ q (lt_of_lt_of_le hq (not_lt.1 hc))]
  · rw [dif_neg (fun h => hr h.1)]
    refine (H14_2_at H r k hk).trans (congrArg (fun r : ℝ => (r : EReal)) ?_)
    simp only [if_neg hr]

theorem H14_4_at (H : Blk I j M x0 x1 x2 x3 x4 x5 x6 x7 x8 x9 x10) (r : Fin 8) (k : ℕ) (hk : k < 2176) :
    View.canon (kernelRun0_B.sl.H14_4 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 384 else if r.val = 1 then part (I.cf j 1 ⟨k, hk⟩) 128 else 0 : ℝ) : EReal) := by
  unfold kernelRun0_B.sl.H14_4
  refine (canon_slab _ _ _ r ⟨k, hk⟩).trans ?_
  by_cases hr : r.val = 0
  · obtain rfl : r = ⟨0, by norm_num⟩ := Fin.ext hr
    by_cases hc : k < 384
    · rw [dif_pos ⟨rfl, hc⟩]
      sl_unfold_run_values
      unfold_payloads
      pointwise
      simp only [readCov_band, readAt_band, readAt_slab, readCov_slab, zero_add, add_zero, Fin.val_zero, H14_3_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 128 256 384 (by norm_num) (by norm_num), if_true]
      simp only [coe_sum, ← EReal.coe_add]
      refine congrArg (fun r : ℝ => (r : EReal)) ?_
      exact part_add (I.cf j 0 ⟨k, hk⟩) 128 256 384 (by norm_num) (by norm_num)
    · rw [dif_neg (fun h => hc h.2)]
      refine (H14_3_at H _ k hk).trans (congrArg (fun r : ℝ => (r : EReal)) ?_)
      rw [part_of_zero (I.cf j 0 ⟨k, hk⟩) 128 384 (by norm_num) fun q hq => I.cf_zero j 0 ⟨k, hk⟩ q (lt_of_lt_of_le hq (not_lt.1 hc))]
  · rw [dif_neg (fun h => hr h.1)]
    refine (H14_3_at H r k hk).trans (congrArg (fun r : ℝ => (r : EReal)) ?_)
    rw [if_neg hr, if_neg hr]

theorem H14_5_at (H : Blk I j M x0 x1 x2 x3 x4 x5 x6 x7 x8 x9 x10) (r : Fin 8) (k : ℕ) (hk : k < 2176) :
    View.canon (kernelRun0_B.sl.H14_5 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 384 else if r.val = 1 then part (I.cf j 1 ⟨k, hk⟩) 384 else 0 : ℝ) : EReal) := by
  unfold kernelRun0_B.sl.H14_5
  refine (canon_slab _ _ _ r ⟨k, hk⟩).trans ?_
  by_cases hr : r.val = 1
  · obtain rfl : r = ⟨1, by norm_num⟩ := Fin.ext hr
    by_cases hc : k < 384
    · rw [dif_pos ⟨rfl, hc⟩]
      sl_unfold_run_values
      unfold_payloads
      pointwise
      simp only [readCov_band, readAt_band, readAt_slab, readCov_slab, zero_add, add_zero, Fin.val_zero, H14_4_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 128 256 384 (by norm_num) (by norm_num), if_true, one_ne_zero, if_false]
      simp only [coe_sum, ← EReal.coe_add]
      refine congrArg (fun r : ℝ => (r : EReal)) ?_
      exact part_add (I.cf j 1 ⟨k, hk⟩) 128 256 384 (by norm_num) (by norm_num)
    · rw [dif_neg (fun h => hc h.2)]
      refine (H14_4_at H _ k hk).trans (congrArg (fun r : ℝ => (r : EReal)) ?_)
      rw [part_of_zero (I.cf j 1 ⟨k, hk⟩) 128 384 (by norm_num) fun q hq => I.cf_zero j 1 ⟨k, hk⟩ q (lt_of_lt_of_le hq (not_lt.1 hc))]
  · rw [dif_neg (fun h => hr h.1)]
    refine (H14_4_at H r k hk).trans (congrArg (fun r : ℝ => (r : EReal)) ?_)
    simp only [if_neg hr]

theorem H14_6_at (H : Blk I j M x0 x1 x2 x3 x4 x5 x6 x7 x8 x9 x10) (r : Fin 8) (k : ℕ) (hk : k < 2176) :
    View.canon (kernelRun0_B.sl.H14_6 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 640 else if r.val = 1 then part (I.cf j 1 ⟨k, hk⟩) 384 else 0 : ℝ) : EReal) := by
  unfold kernelRun0_B.sl.H14_6
  refine (canon_slab _ _ _ r ⟨k, hk⟩).trans ?_
  by_cases hr : r.val = 0
  · obtain rfl : r = ⟨0, by norm_num⟩ := Fin.ext hr
    by_cases hc : k < 640
    · rw [dif_pos ⟨rfl, hc⟩]
      sl_unfold_run_values
      unfold_payloads
      pointwise
      simp only [readCov_band, readAt_band, readAt_slab, readCov_slab, zero_add, add_zero, Fin.val_zero, H14_5_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 384 256 640 (by norm_num) (by norm_num), if_true]
      simp only [coe_sum, ← EReal.coe_add]
      refine congrArg (fun r : ℝ => (r : EReal)) ?_
      exact part_add (I.cf j 0 ⟨k, hk⟩) 384 256 640 (by norm_num) (by norm_num)
    · rw [dif_neg (fun h => hc h.2)]
      refine (H14_5_at H _ k hk).trans (congrArg (fun r : ℝ => (r : EReal)) ?_)
      rw [part_of_zero (I.cf j 0 ⟨k, hk⟩) 384 640 (by norm_num) fun q hq => I.cf_zero j 0 ⟨k, hk⟩ q (lt_of_lt_of_le hq (not_lt.1 hc))]
  · rw [dif_neg (fun h => hr h.1)]
    refine (H14_5_at H r k hk).trans (congrArg (fun r : ℝ => (r : EReal)) ?_)
    rw [if_neg hr, if_neg hr]

theorem H14_7_at (H : Blk I j M x0 x1 x2 x3 x4 x5 x6 x7 x8 x9 x10) (r : Fin 8) (k : ℕ) (hk : k < 2176) :
    View.canon (kernelRun0_B.sl.H14_7 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 640 else if r.val = 1 then part (I.cf j 1 ⟨k, hk⟩) 640 else 0 : ℝ) : EReal) := by
  unfold kernelRun0_B.sl.H14_7
  refine (canon_slab _ _ _ r ⟨k, hk⟩).trans ?_
  by_cases hr : r.val = 1
  · obtain rfl : r = ⟨1, by norm_num⟩ := Fin.ext hr
    by_cases hc : k < 640
    · rw [dif_pos ⟨rfl, hc⟩]
      sl_unfold_run_values
      unfold_payloads
      pointwise
      simp only [readCov_band, readAt_band, readAt_slab, readCov_slab, zero_add, add_zero, Fin.val_zero, H14_6_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 384 256 640 (by norm_num) (by norm_num), if_true, one_ne_zero, if_false]
      simp only [coe_sum, ← EReal.coe_add]
      refine congrArg (fun r : ℝ => (r : EReal)) ?_
      exact part_add (I.cf j 1 ⟨k, hk⟩) 384 256 640 (by norm_num) (by norm_num)
    · rw [dif_neg (fun h => hc h.2)]
      refine (H14_6_at H _ k hk).trans (congrArg (fun r : ℝ => (r : EReal)) ?_)
      rw [part_of_zero (I.cf j 1 ⟨k, hk⟩) 384 640 (by norm_num) fun q hq => I.cf_zero j 1 ⟨k, hk⟩ q (lt_of_lt_of_le hq (not_lt.1 hc))]
  · rw [dif_neg (fun h => hr h.1)]
    refine (H14_6_at H r k hk).trans (congrArg (fun r : ℝ => (r : EReal)) ?_)
    simp only [if_neg hr]

theorem H14_8_at (H : Blk I j M x0 x1 x2 x3 x4 x5 x6 x7 x8 x9 x10) (r : Fin 8) (k : ℕ) (hk : k < 2176) :
    View.canon (kernelRun0_B.sl.H14_8 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 896 else if r.val = 1 then part (I.cf j 1 ⟨k, hk⟩) 640 else 0 : ℝ) : EReal) := by
  unfold kernelRun0_B.sl.H14_8
  refine (canon_slab _ _ _ r ⟨k, hk⟩).trans ?_
  by_cases hr : r.val = 0
  · obtain rfl : r = ⟨0, by norm_num⟩ := Fin.ext hr
    by_cases hc : k < 896
    · rw [dif_pos ⟨rfl, hc⟩]
      sl_unfold_run_values
      unfold_payloads
      pointwise
      simp only [readCov_band, readAt_band, readAt_slab, readCov_slab, zero_add, add_zero, Fin.val_zero, H14_7_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 640 256 896 (by norm_num) (by norm_num), if_true]
      simp only [coe_sum, ← EReal.coe_add]
      refine congrArg (fun r : ℝ => (r : EReal)) ?_
      exact part_add (I.cf j 0 ⟨k, hk⟩) 640 256 896 (by norm_num) (by norm_num)
    · rw [dif_neg (fun h => hc h.2)]
      refine (H14_7_at H _ k hk).trans (congrArg (fun r : ℝ => (r : EReal)) ?_)
      rw [part_of_zero (I.cf j 0 ⟨k, hk⟩) 640 896 (by norm_num) fun q hq => I.cf_zero j 0 ⟨k, hk⟩ q (lt_of_lt_of_le hq (not_lt.1 hc))]
  · rw [dif_neg (fun h => hr h.1)]
    refine (H14_7_at H r k hk).trans (congrArg (fun r : ℝ => (r : EReal)) ?_)
    rw [if_neg hr, if_neg hr]

theorem H14_9_at (H : Blk I j M x0 x1 x2 x3 x4 x5 x6 x7 x8 x9 x10) (r : Fin 8) (k : ℕ) (hk : k < 2176) :
    View.canon (kernelRun0_B.sl.H14_9 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 896 else if r.val = 1 then part (I.cf j 1 ⟨k, hk⟩) 896 else 0 : ℝ) : EReal) := by
  unfold kernelRun0_B.sl.H14_9
  refine (canon_slab _ _ _ r ⟨k, hk⟩).trans ?_
  by_cases hr : r.val = 1
  · obtain rfl : r = ⟨1, by norm_num⟩ := Fin.ext hr
    by_cases hc : k < 896
    · rw [dif_pos ⟨rfl, hc⟩]
      sl_unfold_run_values
      unfold_payloads
      pointwise
      simp only [readCov_band, readAt_band, readAt_slab, readCov_slab, zero_add, add_zero, Fin.val_zero, H14_8_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 640 256 896 (by norm_num) (by norm_num), if_true, one_ne_zero, if_false]
      simp only [coe_sum, ← EReal.coe_add]
      refine congrArg (fun r : ℝ => (r : EReal)) ?_
      exact part_add (I.cf j 1 ⟨k, hk⟩) 640 256 896 (by norm_num) (by norm_num)
    · rw [dif_neg (fun h => hc h.2)]
      refine (H14_8_at H _ k hk).trans (congrArg (fun r : ℝ => (r : EReal)) ?_)
      rw [part_of_zero (I.cf j 1 ⟨k, hk⟩) 640 896 (by norm_num) fun q hq => I.cf_zero j 1 ⟨k, hk⟩ q (lt_of_lt_of_le hq (not_lt.1 hc))]
  · rw [dif_neg (fun h => hr h.1)]
    refine (H14_8_at H r k hk).trans (congrArg (fun r : ℝ => (r : EReal)) ?_)
    simp only [if_neg hr]

theorem H14_10_at (H : Blk I j M x0 x1 x2 x3 x4 x5 x6 x7 x8 x9 x10) (r : Fin 8) (k : ℕ) (hk : k < 2176) :
    View.canon (kernelRun0_B.sl.H14_10 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1152 else if r.val = 1 then part (I.cf j 1 ⟨k, hk⟩) 896 else 0 : ℝ) : EReal) := by
  unfold kernelRun0_B.sl.H14_10
  refine (canon_slab _ _ _ r ⟨k, hk⟩).trans ?_
  by_cases hr : r.val = 0
  · obtain rfl : r = ⟨0, by norm_num⟩ := Fin.ext hr
    by_cases hc : k < 1152
    · rw [dif_pos ⟨rfl, hc⟩]
      sl_unfold_run_values
      unfold_payloads
      pointwise
      simp only [readCov_band, readAt_band, readAt_slab, readCov_slab, zero_add, add_zero, Fin.val_zero, H14_9_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 896 256 1152 (by norm_num) (by norm_num), if_true]
      simp only [coe_sum, ← EReal.coe_add]
      refine congrArg (fun r : ℝ => (r : EReal)) ?_
      exact part_add (I.cf j 0 ⟨k, hk⟩) 896 256 1152 (by norm_num) (by norm_num)
    · rw [dif_neg (fun h => hc h.2)]
      refine (H14_9_at H _ k hk).trans (congrArg (fun r : ℝ => (r : EReal)) ?_)
      rw [part_of_zero (I.cf j 0 ⟨k, hk⟩) 896 1152 (by norm_num) fun q hq => I.cf_zero j 0 ⟨k, hk⟩ q (lt_of_lt_of_le hq (not_lt.1 hc))]
  · rw [dif_neg (fun h => hr h.1)]
    refine (H14_9_at H r k hk).trans (congrArg (fun r : ℝ => (r : EReal)) ?_)
    rw [if_neg hr, if_neg hr]

theorem H14_11_at (H : Blk I j M x0 x1 x2 x3 x4 x5 x6 x7 x8 x9 x10) (r : Fin 8) (k : ℕ) (hk : k < 2176) :
    View.canon (kernelRun0_B.sl.H14_11 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1152 else if r.val = 1 then part (I.cf j 1 ⟨k, hk⟩) 1152 else 0 : ℝ) : EReal) := by
  unfold kernelRun0_B.sl.H14_11
  refine (canon_slab _ _ _ r ⟨k, hk⟩).trans ?_
  by_cases hr : r.val = 1
  · obtain rfl : r = ⟨1, by norm_num⟩ := Fin.ext hr
    by_cases hc : k < 1152
    · rw [dif_pos ⟨rfl, hc⟩]
      sl_unfold_run_values
      unfold_payloads
      pointwise
      simp only [readCov_band, readAt_band, readAt_slab, readCov_slab, zero_add, add_zero, Fin.val_zero, H14_10_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 896 256 1152 (by norm_num) (by norm_num), if_true, one_ne_zero, if_false]
      simp only [coe_sum, ← EReal.coe_add]
      refine congrArg (fun r : ℝ => (r : EReal)) ?_
      exact part_add (I.cf j 1 ⟨k, hk⟩) 896 256 1152 (by norm_num) (by norm_num)
    · rw [dif_neg (fun h => hc h.2)]
      refine (H14_10_at H _ k hk).trans (congrArg (fun r : ℝ => (r : EReal)) ?_)
      rw [part_of_zero (I.cf j 1 ⟨k, hk⟩) 896 1152 (by norm_num) fun q hq => I.cf_zero j 1 ⟨k, hk⟩ q (lt_of_lt_of_le hq (not_lt.1 hc))]
  · rw [dif_neg (fun h => hr h.1)]
    refine (H14_10_at H r k hk).trans (congrArg (fun r : ℝ => (r : EReal)) ?_)
    simp only [if_neg hr]

theorem H14_12_at (H : Blk I j M x0 x1 x2 x3 x4 x5 x6 x7 x8 x9 x10) (r : Fin 8) (k : ℕ) (hk : k < 2176) :
    View.canon (kernelRun0_B.sl.H14_12 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1408 else if r.val = 1 then part (I.cf j 1 ⟨k, hk⟩) 1152 else 0 : ℝ) : EReal) := by
  unfold kernelRun0_B.sl.H14_12
  refine (canon_slab _ _ _ r ⟨k, hk⟩).trans ?_
  by_cases hr : r.val = 0
  · obtain rfl : r = ⟨0, by norm_num⟩ := Fin.ext hr
    by_cases hc : k < 1408
    · rw [dif_pos ⟨rfl, hc⟩]
      sl_unfold_run_values
      unfold_payloads
      pointwise
      simp only [readCov_band, readAt_band, readAt_slab, readCov_slab, zero_add, add_zero, Fin.val_zero, H14_11_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 1152 256 1408 (by norm_num) (by norm_num), if_true]
      simp only [coe_sum, ← EReal.coe_add]
      refine congrArg (fun r : ℝ => (r : EReal)) ?_
      exact part_add (I.cf j 0 ⟨k, hk⟩) 1152 256 1408 (by norm_num) (by norm_num)
    · rw [dif_neg (fun h => hc h.2)]
      refine (H14_11_at H _ k hk).trans (congrArg (fun r : ℝ => (r : EReal)) ?_)
      rw [part_of_zero (I.cf j 0 ⟨k, hk⟩) 1152 1408 (by norm_num) fun q hq => I.cf_zero j 0 ⟨k, hk⟩ q (lt_of_lt_of_le hq (not_lt.1 hc))]
  · rw [dif_neg (fun h => hr h.1)]
    refine (H14_11_at H r k hk).trans (congrArg (fun r : ℝ => (r : EReal)) ?_)
    rw [if_neg hr, if_neg hr]

theorem H14_13_at (H : Blk I j M x0 x1 x2 x3 x4 x5 x6 x7 x8 x9 x10) (r : Fin 8) (k : ℕ) (hk : k < 2176) :
    View.canon (kernelRun0_B.sl.H14_13 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1408 else if r.val = 1 then part (I.cf j 1 ⟨k, hk⟩) 1408 else 0 : ℝ) : EReal) := by
  unfold kernelRun0_B.sl.H14_13
  refine (canon_slab _ _ _ r ⟨k, hk⟩).trans ?_
  by_cases hr : r.val = 1
  · obtain rfl : r = ⟨1, by norm_num⟩ := Fin.ext hr
    by_cases hc : k < 1408
    · rw [dif_pos ⟨rfl, hc⟩]
      sl_unfold_run_values
      unfold_payloads
      pointwise
      simp only [readCov_band, readAt_band, readAt_slab, readCov_slab, zero_add, add_zero, Fin.val_zero, H14_12_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 1152 256 1408 (by norm_num) (by norm_num), if_true, one_ne_zero, if_false]
      simp only [coe_sum, ← EReal.coe_add]
      refine congrArg (fun r : ℝ => (r : EReal)) ?_
      exact part_add (I.cf j 1 ⟨k, hk⟩) 1152 256 1408 (by norm_num) (by norm_num)
    · rw [dif_neg (fun h => hc h.2)]
      refine (H14_12_at H _ k hk).trans (congrArg (fun r : ℝ => (r : EReal)) ?_)
      rw [part_of_zero (I.cf j 1 ⟨k, hk⟩) 1152 1408 (by norm_num) fun q hq => I.cf_zero j 1 ⟨k, hk⟩ q (lt_of_lt_of_le hq (not_lt.1 hc))]
  · rw [dif_neg (fun h => hr h.1)]
    refine (H14_12_at H r k hk).trans (congrArg (fun r : ℝ => (r : EReal)) ?_)
    simp only [if_neg hr]

theorem H14_14_at (H : Blk I j M x0 x1 x2 x3 x4 x5 x6 x7 x8 x9 x10) (r : Fin 8) (k : ℕ) (hk : k < 2176) :
    View.canon (kernelRun0_B.sl.H14_14 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1664 else if r.val = 1 then part (I.cf j 1 ⟨k, hk⟩) 1408 else 0 : ℝ) : EReal) := by
  unfold kernelRun0_B.sl.H14_14
  refine (canon_slab _ _ _ r ⟨k, hk⟩).trans ?_
  by_cases hr : r.val = 0
  · obtain rfl : r = ⟨0, by norm_num⟩ := Fin.ext hr
    by_cases hc : k < 1664
    · rw [dif_pos ⟨rfl, hc⟩]
      sl_unfold_run_values
      unfold_payloads
      pointwise
      simp only [readCov_band, readAt_band, readAt_slab, readCov_slab, zero_add, add_zero, Fin.val_zero, H14_13_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 1408 256 1664 (by norm_num) (by norm_num), if_true]
      simp only [coe_sum, ← EReal.coe_add]
      refine congrArg (fun r : ℝ => (r : EReal)) ?_
      exact part_add (I.cf j 0 ⟨k, hk⟩) 1408 256 1664 (by norm_num) (by norm_num)
    · rw [dif_neg (fun h => hc h.2)]
      refine (H14_13_at H _ k hk).trans (congrArg (fun r : ℝ => (r : EReal)) ?_)
      rw [part_of_zero (I.cf j 0 ⟨k, hk⟩) 1408 1664 (by norm_num) fun q hq => I.cf_zero j 0 ⟨k, hk⟩ q (lt_of_lt_of_le hq (not_lt.1 hc))]
  · rw [dif_neg (fun h => hr h.1)]
    refine (H14_13_at H r k hk).trans (congrArg (fun r : ℝ => (r : EReal)) ?_)
    rw [if_neg hr, if_neg hr]

theorem H14_15_at (H : Blk I j M x0 x1 x2 x3 x4 x5 x6 x7 x8 x9 x10) (r : Fin 8) (k : ℕ) (hk : k < 2176) :
    View.canon (kernelRun0_B.sl.H14_15 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1664 else if r.val = 1 then part (I.cf j 1 ⟨k, hk⟩) 1664 else 0 : ℝ) : EReal) := by
  unfold kernelRun0_B.sl.H14_15
  refine (canon_slab _ _ _ r ⟨k, hk⟩).trans ?_
  by_cases hr : r.val = 1
  · obtain rfl : r = ⟨1, by norm_num⟩ := Fin.ext hr
    by_cases hc : k < 1664
    · rw [dif_pos ⟨rfl, hc⟩]
      sl_unfold_run_values
      unfold_payloads
      pointwise
      simp only [readCov_band, readAt_band, readAt_slab, readCov_slab, zero_add, add_zero, Fin.val_zero, H14_14_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 1408 256 1664 (by norm_num) (by norm_num), if_true, one_ne_zero, if_false]
      simp only [coe_sum, ← EReal.coe_add]
      refine congrArg (fun r : ℝ => (r : EReal)) ?_
      exact part_add (I.cf j 1 ⟨k, hk⟩) 1408 256 1664 (by norm_num) (by norm_num)
    · rw [dif_neg (fun h => hc h.2)]
      refine (H14_14_at H _ k hk).trans (congrArg (fun r : ℝ => (r : EReal)) ?_)
      rw [part_of_zero (I.cf j 1 ⟨k, hk⟩) 1408 1664 (by norm_num) fun q hq => I.cf_zero j 1 ⟨k, hk⟩ q (lt_of_lt_of_le hq (not_lt.1 hc))]
  · rw [dif_neg (fun h => hr h.1)]
    refine (H14_14_at H r k hk).trans (congrArg (fun r : ℝ => (r : EReal)) ?_)
    simp only [if_neg hr]

theorem H14_16_at (H : Blk I j M x0 x1 x2 x3 x4 x5 x6 x7 x8 x9 x10) (r : Fin 8) (k : ℕ) (hk : k < 2176) :
    View.canon (kernelRun0_B.sl.H14_16 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1920 else if r.val = 1 then part (I.cf j 1 ⟨k, hk⟩) 1664 else 0 : ℝ) : EReal) := by
  unfold kernelRun0_B.sl.H14_16
  refine (canon_slab _ _ _ r ⟨k, hk⟩).trans ?_
  by_cases hr : r.val = 0
  · obtain rfl : r = ⟨0, by norm_num⟩ := Fin.ext hr
    by_cases hc : k < 1920
    · rw [dif_pos ⟨rfl, hc⟩]
      sl_unfold_run_values
      unfold_payloads
      pointwise
      simp only [readCov_band, readAt_band, readAt_slab, readCov_slab, zero_add, add_zero, Fin.val_zero, H14_15_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 1664 256 1920 (by norm_num) (by norm_num), if_true]
      simp only [coe_sum, ← EReal.coe_add]
      refine congrArg (fun r : ℝ => (r : EReal)) ?_
      exact part_add (I.cf j 0 ⟨k, hk⟩) 1664 256 1920 (by norm_num) (by norm_num)
    · rw [dif_neg (fun h => hc h.2)]
      refine (H14_15_at H _ k hk).trans (congrArg (fun r : ℝ => (r : EReal)) ?_)
      rw [part_of_zero (I.cf j 0 ⟨k, hk⟩) 1664 1920 (by norm_num) fun q hq => I.cf_zero j 0 ⟨k, hk⟩ q (lt_of_lt_of_le hq (not_lt.1 hc))]
  · rw [dif_neg (fun h => hr h.1)]
    refine (H14_15_at H r k hk).trans (congrArg (fun r : ℝ => (r : EReal)) ?_)
    rw [if_neg hr, if_neg hr]

theorem H14_17_at (H : Blk I j M x0 x1 x2 x3 x4 x5 x6 x7 x8 x9 x10) (r : Fin 8) (k : ℕ) (hk : k < 2176) :
    View.canon (kernelRun0_B.sl.H14_17 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 1920 else if r.val = 1 then part (I.cf j 1 ⟨k, hk⟩) 1920 else 0 : ℝ) : EReal) := by
  unfold kernelRun0_B.sl.H14_17
  refine (canon_slab _ _ _ r ⟨k, hk⟩).trans ?_
  by_cases hr : r.val = 1
  · obtain rfl : r = ⟨1, by norm_num⟩ := Fin.ext hr
    by_cases hc : k < 1920
    · rw [dif_pos ⟨rfl, hc⟩]
      sl_unfold_run_values
      unfold_payloads
      pointwise
      simp only [readCov_band, readAt_band, readAt_slab, readCov_slab, zero_add, add_zero, Fin.val_zero, H14_16_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 1664 256 1920 (by norm_num) (by norm_num), if_true, one_ne_zero, if_false]
      simp only [coe_sum, ← EReal.coe_add]
      refine congrArg (fun r : ℝ => (r : EReal)) ?_
      exact part_add (I.cf j 1 ⟨k, hk⟩) 1664 256 1920 (by norm_num) (by norm_num)
    · rw [dif_neg (fun h => hc h.2)]
      refine (H14_16_at H _ k hk).trans (congrArg (fun r : ℝ => (r : EReal)) ?_)
      rw [part_of_zero (I.cf j 1 ⟨k, hk⟩) 1664 1920 (by norm_num) fun q hq => I.cf_zero j 1 ⟨k, hk⟩ q (lt_of_lt_of_le hq (not_lt.1 hc))]
  · rw [dif_neg (fun h => hr h.1)]
    refine (H14_16_at H r k hk).trans (congrArg (fun r : ℝ => (r : EReal)) ?_)
    simp only [if_neg hr]

theorem H14_18_at (H : Blk I j M x0 x1 x2 x3 x4 x5 x6 x7 x8 x9 x10) (r : Fin 8) (k : ℕ) (hk : k < 2176) :
    View.canon (kernelRun0_B.sl.H14_18 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 2176 else if r.val = 1 then part (I.cf j 1 ⟨k, hk⟩) 1920 else 0 : ℝ) : EReal) := by
  unfold kernelRun0_B.sl.H14_18
  refine (canon_slab _ _ _ r ⟨k, hk⟩).trans ?_
  by_cases hr : r.val = 0
  · obtain rfl : r = ⟨0, by norm_num⟩ := Fin.ext hr
    by_cases hc : k < 2176
    · rw [dif_pos ⟨rfl, hc⟩]
      sl_unfold_run_values
      unfold_payloads
      pointwise
      simp only [readCov_band, readAt_band, readAt_slab, readCov_slab, zero_add, add_zero, Fin.val_zero, H14_17_at H, HS0_1_at H, HS2_1_at H, HS3_1_at H, HS4_1_at H, H.c_0, H.ct_0, H.lse_0, bits_eighth, mask_bot, addi_ofNat, I.score_sum, I.dp_sum,
        I.wt_of_parts H.isLse, I.ds_of_parts (headOf j 0) 1920 256 2176 (by norm_num) (by norm_num), if_true]
      simp only [coe_sum, ← EReal.coe_add]
      refine congrArg (fun r : ℝ => (r : EReal)) ?_
      exact part_add (I.cf j 0 ⟨k, hk⟩) 1920 256 2176 (by norm_num) (by norm_num)
    · rw [dif_neg (fun h => hc h.2)]
      refine (H14_17_at H _ k hk).trans (congrArg (fun r : ℝ => (r : EReal)) ?_)
      rw [part_of_zero (I.cf j 0 ⟨k, hk⟩) 1920 2176 (by norm_num) fun q hq => I.cf_zero j 0 ⟨k, hk⟩ q (lt_of_lt_of_le hq (not_lt.1 hc))]
  · rw [dif_neg (fun h => hr h.1)]
    refine (H14_17_at H r k hk).trans (congrArg (fun r : ℝ => (r : EReal)) ?_)
    rw [if_neg hr, if_neg hr]

theorem H14_19_at (H : Blk I j M x0 x1 x2 x3 x4 x5 x6 x7 x8 x9 x10) (r : Fin 8) (k : ℕ) (hk : k < 2176) :
    View.canon (⟨Rect.unit ![0, 1, 0] ![1, 1, 2176] inb_S1x8x2176_S1x1x2176_0_1_0, kernelRun0_B.sl.v1295 c a1 h1 a2 h2 a3 h3 a4 h4 a5 h5 a6 h6 a7 h7 a8 h8 a10 h10 a11 h11 a15 a18 a19 a20 a21 a22 a23 x0 x1 x2 x3 x4 x5 x6 x7 x9 x10⟩ :: kernelRun0_B.sl.H14_18 c a1 h1 a2 h2 a3 h3 a4 h4 a5 h5 a6 h6 a7 h7 a8 h8 a10 h10 a11 h11 a15 a18 a19 a20 a21 a22 a23 x0 x1 x2 x3 x4 x5 x6 x7 x9 x10 : List (View.Piece (Elt Ideal) S1x8x2176 _)) (ix3 0 r ⟨k, hk⟩)
      = ((if r.val = 0 then part (I.cf j 0 ⟨k, hk⟩) 2176 else if r.val = 1 then part (I.cf j 1 ⟨k, hk⟩) 2176 else 0 : ℝ) : EReal) := by
  refine (canon_slab _ _ _ r ⟨k, hk⟩).trans ?_
  by_cases hr : r.val = 1
  · obtain rfl : r = ⟨1, by norm_num⟩ := Fin.ext hr
    by_cases hc : k < 2176
    · rw [dif_pos ⟨rfl, hc⟩]
      sl_unfold_run_values
      unfold_payloads
      pointwise
      simp only [readCov_band, readAt_band, readAt_slab, readCov_slab, zero_add, add_zero, Fin.val_zero, H14_18_at H, HS1_1_at H, HS2_1_at H, HS3_1_at H, HS5_1_at H, H.c_1, H.ct_1, H.lse_1, bits_eighth, mask_bot, addi_ofNat, I.score_sum, I.dp_sum,
        I.wt_of_parts H.isLse, I.ds_of_parts (headOf j 1) 1920 256 2176 (by norm_num) (by norm_num), if_true, one_ne_zero, if_false]
      simp only [coe_sum, ← EReal.coe_add]
      refine congrArg (fun r : ℝ => (r : EReal)) ?_
      exact part_add (I.cf j 1 ⟨k, hk⟩) 1920 256 2176 (by norm_num) (by norm_num)
    · rw [dif_neg (fun h => hc h.2)]
      refine (H14_18_at H _ k hk).trans (congrArg (fun r : ℝ => (r : EReal)) ?_)
      rw [part_of_zero (I.cf j 1 ⟨k, hk⟩) 1920 2176 (by norm_num) fun q hq => I.cf_zero j 1 ⟨k, hk⟩ q (lt_of_lt_of_le hq (not_lt.1 hc))]
  · rw [dif_neg (fun h => hr h.1)]
    refine (H14_18_at H r k hk).trans (congrArg (fun r : ℝ => (r : EReal)) ?_)
    simp only [if_neg hr]

end Cert.Fox.Ker

end
-- ==== Proof.Queries.lean ====
/-
  The gradient in the queries before the division by the root mean square: one block of rows at a time, all keys at once.
-/
module

public import proofs.«01_k».proof.Proof.Block
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {I : Inputs} {j : Fin 8} {M : Fin 2176 → Fin 16 → ℝ}
variable {x0 x1 x2 x3 : Vec Ideal S2176x128 .f32} {x4 : Vec Ideal S1x8x2176 .f32} {x5 x6 : Vec Ideal S1x128 .f32}
  {x7 x8 : Vec Ideal S128x128 .f32} {x9 x10 : Vec Ideal S2176x128 .f32}

variable {c : Dev nD} {i : grid0.Coords}
  {a1 : Memref sig .tc .vmem S2176x128 .f32} {h1 : a1.IsWhole}
  {a2 : Memref sig .tc .vmem S2176x128 .f32} {h2 : a2.IsWhole}
  {a3 : Memref sig .tc .vmem S2176x128 .f32} {h3 : a3.IsWhole}
  {a4 : Memref sig .tc .vmem S2176x128 .f32} {h4 : a4.IsWhole}
  {a5 : Memref sig .tc .vmem S1x8x2176 .f32} {h5 : a5.IsWhole}
  {a6 : Memref sig .tc .vmem S1x128 .f32} {h6 : a6.IsWhole}
  {a7 : Memref sig .tc .vmem S1x128 .f32} {h7 : a7.IsWhole}
  {a8 : Memref sig .tc .vmem S128x128 .f32} {h8 : a8.IsWhole}
  {a9 : Memref sig .tc .vmem S128x128 .f32} {h9 : a9.IsWhole}
  {a10 : Memref sig .tc .vmem S2176x128 .f32} {h10 : a10.IsWhole}
  {a11 : Memref sig .tc .vmem S2176x128 .f32} {h11 : a11.IsWhole}
  {a12 : Memref sig .tc .vmem S2176x128 .f32} {h12 : a12.IsWhole}
  {a13 : Memref sig .tc .vmem S2176x128 .f32} {h13 : a13.IsWhole}
  {a14 : Memref sig .tc .vmem S2176x128 .f32} {h14 : a14.IsWhole}
  {a15 : Memref sig .tc .vmem S1x8x2176 .f32} {h15 : a15.IsWhole}
  {a16 : Memref sig .tc .vmem S1x128 .f32} {h16 : a16.IsWhole}
  {a17 : Memref sig .tc .vmem S1x128 .f32} {h17 : a17.IsWhole}
  {a18 : Memref sig .tc .vmem S2176x128 .bf16} {h18 : a18.IsWhole}
  {a19 : Memref sig .tc .vmem S2176x128 .bf16} {h19 : a19.IsWhole}
  {a20 : Memref sig .tc .vmem S2176x128 .bf16} {h20 : a20.IsWhole}
  {a21 : Memref sig .tc .vmem S2176x128 .bf16} {h21 : a21.IsWhole}
  {a22 : Memref sig .tc .vmem S2176x128 .bf16} {h22 : a22.IsWhole}
  {a23 : Memref sig .tc .vmem S2176x128 .bf16} {h23 : a23.IsWhole}
  {a24 : Memref sig .tc .vmem S2176x128 .f32} {h24 : a24.IsWhole}
  {a25 : Memref sig .tc .vmem S2176x128 .f32} {h25 : a25.IsWhole}
  {a26 : Memref sig .tc .vmem S2176x128 .f32} {h26 : a26.IsWhole}

/-- A row's sum over the keys up to the end of its block is its sum over all keys. -/
theorem dqn_cut (I : Inputs) (j : Fin 8) (b : Fin 2) (t : Fin 2176) (n : ℕ) (ht : t.val < n) (hn : n ≤ 2176) (l : Fin 128)
    (hl : half l = b) :
    ∑ y : Fin n, ((I.ds (headOf j b) t ⟨y.val, by omega⟩ : ℝ) : EReal) * ((1 / 8 : ℝ) : EReal) * ((I.kl j ⟨y.val, by omega⟩ l : ℝ) : EReal)
      = ((I.dqn t (headOf j (half l)) (gainLane l) : ℝ) : EReal) := by
  subst hl
  simp only [← EReal.coe_mul, coe_sum]
  refine congrArg (fun r : ℝ => (r : EReal)) ?_
  refine (part_eq (fun k => I.ds (headOf j (half l)) t k * (1 / 8) * I.kl j k l) n hn).trans ?_
  refine part_cut _ n hn fun k hk => ?_
  rw [I.ds_of_not_sees _ _ _ fun hs => absurd hs.1 (by omega), zero_mul, zero_mul]

theorem HS6_9_at0 (H : Blk I j M x0 x1 x2 x3 x4 x5 x6 x7 x8 x9 x10) (x : Fin 128) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨x.val, by omega⟩ l)
      = ((I.dqn ⟨x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ x.val := h; omega)]
  refine (canon_band _ _ _ _ l).trans ?_
  rw [dif_neg (by rintro ⟨h, -⟩; have h' : 1664 ≤ x.val := h; omega)]
  refine (canon_band _ _ _ _ l).trans ?_
  rw [dif_neg (by rintro ⟨h, -⟩; have h' : 1408 ≤ x.val := h; omega)]
  refine (canon_band _ _ _ _ l).trans ?_
  rw [dif_neg (by rintro ⟨h, -⟩; have h' : 1152 ≤ x.val := h; omega)]
  refine (canon_band _ _ _ _ l).trans ?_
  rw [dif_neg (by rintro ⟨h, -⟩; have h' : 896 ≤ x.val := h; omega)]
  refine (canon_band _ _ _ _ l).trans ?_
  rw [dif_neg (by rintro ⟨h, -⟩; have h' : 640 ≤ x.val := h; omega)]
  refine (canon_band _ _ _ _ l).trans ?_
  rw [dif_neg (by rintro ⟨h, -⟩; have h' : 384 ≤ x.val := h; omega)]
  refine (canon_band _ _ _ _ l).trans ?_
  rw [dif_neg (by rintro ⟨h, -⟩; have h' : 128 ≤ x.val := h; omega)]
  refine (canon_band _ _ _ _ l).trans ?_
  rw [dif_pos ⟨show 0 ≤ x.val by omega, show x.val < 0 + 128 by omega⟩]
  simp only [Nat.sub_zero, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts_zero (headOf j 0) 128 (by norm_num), I.ds_of_parts_zero (headOf j 1) 128 (by norm_num)]
  rw [select_half]
  by_cases h : half l = 0
  · rw [if_pos h]
    exact dqn_cut I j 0 ⟨x.val, by omega⟩ 128 (by show x.val < 128; omega) (by norm_num) l h
  · rw [if_neg h]
    exact dqn_cut I j 1 ⟨x.val, by omega⟩ 128 (by show x.val < 128; omega) (by norm_num) l (half_ne.1 h)

theorem HS6_9_at1 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨128 + x.val, by omega⟩ l)
      = ((I.dqn ⟨128 + x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ 128 + x.val := h; omega)]
  refine (canon_band _ _ _ _ l).trans ?_
  rw [dif_neg (by rintro ⟨h, -⟩; have h' : 1664 ≤ 128 + x.val := h; omega)]
  refine (canon_band _ _ _ _ l).trans ?_
  rw [dif_neg (by rintro ⟨h, -⟩; have h' : 1408 ≤ 128 + x.val := h; omega)]
  refine (canon_band _ _ _ _ l).trans ?_
  rw [dif_neg (by rintro ⟨h, -⟩; have h' : 1152 ≤ 128 + x.val := h; omega)]
  refine (canon_band _ _ _ _ l).trans ?_
  rw [dif_neg (by rintro ⟨h, -⟩; have h' : 896 ≤ 128 + x.val := h; omega)]
  refine (canon_band _ _ _ _ l).trans ?_
  rw [dif_neg (by rintro ⟨h, -⟩; have h' : 640 ≤ 128 + x.val := h; omega)]
  refine (canon_band _ _ _ _ l).trans ?_
  rw [dif_neg (by rintro ⟨h, -⟩; have h' : 384 ≤ 128 + x.val := h; omega)]
  refine (canon_band _ _ _ _ l).trans ?_
  rw [dif_pos ⟨show 128 ≤ 128 + x.val by omega, show 128 + x.val < 128 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 128 256 384 (by norm_num) (by norm_num), I.ds_of_parts (headOf j 1) 128 256 384 (by norm_num) (by norm_num)]
  rw [select_half]
  by_cases h : half l = 0
  · rw [if_pos h]
    exact dqn_cut I j 0 ⟨128 + x.val, by omega⟩ 384 (by show 128 + x.val < 384; omega) (by norm_num) l h
  · rw [if_neg h]
    exact dqn_cut I j 1 ⟨128 + x.val, by omega⟩ 384 (by show 128 + x.val < 384; omega) (by norm_num) l (half_ne.1 h)

theorem HS6_9_at2 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨384 + x.val, by omega⟩ l)
      = ((I.dqn ⟨384 + x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ 384 + x.val := h; omega)]
  refine (canon_band _ _ _ _ l).trans ?_
  rw [dif_neg (by rintro ⟨h, -⟩; have h' : 1664 ≤ 384 + x.val := h; omega)]
  refine (canon_band _ _ _ _ l).trans ?_
  rw [dif_neg (by rintro ⟨h, -⟩; have h' : 1408 ≤ 384 + x.val := h; omega)]
  refine (canon_band _ _ _ _ l).trans ?_
  rw [dif_neg (by rintro ⟨h, -⟩; have h' : 1152 ≤ 384 + x.val := h; omega)]
  refine (canon_band _ _ _ _ l).trans ?_
  rw [dif_neg (by rintro ⟨h, -⟩; have h' : 896 ≤ 384 + x.val := h; omega)]
  refine (canon_band _ _ _ _ l).trans ?_
  rw [dif_neg (by rintro ⟨h, -⟩; have h' : 640 ≤ 384 + x.val := h; omega)]
  refine (canon_band _ _ _ _ l).trans ?_
  rw [dif_pos ⟨show 384 ≤ 384 + x.val by omega, show 384 + x.val < 384 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 384 256 640 (by norm_num) (by norm_num), I.ds_of_parts (headOf j 1) 384 256 640 (by norm_num) (by norm_num)]
  rw [select_half]
  by_cases h : half l = 0
  · rw [if_pos h]
    exact dqn_cut I j 0 ⟨384 + x.val, by omega⟩ 640 (by show 384 + x.val < 640; omega) (by norm_num) l h
  · rw [if_neg h]
    exact dqn_cut I j 1 ⟨384 + x.val, by omega⟩ 640 (by show 384 + x.val < 640; omega) (by norm_num) l (half_ne.1 h)

theorem HS6_9_at3 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨640 + x.val, by omega⟩ l)
      = ((I.dqn ⟨640 + x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ 640 + x.val := h; omega)]
  refine (canon_band _ _ _ _ l).trans ?_
  rw [dif_neg (by rintro ⟨h, -⟩; have h' : 1664 ≤ 640 + x.val := h; omega)]
  refine (canon_band _ _ _ _ l).trans ?_
  rw [dif_neg (by rintro ⟨h, -⟩; have h' : 1408 ≤ 640 + x.val := h; omega)]
  refine (canon_band _ _ _ _ l).trans ?_
  rw [dif_neg (by rintro ⟨h, -⟩; have h' : 1152 ≤ 640 + x.val := h; omega)]
  refine (canon_band _ _ _ _ l).trans ?_
  rw [dif_neg (by rintro ⟨h, -⟩; have h' : 896 ≤ 640 + x.val := h; omega)]
  refine (canon_band _ _ _ _ l).trans ?_
  rw [dif_pos ⟨show 640 ≤ 640 + x.val by omega, show 640 + x.val < 640 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 640 256 896 (by norm_num) (by norm_num), I.ds_of_parts (headOf j 1) 640 256 896 (by norm_num) (by norm_num)]
  rw [select_half]
  by_cases h : half l = 0
  · rw [if_pos h]
    exact dqn_cut I j 0 ⟨640 + x.val, by omega⟩ 896 (by show 640 + x.val < 896; omega) (by norm_num) l h
  · rw [if_neg h]
    exact dqn_cut I j 1 ⟨640 + x.val, by omega⟩ 896 (by show 640 + x.val < 896; omega) (by norm_num) l (half_ne.1 h)

theorem HS6_9_at4 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨896 + x.val, by omega⟩ l)
      = ((I.dqn ⟨896 + x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ 896 + x.val := h; omega)]
  refine (canon_band _ _ _ _ l).trans ?_
  rw [dif_neg (by rintro ⟨h, -⟩; have h' : 1664 ≤ 896 + x.val := h; omega)]
  refine (canon_band _ _ _ _ l).trans ?_
  rw [dif_neg (by rintro ⟨h, -⟩; have h' : 1408 ≤ 896 + x.val := h; omega)]
  refine (canon_band _ _ _ _ l).trans ?_
  rw [dif_neg (by rintro ⟨h, -⟩; have h' : 1152 ≤ 896 + x.val := h; omega)]
  refine (canon_band _ _ _ _ l).trans ?_
  rw [dif_pos ⟨show 896 ≤ 896 + x.val by omega, show 896 + x.val < 896 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 896 256 1152 (by norm_num) (by norm_num), I.ds_of_parts (headOf j 1) 896 256 1152 (by norm_num) (by norm_num)]
  rw [select_half]
  by_cases h : half l = 0
  · rw [if_pos h]
    exact dqn_cut I j 0 ⟨896 + x.val, by omega⟩ 1152 (by show 896 + x.val < 1152; omega) (by norm_num) l h
  · rw [if_neg h]
    exact dqn_cut I j 1 ⟨896 + x.val, by omega⟩ 1152 (by show 896 + x.val < 1152; omega) (by norm_num) l (half_ne.1 h)

theorem HS6_9_at5 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨1152 + x.val, by omega⟩ l)
      = ((I.dqn ⟨1152 + x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ 1152 + x.val := h; omega)]
  refine (canon_band _ _ _ _ l).trans ?_
  rw [dif_neg (by rintro ⟨h, -⟩; have h' : 1664 ≤ 1152 + x.val := h; omega)]
  refine (canon_band _ _ _ _ l).trans ?_
  rw [dif_neg (by rintro ⟨h, -⟩; have h' : 1408 ≤ 1152 + x.val := h; omega)]
  refine (canon_band _ _ _ _ l).trans ?_
  rw [dif_pos ⟨show 1152 ≤ 1152 + x.val by omega, show 1152 + x.val < 1152 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 1152 256 1408 (by norm_num) (by norm_num), I.ds_of_parts (headOf j 1) 1152 256 1408 (by norm_num) (by norm_num)]
  rw [select_half]
  by_cases h : half l = 0
  · rw [if_pos h]
    exact dqn_cut I j 0 ⟨1152 + x.val, by omega⟩ 1408 (by show 1152 + x.val < 1408; omega) (by norm_num) l h
  · rw [if_neg h]
    exact dqn_cut I j 1 ⟨1152 + x.val, by omega⟩ 1408 (by show 1152 + x.val < 1408; omega) (by norm_num) l (half_ne.1 h)

theorem HS6_9_at6 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨1408 + x.val, by omega⟩ l)
      = ((I.dqn ⟨1408 + x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ 1408 + x.val := h; omega)]
  refine (canon_band _ _ _ _ l).trans ?_
  rw [dif_neg (by rintro ⟨h, -⟩; have h' : 1664 ≤ 1408 + x.val := h; omega)]
  refine (canon_band _ _ _ _ l).trans ?_
  rw [dif_pos ⟨show 1408 ≤ 1408 + x.val by omega, show 1408 + x.val < 1408 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 1408 256 1664 (by norm_num) (by norm_num), I.ds_of_parts (headOf j 1) 1408 256 1664 (by norm_num) (by norm_num)]
  rw [select_half]
  by_cases h : half l = 0
  · rw [if_pos h]
    exact dqn_cut I j 0 ⟨1408 + x.val, by omega⟩ 1664 (by show 1408 + x.val < 1664; omega) (by norm_num) l h
  · rw [if_neg h]
    exact dqn_cut I j 1 ⟨1408 + x.val, by omega⟩ 1664 (by show 1408 + x.val < 1664; omega) (by norm_num) l (half_ne.1 h)

theorem HS6_9_at7 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨1664 + x.val, by omega⟩ l)
      = ((I.dqn ⟨1664 + x.val, by omega⟩ (headOf j (half l)) (gainLane l) : ℝ) : EReal) := by
  unfold kernelRun0_B.sl.HS6_9
  refine (canon_band _ _ _ _ l).trans ?_
  rw [dif_neg (by rintro ⟨h, -⟩; have h' : 1920 ≤ 1664 + x.val := h; omega)]
  refine (canon_band _ _ _ _ l).trans ?_
  rw [dif_pos ⟨show 1664 ≤ 1664 + x.val by omega, show 1664 + x.val < 1664 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 1664 256 1920 (by norm_num) (by norm_num), I.ds_of_parts (headOf j 1) 1664 256 1920 (by norm_num) (by norm_num)]
  rw [select_half]
  by_cases h : half l = 0
  · rw [if_pos h]
    exact dqn_cut I j 0 ⟨1664 + x.val, by omega⟩ 1920 (by show 1664 + x.val < 1920; omega) (by norm_num) l h
  · rw [if_neg h]
    exact dqn_cut I j 1 ⟨1664 + x.val, by omega⟩ 1920 (by show 1664 + x.val < 1920; omega) (by norm_num) l (half_ne.1 h)

theorem HS6_9_at8 (H : Blk I j M x0 x1 x2 x3 x4 x5 x6 x7 x8 x9 x10) (x : Fin 256) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 ⟨1920 + x.val, by omega⟩ l)
      = ((I.dqn ⟨1920 + x.val, by omega⟩ (headOf j (half l)) (gainLane l) : ℝ) : EReal) := by
  unfold kernelRun0_B.sl.HS6_9
  refine (canon_band _ _ _ _ l).trans ?_
  rw [dif_pos ⟨show 1920 ≤ 1920 + x.val by omega, show 1920 + x.val < 1920 + 256 by omega⟩]
  simp only [Nat.add_sub_cancel_left, Fin.eta]
  sl_unfold_run_values
  unfold_payloads
  pointwise
  simp only [readCov_band, readAt_band, readAt_slab, readCov_slab, zero_add, add_zero, Fin.val_zero, HS0_1_at H, HS2_1_at H, HS3_1_at H, HS4_1_at H, H.c_0, H.ct_0, H.lse_0, HS1_1_at H, HS2_1_at H, HS3_1_at H, HS5_1_at H, H.c_1, H.ct_1, H.lse_1, bits_eighth, mask_bot, addi_ofNat, I.score_sum, I.dp_sum,
    I.wt_of_parts H.isLse, I.ds_of_parts (headOf j 0) 1920 256 2176 (by norm_num) (by norm_num), I.ds_of_parts (headOf j 1) 1920 256 2176 (by norm_num) (by norm_num)]
  rw [select_half]
  by_cases h : half l = 0
  · rw [if_pos h]
    exact dqn_cut I j 0 ⟨1920 + x.val, by omega⟩ 2176 (by show 1920 + x.val < 2176; omega) (by norm_num) l h
  · rw [if_neg h]
    exact dqn_cut I j 1 ⟨1920 + x.val, by omega⟩ 2176 (by show 1920 + x.val < 2176; omega) (by norm_num) l (half_ne.1 h)

theorem HS6_9_at (H : Blk I j M x0 x1 x2 x3 x4 x5 x6 x7 x8 x9 x10) (t : Fin 2176) (l : Fin 128) :
    View.canon (kernelRun0_B.sl.HS6_9 c a1 h1 a2 h2 a3 h3 a4 h4 a5 h5 a6 h6 a7 h7 a8 h8 a10 h10 a11 h11 a18 a19 a20 a21 a22 a23 x0 x1 x2 x3 x4 x5 x6 x7 x9 x10 : List (View.Piece (Elt Ideal) S2176x128 _)) (ix2 t l)
      = ((I.dqn t (headOf j (half l)) (gainLane l) : ℝ) : EReal) := by
  by_cases h0 : t.val < 128
  · exact HS6_9_at0 H ⟨t.val, h0⟩ l
  by_cases b1 : t.val < 384
  · obtain ⟨x, rfl⟩ : ∃ x : Fin 256, (⟨128 + x.val, lt_of_lt_of_le (Nat.add_lt_add_left x.isLt 128) (by norm_num)⟩ : Fin 2176) = t :=
      ⟨⟨t.val - 128, by omega⟩, Fin.ext (by show 128 + (t.val - 128) = t.val; omega)⟩
    exact HS6_9_at1 H x l
  by_cases b2 : t.val < 640
  · obtain ⟨x, rfl⟩ : ∃ x : Fin 256, (⟨384 + x.val, lt_of_lt_of_le (Nat.add_lt_add_left x.isLt 384) (by norm_num)⟩ : Fin 2176) = t :=
      ⟨⟨t.val - 384, by omega⟩, Fin.ext (by show 384 + (t.val - 384) = t.val; omega)⟩
    exact HS6_9_at2 H x l
  by_cases b3 : t.val < 896
  · obtain ⟨x, rfl⟩ : ∃ x : Fin 256, (⟨640 + x.val, lt_of_lt_of_le (Nat.add_lt_add_left x.isLt 640) (by norm_num)⟩ : Fin 2176) = t :=
      ⟨⟨t.val - 640, by omega⟩, Fin.ext (by show 640 + (t.val - 640) = t.val; omega)⟩
    exact HS6_9_at3 H x l
  by_cases b4 : t.val < 1152
  · obtain ⟨x, rfl⟩ : ∃ x : Fin 256, (⟨896 + x.val, lt_of_lt_of_le (Nat.add_lt_add_left x.isLt 896) (by norm_num)⟩ : Fin 2176) = t :=
      ⟨⟨t.val - 896, by omega⟩, Fin.ext (by show 896 + (t.val - 896) = t.val; omega)⟩
    exact HS6_9_at4 H x l
  by_cases b5 : t.val < 1408
  · obtain ⟨x, rfl⟩ : ∃ x : Fin 256, (⟨1152 + x.val, lt_of_lt_of_le (Nat.add_lt_add_left x.isLt 1152) (by norm_num)⟩ : Fin 2176) = t :=
      ⟨⟨t.val - 1152, by omega⟩, Fin.ext (by show 1152 + (t.val - 1152) = t.val; omega)⟩
    exact HS6_9_at5 H x l
  by_cases b6 : t.val < 1664
  · obtain ⟨x, rfl⟩ : ∃ x : Fin 256, (⟨1408 + x.val, lt_of_lt_of_le (Nat.add_lt_add_left x.isLt 1408) (by norm_num)⟩ : Fin 2176) = t :=
      ⟨⟨t.val - 1408, by omega⟩, Fin.ext (by show 1408 + (t.val - 1408) = t.val; omega)⟩
    exact HS6_9_at6 H x l
  by_cases b7 : t.val < 1920
  · obtain ⟨x, rfl⟩ : ∃ x : Fin 256, (⟨1664 + x.val, lt_of_lt_of_le (Nat.add_lt_add_left x.isLt 1664) (by norm_num)⟩ : Fin 2176) = t :=
      ⟨⟨t.val - 1664, by omega⟩, Fin.ext (by show 1664 + (t.val - 1664) = t.val; omega)⟩
    exact HS6_9_at7 H x l
  by_cases b8 : t.val < 2176
  · obtain ⟨x, rfl⟩ : ∃ x : Fin 256, (⟨1920 + x.val, lt_of_lt_of_le (Nat.add_lt_add_left x.isLt 1920) (by norm_num)⟩ : Fin 2176) = t :=
      ⟨⟨t.val - 1920, by omega⟩, Fin.ext (by show 1920 + (t.val - 1920) = t.val; omega)⟩
    exact HS6_9_at8 H x l
  exact absurd t.isLt b8

end Cert.Fox.Ker

end
-- ==== Proof.Outs.lean ====
/-
  What a point of the grid writes: the gradients of the rows of two heads, and what it adds to the gradients of the gains.
-/
module

public import proofs.«01_k».proof.Proof.Values
public import proofs.«01_k».proof.Proof.Keys
public import proofs.«01_k».proof.Proof.Logs
public import proofs.«01_k».proof.Proof.Queries
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {I : Inputs} {j : Fin 8} {M : Fin 2176 → Fin 16 → ℝ}
variable {x0 x1 x2 x3 : Vec Ideal S2176x128 .f32} {x4 : Vec Ideal S1x8x2176 .f32} {x5 x6 : Vec Ideal S1x128 .f32}
  {x7 x8 : Vec Ideal S128x128 .f32} {x9 x10 : Vec Ideal S2176x128 .f32}

variable {c : Dev nD} {i : grid0.Coords}
  {a1 : Memref sig .tc .vmem S2176x128 .f32} {h1 : a1.IsWhole}
  {a2 : Memref sig .tc .vmem S2176x128 .f32} {h2 : a2.IsWhole}
  {a3 : Memref sig .tc .vmem S2176x128 .f32} {h3 : a3.IsWhole}
  {a4 : Memref sig .tc .vmem S2176x128 .f32} {h4 : a4.IsWhole}
  {a5 : Memref sig .tc .vmem S1x8x2176 .f32} {h5 : a5.IsWhole}
  {a6 : Memref sig .tc .vmem S1x128 .f32} {h6 : a6.IsWhole}
  {a7 : Memref sig .tc .vmem S1x128 .f32} {h7 : a7.IsWhole}
  {a8 : Memref sig .tc .vmem S128x128 .f32} {h8 : a8.IsWhole}
  {a9 : Memref sig .tc .vmem S128x128 .f32} {h9 : a9.IsWhole}
  {a10 : Memref sig .tc .vmem S2176x128 .f32} {h10 : a10.IsWhole}
  {a11 : Memref sig .tc .vmem S2176x128 .f32} {h11 : a11.IsWhole}
  {a12 : Memref sig .tc .vmem S2176x128 .f32} {h12 : a12.IsWhole}
  {a13 : Memref sig .tc .vmem S2176x128 .f32} {h13 : a13.IsWhole}
  {a14 : Memref sig .tc .vmem S2176x128 .f32} {h14 : a14.IsWhole}
  {a15 : Memref sig .tc .vmem S1x8x2176 .f32} {h15 : a15.IsWhole}
  {a16 : Memref sig .tc .vmem S1x128 .f32} {h16 : a16.IsWhole}
  {a17 : Memref sig .tc .vmem S1x128 .f32} {h17 : a17.IsWhole}
  {a18 : Memref sig .tc .vmem S2176x128 .bf16} {h18 : a18.IsWhole}
  {a19 : Memref sig .tc .vmem S2176x128 .bf16} {h19 : a19.IsWhole}
  {a20 : Memref sig .tc .vmem S2176x128 .bf16} {h20 : a20.IsWhole}
  {a21 : Memref sig .tc .vmem S2176x128 .bf16} {h21 : a21.IsWhole}
  {a22 : Memref sig .tc .vmem S2176x128 .bf16} {h22 : a22.IsWhole}
  {a23 : Memref sig .tc .vmem S2176x128 .bf16} {h23 : a23.IsWhole}
  {a24 : Memref sig .tc .vmem S2176x128 .f32} {h24 : a24.IsWhole}
  {a25 : Memref sig .tc .vmem S2176x128 .f32} {h25 : a25.IsWhole}
  {a26 : Memref sig .tc .vmem S2176x128 .f32} {h26 : a26.IsWhole}

/-- The mean over one half of the lanes. -/
theorem mean_pair (l : Fin 128) (F : Fin 2 → Fin 64 → ℝ) :
    ∑ x : Fin 128, F (half x) (gainLane x) * (if half x = half l then 1 / 64 else 0) = (∑ d, F (half l) d) / 64 := by
  rw [sum_div, ← sum_half (half l) (fun x => F (half x) (gainLane x) / 64) _ fun x hx => by rw [hx]]
  refine sum_congr rfl fun x _ => ?_
  split
  · ring
  · ring

theorem ir_half (l : Fin 128) (f : Fin 2 → Fin 64 → ℝ) :
    Ideal.rsqrt (∑ x : Fin 128, ((f (half x) (gainLane x) : ℝ) : EReal) * ((f (half x) (gainLane x) : ℝ) : EReal)
      * ((if half x = half l then 1 / 64 else 0 : ℝ) : EReal) + ((eps : ℝ) : EReal)) = ((ir (f (half l)) : ℝ) : EReal) := by
  simp only [← EReal.coe_mul]
  rw [mean_half l f, ← EReal.coe_add]
  exact rsqrt_ms (f (half l))

/-- The gradient through the division by the root mean square, two heads side by side. -/
theorem nrm_pair (l : Fin 128) (x dy : Fin 2 → Fin 64 → ℝ) (g : Fin 64 → ℝ) :
    ir (x (half l)) * (dy (half l) (gainLane l) * g (gainLane l) - x (half l) (gainLane l) * ir (x (half l))
      * ∑ y : Fin 128, dy (half y) (gainLane y) * g (gainLane y) * (x (half y) (gainLane y) * ir (x (half y)))
        * (if half y = half l then 1 / 64 else 0)) = nrmBwd (x (half l)) g (dy (half l)) (gainLane l) := by
  rw [mean_pair l fun b d => dy b d * g d * (x b d * ir (x b))]
  rfl

theorem kf_all (I : Inputs) (j : Fin 8) (k : Fin 2176) (l : Fin 128) :
    part (I.kf j 0 k l) 2176 + part (I.kf j 1 k l) 2176 = I.dkn k (headOf j (half l)) (gainLane l) := by
  rw [part_all, part_all, ← sum_add_distrib]
  refine sum_congr rfl fun q _ => ?_
  unfold Inputs.kf Inputs.qm
  by_cases h : half l = 0
  · rw [if_pos h, if_neg (by rw [h]; decide), mul_zero, add_zero, ← h]; rfl
  · rw [if_neg h, if_pos (half_ne.1 h), mul_zero, zero_add, ← half_ne.1 h]; rfl

theorem vf_all (I : Inputs) (j : Fin 8) (k : Fin 2176) (l : Fin 128) :
    part (I.vf j 0 k l) 2176 + part (I.vf j 1 k l) 2176 = I.dv k (headOf j (half l)) (gainLane l) := by
  rw [part_all, part_all, ← sum_add_distrib]
  refine sum_congr rfl fun q _ => ?_
  unfold Inputs.vf Inputs.dm
  by_cases h : half l = 0
  · rw [if_pos h, if_neg (by rw [h]; decide), mul_zero, add_zero, ← h]; rfl
  · rw [if_neg h, if_pos (half_ne.1 h), mul_zero, zero_add, ← half_ne.1 h]; rfl

/-- What pair `j` adds to the gradients of the gains, at lane `l` of its two heads. -/
def gq (I : Inputs) (j : Fin 8) (l : Fin 128) : ℝ :=
  ∑ t, I.dqn t (headOf j (half l)) (gainLane l) * nrm (I.xq t (headOf j (half l))) (gainLane l)
def gk (I : Inputs) (j : Fin 8) (l : Fin 128) : ℝ :=
  ∑ t, I.dkn t (headOf j (half l)) (gainLane l) * nrm (I.xk t (headOf j (half l))) (gainLane l)

theorem HS7_all (H : Blk I j M x0 x1 x2 x3 x4 x5 x6 x7 x8 x9 x10) (t : Fin 2176) (l : Fin 128) :
    View.canon (kernelRun0_B.sl.HS7_19 c a1 h1 a2 h2 a3 h3 a4 h4 a5 h5 a6 h6 a7 h7 a8 h8 a10 h10 a11 h11 a18 a19 a20 a21 a22 a23 a25 x0 x1 x2 x3 x4 x5 x6 x7 x9 x10 : List (View.Piece (Elt Ideal) S2176x128 _)) (ix2 t l)
      = ((I.dkn t (headOf j (half l)) (gainLane l) : ℝ) : EReal) :=
  (HS7_19_at H t.val t.isLt l).trans (congrArg (fun r : ℝ => (r : EReal)) (kf_all I j t l))

theorem v1332_at (H : Blk I j M x0 x1 x2 x3 x4 x5 x6 x7 x8 x9 x10) (t : Fin 2176) (l : Fin 128) :
    (kernelRun0_B.sl.v1332 c a1 h1 a2 h2 a3 h3 a4 h4 a5 h5 a6 h6 a7 h7 a8 h8 a10 h10 a11 h11 a18 a19 a20 a21 a22 a23 a24 x0 x1 x2 x3 x4 x5 x6 x7 x9 x10 : Vec Ideal S2176x128 .f32) (ix2 t l)
      = ((nrmBwd (I.xq t (headOf j (half l))) I.qg (I.dqn t (headOf j (half l))) (gainLane l) : ℝ) : EReal) := by
  have hr := fun (t : Fin 2176) (l : Fin 128) => ir_half l (fun b => I.xq t (headOf j b))
  sl_unfold_run_values
  unfold_payloads
  pointwise
  simp only [readCov_band, readAt_band, zero_add, add_zero, Fin.eta, Fin.val_zero, Fin.zero_eta, bits_eps, H.bd, HS6_9_at H, H.q, H.qg, hr]
  simp only [← EReal.coe_mul, coe_sum, ← EReal.coe_sub]
  exact congrArg (fun r : ℝ => (r : EReal))
    (nrm_pair l (fun b => I.xq t (headOf j b)) (fun b => I.dqn t (headOf j b)) I.qg)

theorem v1345_at (H : Blk I j M x0 x1 x2 x3 x4 x5 x6 x7 x8 x9 x10) (t : Fin 2176) (l : Fin 128) :
    (kernelRun0_B.sl.v1345 c a1 h1 a2 h2 a3 h3 a4 h4 a5 h5 a6 h6 a7 h7 a8 h8 a10 h10 a11 h11 a18 a19 a20 a21 a22 a23 a25 x0 x1 x2 x3 x4 x5 x6 x7 x9 x10 : Vec Ideal S2176x128 .f32) (ix2 t l)
      = ((nrmBwd (I.xk t (headOf j (half l))) I.kg (I.dkn t (headOf j (half l))) (gainLane l) : ℝ) : EReal) := by
  have hr := fun (t : Fin 2176) (l : Fin 128) => ir_half l (fun b => I.xk t (headOf j b))
  sl_unfold_run_values
  unfold_payloads
  pointwise
  simp only [readCov_band, readAt_band, zero_add, add_zero, Fin.eta, Fin.val_zero, Fin.zero_eta, bits_eps, H.bd, HS7_all H, H.k, H.kg, hr]
  simp only [← EReal.coe_mul, coe_sum, ← EReal.coe_sub]
  exact congrArg (fun r : ℝ => (r : EReal))
    (nrm_pair l (fun b => I.xk t (headOf j b)) (fun b => I.dkn t (headOf j b)) I.kg)

theorem v1335_at (H : Blk I j M x0 x1 x2 x3 x4 x5 x6 x7 x8 x9 x10) (l : Fin 128) :
    (kernelRun0_B.sl.v1335 c a1 h1 a2 h2 a3 h3 a4 h4 a5 h5 a6 h6 a7 h7 a8 h8 a10 h10 a11 h11 a18 a19 a20 a21 a22 a23 a24 x0 x1 x2 x3 x4 x5 x6 x7 x9 x10 : Vec Ideal S1x128 .f32) (ix2 0 l) = ((gq I j l : ℝ) : EReal) := by
  have hr := fun (t : Fin 2176) (l : Fin 128) => ir_half l (fun b => I.xq t (headOf j b))
  sl_unfold_run_values
  unfold_payloads
  pointwise
  simp only [readCov_band, readAt_band, zero_add, add_zero, Fin.eta, Fin.val_zero, Fin.zero_eta, bits_eps, H.bd, HS6_9_at H, H.q, hr]
  simp only [← EReal.coe_mul, coe_sum]
  rfl

theorem v1348_at (H : Blk I j M x0 x1 x2 x3 x4 x5 x6 x7 x8 x9 x10) (l : Fin 128) :
    (kernelRun0_B.sl.v1348 c a1 h1 a2 h2 a3 h3 a4 h4 a5 h5 a6 h6 a7 h7 a8 h8 a10 h10 a11 h11 a18 a19 a20 a21 a22 a23 a25 x0 x1 x2 x3 x4 x5 x6 x7 x9 x10 : Vec Ideal S1x128 .f32) (ix2 0 l) = ((gk I j l : ℝ) : EReal) := by
  have hr := fun (t : Fin 2176) (l : Fin 128) => ir_half l (fun b => I.xk t (headOf j b))
  sl_unfold_run_values
  unfold_payloads
  pointwise
  simp only [readCov_band, readAt_band, zero_add, add_zero, Fin.eta, Fin.val_zero, Fin.zero_eta, bits_eps, H.bd, HS7_all H, H.k, hr]
  simp only [← EReal.coe_mul, coe_sum]
  rfl

theorem v1351_at (H : Blk I j M x0 x1 x2 x3 x4 x5 x6 x7 x8 x9 x10) (t : Fin 2176) (l : Fin 128) :
    (kernelRun0_B.sl.v1351 c a1 h1 a2 h2 a4 h4 a5 h5 a6 h6 a7 h7 a8 h8 a10 h10 a11 h11 a18 a19 a20 a22 a23 a26 x0 x1 x3 x4 x5 x6 x7 x9 x10 : Vec Ideal S2176x128 .f32) (ix2 t l) = ((I.dv t (headOf j (half l)) (gainLane l) : ℝ) : EReal) := by
  unfold kernelRun0_B.sl.v1351
  refine (readCov_band _ _ _ t l).trans ?_
  simp only [zero_add, Fin.eta]
  exact (HS8_19_at H t.val t.isLt l).trans (congrArg (fun r : ℝ => (r : EReal)) (vf_all I j t l))

end Cert.Fox.Ker

end
-- ==== Proof.Cases.lean ====
/-
  The three cases of a point of the grid (the first, those between, the last): what each output block holds.
-/
module

public import proofs.«01_k».proof.Proof.Outs
public import Idealize.ShloMosaic.Lib.Pointwise
public import Idealize.ShloMosaic.Lib.Tactic.RunNames

@[expose] public section

noncomputable section

namespace Cert.Fox.Ker

open Cert.KernelIdeal Cert.KernelIdeal.Gen Idealize.ShloMosaic Idealize.ShloMosaic.TcCoe Idealize.SL.Sem Finset

variable {I : Inputs} {j : Fin 8} {M : Fin 2176 → Fin 16 → ℝ}
variable {x0 x1 x2 x3 : Vec Ideal S2176x128 .f32} {x4 : Vec Ideal S1x8x2176 .f32} {x5 x6 : Vec Ideal S1x128 .f32}
  {x7 x8 : Vec Ideal S128x128 .f32} {x9 x10 : Vec Ideal S2176x128 .f32}

variable {c : Dev nD} {i : grid0.Coords}
  {a1 : Memref sig .tc .vmem S2176x128 .f32} {h1 : a1.IsWhole}
  {a2 : Memref sig .tc .vmem S2176x128 .f32} {h2 : a2.IsWhole}
  {a3 : Memref sig .tc .vmem S2176x128 .f32} {h3 : a3.IsWhole}
  {a4 : Memref sig .tc .vmem S2176x128 .f32} {h4 : a4.IsWhole}
  {a5 : Memref sig .tc .vmem S1x8x2176 .f32} {h5 : a5.IsWhole}
  {a6 : Memref sig .tc .vmem S1x128 .f32} {h6 : a6.IsWhole}
  {a7 : Memref sig .tc .vmem S1x128 .f32} {h7 : a7.IsWhole}
  {a8 : Memref sig .tc .vmem S128x128 .f32} {h8 : a8.IsWhole}
  {a9 : Memref sig .tc .vmem S128x128 .f32} {h9 : a9.IsWhole}
  {a10 : Memref sig .tc .vmem S2176x128 .f32} {h10 : a10.IsWhole}
  {a11 : Memref sig .tc .vmem S2176x128 .f32} {h11 : a11.IsWhole}
  {a12 : Memref sig .tc .vmem S2176x128 .f32} {h12 : a12.IsWhole}
  {a13 : Memref sig .tc .vmem S2176x128 .f32} {h13 : a13.IsWhole}
  {a14 : Memref sig .tc .vmem S2176x128 .f32} {h14 : a14.IsWhole}
  {a15 : Memref sig .tc .vmem S1x8x2176 .f32} {h15 : a15.IsWhole}
  {a16 : Memref sig .tc .vmem S1x128 .f32} {h16 : a16.IsWhole}
  {a17 : Memref sig .tc .vmem S1x128 .f32} {h17 : a17.IsWhole}
  {a18 : Memref sig .tc .vmem S2176x128 .bf16} {h18 : a18.IsWhole}
  {a19 : Memref sig .tc .vmem S2176x128 .bf16} {h19 : a19.IsWhole}
  {a20 : Memref sig .tc .vmem S2176x128 .bf16} {h20 : a20.IsWhole}
  {a21 : Memref sig .tc .vmem S2176x128 .bf16} {h21 : a21.IsWhole}
  {a22 : Memref sig .tc .vmem S2176x128 .bf16} {h22 : a22.IsWhole}
  {a23 : Memref sig .tc .vmem S2176x128 .bf16} {h23 : a23.IsWhole}
  {a24 : Memref sig .tc .vmem S2176x128 .f32} {h24 : a24.IsWhole}
  {a25 : Memref sig .tc .vmem S2176x128 .f32} {h25 : a25.IsWhole}
  {a26 : Memref sig .tc .vmem S2176x128 .f32} {h26 : a26.IsWhole}
variable {xo15 xo16 : Vec Ideal S1x128 .f32}

theorem part_rows (I : Inputs) (j : Fin 8) (r : Fin 8) (k : Fin 2176) :
    ((if r.val = 0 then part (I.cf j 0 k) 2176 else if r.val = 1 then part (I.cf j 1 k) 2176 else 0 : ℝ) : EReal)
      = if hr : r.val < 2 then ((I.dck (headOf j ⟨r.val, hr⟩) k : ℝ) : EReal) else 0 := by
  rw [part_all, part_all]
  by_cases h0 : r.val = 0
  · obtain rfl : r = ⟨0, by norm_num⟩ := Fin.ext h0
    rfl
  by_cases h1 : r.val = 1
  · obtain rfl : r = ⟨1, by norm_num⟩ := Fin.ext h1
    rfl
  rw [if_neg h0, if_neg h1, dif_neg (by omega), EReal.coe_zero]

theorem out_A_11 (hc0 : cond0_0 i) (hc1 : ¬cond0_1 i) (H : Blk I j M x0 x1 x2 x3 x4 x5 x6 x7 x8 x9 x10) (t : Fin 2176) (l : Fin 128) :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 (ix2 t l) = ((I.dq t (headOf j (half l)) (gainLane l) : ℝ) : EReal) := by
  refine (congrFun ((View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10)).trans
    (show _ = View.canon [⟨(Rect.unit ![0, 0] ![2176, 128] inb_S2176x128_S2176x128_0_0), kernelRun0_B.sl.v1332 c a1 h1 a2 h2 a3 h3 a4 h4 a5 h5 a6 h6 a7 h7 a8 h8 a10 h10 a11 h11 a18 a19 a20 a21 a22 a23 a24 x0 x1 x2 x3 x4 x5 x6 x7 x9 x10⟩] by sl_kernel_rfl)) (ix2 t l)).trans ?_
  refine (canon_band _ _ _ t l).trans ?_
  rw [dif_pos ⟨Nat.zero_le _, by omega⟩]
  exact v1332_at H t l

theorem out_A_12 (hc0 : cond0_0 i) (hc1 : ¬cond0_1 i) (H : Blk I j M x0 x1 x2 x3 x4 x5 x6 x7 x8 x9 x10) (t : Fin 2176) (l : Fin 128) :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 (ix2 t l) = ((I.dk t (headOf j (half l)) (gainLane l) : ℝ) : EReal) := by
  refine (congrFun ((View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10)).trans
    (show _ = View.canon [⟨(Rect.unit ![0, 0] ![2176, 128] inb_S2176x128_S2176x128_0_0), kernelRun0_B.sl.v1345 c a1 h1 a2 h2 a3 h3 a4 h4 a5 h5 a6 h6 a7 h7 a8 h8 a10 h10 a11 h11 a18 a19 a20 a21 a22 a23 a25 x0 x1 x2 x3 x4 x5 x6 x7 x9 x10⟩] by sl_kernel_rfl)) (ix2 t l)).trans ?_
  refine (canon_band _ _ _ t l).trans ?_
  rw [dif_pos ⟨Nat.zero_le _, by omega⟩]
  exact v1345_at H t l

theorem out_A_13 (hc0 : cond0_0 i) (hc1 : ¬cond0_1 i) (H : Blk I j M x0 x1 x2 x3 x4 x5 x6 x7 x8 x9 x10) (t : Fin 2176) (l : Fin 128) :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 (ix2 t l) = ((I.dv t (headOf j (half l)) (gainLane l) : ℝ) : EReal) := by
  refine (congrFun ((View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10)).trans
    (show _ = View.canon [⟨(Rect.unit ![0, 0] ![2176, 128] inb_S2176x128_S2176x128_0_0), kernelRun0_B.sl.v1351 c a1 h1 a2 h2 a4 h4 a5 h5 a6 h6 a7 h7 a8 h8 a10 h10 a11 h11 a18 a19 a20 a22 a23 a26 x0 x1 x3 x4 x5 x6 x7 x9 x10⟩] by sl_kernel_rfl)) (ix2 t l)).trans ?_
  refine (canon_band _ _ _ t l).trans ?_
  rw [dif_pos ⟨Nat.zero_le _, by omega⟩]
  exact v1351_at H t l

theorem out_A_14 (hc0 : cond0_0 i) (hc1 : ¬cond0_1 i) (H : Blk I j M x0 x1 x2 x3 x4 x5 x6 x7 x8 x9 x10) (r : Fin 8) (k : Fin 2176) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 (ix3 0 r k)
      = if hr : r.val < 2 then ((I.dck (headOf j ⟨r.val, hr⟩) k : ℝ) : EReal) else 0 := by
  refine (congrFun ((View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10)).trans
    (show _ = View.canon (⟨Rect.unit ![0, 1, 0] ![1, 1, 2176] inb_S1x8x2176_S1x1x2176_0_1_0, kernelRun0_B.sl.v1295 c a1 h1 a2 h2 a3 h3 a4 h4 a5 h5 a6 h6 a7 h7 a8 h8 a10 h10 a11 h11 a15 a18 a19 a20 a21 a22 a23 x0 x1 x2 x3 x4 x5 x6 x7 x9 x10⟩ :: kernelRun0_B.sl.H14_18 c a1 h1 a2 h2 a3 h3 a4 h4 a5 h5 a6 h6 a7 h7 a8 h8 a10 h10 a11 h11 a15 a18 a19 a20 a21 a22 a23 x0 x1 x2 x3 x4 x5 x6 x7 x9 x10) by sl_kernel_rfl)) (ix3 0 r k)).trans ?_
  exact (H14_19_at H r k.val k.isLt).trans (part_rows I j r k)

theorem out_B_11 (hc0 : ¬cond0_0 i) (hc1 : ¬cond0_1 i) (H : Blk I j M x0 x1 x2 x3 x4 x5 x6 x7 x8 x9 x10) (t : Fin 2176) (l : Fin 128) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 t l) = ((I.dq t (headOf j (half l)) (gainLane l) : ℝ) : EReal) := by
  refine (congrFun ((View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit ![0, 0] ![2176, 128] inb_S2176x128_S2176x128_0_0), kernelRun0_B.sl.v1332 c a1 h1 a2 h2 a3 h3 a4 h4 a5 h5 a6 h6 a7 h7 a8 h8 a10 h10 a11 h11 a18 a19 a20 a21 a22 a23 a24 x0 x1 x2 x3 x4 x5 x6 x7 x9 x10⟩] by sl_kernel_rfl)) (ix2 t l)).trans ?_
  refine (canon_band _ _ _ t l).trans ?_
  rw [dif_pos ⟨Nat.zero_le _, by omega⟩]
  exact v1332_at H t l

theorem out_B_12 (hc0 : ¬cond0_0 i) (hc1 : ¬cond0_1 i) (H : Blk I j M x0 x1 x2 x3 x4 x5 x6 x7 x8 x9 x10) (t : Fin 2176) (l : Fin 128) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 t l) = ((I.dk t (headOf j (half l)) (gainLane l) : ℝ) : EReal) := by
  refine (congrFun ((View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit ![0, 0] ![2176, 128] inb_S2176x128_S2176x128_0_0), kernelRun0_B.sl.v1345 c a1 h1 a2 h2 a3 h3 a4 h4 a5 h5 a6 h6 a7 h7 a8 h8 a10 h10 a11 h11 a18 a19 a20 a21 a22 a23 a25 x0 x1 x2 x3 x4 x5 x6 x7 x9 x10⟩] by sl_kernel_rfl)) (ix2 t l)).trans ?_
  refine (canon_band _ _ _ t l).trans ?_
  rw [dif_pos ⟨Nat.zero_le _, by omega⟩]
  exact v1345_at H t l

theorem out_B_13 (hc0 : ¬cond0_0 i) (hc1 : ¬cond0_1 i) (H : Blk I j M x0 x1 x2 x3 x4 x5 x6 x7 x8 x9 x10) (t : Fin 2176) (l : Fin 128) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 t l) = ((I.dv t (headOf j (half l)) (gainLane l) : ℝ) : EReal) := by
  refine (congrFun ((View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit ![0, 0] ![2176, 128] inb_S2176x128_S2176x128_0_0), kernelRun0_B.sl.v1351 c a1 h1 a2 h2 a4 h4 a5 h5 a6 h6 a7 h7 a8 h8 a10 h10 a11 h11 a18 a19 a20 a22 a23 a26 x0 x1 x3 x4 x5 x6 x7 x9 x10⟩] by sl_kernel_rfl)) (ix2 t l)).trans ?_
  refine (canon_band _ _ _ t l).trans ?_
  rw [dif_pos ⟨Nat.zero_le _, by omega⟩]
  exact v1351_at H t l

theorem out_B_14 (hc0 : ¬cond0_0 i) (hc1 : ¬cond0_1 i) (H : Blk I j M x0 x1 x2 x3 x4 x5 x6 x7 x8 x9 x10) (r : Fin 8) (k : Fin 2176) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix3 0 r k)
      = if hr : r.val < 2 then ((I.dck (headOf j ⟨r.val, hr⟩) k : ℝ) : EReal) else 0 := by
  refine (congrFun ((View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon (⟨Rect.unit ![0, 1, 0] ![1, 1, 2176] inb_S1x8x2176_S1x1x2176_0_1_0, kernelRun0_B.sl.v1295 c a1 h1 a2 h2 a3 h3 a4 h4 a5 h5 a6 h6 a7 h7 a8 h8 a10 h10 a11 h11 a15 a18 a19 a20 a21 a22 a23 x0 x1 x2 x3 x4 x5 x6 x7 x9 x10⟩ :: kernelRun0_B.sl.H14_18 c a1 h1 a2 h2 a3 h3 a4 h4 a5 h5 a6 h6 a7 h7 a8 h8 a10 h10 a11 h11 a15 a18 a19 a20 a21 a22 a23 x0 x1 x2 x3 x4 x5 x6 x7 x9 x10) by sl_kernel_rfl)) (ix3 0 r k)).trans ?_
  exact (H14_19_at H r k.val k.isLt).trans (part_rows I j r k)

theorem out_C_11 (hc0 : ¬cond0_0 i) (hc1 : cond0_1 i) (H : Blk I j M x0 x1 x2 x3 x4 x5 x6 x7 x8 x9 x10) (t : Fin 2176) (l : Fin 128) :
    out0_C_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 t l) = ((I.dq t (headOf j (half l)) (gainLane l) : ℝ) : EReal) := by
  refine (congrFun ((View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit ![0, 0] ![2176, 128] inb_S2176x128_S2176x128_0_0), kernelRun0_B.sl.v1332 c a1 h1 a2 h2 a3 h3 a4 h4 a5 h5 a6 h6 a7 h7 a8 h8 a10 h10 a11 h11 a18 a19 a20 a21 a22 a23 a24 x0 x1 x2 x3 x4 x5 x6 x7 x9 x10⟩] by sl_kernel_rfl)) (ix2 t l)).trans ?_
  refine (canon_band _ _ _ t l).trans ?_
  rw [dif_pos ⟨Nat.zero_le _, by omega⟩]
  exact v1332_at H t l

theorem out_C_12 (hc0 : ¬cond0_0 i) (hc1 : cond0_1 i) (H : Blk I j M x0 x1 x2 x3 x4 x5 x6 x7 x8 x9 x10) (t : Fin 2176) (l : Fin 128) :
    out0_C_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 t l) = ((I.dk t (headOf j (half l)) (gainLane l) : ℝ) : EReal) := by
  refine (congrFun ((View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit ![0, 0] ![2176, 128] inb_S2176x128_S2176x128_0_0), kernelRun0_B.sl.v1345 c a1 h1 a2 h2 a3 h3 a4 h4 a5 h5 a6 h6 a7 h7 a8 h8 a10 h10 a11 h11 a18 a19 a20 a21 a22 a23 a25 x0 x1 x2 x3 x4 x5 x6 x7 x9 x10⟩] by sl_kernel_rfl)) (ix2 t l)).trans ?_
  refine (canon_band _ _ _ t l).trans ?_
  rw [dif_pos ⟨Nat.zero_le _, by omega⟩]
  exact v1345_at H t l

theorem out_C_13 (hc0 : ¬cond0_0 i) (hc1 : cond0_1 i) (H : Blk I j M x0 x1 x2 x3 x4 x5 x6 x7 x8 x9 x10) (t : Fin 2176) (l : Fin 128) :
    out0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 t l) = ((I.dv t (headOf j (half l)) (gainLane l) : ℝ) : EReal) := by
  refine (congrFun ((View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit ![0, 0] ![2176, 128] inb_S2176x128_S2176x128_0_0), kernelRun0_B.sl.v1351 c a1 h1 a2 h2 a4 h4 a5 h5 a6 h6 a7 h7 a8 h8 a10 h10 a11 h11 a18 a19 a20 a22 a23 a26 x0 x1 x3 x4 x5 x6 x7 x9 x10⟩] by sl_kernel_rfl)) (ix2 t l)).trans ?_
  refine (canon_band _ _ _ t l).trans ?_
  rw [dif_pos ⟨Nat.zero_le _, by omega⟩]
  exact v1351_at H t l

theorem out_C_14 (hc0 : ¬cond0_0 i) (hc1 : cond0_1 i) (H : Blk I j M x0 x1 x2 x3 x4 x5 x6 x7 x8 x9 x10) (r : Fin 8) (k : Fin 2176) :
    out0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix3 0 r k)
      = if hr : r.val < 2 then ((I.dck (headOf j ⟨r.val, hr⟩) k : ℝ) : EReal) else 0 := by
  refine (congrFun ((View.read_writes_eq_canon _ _ _ (cover0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon (⟨Rect.unit ![0, 1, 0] ![1, 1, 2176] inb_S1x8x2176_S1x1x2176_0_1_0, kernelRun0_B.sl.v1295 c a1 h1 a2 h2 a3 h3 a4 h4 a5 h5 a6 h6 a7 h7 a8 h8 a10 h10 a11 h11 a15 a18 a19 a20 a21 a22 a23 x0 x1 x2 x3 x4 x5 x6 x7 x9 x10⟩ :: kernelRun0_B.sl.H14_18 c a1 h1 a2 h2 a3 h3 a4 h4 a5 h5 a6 h6 a7 h7 a8 h8 a10 h10 a11 h11 a15 a18 a19 a20 a21 a22 a23 x0 x1 x2 x3 x4 x5 x6 x7 x9 x10) by sl_kernel_rfl)) (ix3 0 r k)).trans ?_
  exact (H14_19_at H r k.val k.isLt).trans (part_rows I j r k)

theorem out_A_15 (hc0 : cond0_0 i) (hc1 : ¬cond0_1 i) (H : Blk I j M x0 x1 x2 x3 x4 x5 x6 x7 x8 x9 x10) (l : Fin 128) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 (ix2 0 l) = ((gq I j l : ℝ) : EReal) := by
  refine (congrFun ((View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10)).trans
    (show _ = View.canon (⟨(Rect.unit (s := S1x128) ![0, 0] ![1, 128] inb_S1x128_S1x128_0_0), k0_pay191 (F := Ideal) (kernelRun0_B.sl.v1335 c a1 h1 a2 h2 a3 h3 a4 h4 a5 h5 a6 h6 a7 h7 a8 h8 a10 h10 a11 h11 a18 a19 a20 a21 a22 a23 a24 x0 x1 x2 x3 x4 x5 x6 x7 x9 x10) (a16.view.readCov [⟨(Rect.unit (s := S1x128) ![0, 0] ![1, 128] inb_S1x128_S1x128_0_0), k0_pay189 (F := Ideal)⟩] (Rect.unit (s := S1x128) ![0, 0] ![1, 128] inb_S1x128_S1x128_0_0).toLoadRect)⟩ :: [⟨(Rect.unit (s := S1x128) ![0, 0] ![1, 128] inb_S1x128_S1x128_0_0), k0_pay189 (F := Ideal)⟩]) by sl_kernel_rfl)) (ix2 0 l)).trans ?_
  rw [View.canon_cons_unit_zero (by funext a; fin_cases a <;> rfl), View.readCov_unit_zero _ (by funext a; fin_cases a <;> rfl)]
  unfold_payloads
  pointwise
  rw [v1335_at H l]
  try rw [zero_add]

theorem out_B_15 (hc0 : ¬cond0_0 i) (hc1 : ¬cond0_1 i) (H : Blk I j M x0 x1 x2 x3 x4 x5 x6 x7 x8 x9 x10) (l : Fin 128) (p : ℝ) (hp : xo15 (ix2 0 l) = ((p : ℝ) : EReal)) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 0 l) = ((p + gq I j l : ℝ) : EReal) := by
  refine (congrFun ((View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit (s := S1x128) ![0, 0] ![1, 128] inb_S1x128_S1x128_0_0), k0_pay191 (F := Ideal) (kernelRun0_B.sl.v1335 c a1 h1 a2 h2 a3 h3 a4 h4 a5 h5 a6 h6 a7 h7 a8 h8 a10 h10 a11 h11 a18 a19 a20 a21 a22 a23 a24 x0 x1 x2 x3 x4 x5 x6 x7 x9 x10) (View.readAt (Elt Ideal) a16.view (Rect.unit (s := S1x128) ![0, 0] ![1, 128] inb_S1x128_S1x128_0_0).toLoadRect (h16.unread xo15))⟩] by sl_kernel_rfl)) (ix2 0 l)).trans ?_
  rw [View.canon_unit_zero (by funext a; fin_cases a <;> rfl)]
  unfold_payloads
  pointwise
  rw [v1335_at H l, readAt_band]
  simp only [zero_add, Fin.eta, Fin.val_zero, Fin.zero_eta, hp]
  rw [EReal.coe_add]

theorem out_C_15 (hc0 : ¬cond0_0 i) (hc1 : cond0_1 i) (H : Blk I j M x0 x1 x2 x3 x4 x5 x6 x7 x8 x9 x10) (l : Fin 128) (p : Fin 128 → ℝ)
    (hp : ∀ l, xo15 (ix2 0 l) = ((p l : ℝ) : EReal)) :
    out0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 0 l)
      = ((∑ x, (p x + gq I j x) * (if gainLane x = gainLane l then 1 else 0) : ℝ) : EReal) := by
  refine (congrFun ((View.read_writes_eq_canon _ _ _ (cover0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon (⟨(Rect.unit (s := S1x128) ![0, 0] ![1, 128] inb_S1x128_S1x128_0_0), k0_pay2 (F := Ideal) (a16.view.readCov [⟨(Rect.unit (s := S1x128) ![0, 0] ![1, 128] inb_S1x128_S1x128_0_0), k0_pay191 (F := Ideal) (kernelRun0_B.sl.v1335 c a1 h1 a2 h2 a3 h3 a4 h4 a5 h5 a6 h6 a7 h7 a8 h8 a10 h10 a11 h11 a18 a19 a20 a21 a22 a23 a24 x0 x1 x2 x3 x4 x5 x6 x7 x9 x10) (View.readAt (Elt Ideal) a16.view (Rect.unit (s := S1x128) ![0, 0] ![1, 128] inb_S1x128_S1x128_0_0).toLoadRect (h16.unread xo15))⟩] (Rect.unit (s := S1x128) ![0, 0] ![1, 128] inb_S1x128_S1x128_0_0).toLoadRect)
      (View.readAt (Elt Ideal) a9.view (Rect.unit (s := S128x128) ![0, 0] ![128, 128] inb_S128x128_S128x128_0_0).toLoadRect (h9.unread x8))⟩
      :: [⟨(Rect.unit (s := S1x128) ![0, 0] ![1, 128] inb_S1x128_S1x128_0_0), k0_pay191 (F := Ideal) (kernelRun0_B.sl.v1335 c a1 h1 a2 h2 a3 h3 a4 h4 a5 h5 a6 h6 a7 h7 a8 h8 a10 h10 a11 h11 a18 a19 a20 a21 a22 a23 a24 x0 x1 x2 x3 x4 x5 x6 x7 x9 x10) (View.readAt (Elt Ideal) a16.view (Rect.unit (s := S1x128) ![0, 0] ![1, 128] inb_S1x128_S1x128_0_0).toLoadRect (h16.unread xo15))⟩]) by sl_kernel_rfl)) (ix2 0 l)).trans ?_
  rw [View.canon_cons_unit_zero (by funext a; fin_cases a <;> rfl), View.readCov_unit_zero _ (by funext a; fin_cases a <;> rfl)]
  unfold_payloads
  pointwise
  simp only [v1335_at H, readAt_band, zero_add, Fin.eta, Fin.val_zero, Fin.zero_eta, hp, H.fold]
  simp only [← EReal.coe_add, ← EReal.coe_mul, coe_sum]

theorem out_A_16 (hc0 : cond0_0 i) (hc1 : ¬cond0_1 i) (H : Blk I j M x0 x1 x2 x3 x4 x5 x6 x7 x8 x9 x10) (l : Fin 128) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 (ix2 0 l) = ((gk I j l : ℝ) : EReal) := by
  refine (congrFun ((View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10)).trans
    (show _ = View.canon (⟨(Rect.unit (s := S1x128) ![0, 0] ![1, 128] inb_S1x128_S1x128_0_0), k0_pay1 (F := Ideal) (kernelRun0_B.sl.v1348 c a1 h1 a2 h2 a3 h3 a4 h4 a5 h5 a6 h6 a7 h7 a8 h8 a10 h10 a11 h11 a18 a19 a20 a21 a22 a23 a25 x0 x1 x2 x3 x4 x5 x6 x7 x9 x10) (a17.view.readCov [⟨(Rect.unit (s := S1x128) ![0, 0] ![1, 128] inb_S1x128_S1x128_0_0), k0_pay190 (F := Ideal)⟩] (Rect.unit (s := S1x128) ![0, 0] ![1, 128] inb_S1x128_S1x128_0_0).toLoadRect)⟩ :: [⟨(Rect.unit (s := S1x128) ![0, 0] ![1, 128] inb_S1x128_S1x128_0_0), k0_pay190 (F := Ideal)⟩]) by sl_kernel_rfl)) (ix2 0 l)).trans ?_
  rw [View.canon_cons_unit_zero (by funext a; fin_cases a <;> rfl), View.readCov_unit_zero _ (by funext a; fin_cases a <;> rfl)]
  unfold_payloads
  pointwise
  rw [v1348_at H l]
  try rw [zero_add]

theorem out_B_16 (hc0 : ¬cond0_0 i) (hc1 : ¬cond0_1 i) (H : Blk I j M x0 x1 x2 x3 x4 x5 x6 x7 x8 x9 x10) (l : Fin 128) (p : ℝ) (hp : xo16 (ix2 0 l) = ((p : ℝ) : EReal)) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 0 l) = ((p + gk I j l : ℝ) : EReal) := by
  refine (congrFun ((View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon [⟨(Rect.unit (s := S1x128) ![0, 0] ![1, 128] inb_S1x128_S1x128_0_0), k0_pay1 (F := Ideal) (kernelRun0_B.sl.v1348 c a1 h1 a2 h2 a3 h3 a4 h4 a5 h5 a6 h6 a7 h7 a8 h8 a10 h10 a11 h11 a18 a19 a20 a21 a22 a23 a25 x0 x1 x2 x3 x4 x5 x6 x7 x9 x10) (View.readAt (Elt Ideal) a17.view (Rect.unit (s := S1x128) ![0, 0] ![1, 128] inb_S1x128_S1x128_0_0).toLoadRect (h17.unread xo16))⟩] by sl_kernel_rfl)) (ix2 0 l)).trans ?_
  rw [View.canon_unit_zero (by funext a; fin_cases a <;> rfl)]
  unfold_payloads
  pointwise
  rw [v1348_at H l, readAt_band]
  simp only [zero_add, Fin.eta, Fin.val_zero, Fin.zero_eta, hp]
  rw [EReal.coe_add]

theorem out_C_16 (hc0 : ¬cond0_0 i) (hc1 : cond0_1 i) (H : Blk I j M x0 x1 x2 x3 x4 x5 x6 x7 x8 x9 x10) (l : Fin 128) (p : Fin 128 → ℝ)
    (hp : ∀ l, xo16 (ix2 0 l) = ((p l : ℝ) : EReal)) :
    out0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16 (ix2 0 l)
      = ((∑ x, (p x + gk I j x) * (if gainLane x = gainLane l then 1 else 0) : ℝ) : EReal) := by
  refine (congrFun ((View.read_writes_eq_canon _ _ _ (cover0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 hc0 hc1 x0 x1 x2 x3 x4 x5 x6 x7 x8 x9 x10 xo15 xo16)).trans
    (show _ = View.canon (⟨(Rect.unit (s := S1x128) ![0, 0] ![1, 128] inb_S1x128_S1x128_0_0), k0_pay3 (F := Ideal) (a17.view.readCov [⟨(Rect.unit (s := S1x128) ![0, 0] ![1, 128] inb_S1x128_S1x128_0_0), k0_pay1 (F := Ideal) (kernelRun0_B.sl.v1348 c a1 h1 a2 h2 a3 h3 a4 h4 a5 h5 a6 h6 a7 h7 a8 h8 a10 h10 a11 h11 a18 a19 a20 a21 a22 a23 a25 x0 x1 x2 x3 x4 x5 x6 x7 x9 x10) (View.readAt (Elt Ideal) a17.view (Rect.unit (s := S1x128) ![0, 0] ![1, 128] inb_S1x128_S1x128_0_0).toLoadRect (h17.unread xo16))⟩] (Rect.unit (s := S1x128) ![0, 0] ![1, 128] inb_S1x128_S1x128_0_0).toLoadRect)
      (View.readAt (Elt Ideal) a9.view (Rect.unit (s := S128x128) ![0, 0] ![128, 128] inb_S128x128_S128x128_0_0).toLoadRect (h9.unread x8))⟩
      :: [⟨(Rect.unit (s := S1x128) ![0, 0] ![1, 128] inb_S1x128_S1x128_0_0), k0_pay1 (F := Ideal) (kernelRun0_B.sl.v1348 c a1 h1 a2 h2 a3 h3 a4 h4 a5 h5 a6 h6 a7 h7 a8 h8 a10 h10 a11 h11 a18 a19 a20 a21 a22 a23 a25 x0 x1 x2 x3 x4 x5 x6 x7 x9 x10) (View.readAt (Elt Ideal) a17.view (Rect.unit (s := S1x128) ![0, 0] ![1, 128] inb_S1x128_S1x128_0_0).toLoadRect (h17.unread xo16))⟩]) by sl_kernel_rfl)) (ix2 0 l)).trans ?_
  rw [View.canon_cons_unit_zero (by funext a; fin_cases a <;> rfl), View.readCov_unit_zero _ (by funext a; fin_cases a <;> rfl)]
  unfold_payloads
  pointwise
  simp only [v1348_at H, readAt_band, zero_add, Fin.eta, Fin.val_zero, Fin.zero_eta, hp, H.fold]
  simp only [← EReal.coe_add, ← EReal.coe_mul, coe_sum]

end Cert.Fox.Ker

end
-- ==== Proof.Points.lean ====
/-
  From the blocks to the arrays: what each point of the grid leaves in the output blocks, the two running sums over
  the points, and the six output arrays after the run.
-/
module

public import proofs.«01_k».proof.Proof.Cases
public import proofs.«01_k».proof.Proof.Gen.KernelIdeal.Value
public import Idealize.ShloMosaic.Lib.Pipeline.ValueKit
public import Idealize.ShloMosaic.Lib.Pointwise

@[expose] public section

noncomputable section

namespace Cert.Fox.Ker

open Cert.KernelIdeal Cert.KernelIdeal.Gen Idealize.ShloMosaic Idealize.ShloMosaic.TcCoe Idealize.SL.Sem Finset

/-- A point of the grid is a pair of heads. -/
def pt (t : Fin cfg0.N) : Fin 8 := ⟨t.val, Nat.lt_of_lt_of_eq t.isLt N_0⟩

/-- Sixteen heads are eight pairs. -/
theorem sum_heads (f : Fin 16 → ℝ) : ∑ j : Fin 8, (f (headOf j 0) + f (headOf j 1)) = ∑ h, f h := by
  simp only [Fin.sum_univ_succ, Fin.sum_univ_zero]
  simp only [headOf]
  norm_num [Fin.ext_iff, Fin.succ]
  ring

/-- Adding the lanes of 128 columns onto 64: the sum over the pairs and the columns is the sum over the heads. -/
theorem fold_sum (f : Fin 16 → Fin 64 → ℝ) (d : Fin 64) :
    ∑ x : Fin 128, (∑ j : Fin 8, f (headOf j (half x)) (gainLane x)) * (if gainLane x = d then 1 else 0) = ∑ h, f h d := by
  have e : ∀ x : Fin 128, (∑ j : Fin 8, f (headOf j (half x)) (gainLane x)) * (if gainLane x = d then 1 else 0)
      = (if half x = 0 then (∑ j : Fin 8, f (headOf j 0) (gainLane x)) * (if gainLane x = d then 1 else 0) else 0)
        + (if half x = 1 then (∑ j : Fin 8, f (headOf j 1) (gainLane x)) * (if gainLane x = d then 1 else 0) else 0) := by
    intro x
    have hx : half x = 0 ∨ half x = 1 := by
      generalize half x = b
      fin_cases b
      · exact Or.inl rfl
      · exact Or.inr rfl
    rcases hx with hx | hx <;> rw [hx] <;> simp
  simp only [e, Finset.sum_add_distrib]
  rw [sum_half 0 _ (fun y => (∑ j : Fin 8, f (headOf j 0) y) * (if y = d then 1 else 0)) (fun _ _ => rfl),
    sum_half 1 _ (fun y => (∑ j : Fin 8, f (headOf j 1) y) * (if y = d then 1 else 0)) (fun _ _ => rfl)]
  simp only [mul_ite, mul_one, mul_zero, Finset.sum_ite_eq', Finset.mem_univ, if_true]
  rw [← Finset.sum_add_distrib]
  exact sum_heads fun h => f h d

variable (m : (ℓ : Loc nD τ sig) → Buf (Elt Ideal) ℓ)

/-- What the input blocks of every point hold. -/
def Stage (I : Inputs) (M : Fin 2176 → Fin 16 → ℝ) (c : Dev nD) : Prop :=
  ∀ t : Fin cfg0.N, Blk I (pt t) M (iblk m c 0 t) (iblk m c 1 t) (iblk m c 2 t) (iblk m c 3 t) (iblk m c 4 t) (iblk m c 5 t)
    (iblk m c 6 t) (iblk m c 7 t) (iblk m c 8 t) (iblk m c 9 t) (iblk m c 10 t)

variable {m} {I : Inputs} {M : Fin 2176 → Fin 16 → ℝ} {c : Dev nD}

theorem outs_11 (HB : Stage m I M c) (t : Fin cfg0.N) (s : Fin 2176) (l : Fin 128) :
    (outsAt0 m c t.val t.isLt).1 (ix2 s l) = ((I.dq s (headOf (pt t) (half l)) (gainLane l) : ℝ) : EReal) := by
  by_cases h0 : t.val % 8 = 0
  · simp only [outsAt0_A m c t h0 (by omega)]
    exact out_A_11 _ _ (HB t) s l
  by_cases h1 : t.val % 8 = 7
  · simp only [outsAt0_C m c t h0 h1]
    exact out_C_11 _ _ (HB t) s l
  · simp only [outsAt0_B m c t h0 h1]
    exact out_B_11 _ _ (HB t) s l

theorem outs_12 (HB : Stage m I M c) (t : Fin cfg0.N) (s : Fin 2176) (l : Fin 128) :
    (outsAt0 m c t.val t.isLt).2.1 (ix2 s l) = ((I.dk s (headOf (pt t) (half l)) (gainLane l) : ℝ) : EReal) := by
  by_cases h0 : t.val % 8 = 0
  · simp only [outsAt0_A m c t h0 (by omega)]
    exact out_A_12 _ _ (HB t) s l
  by_cases h1 : t.val % 8 = 7
  · simp only [outsAt0_C m c t h0 h1]
    exact out_C_12 _ _ (HB t) s l
  · simp only [outsAt0_B m c t h0 h1]
    exact out_B_12 _ _ (HB t) s l

theorem outs_13 (HB : Stage m I M c) (t : Fin cfg0.N) (s : Fin 2176) (l : Fin 128) :
    (outsAt0 m c t.val t.isLt).2.2.1 (ix2 s l) = ((I.dv s (headOf (pt t) (half l)) (gainLane l) : ℝ) : EReal) := by
  by_cases h0 : t.val % 8 = 0
  · simp only [outsAt0_A m c t h0 (by omega)]
    exact out_A_13 _ _ (HB t) s l
  by_cases h1 : t.val % 8 = 7
  · simp only [outsAt0_C m c t h0 h1]
    exact out_C_13 _ _ (HB t) s l
  · simp only [outsAt0_B m c t h0 h1]
    exact out_B_13 _ _ (HB t) s l

theorem outs_14 (HB : Stage m I M c) (t : Fin cfg0.N) (r : Fin 8) (k : Fin 2176) :
    (outsAt0 m c t.val t.isLt).2.2.2.1 (ix3 0 r k)
      = if hr : r.val < 2 then ((I.dck (headOf (pt t) ⟨r.val, hr⟩) k : ℝ) : EReal) else 0 := by
  by_cases h0 : t.val % 8 = 0
  · simp only [outsAt0_A m c t h0 (by omega)]
    exact out_A_14 _ _ (HB t) r k
  by_cases h1 : t.val % 8 = 7
  · simp only [outsAt0_C m c t h0 h1]
    exact out_C_14 _ _ (HB t) r k
  · simp only [outsAt0_B m c t h0 h1]
    exact out_B_14 _ _ (HB t) r k

/-- The terms of the running sums, by the number of the point. -/
def upto (f : Fin 8 → ℝ) (n : ℕ) : ℝ := ∑ j ∈ range (n + 1), if h : j < 8 then f ⟨j, h⟩ else 0

theorem upto_zero (f : Fin 8 → ℝ) : upto f 0 = f 0 := by simp [upto]

theorem upto_succ (f : Fin 8 → ℝ) (n : ℕ) (hn : n + 1 < 8) : upto f (n + 1) = upto f n + f ⟨n + 1, hn⟩ := by
  unfold upto
  rw [Finset.sum_range_succ, dif_pos hn]

theorem upto_all (f : Fin 8 → ℝ) : upto f 6 + f 7 = ∑ j, f j := by
  have h7 := upto_succ f 6 (by norm_num)
  have e : upto f 7 = ∑ j, f j := by
    unfold upto
    rw [Finset.sum_range]
    exact Finset.sum_congr rfl fun j _ => dif_pos j.isLt
  rw [← e, h7]
  rfl

theorem step_A_15 (HB : Stage m I M c) (t : Fin cfg0.N) (h0 : t.val % 8 = 0) (l : Fin 128) :
    (outsAt0 m c t.val t.isLt).2.2.2.2.1 (ix2 0 l) = ((gq I (pt t) l : ℝ) : EReal) := by
  simp only [outsAt0_A m c t h0 (by omega)]
  exact out_A_15 _ _ (HB t) l

theorem step_B_15 (HB : Stage m I M c) (t : Fin cfg0.N) (h0 : ¬t.val % 8 = 0) (h1 : ¬t.val % 8 = 7) (l : Fin 128) (p : ℝ)
    (hp : (outsAt0 m c (t.val - 1) (Nat.lt_of_le_of_lt (Nat.sub_le _ _) t.isLt)).2.2.2.2.1 (ix2 0 l) = ((p : ℝ) : EReal)) :
    (outsAt0 m c t.val t.isLt).2.2.2.2.1 (ix2 0 l) = ((p + gq I (pt t) l : ℝ) : EReal) := by
  simp only [outsAt0_B m c t h0 h1]
  exact out_B_15 _ _ (HB t) l p hp

theorem step_C_15 (HB : Stage m I M c) (t : Fin cfg0.N) (h0 : ¬t.val % 8 = 0) (h1 : t.val % 8 = 7) (l : Fin 128) (p : Fin 128 → ℝ)
    (hp : ∀ x, (outsAt0 m c (t.val - 1) (Nat.lt_of_le_of_lt (Nat.sub_le _ _) t.isLt)).2.2.2.2.1 (ix2 0 x) = ((p x : ℝ) : EReal)) :
    (outsAt0 m c t.val t.isLt).2.2.2.2.1 (ix2 0 l)
      = ((∑ x, (p x + gq I (pt t) x) * (if gainLane x = gainLane l then 1 else 0) : ℝ) : EReal) := by
  simp only [outsAt0_C m c t h0 h1]
  exact out_C_15 _ _ (HB t) l p hp

/-- The running sum after the points up to `n`, short of the last. -/
theorem acc_15 (HB : Stage m I M c) (l : Fin 128) : ∀ (n : ℕ) (hn : n < cfg0.N), n < 7 →
    (outsAt0 m c n hn).2.2.2.2.1 (ix2 0 l) = ((upto (fun j => gq I j l) n : ℝ) : EReal) := by
  intro n
  induction n with
  | zero =>
    intro hn _
    rw [upto_zero]
    exact step_A_15 HB ⟨0, hn⟩ rfl l
  | succ n ih =>
    intro hn hl
    rw [upto_succ _ n (by omega)]
    exact step_B_15 HB ⟨n + 1, hn⟩ (by show ¬(n + 1) % 8 = 0; omega) (by show ¬(n + 1) % 8 = 7; omega) l _
      (ih (Nat.lt_of_succ_lt hn) (by omega))

theorem outs_15 (HB : Stage m I M c) (t : Fin cfg0.N) (ht : t.val = 7) (l : Fin 128) :
    (outsAt0 m c t.val t.isLt).2.2.2.2.1 (ix2 0 l) = ((I.dqg (gainLane l) : ℝ) : EReal) := by
  have hp : ∀ (x : Fin 128) (n : ℕ) (hn : n < cfg0.N), n = 6 →
      (outsAt0 m c n hn).2.2.2.2.1 (ix2 0 x) = ((upto (fun j => gq I j x) 6 : ℝ) : EReal) := by
    intro x n hn h
    have ha := acc_15 HB x n hn (by omega)
    rw [ha, h]
  refine (step_C_15 HB t (by omega) (by omega) l (fun x => upto (fun j => gq I j x) 6) (fun x => hp x _ _ (by omega))).trans ?_
  refine congrArg (fun r : ℝ => (r : EReal)) ?_
  have e : ∀ x, upto (fun j => gq I j x) 6 + gq I (pt t) x = ∑ j, gq I j x := fun x => by
    rw [show pt t = 7 from Fin.ext ht]
    exact upto_all fun j => gq I j x
  simp only [e]
  exact (fold_sum (fun h d => ∑ t, I.dqn t h d * nrm (I.xq t h) d) (gainLane l)).trans Finset.sum_comm

theorem step_A_16 (HB : Stage m I M c) (t : Fin cfg0.N) (h0 : t.val % 8 = 0) (l : Fin 128) :
    (outsAt0 m c t.val t.isLt).2.2.2.2.2 (ix2 0 l) = ((gk I (pt t) l : ℝ) : EReal) := by
  simp only [outsAt0_A m c t h0 (by omega)]
  exact out_A_16 _ _ (HB t) l

theorem step_B_16 (HB : Stage m I M c) (t : Fin cfg0.N) (h0 : ¬t.val % 8 = 0) (h1 : ¬t.val % 8 = 7) (l : Fin 128) (p : ℝ)
    (hp : (outsAt0 m c (t.val - 1) (Nat.lt_of_le_of_lt (Nat.sub_le _ _) t.isLt)).2.2.2.2.2 (ix2 0 l) = ((p : ℝ) : EReal)) :
    (outsAt0 m c t.val t.isLt).2.2.2.2.2 (ix2 0 l) = ((p + gk I (pt t) l : ℝ) : EReal) := by
  simp only [outsAt0_B m c t h0 h1]
  exact out_B_16 _ _ (HB t) l p hp

theorem step_C_16 (HB : Stage m I M c) (t : Fin cfg0.N) (h0 : ¬t.val % 8 = 0) (h1 : t.val % 8 = 7) (l : Fin 128) (p : Fin 128 → ℝ)
    (hp : ∀ x, (outsAt0 m c (t.val - 1) (Nat.lt_of_le_of_lt (Nat.sub_le _ _) t.isLt)).2.2.2.2.2 (ix2 0 x) = ((p x : ℝ) : EReal)) :
    (outsAt0 m c t.val t.isLt).2.2.2.2.2 (ix2 0 l)
      = ((∑ x, (p x + gk I (pt t) x) * (if gainLane x = gainLane l then 1 else 0) : ℝ) : EReal) := by
  simp only [outsAt0_C m c t h0 h1]
  exact out_C_16 _ _ (HB t) l p hp

/-- The running sum after the points up to `n`, short of the last. -/
theorem acc_16 (HB : Stage m I M c) (l : Fin 128) : ∀ (n : ℕ) (hn : n < cfg0.N), n < 7 →
    (outsAt0 m c n hn).2.2.2.2.2 (ix2 0 l) = ((upto (fun j => gk I j l) n : ℝ) : EReal) := by
  intro n
  induction n with
  | zero =>
    intro hn _
    rw [upto_zero]
    exact step_A_16 HB ⟨0, hn⟩ rfl l
  | succ n ih =>
    intro hn hl
    rw [upto_succ _ n (by omega)]
    exact step_B_16 HB ⟨n + 1, hn⟩ (by show ¬(n + 1) % 8 = 0; omega) (by show ¬(n + 1) % 8 = 7; omega) l _
      (ih (Nat.lt_of_succ_lt hn) (by omega))

theorem outs_16 (HB : Stage m I M c) (t : Fin cfg0.N) (ht : t.val = 7) (l : Fin 128) :
    (outsAt0 m c t.val t.isLt).2.2.2.2.2 (ix2 0 l) = ((I.dkg (gainLane l) : ℝ) : EReal) := by
  have hp : ∀ (x : Fin 128) (n : ℕ) (hn : n < cfg0.N), n = 6 →
      (outsAt0 m c n hn).2.2.2.2.2 (ix2 0 x) = ((upto (fun j => gk I j x) 6 : ℝ) : EReal) := by
    intro x n hn h
    have ha := acc_16 HB x n hn (by omega)
    rw [ha, h]
  refine (step_C_16 HB t (by omega) (by omega) l (fun x => upto (fun j => gk I j x) 6) (fun x => hp x _ _ (by omega))).trans ?_
  refine congrArg (fun r : ℝ => (r : EReal)) ?_
  have e : ∀ x, upto (fun j => gk I j x) 6 + gk I (pt t) x = ∑ j, gk I j x := fun x => by
    rw [show pt t = 7 from Fin.ext ht]
    exact upto_all fun j => gk I j x
  simp only [e]
  exact (fold_sum (fun h d => ∑ t, I.dkn t h d * nrm (I.xk t h) d) (gainLane l)).trans Finset.sum_comm

/-- The column a window's block places its lane at belongs to the block's pair of heads. -/
theorem colHead_of (j : Fin 8) (l : Fin 128) (k : Fin 1024) (h : k.val = j.val * 128 + l.val) : colHead k = headOf j (half l) :=
  Fin.ext (by show k.val / 64 = 2 * j.val + l.val / 64; omega)
theorem colLane_of (j : Fin 8) (l : Fin 128) (k : Fin 1024) (h : k.val = j.val * 128 + l.val) : colLane k = gainLane l :=
  Fin.ext (by show k.val % 64 = l.val % 64; omega)

theorem idx_11 : ∀ t : Fin cfg0.N, win0_11.index t (0 : Fin 2) = 0 ∧ win0_11.index t (1 : Fin 2) = t.val :=
  (by decide +kernel : ∀ t : Fin grid0.N, _)

theorem arr_11 (HB : Stage m I M c) (s : Fin 2176) (k : Fin 1024) :
    (dats m 0 c).arrAt 11 cfg0.N (ix2 s k) = ((I.dq s (colHead k) (colLane k) : ℝ) : EReal) := by
  have e : (dats m 0 c).arrAt 11 cfg0.N = fun i : S2176x1024.Idx => ((I.dq (i 0) (colHead (i 1)) (colLane (i 1)) : ℝ) : EReal) := by
    refine (dats m 0 c).arrAt_eq_of_covers 11 _ (by decide +kernel) fun t hf y => ?_
    obtain ⟨e0, e1⟩ := idx_11 t
    have h0 : (((cfg0.win 11).blk t).view.emb y (0 : Fin 2)).val = (y (0 : Fin 2)).val := by blk_simp; omega
    have h1 : (((cfg0.win 11).blk t).view.emb y (1 : Fin 2)).val = (pt t).val * 128 + (y (1 : Fin 2)).val := by
      blk_simp; rw [e1]; rfl
    have hy : y = ix2 (y (0 : Fin 2)) (y (1 : Fin 2)) := by funext a; fin_cases a <;> rfl
    show (dats m 0 c).after 11 t y = _
    rw [after0_11, hy]
    refine (outs_11 HB t _ _).trans ?_
    rw [← hy]
    refine congrArg (fun r : ℝ => (r : EReal)) ?_
    rw [colHead_of (pt t) (y (1 : Fin 2)) _ h1, colLane_of (pt t) (y (1 : Fin 2)) _ h1, show ((cfg0.win 11).blk t).view.emb y (0 : Fin 2) = y (0 : Fin 2) from Fin.ext h0]
  rw [e]
  rfl

theorem idx_12 : ∀ t : Fin cfg0.N, win0_12.index t (0 : Fin 2) = 0 ∧ win0_12.index t (1 : Fin 2) = t.val :=
  (by decide +kernel : ∀ t : Fin grid0.N, _)

theorem arr_12 (HB : Stage m I M c) (s : Fin 2176) (k : Fin 1024) :
    (dats m 0 c).arrAt 12 cfg0.N (ix2 s k) = ((I.dk s (colHead k) (colLane k) : ℝ) : EReal) := by
  have e : (dats m 0 c).arrAt 12 cfg0.N = fun i : S2176x1024.Idx => ((I.dk (i 0) (colHead (i 1)) (colLane (i 1)) : ℝ) : EReal) := by
    refine (dats m 0 c).arrAt_eq_of_covers 12 _ (by decide +kernel) fun t hf y => ?_
    obtain ⟨e0, e1⟩ := idx_12 t
    have h0 : (((cfg0.win 12).blk t).view.emb y (0 : Fin 2)).val = (y (0 : Fin 2)).val := by blk_simp; omega
    have h1 : (((cfg0.win 12).blk t).view.emb y (1 : Fin 2)).val = (pt t).val * 128 + (y (1 : Fin 2)).val := by
      blk_simp; rw [e1]; rfl
    have hy : y = ix2 (y (0 : Fin 2)) (y (1 : Fin 2)) := by funext a; fin_cases a <;> rfl
    show (dats m 0 c).after 12 t y = _
    rw [after0_12, hy]
    refine (outs_12 HB t _ _).trans ?_
    rw [← hy]
    refine congrArg (fun r : ℝ => (r : EReal)) ?_
    rw [colHead_of (pt t) (y (1 : Fin 2)) _ h1, colLane_of (pt t) (y (1 : Fin 2)) _ h1, show ((cfg0.win 12).blk t).view.emb y (0 : Fin 2) = y (0 : Fin 2) from Fin.ext h0]
  rw [e]
  rfl

theorem idx_13 : ∀ t : Fin cfg0.N, win0_13.index t (0 : Fin 2) = 0 ∧ win0_13.index t (1 : Fin 2) = t.val :=
  (by decide +kernel : ∀ t : Fin grid0.N, _)

theorem arr_13 (HB : Stage m I M c) (s : Fin 2176) (k : Fin 1024) :
    (dats m 0 c).arrAt 13 cfg0.N (ix2 s k) = ((I.dv s (colHead k) (colLane k) : ℝ) : EReal) := by
  have e : (dats m 0 c).arrAt 13 cfg0.N = fun i : S2176x1024.Idx => ((I.dv (i 0) (colHead (i 1)) (colLane (i 1)) : ℝ) : EReal) := by
    refine (dats m 0 c).arrAt_eq_of_covers 13 _ (by decide +kernel) fun t hf y => ?_
    obtain ⟨e0, e1⟩ := idx_13 t
    have h0 : (((cfg0.win 13).blk t).view.emb y (0 : Fin 2)).val = (y (0 : Fin 2)).val := by blk_simp; omega
    have h1 : (((cfg0.win 13).blk t).view.emb y (1 : Fin 2)).val = (pt t).val * 128 + (y (1 : Fin 2)).val := by
      blk_simp; rw [e1]; rfl
    have hy : y = ix2 (y (0 : Fin 2)) (y (1 : Fin 2)) := by funext a; fin_cases a <;> rfl
    show (dats m 0 c).after 13 t y = _
    rw [after0_13, hy]
    refine (outs_13 HB t _ _).trans ?_
    rw [← hy]
    refine congrArg (fun r : ℝ => (r : EReal)) ?_
    rw [colHead_of (pt t) (y (1 : Fin 2)) _ h1, colLane_of (pt t) (y (1 : Fin 2)) _ h1, show ((cfg0.win 13).blk t).view.emb y (0 : Fin 2) = y (0 : Fin 2) from Fin.ext h0]
  rw [e]
  rfl

theorem idx_14 : ∀ t : Fin cfg0.N, win0_14.index t (0 : Fin 3) = t.val ∧ win0_14.index t (1 : Fin 3) = 0 ∧ win0_14.index t (2 : Fin 3) = 0 :=
  (by decide +kernel : ∀ t : Fin grid0.N, _)

theorem arr_14 (HB : Stage m I M c) (j r : Fin 8) (k : Fin 2176) :
    (dats m 0 c).arrAt 14 cfg0.N (ix3 j r k) = if hr : r.val < 2 then ((I.dck (headOf j ⟨r.val, hr⟩) k : ℝ) : EReal) else 0 := by
  have e : (dats m 0 c).arrAt 14 cfg0.N = fun i : S8x8x2176.Idx =>
      if hr : (i 1).val < 2 then ((I.dck (headOf (i 0) ⟨(i 1).val, hr⟩) (i 2) : ℝ) : EReal) else 0 := by
    refine (dats m 0 c).arrAt_eq_of_covers 14 _ (by decide +kernel) fun t hf y => ?_
    obtain ⟨e0, e1, e2⟩ := idx_14 t
    have h0 : ((cfg0.win 14).blk t).view.emb y (0 : Fin 3) = pt t := by
      apply Fin.ext
      have hy0 : (y (0 : Fin 3)).val < 1 := (y (0 : Fin 3)).isLt
      blk_simp; rw [e0]; show _ = t.val; omega
    have h1 : ((cfg0.win 14).blk t).view.emb y (1 : Fin 3) = y (1 : Fin 3) := by
      apply Fin.ext; blk_simp; omega
    have h2 : ((cfg0.win 14).blk t).view.emb y (2 : Fin 3) = y (2 : Fin 3) := by
      apply Fin.ext; blk_simp; omega
    have hy : y = ix3 0 (y (1 : Fin 3)) (y (2 : Fin 3)) := by
      funext a; fin_cases a
      · apply Fin.ext
        have hy0 : (y (0 : Fin 3)).val < 1 := (y (0 : Fin 3)).isLt
        show (y (0 : Fin 3)).val = 0
        omega
      · rfl
      · rfl
    show (dats m 0 c).after 14 t y = _
    rw [after0_14, hy]
    refine (outs_14 HB t _ _).trans ?_
    rw [← hy]
    rw [h0, h1, h2]
  rw [e]
  rfl

theorem arr_15 (HB : Stage m I M c) (l : Fin 128) :
    (dats m 0 c).arrAt 15 cfg0.N (ix2 0 l) = ((I.dqg (gainLane l) : ℝ) : EReal) := by
  refine ((dats m 0 c).arrAt_emb_eq_after_last 15 (⟨7, by decide⟩ : Fin cfg0.N) (by decide +kernel) (ix2 0 l)).trans ?_
  show (dats m 0 c).after 15 (⟨7, by decide⟩ : Fin cfg0.N) (ix2 0 l) = _
  rw [after0_15]
  exact outs_15 HB _ rfl l

theorem arr_16 (HB : Stage m I M c) (l : Fin 128) :
    (dats m 0 c).arrAt 16 cfg0.N (ix2 0 l) = ((I.dkg (gainLane l) : ℝ) : EReal) := by
  refine ((dats m 0 c).arrAt_emb_eq_after_last 16 (⟨7, by decide⟩ : Fin cfg0.N) (by decide +kernel) (ix2 0 l)).trans ?_
  show (dats m 0 c).after 16 (⟨7, by decide⟩ : Fin cfg0.N) (ix2 0 l) = _
  rw [after0_16]
  exact outs_16 HB _ rfl l

end Cert.Fox.Ker

end
-- ==== Proof.Host.lean ====
/- The kernel's host lines over the real numbers: each value at an index is the formula of `Spec.lean`. -/
module

public import proofs.«01_k».proof.Proof.HostDefs
public import proofs.«01_k».proof.Proof.Ref
public import proofs.«01_k».proof.Proof.Points
public import Idealize.ShloMosaic.Lib.Pointwise

@[expose] public section

noncomputable section

namespace Cert.Fox.Ker

open Cert.KernelIdeal Cert.KernelIdeal.Gen Idealize.ShloMosaic Finset

variable {I : Inputs}
  {x0 : (⟨S2176x5120, .f32⟩ : BufTy).Contents (Elt Ideal)} {x1 : (⟨S2176x16, .f32⟩ : BufTy).Contents (Elt Ideal)}
  {x2 x3 : (⟨S64, .f32⟩ : BufTy).Contents (Elt Ideal)} {x4 : (⟨S2064x1024, .f32⟩ : BufTy).Contents (Elt Ideal)}

variable (H : Ref.Holds I x0 x1 x2 x3 x4)
include H

/-! ### The logarithms of the rows' sums -/

theorem host_xq (t : Fin 2176) (h : Fin 16) (d : Fin 64) :
    h_v2 (F := Ideal) x0 (ix3 t h d) = ((I.xq t h d : ℝ) : EReal) := by
  pointwise [h_v2, h_v0]
  rw [H.u]
  exact congrArg (fun j => ((I.u t j : ℝ) : EReal)) (Fin.ext (by
    show h.val * 64 + d.val = 64 * h.val + d.val; omega))

theorem host_xk (t : Fin 2176) (h : Fin 16) (d : Fin 64) :
    h_v16 (F := Ideal) x0 (ix3 t h d) = ((I.xk t h d : ℝ) : EReal) := by
  pointwise [h_v16, h_v1]
  rw [H.u]
  exact congrArg (fun j => ((I.u t j : ℝ) : EReal)) (Fin.ext (by
    show 1024 + (h.val * 64 + d.val) = 1024 + (64 * h.val + d.val); omega))

theorem host_irq (t : Fin 2176) (h : Fin 16) (e : Fin 1) :
    h_v10 (F := Ideal) x0 (ix3 t h e) = ((ir (I.xq t h) : ℝ) : EReal) := by
  pointwise [h_v3, h_cst_1, h_v4, h_v5, h_cst_2, h_v6, h_v7, h_cst_3, h_v8, h_v9, h_v10]
  simp only [host_xq H, bits_64, bits_eps, ← EReal.coe_mul, coe_sum]
  rw [div_real (by norm_num), ← EReal.coe_add]; exact rsqrt_ms _

theorem host_irk (t : Fin 2176) (h : Fin 16) (e : Fin 1) :
    h_v24 (F := Ideal) x0 (ix3 t h e) = ((ir (I.xk t h) : ℝ) : EReal) := by
  pointwise [h_v17, h_cst_4, h_v18, h_v19, h_cst_5, h_v20, h_v21, h_cst_6, h_v22, h_v23, h_v24]
  simp only [host_xk H, bits_64, bits_eps, ← EReal.coe_mul, coe_sum]
  rw [div_real (by norm_num), ← EReal.coe_add]; exact rsqrt_ms _

theorem host_qn (t : Fin 2176) (h : Fin 16) (d : Fin 64) :
    h_v15 (F := Ideal) x0 x2 (ix3 t h d) = ((I.qn t h d : ℝ) : EReal) := by
  pointwise [h_v11, h_v12, h_v13, h_v14, h_v15]
  rw [host_xq H, host_irq H, H.qg, ← EReal.coe_mul, ← EReal.coe_mul]; rfl

theorem host_kn (t : Fin 2176) (h : Fin 16) (d : Fin 64) :
    h_v29 (F := Ideal) x0 x3 (ix3 t h d) = ((I.kn t h d : ℝ) : EReal) := by
  pointwise [h_v25, h_v26, h_v27, h_v28, h_v29]
  rw [host_xk H, host_irk H, H.kg, ← EReal.coe_mul, ← EReal.coe_mul]; rfl

theorem host_score (h : Fin 16) (q k : Fin 2176) :
    h_v40 (F := Ideal) x0 x1 x2 x3 (ix3 h q k) = ((I.score h q k : ℝ) : EReal) := by
  pointwise [h_v30, h_v32, h_cst_7, h_v33, h_v34, h_v35, h_v36, h_v37, h_v38, h_v39, h_v40]
  simp only [host_qn H, host_kn H, H.c, bits_eighth, ← EReal.coe_mul, coe_sum, ← EReal.coe_add, ← EReal.coe_sub]
  rfl

theorem host_masked (h : Fin 16) (q k : Fin 2176) :
    h_v50 (F := Ideal) x0 x1 x2 x3 (ix3 h q k) = if Inputs.sees q k then ((I.score h q k : ℝ) : EReal) else ⊥ := by
  pointwise [h_v31, h_v41, h_v42, h_v43, h_v44, h_v45, h_c, h_v46, h_v47, h_v48, h_v49, h_cst_8, h_call0_v0, h_call0_v1,
    h_call0_v2, h_v50]
  rw [select_mask (by omega) (by omega), host_score H]
  have hb : id (constant (F := Ideal) S_ FTy.f32 4286578688#32) ix0 = (⊥ : EReal) := bits_bot
  rw [hb]; rfl

theorem host_rows (h : Fin 16) (q : Fin 2064) (k : Fin 2176) :
    h_v51 (F := Ideal) x0 x1 x2 x3 (ix3 h q k)
      = if Inputs.sees (tok q) k then ((I.score h (tok q) k : ℝ) : EReal) else ⊥ := by
  pointwise [h_v51]
  exact host_masked H h (tok q) k

omit H in
theorem host_max (h : Fin 16) (q : Fin 2064) :
    h_v52 (F := Ideal) x0 x1 x2 x3 (ix2 h q)
      = Finset.univ.fold max (⊥ : EReal) (fun k => h_v51 (F := Ideal) x0 x1 x2 x3 (ix3 h q k)) := by
  unfold h_v52
  generalize h_v51 (F := Ideal) x0 x1 x2 x3 = y
  pointwise [h_cst_9]
  rw [bits_bot]

omit H in
theorem host_exp (h : Fin 16) (q : Fin 2064) (k : Fin 2176) :
    h_v56 (F := Ideal) x0 x1 x2 x3 (ix3 h q k)
      = Ideal.exp (h_v51 (F := Ideal) x0 x1 x2 x3 (ix3 h q k) - h_v52 (F := Ideal) x0 x1 x2 x3 (ix2 h q)) := by
  unfold h_v56 h_v55 h_v54 h_v53
  generalize h_v51 (F := Ideal) x0 x1 x2 x3 = y
  generalize h_v52 (F := Ideal) x0 x1 x2 x3 = z
  pointwise

omit H in
theorem host_sum (h : Fin 16) (q : Fin 2064) :
    h_v57 (F := Ideal) x0 x1 x2 x3 (ix2 h q) = ∑ k, h_v56 (F := Ideal) x0 x1 x2 x3 (ix3 h q k) := by
  unfold h_v57
  generalize h_v56 (F := Ideal) x0 x1 x2 x3 = y
  pointwise [h_cst_10]

omit H in
theorem add_log (z y : FVec Ideal S16x2064 .f32) (h : Fin 16) (q : Fin 2064) :
    addf (F := Ideal) z (Host.log y) (ix2 h q) = z (ix2 h q) + Ideal.log (y (ix2 h q)) := rfl

omit H in
theorem host_log (h : Fin 16) (q : Fin 2064) :
    h_v59 (F := Ideal) x0 x1 x2 x3 (ix2 h q)
      = h_v52 (F := Ideal) x0 x1 x2 x3 (ix2 h q) + Ideal.log (h_v57 (F := Ideal) x0 x1 x2 x3 (ix2 h q)) := by
  unfold h_v59 h_v58
  exact add_log _ _ h q

theorem host_lse (h : Fin 16) (q : Fin 2064) :
    h_v59 (F := Ideal) x0 x1 x2 x3 (ix2 h q) = ((Real.log (I.tot h (tok q)) : ℝ) : EReal) := by
  have hs : Inputs.sees (tok q) (tok q) := ⟨Nat.le_refl _, by show 112 ≤ 112 + q.val; omega⟩
  obtain ⟨M, hM⟩ := fold_max_real (fun k => h_v51 (F := Ideal) x0 x1 x2 x3 (ix3 h q k)) (I.score h (tok q) (tok q)) (tok q)
    (by rw [host_rows H, if_pos hs]) (fun k => by
      rw [host_rows H]; split
      · exact EReal.coe_lt_top _
      · exact bot_lt_top)
  have hmax : h_v52 (F := Ideal) x0 x1 x2 x3 (ix2 h q) = ((M : ℝ) : EReal) := (host_max h q).trans hM
  have ht := I.tot_pos h (tok q) (Nat.le_add_right _ _)
  have hexp : ∀ k, h_v56 (F := Ideal) x0 x1 x2 x3 (ix3 h q k)
      = (((if Inputs.sees (tok q) k then Real.exp (I.score h (tok q) k) else 0) * Real.exp (-M) : ℝ) : EReal) := by
    intro k
    rw [host_exp, hmax, host_rows H, exp_sub_ite]
    refine congrArg (fun r : ℝ => (r : EReal)) ?_
    split
    · rw [sub_eq_add_neg, Real.exp_add]
    · rw [zero_mul]
  have hsum : h_v57 (F := Ideal) x0 x1 x2 x3 (ix2 h q) = ((I.tot h (tok q) * Real.exp (-M) : ℝ) : EReal) := by
    rw [host_sum]
    simp only [hexp, coe_sum]
    rw [← sum_mul]; rfl
  have hl : 0 < I.tot h (tok q) * Real.exp (-M) := mul_pos ht (Real.exp_pos _)
  rw [host_log, hmax, hsum, Ideal.log_coe, if_neg (not_le.2 hl), Real.log_mul ht.ne' (Real.exp_pos _).ne', Real.log_exp,
    ← EReal.coe_add]
  exact congrArg (fun r : ℝ => (r : EReal)) (by ring)

/-! ### The arrays the blocks are cut from -/

omit H in
theorem host_zero : FloatOps.sitofp (F := Ideal) FTy.f32 0#32 = ((0 : ℝ) : EReal) := by
  show ((((0#32 : BitVec 32).toInt : ℤ) : ℝ) : EReal) = _
  simp

omit H in
theorem host_pad_row (t : Fin 2176) (k : Fin 1024) (ht : 112 ≤ t.val) :
    h_v77 (F := Ideal) x0 x1 x2 x3 (ix2 t k) = h_v59 (F := Ideal) x0 x1 x2 x3 (ix2 (colHead k) ⟨t.val - 112, by omega⟩) := by
  unfold h_v77 h_v76 h_v61 h_v60
  generalize h_v59 (F := Ideal) x0 x1 x2 x3 = y
  pointwise [h_c_11, h_call1_v0]
  have hc : (112 ≤ t.val ∧ t.val - 112 < 2064) ∧ k.val / 64 < 16 := ⟨⟨ht, by omega⟩, by omega⟩
  exact dif_pos hc

omit H in
theorem host_pad_zero (t : Fin 2176) (k : Fin 1024) (ht : ¬112 ≤ t.val) :
    h_v77 (F := Ideal) x0 x1 x2 x3 (ix2 t k) = ((0 : ℝ) : EReal) := by
  unfold h_v77 h_v76 h_v61 h_v60
  generalize h_v59 (F := Ideal) x0 x1 x2 x3 = y
  pointwise [h_c_11, h_call1_v0]
  exact (dif_neg (fun e => ht e.1.1)).trans host_zero

theorem host_v77 (t : Fin 2176) (k : Fin 1024) :
    h_v77 (F := Ideal) x0 x1 x2 x3 (ix2 t k)
      = ((if 112 ≤ t.val then Real.log (I.tot (colHead k) t) else 0 : ℝ) : EReal) := by
  by_cases ht : 112 ≤ t.val
  · have e : tok ⟨t.val - 112, by omega⟩ = t := Fin.ext (by show 112 + (t.val - 112) = t.val; omega)
    rw [host_pad_row t k ht, if_pos ht, host_lse H, e]
  · rw [host_pad_zero t k ht, if_neg ht]

theorem host_v67 (t : Fin 2176) (k : Fin 1024) :
    h_v67 (F := Ideal) x4 (ix2 t k) = ((I.dor t (colHead k) (colLane k) : ℝ) : EReal) := by
  pointwise [h_v67, h_call3_v0, h_c_13]
  unfold Inputs.dor
  by_cases ht : 112 ≤ t.val
  · rw [dif_pos ⟨ht, by omega⟩, dif_pos ht, H.dout]
    exact congrArg (fun j => ((I.dout ⟨t.val - 112, by omega⟩ j : ℝ) : EReal)) (Fin.ext (by
      show k.val = 64 * (k.val / 64) + k.val % 64; omega))
  · rw [dif_neg (fun e => ht e.1), dif_neg ht, host_zero]

theorem host_v63 (t : Fin 2176) (k : Fin 1024) :
    h_v63 (F := Ideal) x1 (ix2 t k) = ((I.c t (colHead k) : ℝ) : EReal) := by
  pointwise [h_v63, h_v62]
  exact H.c _ _

theorem host_v66 (j : Fin 8) (b : Fin 2) (k : Fin 2176) (hb : b.val < 8) :
    h_v66 (F := Ideal) x1 (ix3 j ⟨b.val, hb⟩ k) = ((I.c k (headOf j b) : ℝ) : EReal) := by
  pointwise [h_v66, h_v65, h_v64, h_call2_v0, h_c_12]
  rw [H.c]
  exact congrArg (fun h => ((I.c k h : ℝ) : EReal)) (Fin.ext (by show j.val * 2 + b.val = 2 * j.val + b.val; omega))

theorem host_v71 (l : Fin 128) :
    h_v71 (F := Ideal) x2 (ix2 0 l) = ((I.qg (gainLane l) : ℝ) : EReal) := by
  pointwise [h_v71, h_v70, h_v69, h_v68]
  exact H.qg _

theorem host_v75 (l : Fin 128) :
    h_v75 (F := Ideal) x3 (ix2 0 l) = ((I.kg (gainLane l) : ℝ) : EReal) := by
  pointwise [h_v75, h_v74, h_v73, h_v72]
  exact H.kg _

end Cert.Fox.Ker

end
-- ==== Proof.Lit0.lean ====
/- The first constant table of the host lines: one sixty-fourth inside a head, zero across the two. -/
module

public import proofs.«01_k».proof.Proof.Spec
public import proofs.«01_k».proof.Proof.Gen.KernelIdeal.Value
public import Idealize.ShloMosaic.Lib.Pointwise

@[expose] public section

noncomputable section

namespace Cert.Fox.Ker

open Cert.KernelIdeal Cert.KernelIdeal.Gen Idealize.ShloMosaic Finset

theorem lit0_at : ∀ k l : Fin 128, lit0 (S128x128.rowMajor (ix2 k l)) = if half k = half l then 0x3C800000#32 else 0x00000000#32 := by
  decide +kernel

end Cert.Fox.Ker

end
-- ==== Proof.Lit1.lean ====
/- The second constant table of the host lines: one where the lanes of two columns agree. -/
module

public import proofs.«01_k».proof.Proof.Spec
public import proofs.«01_k».proof.Proof.Gen.KernelIdeal.Value
public import Idealize.ShloMosaic.Lib.Pointwise

@[expose] public section

noncomputable section

namespace Cert.Fox.Ker

open Cert.KernelIdeal Cert.KernelIdeal.Gen Idealize.ShloMosaic Finset

theorem lit1_at : ∀ k l : Fin 128, lit1 (S128x128.rowMajor (ix2 k l)) = if gainLane k = gainLane l then 0x3F800000#32 else 0x00000000#32 := by
  decide +kernel

end Cert.Fox.Ker

end
-- ==== Proof.Stage.lean ====
/- The blocks the points of the grid read, cut from the arrays the host lines leave. -/
module

public import proofs.«01_k».proof.Proof.Host
public import proofs.«01_k».proof.Proof.Lit0
public import proofs.«01_k».proof.Proof.Lit1
public import Idealize.ShloMosaic.Lib.Pipeline.ValueKit

@[expose] public section

noncomputable section

namespace Cert.Fox.Ker

open Cert.KernelIdeal Cert.KernelIdeal.Gen Idealize.ShloMosaic Idealize.ShloMosaic.TcCoe Idealize.SL.Sem Finset

variable (m : (ℓ : Loc nD τ sig) → Buf (Elt Ideal) ℓ) (c : Dev nD)

theorem idx_0 : ∀ t : Fin cfg0.N, win0_0.index t (0 : Fin 2) = 0 ∧ win0_0.index t (1 : Fin 2) = t.val :=
  (by decide +kernel : ∀ t : Fin grid0.N, _)

theorem cut_0 (t : Fin cfg0.N) (s : Fin 2176) (l : Fin 128) :
    iblk m c 0 t (ix2 s l) = V m c main_arg0 (ix2 s ⟨((pt t).val) * 128 + l.val, by omega⟩) := by
  obtain ⟨e0, e1⟩ := idx_0 t
  show V m c main_arg0 (((cfg0.win 0).blk t).view.emb (ix2 s l)) = _
  refine congrArg (V m c main_arg0) ?_
  funext a
  refine Fin.ext ?_
  fin_cases a
  · show (((cfg0.win 0).blk t).view.emb (ix2 s l) (0 : Fin 2)).val = s.val
    blk_simp; rw [e0]; first | rfl | (show _ = s.val; simp)
  · show (((cfg0.win 0).blk t).view.emb (ix2 s l) (1 : Fin 2)).val = ((pt t).val) * 128 + l.val
    blk_simp; rw [e1]; first | rfl | (show _ = ((pt t).val) * 128 + l.val; simp)

theorem idx_1 : ∀ t : Fin cfg0.N, win0_1.index t (0 : Fin 2) = 0 ∧ win0_1.index t (1 : Fin 2) = 8 + t.val :=
  (by decide +kernel : ∀ t : Fin grid0.N, _)

theorem cut_1 (t : Fin cfg0.N) (s : Fin 2176) (l : Fin 128) :
    iblk m c 1 t (ix2 s l) = V m c main_arg0 (ix2 s ⟨(8 + (pt t).val) * 128 + l.val, by omega⟩) := by
  obtain ⟨e0, e1⟩ := idx_1 t
  show V m c main_arg0 (((cfg0.win 1).blk t).view.emb (ix2 s l)) = _
  refine congrArg (V m c main_arg0) ?_
  funext a
  refine Fin.ext ?_
  fin_cases a
  · show (((cfg0.win 1).blk t).view.emb (ix2 s l) (0 : Fin 2)).val = s.val
    blk_simp; rw [e0]; first | rfl | (show _ = s.val; simp)
  · show (((cfg0.win 1).blk t).view.emb (ix2 s l) (1 : Fin 2)).val = (8 + (pt t).val) * 128 + l.val
    blk_simp; rw [e1]; first | rfl | (show _ = (8 + (pt t).val) * 128 + l.val; simp)

theorem idx_2 : ∀ t : Fin cfg0.N, win0_2.index t (0 : Fin 2) = 0 ∧ win0_2.index t (1 : Fin 2) = 16 + t.val :=
  (by decide +kernel : ∀ t : Fin grid0.N, _)

theorem cut_2 (t : Fin cfg0.N) (s : Fin 2176) (l : Fin 128) :
    iblk m c 2 t (ix2 s l) = V m c main_arg0 (ix2 s ⟨(16 + (pt t).val) * 128 + l.val, by omega⟩) := by
  obtain ⟨e0, e1⟩ := idx_2 t
  show V m c main_arg0 (((cfg0.win 2).blk t).view.emb (ix2 s l)) = _
  refine congrArg (V m c main_arg0) ?_
  funext a
  refine Fin.ext ?_
  fin_cases a
  · show (((cfg0.win 2).blk t).view.emb (ix2 s l) (0 : Fin 2)).val = s.val
    blk_simp; rw [e0]; first | rfl | (show _ = s.val; simp)
  · show (((cfg0.win 2).blk t).view.emb (ix2 s l) (1 : Fin 2)).val = (16 + (pt t).val) * 128 + l.val
    blk_simp; rw [e1]; first | rfl | (show _ = (16 + (pt t).val) * 128 + l.val; simp)

theorem idx_3 : ∀ t : Fin cfg0.N, win0_3.index t (0 : Fin 2) = 0 ∧ win0_3.index t (1 : Fin 2) = t.val :=
  (by decide +kernel : ∀ t : Fin grid0.N, _)

theorem cut_3 (t : Fin cfg0.N) (s : Fin 2176) (l : Fin 128) :
    iblk m c 3 t (ix2 s l) = V m c main_v63 (ix2 s ⟨((pt t).val) * 128 + l.val, by omega⟩) := by
  obtain ⟨e0, e1⟩ := idx_3 t
  show V m c main_v63 (((cfg0.win 3).blk t).view.emb (ix2 s l)) = _
  refine congrArg (V m c main_v63) ?_
  funext a
  refine Fin.ext ?_
  fin_cases a
  · show (((cfg0.win 3).blk t).view.emb (ix2 s l) (0 : Fin 2)).val = s.val
    blk_simp; rw [e0]; first | rfl | (show _ = s.val; simp)
  · show (((cfg0.win 3).blk t).view.emb (ix2 s l) (1 : Fin 2)).val = ((pt t).val) * 128 + l.val
    blk_simp; rw [e1]; first | rfl | (show _ = ((pt t).val) * 128 + l.val; simp)

theorem idx_5 : ∀ t : Fin cfg0.N, win0_5.index t (0 : Fin 2) = 0 ∧ win0_5.index t (1 : Fin 2) = 0 :=
  (by decide +kernel : ∀ t : Fin grid0.N, _)

theorem cut_5 (t : Fin cfg0.N) (s : Fin 1) (l : Fin 128) :
    iblk m c 5 t (ix2 s l) = V m c main_v71 (ix2 s ⟨l.val, by omega⟩) := by
  obtain ⟨e0, e1⟩ := idx_5 t
  show V m c main_v71 (((cfg0.win 5).blk t).view.emb (ix2 s l)) = _
  refine congrArg (V m c main_v71) ?_
  funext a
  refine Fin.ext ?_
  fin_cases a
  · show (((cfg0.win 5).blk t).view.emb (ix2 s l) (0 : Fin 2)).val = s.val
    blk_simp; exact e0
  · show (((cfg0.win 5).blk t).view.emb (ix2 s l) (1 : Fin 2)).val = l.val
    blk_simp; rw [e1]; first | rfl | (show _ = l.val; simp)

theorem idx_6 : ∀ t : Fin cfg0.N, win0_6.index t (0 : Fin 2) = 0 ∧ win0_6.index t (1 : Fin 2) = 0 :=
  (by decide +kernel : ∀ t : Fin grid0.N, _)

theorem cut_6 (t : Fin cfg0.N) (s : Fin 1) (l : Fin 128) :
    iblk m c 6 t (ix2 s l) = V m c main_v75 (ix2 s ⟨l.val, by omega⟩) := by
  obtain ⟨e0, e1⟩ := idx_6 t
  show V m c main_v75 (((cfg0.win 6).blk t).view.emb (ix2 s l)) = _
  refine congrArg (V m c main_v75) ?_
  funext a
  refine Fin.ext ?_
  fin_cases a
  · show (((cfg0.win 6).blk t).view.emb (ix2 s l) (0 : Fin 2)).val = s.val
    blk_simp; exact e0
  · show (((cfg0.win 6).blk t).view.emb (ix2 s l) (1 : Fin 2)).val = l.val
    blk_simp; rw [e1]; first | rfl | (show _ = l.val; simp)

theorem idx_7 : ∀ t : Fin cfg0.N, win0_7.index t (0 : Fin 2) = 0 ∧ win0_7.index t (1 : Fin 2) = 0 :=
  (by decide +kernel : ∀ t : Fin grid0.N, _)

theorem cut_7 (t : Fin cfg0.N) (s : Fin 128) (l : Fin 128) :
    iblk m c 7 t (ix2 s l) = V m c main_cst (ix2 s ⟨l.val, by omega⟩) := by
  obtain ⟨e0, e1⟩ := idx_7 t
  show V m c main_cst (((cfg0.win 7).blk t).view.emb (ix2 s l)) = _
  refine congrArg (V m c main_cst) ?_
  funext a
  refine Fin.ext ?_
  fin_cases a
  · show (((cfg0.win 7).blk t).view.emb (ix2 s l) (0 : Fin 2)).val = s.val
    blk_simp; rw [e0]; first | rfl | (show _ = s.val; simp)
  · show (((cfg0.win 7).blk t).view.emb (ix2 s l) (1 : Fin 2)).val = l.val
    blk_simp; rw [e1]; first | rfl | (show _ = l.val; simp)

theorem idx_8 : ∀ t : Fin cfg0.N, win0_8.index t (0 : Fin 2) = 0 ∧ win0_8.index t (1 : Fin 2) = 0 :=
  (by decide +kernel : ∀ t : Fin grid0.N, _)

theorem cut_8 (t : Fin cfg0.N) (s : Fin 128) (l : Fin 128) :
    iblk m c 8 t (ix2 s l) = V m c main_cst_0 (ix2 s ⟨l.val, by omega⟩) := by
  obtain ⟨e0, e1⟩ := idx_8 t
  show V m c main_cst_0 (((cfg0.win 8).blk t).view.emb (ix2 s l)) = _
  refine congrArg (V m c main_cst_0) ?_
  funext a
  refine Fin.ext ?_
  fin_cases a
  · show (((cfg0.win 8).blk t).view.emb (ix2 s l) (0 : Fin 2)).val = s.val
    blk_simp; rw [e0]; first | rfl | (show _ = s.val; simp)
  · show (((cfg0.win 8).blk t).view.emb (ix2 s l) (1 : Fin 2)).val = l.val
    blk_simp; rw [e1]; first | rfl | (show _ = l.val; simp)

theorem idx_9 : ∀ t : Fin cfg0.N, win0_9.index t (0 : Fin 2) = 0 ∧ win0_9.index t (1 : Fin 2) = t.val :=
  (by decide +kernel : ∀ t : Fin grid0.N, _)

theorem cut_9 (t : Fin cfg0.N) (s : Fin 2176) (l : Fin 128) :
    iblk m c 9 t (ix2 s l) = V m c main_v67 (ix2 s ⟨((pt t).val) * 128 + l.val, by omega⟩) := by
  obtain ⟨e0, e1⟩ := idx_9 t
  show V m c main_v67 (((cfg0.win 9).blk t).view.emb (ix2 s l)) = _
  refine congrArg (V m c main_v67) ?_
  funext a
  refine Fin.ext ?_
  fin_cases a
  · show (((cfg0.win 9).blk t).view.emb (ix2 s l) (0 : Fin 2)).val = s.val
    blk_simp; rw [e0]; first | rfl | (show _ = s.val; simp)
  · show (((cfg0.win 9).blk t).view.emb (ix2 s l) (1 : Fin 2)).val = ((pt t).val) * 128 + l.val
    blk_simp; rw [e1]; first | rfl | (show _ = ((pt t).val) * 128 + l.val; simp)

theorem idx_10 : ∀ t : Fin cfg0.N, win0_10.index t (0 : Fin 2) = 0 ∧ win0_10.index t (1 : Fin 2) = t.val :=
  (by decide +kernel : ∀ t : Fin grid0.N, _)

theorem cut_10 (t : Fin cfg0.N) (s : Fin 2176) (l : Fin 128) :
    iblk m c 10 t (ix2 s l) = V m c main_v77 (ix2 s ⟨((pt t).val) * 128 + l.val, by omega⟩) := by
  obtain ⟨e0, e1⟩ := idx_10 t
  show V m c main_v77 (((cfg0.win 10).blk t).view.emb (ix2 s l)) = _
  refine congrArg (V m c main_v77) ?_
  funext a
  refine Fin.ext ?_
  fin_cases a
  · show (((cfg0.win 10).blk t).view.emb (ix2 s l) (0 : Fin 2)).val = s.val
    blk_simp; rw [e0]; first | rfl | (show _ = s.val; simp)
  · show (((cfg0.win 10).blk t).view.emb (ix2 s l) (1 : Fin 2)).val = ((pt t).val) * 128 + l.val
    blk_simp; rw [e1]; first | rfl | (show _ = ((pt t).val) * 128 + l.val; simp)

theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)

theorem cut_4 (t : Fin cfg0.N) (b : Fin 8) (k : Fin 2176) :
    iblk m c 4 t (ix3 0 b k) = V m c main_v66 (ix3 (pt t) b k) := by
  obtain ⟨e0, e1, e2⟩ := idx_4 t
  show V m c main_v66 (((cfg0.win 4).blk t).view.emb (ix3 0 b k)) = _
  refine congrArg (V m c main_v66) ?_
  funext a
  refine Fin.ext ?_
  fin_cases a
  · show (((cfg0.win 4).blk t).view.emb (ix3 0 b k) (0 : Fin 3)).val = (pt t).val
    blk_simp; rw [e0]; first | rfl | (show _ = t.val; simp)
  · show (((cfg0.win 4).blk t).view.emb (ix3 0 b k) (1 : Fin 3)).val = b.val
    blk_simp; rw [e1]; first | rfl | (show _ = b.val; simp)
  · show (((cfg0.win 4).blk t).view.emb (ix3 0 b k) (2 : Fin 3)).val = k.val
    blk_simp; rw [e2]; first | rfl | (show _ = k.val; simp)

theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]

/-- The logarithms of the rows' sums. -/
def lses (I : Inputs) (t : Fin 2176) (h : Fin 16) : ℝ := if 112 ≤ t.val then Real.log (I.tot h t) else 0

theorem isLse (I : Inputs) : I.IsLse (lses I) := by
  intro t h k ht
  unfold lses
  rw [if_pos ht, sub_eq_add_neg, Real.exp_add, Real.exp_neg, Real.exp_log (I.tot_pos h t ht)]
  rfl

variable {m c} {I : Inputs}

theorem stage (H : Ref.Holds I (m ((c : Thread nD τ).loc main_arg0)) (m ((c : Thread nD τ).loc main_arg1))
    (m ((c : Thread nD τ).loc main_arg2)) (m ((c : Thread nD τ).loc main_arg3)) (m ((c : Thread nD τ).loc main_arg4))) :
    Stage m I (lses I) c := by
  intro t
  refine ⟨?_, ?_, ?_, ?_, ?_, ?_, ?_, ?_, ?_, ?_, ?_, isLse I⟩
  · intro s l
    rw [cut_0, V_main_arg0]
    refine (H.u _ _).trans (congrArg (fun j => ((I.u s j : ℝ) : EReal)) (Fin.ext ?_))
    show (pt t).val * 128 + l.val = 64 * (2 * (pt t).val + l.val / 64) + l.val % 64; omega
  · intro s l
    rw [cut_1, V_main_arg0]
    refine (H.u _ _).trans (congrArg (fun j => ((I.u s j : ℝ) : EReal)) (Fin.ext ?_))
    show (8 + (pt t).val) * 128 + l.val = 1024 + (64 * (2 * (pt t).val + l.val / 64) + l.val % 64); omega
  · intro s l
    rw [cut_2, V_main_arg0]
    refine (H.u _ _).trans (congrArg (fun j => ((I.u s j : ℝ) : EReal)) (Fin.ext ?_))
    show (16 + (pt t).val) * 128 + l.val = 2048 + (64 * (2 * (pt t).val + l.val / 64) + l.val % 64); omega
  · intro s l
    rw [cut_3, V_v63, host_v63 H, colHead_of (pt t) l _ rfl]
  · intro b k
    rw [cut_4, V_v66]
    exact host_v66 H (pt t) b k _
  · intro l
    rw [cut_5, V_v71]
    exact host_v71 H l
  · intro l
    rw [cut_6, V_v75]
    exact host_v75 H l
  · intro k l
    rw [cut_7, V_cst]
    show Ideal.ofBits .f32 (lit0 (S128x128.rowMajor (ix2 k l))) = _
    rw [lit0_at]
    split
    · exact bits_64th
    · exact bits_zero
  · intro k l
    rw [cut_8, V_cst_0]
    show Ideal.ofBits .f32 (lit1 (S128x128.rowMajor (ix2 k l))) = _
    rw [lit1_at]
    split
    · exact bits_one
    · exact bits_zero
  · intro s l
    rw [cut_9, V_v67, host_v67 H, colHead_of (pt t) l _ rfl, colLane_of (pt t) l _ rfl]
    rfl
  · intro s l
    rw [cut_10, V_v77, host_v77 H, colHead_of (pt t) l _ rfl]
    rfl

end Cert.Fox.Ker

end
-- ==== Proof.SwigluRef.lean ====
/- The gradients of the gate and up products of a SwiGLU block over the real numbers, and the reference's value of them. -/
module

public import proofs.«01_k».proof.Proof.Scalars
public import proofs.«01_k».proof.Proof.Gen.Reference2Ideal.Read
public import Idealize.ShloMosaic.Lib.Pointwise

@[expose] public section

noncomputable section

namespace Cert.Swiglu

open Cert.Fox Idealize.ShloMosaic Finset

/-- What the call is given: the gradient of the block's output, the down projection, and the gate and up products. -/
structure Inputs where
  dout : Fin 2176 → Fin 2048 → ℝ
  wd : Fin 5632 → Fin 2048 → ℝ
  g : Fin 2176 → Fin 5632 → ℝ
  u : Fin 2176 → Fin 5632 → ℝ

/-- The logistic function. -/
def sg (x : ℝ) : ℝ := (1 + Real.exp (-x))⁻¹

variable (I : Inputs)

/-- The output's gradient through the down projection, before the half. -/
def Inputs.acc (t : Fin 2176) (j : Fin 5632) : ℝ := ∑ k, I.dout t k * I.wd j k

/-- The gradient of the gate product. -/
def Inputs.dg (t : Fin 2176) (j : Fin 5632) : ℝ :=
  1 / 2 * I.acc t j * I.u t j * sg (I.g t j) * (1 + I.g t j * (1 - sg (I.g t j)))

/-- The gradient of the up product. -/
def Inputs.du (t : Fin 2176) (j : Fin 5632) : ℝ := 1 / 2 * I.acc t j * I.g t j * sg (I.g t j)

theorem bits_half : Ideal.ofBits .f32 0x3F000000#32 = ((1 / 2 : ℝ) : EReal) := by
  simp [Ideal.ofBits, Ideal.ieee, -EReal.coe_mul]; norm_num

theorem logistic_real (x : ℝ) : Ideal.logistic (x : EReal) = ((sg x : ℝ) : EReal) := Ideal.logistic_coe x

namespace Ref

open Cert.Reference2Ideal Cert.Reference2Ideal.Gen Cert.Reference2Ideal.Read

variable (x0 : (⟨S2176x2048, .bf16⟩ : BufTy).Contents (Elt Ideal)) (x1 : (⟨S5632x2048, .bf16⟩ : BufTy).Contents (Elt Ideal))
  (x2 x3 : (⟨S2176x5632, .bf16⟩ : BufTy).Contents (Elt Ideal))

/-- The arguments hold the real numbers of `I`. -/
structure Holds : Prop where
  dout : ∀ t k, x0 (ix2 t k) = ((I.dout t k : ℝ) : EReal)
  wd : ∀ j k, x1 (ix2 j k) = ((I.wd j k : ℝ) : EReal)
  g : ∀ t j, x2 (ix2 t j) = ((I.g t j : ℝ) : EReal)
  u : ∀ t j, x3 (ix2 t j) = ((I.u t j : ℝ) : EReal)

variable {I x0 x1 x2 x3} (H : Holds I x0 x1 x2 x3)
include H

theorem sg_at (t : Fin 2176) (j : Fin 5632) :
    val_main_v1_2 (F := Ideal) x2 (ix2 t j) = ((sg (I.g t j) : ℝ) : EReal) := by
  have h : (1 + Real.exp (-I.g t j)) ≠ 0 := by positivity
  pointwise [val_main_v1_2, val_main_call0_v4, val_main_call0_cst_0, val_main_call0_v3, val_main_call0_v2, val_main_call0_cst,
    val_main_call0_v1, val_main_call0_v0, val_main_v0]
  rw [H.g, ← EReal.coe_one, ← EReal.coe_neg, Ideal.exp_coe, ← EReal.coe_add, div_real h, one_div]
  rfl

theorem acc_at (t : Fin 2176) (j : Fin 5632) :
    val_main_v11 (F := Ideal) x0 x1 (ix2 t j) = ((1 / 2 * I.acc t j : ℝ) : EReal) := by
  pointwise [val_main_v11, val_main_v10, val_main_v9, val_main_cst_0, val_main_v8, val_main_v4]
  simp only [H.dout, H.wd, bits_half, ← EReal.coe_mul, coe_sum]
  refine congrArg (fun r : ℝ => (r : EReal)) ?_
  unfold Inputs.acc
  rw [mul_sum]
  exact sum_congr rfl fun k _ => mul_assoc _ _ _

theorem du_at (t : Fin 2176) (j : Fin 5632) :
    val_main_v14 (F := Ideal) x0 x1 x2 (ix2 t j) = ((I.du t j : ℝ) : EReal) := by
  pointwise [val_main_v14, val_main_v12, val_main_v1_0, val_main_v0]
  rw [H.g, sg_at H, acc_at H, ← EReal.coe_mul, ← EReal.coe_mul]
  refine congrArg (fun r : ℝ => (r : EReal)) ?_
  unfold Inputs.du
  ring

theorem dg_at (t : Fin 2176) (j : Fin 5632) :
    val_main_v16 (F := Ideal) x0 x1 x2 x3 (ix2 t j) = ((I.dg t j : ℝ) : EReal) := by
  pointwise [val_main_v16, val_main_v15, val_main_call1_v2, val_main_call1_v1, val_main_call1_v0, val_main_v13, val_main_v2,
    val_main_v1_1, val_main_call0_v7, val_main_call0_v6, val_main_call0_cst_1, val_main_v0]
  simp only [H.g, H.u, sg_at H, acc_at H, ← EReal.coe_one, ← EReal.coe_mul, ← EReal.coe_sub, ← EReal.coe_add]
  refine congrArg (fun r : ℝ => (r : EReal)) ?_
  unfold Inputs.dg
  ring

end Ref

end Cert.Swiglu

end
-- ==== Proof.SwigluKer.lean ====
/- The kernel's gradients of the gate and up products: each tile adds two products of 1024 columns, then applies the epilogue. -/
module

public import proofs.«01_k».proof.Proof.SwigluRef
public import proofs.«01_k».proof.Proof.Gen.Kernel2Ideal.Value
public import Idealize.ShloMosaic.Lib.Pointwise
public import Idealize.ShloMosaic.Lib.Pipeline.ValueKit

@[expose] public section

noncomputable section

namespace Cert.Swiglu.Ker

open Cert.Fox Cert.Kernel2Ideal Cert.Kernel2Ideal.Gen Idealize.ShloMosaic Idealize.ShloMosaic.TcCoe Idealize.SL.Sem Finset

theorem hz : (![0, 0] : Fin 2 → Nat) = fun _ => 0 := funext fun a => by fin_cases a <;> rfl

/-! ### The two cases of a point -/

section
variable (c : Dev nD) (i : grid0.Coords)
  (a3 : Memref sig .tc .vmem S544x1024 .bf16) (h3 : a3.IsWhole)
  (a4 : Memref sig .tc .vmem S1408x1024 .bf16) (h4 : a4.IsWhole)
  (a5 : Memref sig .tc .vmem S544x1408 .bf16) (h5 : a5.IsWhole)
  (a6 : Memref sig .tc .vmem S544x1408 .bf16) (h6 : a6.IsWhole)
  (a7 : Memref sig .tc .vmem S544x1408 .bf16) (h7 : a7.IsWhole)
  (a8 : Memref sig .tc .vmem S544x1408 .bf16) (h8 : a8.IsWhole)
  (a9 : Memref sig .tc .vmem S544x1408 .f32) (h9 : a9.IsWhole)
  (x0 : Vec Ideal S544x1024 .bf16) (x1 : Vec Ideal S1408x1024 .bf16) (x2 x3 : Vec Ideal S544x1408 .bf16)
  (xs : Vec Ideal S544x1408 .f32)

/-- The first of a tile's two points leaves in the scratch buffer zero plus the product. -/
theorem sout_A (hc0 : cond0_0 i) (hc1 : ¬cond0_1 i) :
    sout0_A_0 c i a3 h3 a4 h4 a5 h5 a6 h6 a7 h7 a8 h8 a9 h9 hc0 hc1 x0 x1 x2 x3 = k0_pay2 k0_pay1 x0 x1 := by
  unfold sout0_A_0
  rw [View.read_writes_eq_canon _ _ _ (scover0_A_0 c i a3 h3 a4 h4 a5 h5 a6 h6 a7 h7 a8 h8 a9 h9 hc0 hc1 x0 x1 x2 x3)]
  unfold kernelRun0_A
  dsimp only
  sl_unfold_words
  rw [View.canon_cons_unit_zero (S := S544x1408) hz, View.readCov_unit_zero (S := S544x1408) _ hz]
  simp only [View.readAt_eq_ld, h3.read_unread, h4.read_unread, View.ld_unit_zero (S := S544x1024) hz,
    View.ld_unit_zero (S := S1408x1024) hz]

/-- The second writes the gate's gradient from the scratch buffer plus the product. -/
theorem out_B_4 (hc0 : ¬cond0_0 i) (hc1 : cond0_1 i) :
    out0_B_4 c i a3 h3 a4 h4 a5 h5 a6 h6 a7 h7 a8 h8 a9 h9 hc0 hc1 x0 x1 x2 x3 xs = k0_pay6 (k0_pay2 xs x0 x1) x2 x3 := by
  unfold out0_B_4
  rw [View.read_writes_eq_canon _ _ _ (cover0_B_4 c i a3 h3 a4 h4 a5 h5 a6 h6 a7 h7 a8 h8 a9 h9 hc0 hc1 x0 x1 x2 x3 xs)]
  unfold kernelRun0_B
  dsimp only
  sl_unfold_words
  rw [View.canon_unit_zero (S := S544x1408) hz, View.readCov_unit_zero (S := S544x1408) _ hz]
  simp only [View.readAt_eq_ld, h3.read_unread, h4.read_unread, h5.read_unread, h6.read_unread, h9.read_unread,
    View.ld_unit_zero (S := S544x1024) hz, View.ld_unit_zero (S := S1408x1024) hz, View.ld_unit_zero (S := S544x1408) hz]

/-- … and the up product's. -/
theorem out_B_5 (hc0 : ¬cond0_0 i) (hc1 : cond0_1 i) :
    out0_B_5 c i a3 h3 a4 h4 a5 h5 a6 h6 a7 h7 a8 h8 a9 h9 hc0 hc1 x0 x1 x2 x3 xs = k0_pay7 (k0_pay2 xs x0 x1) x2 := by
  unfold out0_B_5
  rw [View.read_writes_eq_canon _ _ _ (cover0_B_5 c i a3 h3 a4 h4 a5 h5 a6 h6 a7 h7 a8 h8 a9 h9 hc0 hc1 x0 x1 x2 x3 xs)]
  unfold kernelRun0_B
  dsimp only
  sl_unfold_words
  rw [View.canon_unit_zero (S := S544x1408) hz, View.readCov_unit_zero (S := S544x1408) _ hz]
  simp only [View.readAt_eq_ld, h3.read_unread, h4.read_unread, h5.read_unread, h6.read_unread, h9.read_unread,
    View.ld_unit_zero (S := S544x1024) hz, View.ld_unit_zero (S := S1408x1024) hz, View.ld_unit_zero (S := S544x1408) hz]

end

/-! ### What the payloads compute -/

section
variable (x0 : Vec Ideal S544x1024 .bf16) (x1 : Vec Ideal S1408x1024 .bf16) (x2 x3 : Vec Ideal S544x1408 .bf16)
  (xs : Vec Ideal S544x1408 .f32)

theorem pay1_at (r : Fin 544) (l : Fin 1408) : k0_pay1 (F := Ideal) (ix2 r l) = 0 := by
  unfold k0_pay1
  pointwise

theorem pay2_at (r : Fin 544) (l : Fin 1408) :
    k0_pay2 (F := Ideal) xs x0 x1 (ix2 r l) = xs (ix2 r l) + ∑ k : Fin 1024, x0 (ix2 r k) * x1 (ix2 l k) := by
  unfold k0_pay2
  pointwise

/-- Over the reals: what the scratch buffer held plus the product. -/
theorem pay2_real (r : Fin 544) (l : Fin 1408) (p : ℝ) (a b : Fin 1024 → ℝ) (hp : xs (ix2 r l) = ((p : ℝ) : EReal))
    (ha : ∀ k, x0 (ix2 r k) = ((a k : ℝ) : EReal)) (hb : ∀ k, x1 (ix2 l k) = ((b k : ℝ) : EReal)) :
    k0_pay2 (F := Ideal) xs x0 x1 (ix2 r l) = ((p + ∑ k, a k * b k : ℝ) : EReal) := by
  rw [pay2_at, hp, EReal.coe_add, ← coe_sum]
  simp only [ha, hb, EReal.coe_mul]

theorem pay6_at (r : Fin 544) (l : Fin 1408) (a g u : ℝ) (ha : xs (ix2 r l) = ((a : ℝ) : EReal))
    (hg : x2 (ix2 r l) = ((g : ℝ) : EReal)) (hu : x3 (ix2 r l) = ((u : ℝ) : EReal)) :
    k0_pay6 (F := Ideal) xs x2 x3 (ix2 r l) = ((1 / 2 * a * u * sg g * (1 + g * (1 - sg g)) : ℝ) : EReal) := by
  unfold k0_pay6 k0_pay5 k0_pay4 k0_pay3
  pointwise
  simp only [ha, hg, hu, bits_half, ← EReal.coe_one, logistic_real, ← EReal.coe_mul, ← EReal.coe_sub, ← EReal.coe_add]

theorem pay7_at (r : Fin 544) (l : Fin 1408) (a g : ℝ) (ha : xs (ix2 r l) = ((a : ℝ) : EReal))
    (hg : x2 (ix2 r l) = ((g : ℝ) : EReal)) :
    k0_pay7 (F := Ideal) xs x2 (ix2 r l) = ((1 / 2 * a * g * sg g : ℝ) : EReal) := by
  unfold k0_pay7 k0_pay5 k0_pay4 k0_pay3
  pointwise
  simp only [ha, hg, bits_half, ← EReal.coe_one, logistic_real, ← EReal.coe_mul, ← EReal.coe_sub, ← EReal.coe_add]

end

end Cert.Swiglu.Ker

end
-- ==== Proof.SwigluOut.lean ====
/- The kernel's two arrays, tile by tile. -/
module

public import proofs.«01_k».proof.Proof.SwigluKer

@[expose] public section

noncomputable section

namespace Cert.Swiglu.Ker

open Cert.Fox Cert.Kernel2Ideal Cert.Kernel2Ideal.Gen Idealize.ShloMosaic Idealize.ShloMosaic.TcCoe Idealize.SL.Sem Finset

variable (m : (ℓ : Loc nD τ sig) → Buf (Elt Ideal) ℓ) (c : Dev nD)

theorem lt_N (t : Fin cfg0.N) : t.val < 32 := lt_of_lt_of_eq t.isLt N_0

/-- Row `s` of the row tile of point `t`. -/
def row (t : Fin cfg0.N) (s : Fin 544) : Fin 2176 := ⟨t.val / 8 * 544 + s.val, by have := lt_N t; omega⟩

/-- Column `l` of the column tile of point `t`. -/
def col (t : Fin cfg0.N) (l : Fin 1408) : Fin 5632 := ⟨t.val / 2 % 4 * 1408 + l.val, by omega⟩

/-- Column `k` of the half of the summed axis point `t` takes. -/
def half (t : Fin cfg0.N) (k : Fin 1024) : Fin 2048 := ⟨t.val % 2 * 1024 + k.val, by omega⟩

theorem idx_0 : ∀ t : Fin cfg0.N, win0_0.index t (0 : Fin 2) = t.val / 8 ∧ win0_0.index t (1 : Fin 2) = t.val % 2 :=
  (by decide +kernel : ∀ t : Fin grid0.N, _)

theorem cut_0 (t : Fin cfg0.N) (s : Fin 544) (l : Fin 1024) :
    iblk m c 0 t (ix2 s l) = V m c main_arg0 (ix2 (row t s) (half t l)) := by
  obtain ⟨e0, e1⟩ := idx_0 t
  show V m c main_arg0 (((cfg0.win 0).blk t).view.emb (ix2 s l)) = _
  refine congrArg (V m c main_arg0) ?_
  funext a
  refine Fin.ext ?_
  fin_cases a
  · show (((cfg0.win 0).blk t).view.emb (ix2 s l) (0 : Fin 2)).val = t.val / 8 * 544 + s.val
    blk_simp; rw [e0]
  · show (((cfg0.win 0).blk t).view.emb (ix2 s l) (1 : Fin 2)).val = t.val % 2 * 1024 + l.val
    blk_simp; rw [e1]

theorem idx_1 : ∀ t : Fin cfg0.N, win0_1.index t (0 : Fin 2) = t.val / 2 % 4 ∧ win0_1.index t (1 : Fin 2) = t.val % 2 :=
  (by decide +kernel : ∀ t : Fin grid0.N, _)

theorem cut_1 (t : Fin cfg0.N) (s : Fin 1408) (l : Fin 1024) :
    iblk m c 1 t (ix2 s l) = V m c main_arg1 (ix2 (col t s) (half t l)) := by
  obtain ⟨e0, e1⟩ := idx_1 t
  show V m c main_arg1 (((cfg0.win 1).blk t).view.emb (ix2 s l)) = _
  refine congrArg (V m c main_arg1) ?_
  funext a
  refine Fin.ext ?_
  fin_cases a
  · show (((cfg0.win 1).blk t).view.emb (ix2 s l) (0 : Fin 2)).val = t.val / 2 % 4 * 1408 + s.val
    blk_simp; rw [e0]
  · show (((cfg0.win 1).blk t).view.emb (ix2 s l) (1 : Fin 2)).val = t.val % 2 * 1024 + l.val
    blk_simp; rw [e1]

theorem idx_2 : ∀ t : Fin cfg0.N, win0_2.index t (0 : Fin 2) = t.val / 8 ∧ win0_2.index t (1 : Fin 2) = t.val / 2 % 4 :=
  (by decide +kernel : ∀ t : Fin grid0.N, _)

theorem cut_2 (t : Fin cfg0.N) (s : Fin 544) (l : Fin 1408) :
    iblk m c 2 t (ix2 s l) = V m c main_arg2 (ix2 (row t s) (col t l)) := by
  obtain ⟨e0, e1⟩ := idx_2 t
  show V m c main_arg2 (((cfg0.win 2).blk t).view.emb (ix2 s l)) = _
  refine congrArg (V m c main_arg2) ?_
  funext a
  refine Fin.ext ?_
  fin_cases a
  · show (((cfg0.win 2).blk t).view.emb (ix2 s l) (0 : Fin 2)).val = t.val / 8 * 544 + s.val
    blk_simp; rw [e0]
  · show (((cfg0.win 2).blk t).view.emb (ix2 s l) (1 : Fin 2)).val = t.val / 2 % 4 * 1408 + l.val
    blk_simp; rw [e1]

theorem idx_3 : ∀ t : Fin cfg0.N, win0_3.index t (0 : Fin 2) = t.val / 8 ∧ win0_3.index t (1 : Fin 2) = t.val / 2 % 4 :=
  (by decide +kernel : ∀ t : Fin grid0.N, _)

theorem cut_3 (t : Fin cfg0.N) (s : Fin 544) (l : Fin 1408) :
    iblk m c 3 t (ix2 s l) = V m c main_arg3 (ix2 (row t s) (col t l)) := by
  obtain ⟨e0, e1⟩ := idx_3 t
  show V m c main_arg3 (((cfg0.win 3).blk t).view.emb (ix2 s l)) = _
  refine congrArg (V m c main_arg3) ?_
  funext a
  refine Fin.ext ?_
  fin_cases a
  · show (((cfg0.win 3).blk t).view.emb (ix2 s l) (0 : Fin 2)).val = t.val / 8 * 544 + s.val
    blk_simp; rw [e0]
  · show (((cfg0.win 3).blk t).view.emb (ix2 s l) (1 : Fin 2)).val = t.val / 2 % 4 * 1408 + l.val
    blk_simp; rw [e1]

/-- A sum over the 2048 columns, one half after the other. -/
theorem sum_halves (f : Fin 2048 → ℝ) :
    (∑ k : Fin 1024, f ⟨k.val, by omega⟩) + ∑ k : Fin 1024, f ⟨1024 + k.val, by omega⟩ = ∑ k, f k :=
  (Fin.sum_univ_add (a := 1024) (b := 1024) f).symm

section
variable {m c} {I : Inputs} (H : Ref.Holds I (V m c main_arg0) (V m c main_arg1) (V m c main_arg2) (V m c main_arg3))
include H

/-- After the first of a tile's two points the scratch buffer holds the first half of the sum. -/
theorem scratch_even (t : Fin cfg0.N) (h : t.val % 2 = 0) (s : Fin 544) (l : Fin 1408) :
    (outsAt0 m c t.val t.isLt).2.2 (ix2 s l)
      = ((∑ k : Fin 1024, I.dout (row t s) (half t k) * I.wd (col t l) (half t k) : ℝ) : EReal) := by
  simp only [outsAt0_A m c t h (by omega)]
  rw [sout_A]
  refine (pay2_real _ _ _ s l 0 (fun k => I.dout (row t s) (half t k)) (fun k => I.wd (col t l) (half t k))
    ((pay1_at s l).trans EReal.coe_zero.symm) (fun k => (cut_0 m c t s k).trans (H.dout _ _))
    (fun k => (cut_1 m c t l k).trans (H.wd _ _))).trans ?_
  rw [zero_add]

/-- At the second point the scratch buffer comes to hold the whole sum. -/
theorem whole_odd (t : Fin cfg0.N) (h : t.val % 2 = 1) (s : Fin 544) (l : Fin 1408) :
    k0_pay2 (F := Ideal) (outsAt0 m c (t.val - 1) (Nat.lt_of_le_of_lt (Nat.sub_le _ _) t.isLt)).2.2 (iblk m c 0 t) (iblk m c 1 t) (ix2 s l)
      = ((I.acc (row t s) (col t l) : ℝ) : EReal) := by
  have e := scratch_even H ⟨t.val - 1, Nat.lt_of_le_of_lt (Nat.sub_le _ _) t.isLt⟩ (by show (t.val - 1) % 2 = 0; omega) s l
  refine (pay2_real _ _ _ s l _ (fun k => I.dout (row t s) (half t k)) (fun k => I.wd (col t l) (half t k)) e
    (fun k => (cut_0 m c t s k).trans (H.dout _ _)) (fun k => (cut_1 m c t l k).trans (H.wd _ _))).trans ?_
  refine congrArg (fun r : ℝ => (r : EReal)) ?_
  unfold Inputs.acc
  rw [← sum_halves fun k => I.dout (row t s) k * I.wd (col t l) k]
  have hr : row ⟨t.val - 1, Nat.lt_of_le_of_lt (Nat.sub_le _ _) t.isLt⟩ s = row t s := Fin.ext (by
    show (t.val - 1) / 8 * 544 + s.val = t.val / 8 * 544 + s.val; omega)
  have hc : col ⟨t.val - 1, Nat.lt_of_le_of_lt (Nat.sub_le _ _) t.isLt⟩ l = col t l := Fin.ext (by
    show (t.val - 1) / 2 % 4 * 1408 + l.val = t.val / 2 % 4 * 1408 + l.val; omega)
  rw [hr, hc]
  refine congrArg₂ (· + ·) (sum_congr rfl fun k _ => ?_) (sum_congr rfl fun k _ => ?_)
  · have hk : half ⟨t.val - 1, Nat.lt_of_le_of_lt (Nat.sub_le _ _) t.isLt⟩ k = ⟨k.val, by omega⟩ := Fin.ext (by
      show (t.val - 1) % 2 * 1024 + k.val = k.val; omega)
    rw [hk]
  · have hk : half t k = ⟨1024 + k.val, by omega⟩ := Fin.ext (by
      show t.val % 2 * 1024 + k.val = 1024 + k.val; omega)
    rw [hk]

theorem tile_4 (t : Fin cfg0.N) (h1 : t.val % 2 = 1) (s : Fin 544) (l : Fin 1408) :
    (outsAt0 m c t.val t.isLt).1 (ix2 s l) = ((I.dg (row t s) (col t l) : ℝ) : EReal) := by
  simp only [outsAt0_B m c t (by omega) h1]
  rw [out_B_4]
  exact pay6_at _ _ _ s l _ _ _ (whole_odd H t h1 s l) ((cut_2 m c t s l).trans (H.g _ _)) ((cut_3 m c t s l).trans (H.u _ _))

omit H in
theorem idx_4 : ∀ t : Fin cfg0.N, win0_4.index t (0 : Fin 2) = t.val / 8 ∧ win0_4.index t (1 : Fin 2) = t.val / 2 % 4 :=
  (by decide +kernel : ∀ t : Fin grid0.N, _)

theorem arr_4 (t : Fin 2176) (j : Fin 5632) :
    (dats m 0 c).arrAt 4 cfg0.N (ix2 t j) = ((I.dg t j : ℝ) : EReal) := by
  have e : (dats m 0 c).arrAt 4 cfg0.N = fun i : S2176x5632.Idx => ((I.dg (i 0) (i 1) : ℝ) : EReal) := by
    refine (dats m 0 c).arrAt_eq_of_covers 4 _ (by decide +kernel) fun t hf y => ?_
    obtain ⟨e0, e1⟩ := idx_4 t
    have h0 : ((cfg0.win 4).blk t).view.emb y (0 : Fin 2) = row t (y (0 : Fin 2)) := Fin.ext (by
      show _ = t.val / 8 * 544 + (y (0 : Fin 2)).val
      blk_simp; rw [e0])
    have h1 : ((cfg0.win 4).blk t).view.emb y (1 : Fin 2) = col t (y (1 : Fin 2)) := Fin.ext (by
      show _ = t.val / 2 % 4 * 1408 + (y (1 : Fin 2)).val
      blk_simp; rw [e1])
    have hy : y = ix2 (y (0 : Fin 2)) (y (1 : Fin 2)) := by funext a; fin_cases a <;> rfl
    have ho : t.val % 2 = 1 := (flush0_4 t).mp hf
    show (dats m 0 c).after 4 t y = _
    rw [after0_4, hy]
    refine (tile_4 H t ho _ _).trans ?_
    rw [← hy]
    refine congrArg (fun r : ℝ => (r : EReal)) ?_
    rw [h0, h1]
  rw [e]
  rfl

theorem tile_5 (t : Fin cfg0.N) (h1 : t.val % 2 = 1) (s : Fin 544) (l : Fin 1408) :
    (outsAt0 m c t.val t.isLt).2.1 (ix2 s l) = ((I.du (row t s) (col t l) : ℝ) : EReal) := by
  simp only [outsAt0_B m c t (by omega) h1]
  rw [out_B_5]
  exact pay7_at _ _ s l _ _ (whole_odd H t h1 s l) ((cut_2 m c t s l).trans (H.g _ _))

omit H in
theorem idx_5 : ∀ t : Fin cfg0.N, win0_5.index t (0 : Fin 2) = t.val / 8 ∧ win0_5.index t (1 : Fin 2) = t.val / 2 % 4 :=
  (by decide +kernel : ∀ t : Fin grid0.N, _)

theorem arr_5 (t : Fin 2176) (j : Fin 5632) :
    (dats m 0 c).arrAt 5 cfg0.N (ix2 t j) = ((I.du t j : ℝ) : EReal) := by
  have e : (dats m 0 c).arrAt 5 cfg0.N = fun i : S2176x5632.Idx => ((I.du (i 0) (i 1) : ℝ) : EReal) := by
    refine (dats m 0 c).arrAt_eq_of_covers 5 _ (by decide +kernel) fun t hf y => ?_
    obtain ⟨e0, e1⟩ := idx_5 t
    have h0 : ((cfg0.win 5).blk t).view.emb y (0 : Fin 2) = row t (y (0 : Fin 2)) := Fin.ext (by
      show _ = t.val / 8 * 544 + (y (0 : Fin 2)).val
      blk_simp; rw [e0])
    have h1 : ((cfg0.win 5).blk t).view.emb y (1 : Fin 2) = col t (y (1 : Fin 2)) := Fin.ext (by
      show _ = t.val / 2 % 4 * 1408 + (y (1 : Fin 2)).val
      blk_simp; rw [e1])
    have hy : y = ix2 (y (0 : Fin 2)) (y (1 : Fin 2)) := by funext a; fin_cases a <;> rfl
    have ho : t.val % 2 = 1 := (flush0_5 t).mp hf
    show (dats m 0 c).after 5 t y = _
    rw [after0_5, hy]
    refine (tile_5 H t ho _ _).trans ?_
    rw [← hy]
    refine congrArg (fun r : ℝ => (r : EReal)) ?_
    rw [h0, h1]
  rw [e]
  rfl

end

end Cert.Swiglu.Ker

end
-- ==== Proof.SwigluClaim.lean ====
/- The SwiGLU block's gradients: the run of the reference, and its two results equal to the kernel's. -/
module

public import proofs.«01_k».proof.Defs
public import proofs.«01_k».proof.Proof.SwigluOut
public import proofs.«01_k».proof.Proof.Finite
public import proofs.«01_k».proof.Proof.Gen.Kernel2Ideal
public import proofs.«01_k».proof.Proof.Gen.Reference2Ideal
public import proofs.«01_k».proof.Proof.Gen.Reference2Ideal.Run
public import proofs.«01_k».proof.Proof.Gen.Pre_finite2

@[expose] public section

noncomputable section

namespace Cert.Swiglu

open Cert.Fox Idealize.ShloMosaic Idealize.SL.Sem Finset

/-- The real numbers four arrays hold. -/
def inputsOf (x0 : FVec Ideal Cert.Reference2Ideal.S2176x2048 .bf16) (x1 : FVec Ideal Cert.Reference2Ideal.S5632x2048 .bf16)
    (x2 x3 : FVec Ideal Cert.Reference2Ideal.S2176x5632 .bf16) : Inputs where
  dout t k := EReal.toReal (x0 (ix2 t k))
  wd j k := EReal.toReal (x1 (ix2 j k))
  g t j := EReal.toReal (x2 (ix2 t j))
  u t j := EReal.toReal (x3 (ix2 t j))

theorem holds_of_finite [Cert.Pre_finite2.Facts] (x0 : FVec Ideal Cert.Reference2Ideal.S2176x2048 .bf16)
    (x1 : FVec Ideal Cert.Reference2Ideal.S5632x2048 .bf16) (x2 x3 : FVec Ideal Cert.Reference2Ideal.S2176x5632 .bf16)
    (h0 : (Cert.Pre_finite2.fn (F := Ideal) x0 x1 x2 x3).1 = fun _ => 1#1)
    (h1 : (Cert.Pre_finite2.fn (F := Ideal) x0 x1 x2 x3).2.1 = fun _ => 1#1)
    (h2 : (Cert.Pre_finite2.fn (F := Ideal) x0 x1 x2 x3).2.2.1 = fun _ => 1#1)
    (h3 : (Cert.Pre_finite2.fn (F := Ideal) x0 x1 x2 x3).2.2.2 = fun _ => 1#1) :
    Ref.Holds (inputsOf x0 x1 x2 x3) x0 x1 x2 x3 where
  dout t k := real_of_between _ (congrFun h0 (ix2 t k))
  wd j k := real_of_between _ (congrFun h1 (ix2 j k))
  g t j := real_of_between _ (congrFun h2 (ix2 t j))
  u t j := real_of_between _ (congrFun h3 (ix2 t j))

section
variable {m : (ℓ : Loc Cert.Kernel2Ideal.nD Cert.Kernel2Ideal.τ Cert.Kernel2Ideal.sig) → Buf (Elt Ideal) ℓ}
  {c : Dev Cert.Kernel2Ideal.nD} {I : Inputs}

open Cert.Kernel2Ideal Cert.Kernel2Ideal.Gen Cert.Reference2Ideal.Read

theorem same_dg (H : Ref.Holds I (V m c main_arg0) (V m c main_arg1) (V m c main_arg2) (V m c main_arg3)) :
    val_main_v16 (F := Ideal) (V m c main_arg0) (V m c main_arg1) (V m c main_arg2) (V m c main_arg3) = (dats m 0 c).arrAt 4 cfg0.N := by
  funext i
  obtain ⟨t, j, rfl⟩ : ∃ (t : Fin 2176) (j : Fin 5632), i = ix2 t j :=
    ⟨i 0, i 1, by funext a; fin_cases a <;> rfl⟩
  exact (Ref.dg_at H t j).trans (Ker.arr_4 H t j).symm

theorem same_du (H : Ref.Holds I (V m c main_arg0) (V m c main_arg1) (V m c main_arg2) (V m c main_arg3)) :
    val_main_v14 (F := Ideal) (V m c main_arg0) (V m c main_arg1) (V m c main_arg2) = (dats m 0 c).arrAt 5 cfg0.N := by
  funext i
  obtain ⟨t, j, rfl⟩ : ∃ (t : Fin 2176) (j : Fin 5632), i = ix2 t j :=
    ⟨i 0, i 1, by funext a; fin_cases a <;> rfl⟩
  exact (Ref.du_at H t j).trans (Ker.arr_5 H t j).symm

end

theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

theorem equal_results : Cert.algebraic_Kernel2Ideal_Reference2Ideal_pre_finite2 := by
  intro m g m' g' hpre hagree
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨p0, p1, p2, p3⟩ := hpre c
  have H := holds_of_finite _ _ _ _ p0 p1 p2 p3
  obtain ⟨e0, e1, e2, e3⟩ := hagree c
  obtain ⟨r0, r1, k⟩ := h c
  refine ⟨(r0.trans (Cert.Reference2Ideal.Read.val_main_v16_eq _ _ _ _)).trans ?_,
    (r1.trans (Cert.Reference2Ideal.Read.val_main_v14_eq _ _ _)).trans ?_, k⟩
  · rw [e0, e1, e2, e3]
    exact same_dg H
  · rw [e0, e1, e2]
    exact same_du H

end Cert.Swiglu

end
-- ==== Proof.Sums.lean ====
/- Sums of extended real numbers, taken part by part, and the constants of the products. -/
module

public import Idealize.ShloMosaic.PureOps.Ideal
public import Idealize.ShloMosaic.PureOps.Ideal.Laws

@[expose] public section

noncomputable section

namespace Cert.Ffn

open Idealize.ShloMosaic Finset

theorem hz : (![0, 0] : Fin 2 → Nat) = fun _ => 0 := funext fun a => by fin_cases a <;> rfl

theorem hz' : ∀ a : Fin 2, (![0, 0] : Fin 2 → Nat) a = 0 := fun a => by fin_cases a <;> rfl

theorem hz3 : (![0, 0, 0] : Fin 3 → Nat) = fun _ => 0 := funext fun a => by fin_cases a <;> rfl

theorem bits_half : Ideal.ofBits .f32 0x3F000000#32 = ((1 / 2 : ℝ) : EReal) := by
  simp [Ideal.ofBits, Ideal.ieee, -EReal.coe_mul]; norm_num

/-- A half goes into a sum, infinite terms included. -/
theorem half_mul_sum {n : Nat} (f : Fin n → EReal) :
    ((1 / 2 : ℝ) : EReal) * ∑ k, f k = ∑ k, ((1 / 2 : ℝ) : EReal) * f k := by
  induction n with
  | zero => simp
  | succ n ih =>
    rw [Fin.sum_univ_castSucc, Fin.sum_univ_castSucc, ← ih,
      EReal.left_distrib_of_nonneg_of_ne_top (by exact_mod_cast (by norm_num : (0 : ℝ) ≤ 1 / 2)) (EReal.coe_ne_top _)]

/-- A sum over 2048 columns, one half after the other. -/
theorem sum_halves (f : Fin 2048 → EReal) :
    (∑ k : Fin 1024, f ⟨k.val, by omega⟩) + ∑ k : Fin 1024, f ⟨1024 + k.val, by omega⟩ = ∑ k, f k :=
  (Fin.sum_univ_add (a := 1024) (b := 1024) f).symm

/-- A sum over 5632 columns, quarter after quarter. -/
theorem sum_quarters (f : Fin 5632 → EReal) :
    (((∑ k : Fin 1408, f ⟨k.val, by omega⟩) + ∑ k : Fin 1408, f ⟨1408 + k.val, by omega⟩)
      + ∑ k : Fin 1408, f ⟨2816 + k.val, by omega⟩) + ∑ k : Fin 1408, f ⟨4224 + k.val, by omega⟩ = ∑ k, f k := by
  rw [Fin.sum_univ_add (a := 4224) (b := 1408) f, Fin.sum_univ_add (a := 2816) (b := 1408) fun k => f (Fin.castAdd 1408 k),
    Fin.sum_univ_add (a := 1408) (b := 1408) fun k => f (Fin.castAdd 1408 (Fin.castAdd 1408 k))]
  rfl

/-- A sum over 5120 columns, fifth after fifth. -/
theorem sum_fifths (f : Fin 5120 → EReal) :
    ((((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩)
      + ∑ k : Fin 1024, f ⟨4096 + k.val, by omega⟩ = ∑ k, f k := by
  rw [Fin.sum_univ_add (a := 4096) (b := 1024) f, Fin.sum_univ_add (a := 3072) (b := 1024) fun k => f (Fin.castAdd 1024 k),
    Fin.sum_univ_add (a := 2048) (b := 1024) fun k => f (Fin.castAdd 1024 (Fin.castAdd 1024 k)),
    Fin.sum_univ_add (a := 1024) (b := 1024) fun k => f (Fin.castAdd 1024 (Fin.castAdd 1024 (Fin.castAdd 1024 k)))]
  rfl

end Cert.Ffn

end
-- ==== Proof.FfnWeights.lean ====
/- The gradient of a SwiGLU block's gate or up weight, kept in four parts: the transposed input times the product's gradient. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Sums
public import Idealize.ShloMosaic.Lib.Pointwise
public import Idealize.ShloMosaic.Lib.Pipeline.ValueKit

@[expose] public section

noncomputable section

namespace Cert.FfnWeights

open Idealize.ShloMosaic Idealize.ShloMosaic.TcCoe Idealize.SL.Sem Finset Cert.Ffn

section
variable (x0 : FVec Ideal Cert.Reference3Ideal.S2176x2048 .bf16) (x1 : FVec Ideal Cert.Reference3Ideal.S2176x5632 .bf16)

/-- The transposed product, over the undivided columns. -/
theorem product_at (j : Fin 5632) (r : Fin 2048) :
    Cert.Reference3Ideal.Read.val_main_v7 (F := Ideal) x0 x1 (ix2 j r) = ∑ k : Fin 2176, x0 (ix2 k r) * x1 (ix2 k j) := by
  open Cert.Reference3Ideal.Read in
  pointwise [val_main_v7, val_main_v6, val_main_v1]
  exact sum_congr rfl fun k _ => mul_comm _ _

/-- The reference's entry in part `p`, at row `r` and column `l`. -/
theorem ref_at (p : Fin 4) (r : Fin 2048) (l : Fin 1408) :
    Cert.Reference3Ideal.Read.val_main_v11 (F := Ideal) x0 x1 (ix3 p r l)
      = ∑ k : Fin 2176, x0 (ix2 k r) * x1 (ix2 k ⟨p.val * 1408 + l.val, by omega⟩) := by
  refine (Cert.Reference3Ideal.Read.val_main_v11_apply (F := Ideal) x0 x1 (ix3 p r l)).trans ?_
  refine (Cert.Reference3Ideal.Read.val_main_v10_apply (F := Ideal) x0 x1 _).trans ?_
  refine (Cert.Reference3Ideal.Read.val_main_v9_apply (F := Ideal) x0 x1 _).trans ?_
  refine (Cert.Reference3Ideal.Read.val_main_v8_apply (F := Ideal) x0 x1 _).trans ?_
  refine Eq.trans (congrArg (Cert.Reference3Ideal.Read.val_main_v7 (F := Ideal) x0 x1) ?_) (product_at x0 x1 ⟨p.val * 1408 + l.val, by omega⟩ r)
  funext a
  refine Fin.ext ?_
  fin_cases a
  · show ((r.val * 4 + p.val) * 1408 + l.val) % 5632 = p.val * 1408 + l.val
    omega
  · show ((r.val * 4 + p.val) * 1408 + l.val) / 5632 = r.val
    omega

end

open Cert.Kernel3Ideal Cert.Kernel3Ideal.Gen

section
variable (c : Dev nD) (i : grid0.Coords)
  (a3 : Memref sig .tc .vmem S2176x1024 .bf16) (h3 : a3.IsWhole)
  (a4 : Memref sig .tc .vmem S2176x1408 .bf16) (h4 : a4.IsWhole)
  (a5 : Memref sig .tc .vmem S1x1024x1408 .bf16) (h5 : a5.IsWhole)
  (a6 : Memref sig .tc .vmem S1024x1408 .f32) (h6 : a6.IsWhole)
  (x0 : Vec Ideal S2176x1024 .bf16) (x1 : Vec Ideal S2176x1408 .bf16)

/-- A point writes the product of its two blocks. -/
theorem out_A (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero (S := S1x1024x1408) hz3]
  rw [View.readCov_cons_unit_lit' (S := S1024x1408) _ _ _ _ _ hz' hz', View.readCov_unit_zero (S := S1024x1408) _ hz]
  simp only [View.readAt_eq_ld, h3.read_unread, h4.read_unread, View.ld_unit_zero (S := S2176x1024) hz,
    View.ld_unit_zero (S := S2176x1408) hz]

theorem pay_at (r : Fin 1024) (l : Fin 1408) :
    k0_pay3 (F := Ideal) (k0_pay2 k0_pay1 x0 x1) (ix3 0 r l) = ∑ k : Fin 2176, x0 (ix2 k r) * x1 (ix2 k l) := by
  unfold k0_pay3 k0_pay2 k0_pay1
  pointwise

end

variable (m : (ℓ : Loc nD τ sig) → Buf (Elt Ideal) ℓ) (c : Dev nD)

theorem lt_N (t : Fin cfg0.N) : t.val < 8 := lt_of_lt_of_eq t.isLt N_0

/-- Row `s` of the row tile of point `t`. -/
def row (t : Fin cfg0.N) (s : Fin 1024) : Fin 2048 := ⟨t.val / 4 * 1024 + s.val, by have := lt_N t; omega⟩

/-- The part of the columns point `t` takes. -/
def quarter (t : Fin cfg0.N) : Fin 4 := ⟨t.val % 4, by omega⟩

theorem idx_0 : ∀ t : Fin cfg0.N, win0_0.index t (0 : Fin 2) = 0 ∧ win0_0.index t (1 : Fin 2) = t.val / 4 :=
  (by decide +kernel : ∀ t : Fin grid0.N, _)

theorem cut_0 (t : Fin cfg0.N) (k : Fin 2176) (s : Fin 1024) :
    iblk m c 0 t (ix2 k s) = V m c main_arg0 (ix2 k (row t s)) := by
  obtain ⟨e0, e1⟩ := idx_0 t
  show V m c main_arg0 (((cfg0.win 0).blk t).view.emb (ix2 k s)) = _
  refine congrArg (V m c main_arg0) ?_
  funext a
  refine Fin.ext ?_
  fin_cases a
  · show (((cfg0.win 0).blk t).view.emb (ix2 k s) (0 : Fin 2)).val = k.val
    blk_simp; rw [e0]; omega
  · show (((cfg0.win 0).blk t).view.emb (ix2 k s) (1 : Fin 2)).val = t.val / 4 * 1024 + s.val
    blk_simp; rw [e1]

theorem idx_1 : ∀ t : Fin cfg0.N, win0_1.index t (0 : Fin 2) = 0 ∧ win0_1.index t (1 : Fin 2) = t.val % 4 :=
  (by decide +kernel : ∀ t : Fin grid0.N, _)

theorem cut_1 (t : Fin cfg0.N) (k : Fin 2176) (l : Fin 1408) :
    iblk m c 1 t (ix2 k l) = V m c main_arg1 (ix2 k ⟨(quarter t).val * 1408 + l.val, by omega⟩) := by
  obtain ⟨e0, e1⟩ := idx_1 t
  show V m c main_arg1 (((cfg0.win 1).blk t).view.emb (ix2 k l)) = _
  refine congrArg (V m c main_arg1) ?_
  funext a
  refine Fin.ext ?_
  fin_cases a
  · show (((cfg0.win 1).blk t).view.emb (ix2 k l) (0 : Fin 2)).val = k.val
    blk_simp; rw [e0]; omega
  · show (((cfg0.win 1).blk t).view.emb (ix2 k l) (1 : Fin 2)).val = t.val % 4 * 1408 + l.val
    blk_simp; rw [e1]

theorem tile (t : Fin cfg0.N) (s : Fin 1024) (l : Fin 1408) :
    outsAt0 m c t (ix3 0 s l)
      = Cert.Reference3Ideal.Read.val_main_v11 (F := Ideal) (V m c main_arg0) (V m c main_arg1) (ix3 (quarter t) (row t s) l) := by
  unfold outsAt0
  rw [out_A]
  refine (pay_at _ _ s l).trans ?_
  rw [ref_at]
  refine sum_congr rfl fun k _ => ?_
  rw [cut_0, cut_1]

theorem idx_2 : ∀ t : Fin cfg0.N, win0_2.index t (0 : Fin 3) = t.val % 4 ∧ win0_2.index t (1 : Fin 3) = t.val / 4
    ∧ win0_2.index t (2 : Fin 3) = 0 :=
  (by decide +kernel : ∀ t : Fin grid0.N, _)

theorem arr : (dats m 0 c).arrAt 2 cfg0.N
    = Cert.Reference3Ideal.Read.val_main_v11 (F := Ideal) (V m c main_arg0) (V m c main_arg1) := by
  refine (dats m 0 c).arrAt_eq_of_covers 2 _ (by decide +kernel) fun t hf y => ?_
  obtain ⟨e0, e1, e2⟩ := idx_2 t
  have hp : (y (0 : Fin 3)).val = 0 := by have : (y (0 : Fin 3)).val < 1 := (y (0 : Fin 3)).isLt; omega
  have he : ((cfg0.win 2).blk t).view.emb y = ix3 (quarter t) (row t (y (1 : Fin 3))) (y (2 : Fin 3)) := by
    funext a
    refine Fin.ext ?_
    fin_cases a
    · show (((cfg0.win 2).blk t).view.emb y (0 : Fin 3)).val = t.val % 4
      blk_simp; rw [e0]
    · show (((cfg0.win 2).blk t).view.emb y (1 : Fin 3)).val = t.val / 4 * 1024 + (y (1 : Fin 3)).val
      blk_simp; rw [e1]
    · show (((cfg0.win 2).blk t).view.emb y (2 : Fin 3)).val = (y (2 : Fin 3)).val
      blk_simp; rw [e2]; omega
  have hy : y = ix3 0 (y (1 : Fin 3)) (y (2 : Fin 3)) := by
    funext a
    fin_cases a
    · exact Fin.ext hp
    · rfl
    · rfl
  show (dats m 0 c).after 2 t y = _
  rw [after0_2, he]
  exact (congrArg (outsAt0 m c t) hy).trans (tile m c t _ _)

theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

theorem equal_results : Cert.algebraic_Kernel3Ideal_Reference3Ideal := by
  intro m g m' g' hpre hagree
  refine ⟨fun c => (Cert.Kernel3Ideal.Gen.dats m 0 c).arrAt 2 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  obtain ⟨e0, e1⟩ := hagree c
  obtain ⟨r0, k⟩ := h c
  refine ⟨(r0.trans (Cert.Reference3Ideal.Read.val_main_v11_eq _ _)).trans ?_, k⟩
  rw [e0, e1]
  exact (arr m c).symm

end Cert.FfnWeights

end
-- ==== Proof.FfnDown.lean ====
/- The gradient of the down projection of a SwiGLU block: half the product of the transposed activations and the output's gradient. -/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Sums
public import Idealize.ShloMosaic.Lib.Pointwise
public import Idealize.ShloMosaic.Lib.Pipeline.ValueKit

@[expose] public section

noncomputable section

namespace Cert.FfnDown

open Idealize.ShloMosaic Idealize.ShloMosaic.TcCoe Idealize.SL.Sem Finset Cert.Ffn

/-- The reference's entry: the sum of activation times half the gradient. -/
theorem ref_at (x0 : FVec Ideal Cert.Reference4Ideal.S2176x5632 .bf16) (x1 : FVec Ideal Cert.Reference4Ideal.S2176x2048 .bf16)
    (r : Fin 5632) (l : Fin 2048) :
    Cert.Reference4Ideal.Read.val_main_v11 (F := Ideal) x0 x1 (ix2 r l)
      = ((1 / 2 : ℝ) : EReal) * ∑ k : Fin 2176, x0 (ix2 k r) * x1 (ix2 k l) := by
  open Cert.Reference4Ideal.Read in
  pointwise [val_main_v11, val_main_v10, val_main_v9, val_main_v8, val_main_v7, val_main_cst_1, val_main_v6, val_main_v1]
  rw [bits_half, half_mul_sum]
  exact sum_congr rfl fun k _ => by rw [mul_assoc, mul_comm (x1 _) (x0 _)]

open Cert.Kernel4Ideal Cert.Kernel4Ideal.Gen

section
variable (c : Dev nD) (i : grid0.Coords)
  (a3 : Memref sig .tc .vmem S2176x1408 .bf16) (h3 : a3.IsWhole)
  (a4 : Memref sig .tc .vmem S2176x1024 .bf16) (h4 : a4.IsWhole)
  (a5 : Memref sig .tc .vmem S1408x1024 .bf16) (h5 : a5.IsWhole)
  (a6 : Memref sig .tc .vmem S1408x1024 .f32) (h6 : a6.IsWhole)
  (x0 : Vec Ideal S2176x1408 .bf16) (x1 : Vec Ideal S2176x1024 .bf16)

/-- A point writes the product of its two blocks, scaled. -/
theorem out_A (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero (S := S1408x1024) hz]
  rw [View.readCov_cons_unit_lit' (S := S1408x1024) _ _ _ _ _ hz' hz', View.readCov_unit_zero (S := S1408x1024) _ hz]
  simp only [View.readAt_eq_ld, h3.read_unread, h4.read_unread, View.ld_unit_zero (S := S2176x1408) hz,
    View.ld_unit_zero (S := S2176x1024) hz]

theorem pay_at (r : Fin 1408) (l : Fin 1024) :
    k0_pay3 (F := Ideal) (k0_pay2 k0_pay1 x0 x1) (ix2 r l)
      = ((1 / 2 : ℝ) : EReal) * ∑ k : Fin 2176, x0 (ix2 k r) * x1 (ix2 k l) := by
  unfold k0_pay3 k0_pay2 k0_pay1
  pointwise
  rw [bits_half]
  first
    | rw [zero_add, mul_comm]
    | rw [zero_add]
    | rw [mul_comm]

end

variable (m : (ℓ : Loc nD τ sig) → Buf (Elt Ideal) ℓ) (c : Dev nD)

theorem lt_N (t : Fin cfg0.N) : t.val < 8 := lt_of_lt_of_eq t.isLt N_0

/-- Row `s` of the row tile of point `t`. -/
def row (t : Fin cfg0.N) (s : Fin 1408) : Fin 5632 := ⟨t.val / 2 * 1408 + s.val, by have := lt_N t; omega⟩

/-- Column `l` of the column tile of point `t`. -/
def col (t : Fin cfg0.N) (l : Fin 1024) : Fin 2048 := ⟨t.val % 2 * 1024 + l.val, by omega⟩

theorem idx_0 : ∀ t : Fin cfg0.N, win0_0.index t (0 : Fin 2) = 0 ∧ win0_0.index t (1 : Fin 2) = t.val / 2 :=
  (by decide +kernel : ∀ t : Fin grid0.N, _)

theorem cut_0 (t : Fin cfg0.N) (k : Fin 2176) (s : Fin 1408) :
    iblk m c 0 t (ix2 k s) = V m c main_arg0 (ix2 k (row t s)) := by
  obtain ⟨e0, e1⟩ := idx_0 t
  show V m c main_arg0 (((cfg0.win 0).blk t).view.emb (ix2 k s)) = _
  refine congrArg (V m c main_arg0) ?_
  funext a
  refine Fin.ext ?_
  fin_cases a
  · show (((cfg0.win 0).blk t).view.emb (ix2 k s) (0 : Fin 2)).val = k.val
    blk_simp; rw [e0]; omega
  · show (((cfg0.win 0).blk t).view.emb (ix2 k s) (1 : Fin 2)).val = t.val / 2 * 1408 + s.val
    blk_simp; rw [e1]

theorem idx_1 : ∀ t : Fin cfg0.N, win0_1.index t (0 : Fin 2) = 0 ∧ win0_1.index t (1 : Fin 2) = t.val % 2 :=
  (by decide +kernel : ∀ t : Fin grid0.N, _)

theorem cut_1 (t : Fin cfg0.N) (k : Fin 2176) (l : Fin 1024) :
    iblk m c 1 t (ix2 k l) = V m c main_arg1 (ix2 k (col t l)) := by
  obtain ⟨e0, e1⟩ := idx_1 t
  show V m c main_arg1 (((cfg0.win 1).blk t).view.emb (ix2 k l)) = _
  refine congrArg (V m c main_arg1) ?_
  funext a
  refine Fin.ext ?_
  fin_cases a
  · show (((cfg0.win 1).blk t).view.emb (ix2 k l) (0 : Fin 2)).val = k.val
    blk_simp; rw [e0]; omega
  · show (((cfg0.win 1).blk t).view.emb (ix2 k l) (1 : Fin 2)).val = t.val % 2 * 1024 + l.val
    blk_simp; rw [e1]

theorem tile (t : Fin cfg0.N) (s : Fin 1408) (l : Fin 1024) :
    outsAt0 m c t (ix2 s l) = Cert.Reference4Ideal.Read.val_main_v11 (F := Ideal) (V m c main_arg0) (V m c main_arg1) (ix2 (row t s) (col t l)) := by
  unfold outsAt0
  rw [out_A]
  refine (pay_at _ _ s l).trans ?_
  rw [ref_at]
  refine congrArg _ (sum_congr rfl fun k _ => ?_)
  rw [cut_0, cut_1]

theorem idx_2 : ∀ t : Fin cfg0.N, win0_2.index t (0 : Fin 2) = t.val / 2 ∧ win0_2.index t (1 : Fin 2) = t.val % 2 :=
  (by decide +kernel : ∀ t : Fin grid0.N, _)

theorem arr : (dats m 0 c).arrAt 2 cfg0.N
    = Cert.Reference4Ideal.Read.val_main_v11 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 2 * 1408 + (y (0 : Fin 2)).val
      blk_simp; rw [e0]
    · show (((cfg0.win 2).blk t).view.emb y (1 : Fin 2)).val = t.val % 2 * 1024 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t) hy).trans (tile m c t _ _)

theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem equal_results : Cert.algebraic_Kernel4Ideal_Reference4Ideal := by
  intro m g m' g' hpre hagree
  refine ⟨fun c => (Cert.Kernel4Ideal.Gen.dats m 0 c).arrAt 2 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨e0, e1⟩ := hagree c
  obtain ⟨r0, k⟩ := h c
  refine ⟨(r0.trans (Cert.Reference4Ideal.Read.val_main_v11_eq _ _)).trans ?_, k⟩
  rw [e0, e1]
  exact (arr m c).symm

end Cert.FfnDown

end
-- ==== Proof.FfnUp.lean ====
/- The up product of a SwiGLU block, and the activation: the gate times its logistic value times the up product. -/
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Sums
public import Idealize.ShloMosaic.Lib.Pointwise
public import Idealize.ShloMosaic.Lib.Pipeline.ValueKit

@[expose] public section

noncomputable section

namespace Cert.FfnUp

open Idealize.ShloMosaic Idealize.ShloMosaic.TcCoe Idealize.SL.Sem Finset Cert.Ffn
open Cert.Kernel5Ideal Cert.Kernel5Ideal.Gen

/-! ### The reference -/

/-- Term `k` of the product's entry at row `r` and column `j`; the columns lie in four parts. -/
def term (x0 : FVec Ideal Cert.Reference5Ideal.S2176x2048 .bf16) (x1 : FVec Ideal Cert.Reference5Ideal.S4x2048x1408 .bf16)
    (r : Fin 2176) (j : Fin 5632) (k : Fin 2048) : EReal :=
  x0 (ix2 r k) * x1 (ix3 ⟨j.val / 1408, by omega⟩ k ⟨j.val % 1408, by omega⟩)

section
variable (x0 : FVec Ideal Cert.Reference5Ideal.S2176x2048 .bf16) (x1 : FVec Ideal Cert.Reference5Ideal.S4x2048x1408 .bf16) (x2 : FVec Ideal Cert.Reference5Ideal.S2176x5632 .bf16)

theorem joined_at (k : Fin 2048) (j : Fin 5632) :
    Cert.Reference5Ideal.Read.val_main_v3 (F := Ideal) x1 (ix2 k j) = x1 (ix3 ⟨j.val / 1408, by omega⟩ k ⟨j.val % 1408, by omega⟩) := by
  refine (Cert.Reference5Ideal.Read.val_main_v3_apply (F := Ideal) x1 (ix2 k j)).trans ?_
  refine (Cert.Reference5Ideal.Read.val_main_v2_apply (F := Ideal) x1 (ix2 k j)).trans ?_
  refine (Cert.Reference5Ideal.Read.val_main_v1_apply (F := Ideal) x1 _).trans ?_
  refine congrArg x1 ?_
  funext a
  refine Fin.ext ?_
  fin_cases a
  · show (k.val * 5632 + j.val) / 1408 % 4 = j.val / 1408
    omega
  · show (k.val * 5632 + j.val) / 5632 = k.val
    omega
  · show (k.val * 5632 + j.val) % 1408 = j.val % 1408
    omega

theorem product_at (r : Fin 2176) (j : Fin 5632) :
    Cert.Reference5Ideal.Read.val_main_v4 (F := Ideal) x0 x1 (ix2 r j) = ∑ k, term x0 x1 r j k := by
  refine (Cert.Reference5Ideal.Read.val_main_v4_apply x0 x1 (ix2 r j)).trans ?_
  refine sum_congr rfl fun k _ => ?_
  refine congrArg₂ (· * ·) ?_ ((congrArg (Cert.Reference5Ideal.Read.val_main_v3 (F := Ideal) x1) ?_).trans (joined_at x1 k j))
  · show x0 (Cert.Reference5Ideal.Read.lidx_main_v4 (ix2 r j) k) = x0 (ix2 r k)
    refine congrArg x0 ?_
    funext a
    fin_cases a <;> rfl
  · funext a
    fin_cases a <;> rfl

theorem up_at (r : Fin 2176) (j : Fin 5632) :
    Cert.Reference5Ideal.Read.val_main_v8 (F := Ideal) x0 x1 (ix2 r j) = ∑ k, term x0 x1 r j k :=
  (Cert.Reference5Ideal.Read.val_main_v8_apply (F := Ideal) x0 x1 (ix2 r j)).trans (product_at x0 x1 r j)

theorem silu_at (r : Fin 2176) (j : Fin 5632) :
    Cert.Reference5Ideal.Read.val_main_v6 (F := Ideal) x2 (ix2 r j) = x2 (ix2 r j) * Ideal.logistic (x2 (ix2 r j)) := by
  open Cert.Reference5Ideal.Read in
  pointwise [val_main_v6, val_main_call0_v5, val_main_call0_v4, val_main_call0_cst_0, val_main_call0_v3, val_main_call0_v2,
    val_main_call0_cst, val_main_call0_v1, val_main_call0_v0, val_main_v5]
  rfl

theorem act_at (r : Fin 2176) (j : Fin 5632) :
    Cert.Reference5Ideal.Read.val_main_v9 (F := Ideal) x0 x1 x2 (ix2 r j)
      = x2 (ix2 r j) * Ideal.logistic (x2 (ix2 r j)) * ∑ k, term x0 x1 r j k := by
  refine (Cert.Reference5Ideal.Read.val_main_v9_apply (F := Ideal) x0 x1 x2 (ix2 r j)).trans ?_
  refine (Cert.Reference5Ideal.Read.val_main_v7_apply (F := Ideal) x0 x1 x2 (ix2 r j)).trans ?_
  exact congrArg₂ (· * ·) (silu_at x2 r j) (product_at x0 x1 r j)

end

/-! ### The cases of a point -/

section
variable (c : Dev nD) (i : grid0.Coords)
  (a3 : Memref sig .tc .vmem S544x1024 .bf16) (h3 : a3.IsWhole)
  (a4 : Memref sig .tc .vmem S1x1024x1408 .bf16) (h4 : a4.IsWhole)
  (a5 : Memref sig .tc .vmem S544x1408 .bf16) (h5 : a5.IsWhole)
  (a6 : Memref sig .tc .vmem S544x1408 .bf16) (h6 : a6.IsWhole)
  (a7 : Memref sig .tc .vmem S544x1408 .bf16) (h7 : a7.IsWhole)
  (a8 : Memref sig .tc .vmem S544x1408 .f32) (h8 : a8.IsWhole)
  (x0 : Vec Ideal S544x1024 .bf16) (x1 : Vec Ideal S1x1024x1408 .bf16) (x2 : Vec Ideal S544x1408 .bf16)
  (xs : Vec Ideal S544x1408 .f32)

/-- The first point of a tile leaves in the scratch buffer zero plus its product. -/
theorem sout_A (hc0 : cond0_0 i) (hc1 : ¬cond0_1 i) :
    sout0_A_0 c i a3 h3 a4 h4 a5 h5 a6 h6 a7 h7 a8 h8 hc0 hc1 x0 x1 x2 = k0_pay2 k0_pay1 x0 x1 := by
  unfold sout0_A_0
  rw [View.read_writes_eq_canon _ _ _ (scover0_A_0 c i a3 h3 a4 h4 a5 h5 a6 h6 a7 h7 a8 h8 hc0 hc1 x0 x1 x2)]
  unfold kernelRun0_A
  dsimp only
  sl_unfold_words
  rw [View.canon_cons_unit_zero (S := S544x1408) hz, View.readCov_unit_zero (S := S544x1408) _ hz]
  simp only [View.readAt_eq_ld, h3.read_unread, h4.read_unread,
    View.ld_unit_zero (S := S544x1024) hz, View.ld_unit_zero (S := S1x1024x1408) hz3, View.ld_unit_zero (S := S544x1408) hz]

/-- The last point adds its product and writes the tile. -/
theorem out_B_3 (hc0 : ¬cond0_0 i) (hc1 : cond0_1 i) :
    out0_B_3 c i a3 h3 a4 h4 a5 h5 a6 h6 a7 h7 a8 h8 hc0 hc1 x0 x1 x2 xs = k0_pay3 (k0_pay2 xs x0 x1) := by
  unfold out0_B_3
  rw [View.read_writes_eq_canon _ _ _ (cover0_B_3 c i a3 h3 a4 h4 a5 h5 a6 h6 a7 h7 a8 h8 hc0 hc1 x0 x1 x2 xs)]
  unfold kernelRun0_B
  dsimp only
  sl_unfold_words
  rw [View.canon_unit_zero (S := S544x1408) hz, View.readCov_unit_zero (S := S544x1408) _ hz]
  simp only [View.readAt_eq_ld, h3.read_unread, h4.read_unread, h5.read_unread, h8.read_unread,
    View.ld_unit_zero (S := S544x1024) hz, View.ld_unit_zero (S := S1x1024x1408) hz3, View.ld_unit_zero (S := S544x1408) hz]

/-- The last point adds its product and writes the tile. -/
theorem out_B_4 (hc0 : ¬cond0_0 i) (hc1 : cond0_1 i) :
    out0_B_4 c i a3 h3 a4 h4 a5 h5 a6 h6 a7 h7 a8 h8 hc0 hc1 x0 x1 x2 xs = k0_pay4 (k0_pay2 xs x0 x1) x2 := by
  unfold out0_B_4
  rw [View.read_writes_eq_canon _ _ _ (cover0_B_4 c i a3 h3 a4 h4 a5 h5 a6 h6 a7 h7 a8 h8 hc0 hc1 x0 x1 x2 xs)]
  unfold kernelRun0_B
  dsimp only
  sl_unfold_words
  rw [View.canon_unit_zero (S := S544x1408) hz, View.readCov_unit_zero (S := S544x1408) _ hz]
  simp only [View.readAt_eq_ld, h3.read_unread, h4.read_unread, h5.read_unread, h8.read_unread,
    View.ld_unit_zero (S := S544x1024) hz, View.ld_unit_zero (S := S1x1024x1408) hz3, View.ld_unit_zero (S := S544x1408) hz]

/-! ### What the payloads compute -/

theorem pay1_at (r : Fin 544) (l : Fin 1408) : k0_pay1 (F := Ideal) (ix2 r l) = 0 := by
  unfold k0_pay1
  pointwise

theorem pay2_at (r : Fin 544) (l : Fin 1408) :
    k0_pay2 (F := Ideal) xs x0 x1 (ix2 r l) = xs (ix2 r l) + ∑ k : Fin 1024, x0 (ix2 r k) * x1 (ix3 0 k l) := by
  unfold k0_pay2
  pointwise

theorem pay4_at (r : Fin 544) (l : Fin 1408) :
    k0_pay4 (F := Ideal) xs x2 (ix2 r l) = x2 (ix2 r l) * Ideal.logistic (x2 (ix2 r l)) * xs (ix2 r l) := by
  unfold k0_pay4
  pointwise

end

/-! ### Tiles -/

variable (m : (ℓ : Loc nD τ sig) → Buf (Elt Ideal) ℓ) (c : Dev nD)

theorem lt_N (t : Fin cfg0.N) : t.val < 32 := lt_of_lt_of_eq t.isLt N_0

/-- Row `s` of the row tile of point `t`. -/
def row (t : Fin cfg0.N) (s : Fin 544) : Fin 2176 := ⟨t.val / 8 * 544 + s.val, by have := lt_N t; omega⟩

/-- Column `l` of the column tile of point `t`. -/
def col (t : Fin cfg0.N) (l : Fin 1408) : Fin 5632 := ⟨t.val / 2 % 4 * 1408 + l.val, by omega⟩

/-- Term `k` of the part of the sum point `t` takes. -/
def part (t : Fin cfg0.N) (k : Fin 1024) : Fin 2048 := ⟨t.val % 2 * 1024 + k.val, by omega⟩

theorem idx_0 : ∀ t : Fin cfg0.N, win0_0.index t (0 : Fin 2) = t.val / 8 ∧ win0_0.index t (1 : Fin 2) = t.val % 2 :=
  (by decide +kernel : ∀ t : Fin grid0.N, _)

theorem cut_0 (t : Fin cfg0.N) (s : Fin 544) (k : Fin 1024) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 8 * 544 + s.val
    blk_simp; rw [e0]; try omega
  · show (((cfg0.win 0).blk t).view.emb (ix2 s k) (1 : Fin 2)).val = t.val % 2 * 1024 + k.val
    blk_simp; rw [e1]; try omega

theorem idx_1 : ∀ t : Fin cfg0.N, win0_1.index t (0 : Fin 3) = t.val / 2 % 4 ∧ win0_1.index t (1 : Fin 3) = t.val % 2 ∧ win0_1.index t (2 : Fin 3) = 0 :=
  (by decide +kernel : ∀ t : Fin grid0.N, _)

theorem cut_1 (t : Fin cfg0.N) (k : Fin 1024) (l : Fin 1408) :
    iblk m c 1 t (ix3 0 k l) = V m c main_arg1 (ix3 ⟨(col t l).val / 1408, by omega⟩ (part t k) ⟨(col t l).val % 1408, by omega⟩) := by
  obtain ⟨e0, e1, e2⟩ := idx_1 t
  show V m c main_arg1 (((cfg0.win 1).blk t).view.emb (ix3 0 k l)) = _
  refine congrArg (V m c main_arg1) ?_
  funext a
  refine Fin.ext ?_
  fin_cases a
  · show (((cfg0.win 1).blk t).view.emb (ix3 0 k l) (0 : Fin 3)).val = (t.val / 2 % 4 * 1408 + l.val) / 1408
    blk_simp; rw [e0]; try omega
  · show (((cfg0.win 1).blk t).view.emb (ix3 0 k l) (1 : Fin 3)).val = t.val % 2 * 1024 + k.val
    blk_simp; rw [e1]; try omega
  · show (((cfg0.win 1).blk t).view.emb (ix3 0 k l) (2 : Fin 3)).val = (t.val / 2 % 4 * 1408 + l.val) % 1408
    blk_simp; rw [e2]; try omega

theorem idx_2 : ∀ t : Fin cfg0.N, win0_2.index t (0 : Fin 2) = t.val / 8 ∧ win0_2.index t (1 : Fin 2) = t.val / 2 % 4 :=
  (by decide +kernel : ∀ t : Fin grid0.N, _)

theorem cut_2 (t : Fin cfg0.N) (s : Fin 544) (l : Fin 1408) :
    iblk m c 2 t (ix2 s l) = V m c main_arg2 (ix2 (row t s) (col t l)) := by
  obtain ⟨e0, e1⟩ := idx_2 t
  show V m c main_arg2 (((cfg0.win 2).blk t).view.emb (ix2 s l)) = _
  refine congrArg (V m c main_arg2) ?_
  funext a
  refine Fin.ext ?_
  fin_cases a
  · show (((cfg0.win 2).blk t).view.emb (ix2 s l) (0 : Fin 2)).val = t.val / 8 * 544 + s.val
    blk_simp; rw [e0]; try omega
  · show (((cfg0.win 2).blk t).view.emb (ix2 s l) (1 : Fin 2)).val = t.val / 2 % 4 * 1408 + l.val
    blk_simp; rw [e1]; try omega

/-- The terms of one point, from its two blocks. -/
theorem terms (t : Fin cfg0.N) (s : Fin 544) (l : Fin 1408) (k : Fin 1024) :
    @HMul.hMul EReal EReal EReal _ (iblk m c 0 t (ix2 s k)) (iblk m c 1 t (ix3 0 k l)) = term (V m c main_arg0) (V m c main_arg1) (row t s) (col t l) (part t k) := by
  rw [cut_0, cut_1]
  rfl

/-- The point before, in the same tile. -/
theorem prev_row (t : Fin cfg0.N) (h : t.val % 2 ≠ 0) (s : Fin 544) : row ⟨t.val - 1, (Nat.lt_of_le_of_lt (Nat.sub_le _ _) t.isLt)⟩ s = row t s := Fin.ext (by
  show (t.val - 1) / 8 * 544 + s.val = t.val / 8 * 544 + s.val; omega)

theorem prev_col (t : Fin cfg0.N) (h : t.val % 2 ≠ 0) (l : Fin 1408) : col ⟨t.val - 1, (Nat.lt_of_le_of_lt (Nat.sub_le _ _) t.isLt)⟩ l = col t l := Fin.ext (by
  show (t.val - 1) / 2 % 4 * 1408 + l.val = t.val / 2 % 4 * 1408 + l.val; omega)

/-- After the first point of a tile the scratch buffer holds the first part of the sum. -/
theorem scratch_0 (t : Fin cfg0.N) (h : t.val % 2 = 0) (s : Fin 544) (l : Fin 1408) :
    (outsAt0 m c t.val t.isLt).2.2 (ix2 s l) = ∑ k : Fin 1024, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 2 * 1024 + k.val = k.val
  omega

/-- At the last point the scratch buffer comes to hold the whole sum. -/
theorem whole (t : Fin cfg0.N) (h : t.val % 2 = 1) (s : Fin 544) (l : Fin 1408) :
    k0_pay2 (F := Ideal) (outsAt0 m c (t.val - 1) (Nat.lt_of_le_of_lt (Nat.sub_le _ _) t.isLt)).2.2 (iblk m c 0 t) (iblk m c 1 t) (ix2 s l)
      = ∑ k, term (V m c main_arg0) (V m c main_arg1) (row t s) (col t l) k := by
  have e := scratch_0 m c ⟨t.val - 1, (Nat.lt_of_le_of_lt (Nat.sub_le _ _) t.isLt)⟩ (by show (t.val - 1) % 2 = 0; omega) s l
  rw [prev_row t (by omega), prev_col t (by omega)] at e
  rw [← sum_halves]
  refine (pay2_at _ _ _ s l).trans (congrArg₂ (· + ·) e (sum_congr rfl fun k _ => (terms m c t s l k).trans (congrArg _ (Fin.ext ?_))))
  show t.val % 2 * 1024 + k.val = 1024 + k.val
  omega

theorem tile_3 (t : Fin cfg0.N) (h : t.val % 2 = 1) (s : Fin 544) (l : Fin 1408) :
    (outsAt0 m c t.val t.isLt).1 (ix2 s l) = Cert.Reference5Ideal.Read.val_main_v8 (F := Ideal) (V m c main_arg0) (V m c main_arg1) (ix2 (row t s) (col t l)) := by
  simp only [outsAt0_B m c t (by omega) h]
  rw [out_B_3]
  refine Eq.trans ?_ ((whole m c t h s l).trans (up_at _ _ _ _).symm)
  unfold k0_pay3
  pointwise

theorem idx_3 : ∀ t : Fin cfg0.N, win0_3.index t (0 : Fin 2) = t.val / 8 ∧ win0_3.index t (1 : Fin 2) = t.val / 2 % 4 :=
  (by decide +kernel : ∀ t : Fin grid0.N, _)

theorem arr_3 : (dats m 0 c).arrAt 3 cfg0.N
    = Cert.Reference5Ideal.Read.val_main_v8 (F := Ideal) (V m c main_arg0) (V m c main_arg1) := by
  refine (dats m 0 c).arrAt_eq_of_covers 3 _ (by decide +kernel) fun t hf y => ?_
  obtain ⟨e0, e1⟩ := idx_3 t
  have he : ((cfg0.win 3).blk t).view.emb y = ix2 (row t (y (0 : Fin 2))) (col t (y (1 : Fin 2))) := by
    funext a
    refine Fin.ext ?_
    fin_cases a
    · show (((cfg0.win 3).blk t).view.emb y (0 : Fin 2)).val = t.val / 8 * 544 + (y (0 : Fin 2)).val
      blk_simp; rw [e0]
    · show (((cfg0.win 3).blk t).view.emb y (1 : Fin 2)).val = t.val / 2 % 4 * 1408 + (y (1 : Fin 2)).val
      blk_simp; rw [e1]
  have hy : y = ix2 (y (0 : Fin 2)) (y (1 : Fin 2)) := by funext a; fin_cases a <;> rfl
  show (dats m 0 c).after 3 t y = _
  rw [after0_3, he]
  exact (congrArg (outsAt0 m c t.val t.isLt).1 hy).trans (tile_3 m c t ((flush0_3 t).mp hf) _ _)

theorem tile_4 (t : Fin cfg0.N) (h : t.val % 2 = 1) (s : Fin 544) (l : Fin 1408) :
    (outsAt0 m c t.val t.isLt).2.1 (ix2 s l) = Cert.Reference5Ideal.Read.val_main_v9 (F := Ideal) (V m c main_arg0) (V m c main_arg1) (V m c main_arg2) (ix2 (row t s) (col t l)) := by
  simp only [outsAt0_B m c t (by omega) h]
  rw [out_B_4]
  refine (pay4_at _ _ s l).trans ?_
  rw [act_at, whole m c t h, cut_2]

theorem idx_4 : ∀ t : Fin cfg0.N, win0_4.index t (0 : Fin 2) = t.val / 8 ∧ win0_4.index t (1 : Fin 2) = t.val / 2 % 4 :=
  (by decide +kernel : ∀ t : Fin grid0.N, _)

theorem arr_4 : (dats m 0 c).arrAt 4 cfg0.N
    = Cert.Reference5Ideal.Read.val_main_v9 (F := Ideal) (V m c main_arg0) (V m c main_arg1) (V m c main_arg2) := by
  refine (dats m 0 c).arrAt_eq_of_covers 4 _ (by decide +kernel) fun t hf y => ?_
  obtain ⟨e0, e1⟩ := idx_4 t
  have he : ((cfg0.win 4).blk t).view.emb y = ix2 (row t (y (0 : Fin 2))) (col t (y (1 : Fin 2))) := by
    funext a
    refine Fin.ext ?_
    fin_cases a
    · show (((cfg0.win 4).blk t).view.emb y (0 : Fin 2)).val = t.val / 8 * 544 + (y (0 : Fin 2)).val
      blk_simp; rw [e0]
    · show (((cfg0.win 4).blk t).view.emb y (1 : Fin 2)).val = t.val / 2 % 4 * 1408 + (y (1 : Fin 2)).val
      blk_simp; rw [e1]
  have hy : y = ix2 (y (0 : Fin 2)) (y (1 : Fin 2)) := by funext a; fin_cases a <;> rfl
  show (dats m 0 c).after 4 t y = _
  rw [after0_4, he]
  exact (congrArg (outsAt0 m c t.val t.isLt).2.1 hy).trans (tile_4 m c t ((flush0_4 t).mp hf) _ _)

/-! ### The two programs -/

theorem frame_reference : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

theorem equal_results : Cert.algebraic_Kernel5Ideal_Reference5Ideal := by
  intro m g m' g' hpre hagree
  refine ⟨fun c => (dats m 0 c).arrAt 3 cfg0.N, fun c => (dats m 0 c).arrAt 4 cfg0.N,
    Cert.Kernel5Ideal.Value.run_blocks m g, ?_⟩
  refine (θ_run Cert.Reference5Ideal.defs _ _).mono (fun r h c => ?_) (Cert.Reference5Ideal.Value.run (F := Ideal) m' g')
  obtain ⟨e0, e1, e2⟩ := hagree c
  obtain ⟨r0, r1, k⟩ := h c
  refine ⟨(r0.trans (Cert.Reference5Ideal.Read.val_main_v8_eq _ _)).trans ?_, (r1.trans (Cert.Reference5Ideal.Read.val_main_v9_eq _ _ _)).trans ?_, k⟩
  · rw [e0, e1]
    exact (arr_3 m c).symm
  · rw [e0, e1, e2]
    exact (arr_4 m c).symm

end Cert.FfnUp

end
-- ==== Proof.FfnGate.lean ====
/- The gate product of a SwiGLU block: the normalised input times the weight, which is kept in four parts. -/
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Sums
public import Idealize.ShloMosaic.Lib.Pointwise
public import Idealize.ShloMosaic.Lib.Pipeline.ValueKit

@[expose] public section

noncomputable section

namespace Cert.FfnGate

open Idealize.ShloMosaic Idealize.ShloMosaic.TcCoe Idealize.SL.Sem Finset Cert.Ffn
open Cert.Kernel6Ideal Cert.Kernel6Ideal.Gen

/-! ### The reference -/

/-- Term `k` of the product's entry at row `r` and column `j`; the columns lie in four parts. -/
def term (x0 : FVec Ideal Cert.Reference6Ideal.S2176x2048 .bf16) (x1 : FVec Ideal Cert.Reference6Ideal.S4x2048x1408 .bf16)
    (r : Fin 2176) (j : Fin 5632) (k : Fin 2048) : EReal :=
  x0 (ix2 r k) * x1 (ix3 ⟨j.val / 1408, by omega⟩ k ⟨j.val % 1408, by omega⟩)

section
variable (x0 : FVec Ideal Cert.Reference6Ideal.S2176x2048 .bf16) (x1 : FVec Ideal Cert.Reference6Ideal.S4x2048x1408 .bf16)

theorem joined_at (k : Fin 2048) (j : Fin 5632) :
    Cert.Reference6Ideal.Read.val_main_v3 (F := Ideal) x1 (ix2 k j) = x1 (ix3 ⟨j.val / 1408, by omega⟩ k ⟨j.val % 1408, by omega⟩) := by
  refine (Cert.Reference6Ideal.Read.val_main_v3_apply (F := Ideal) x1 (ix2 k j)).trans ?_
  refine (Cert.Reference6Ideal.Read.val_main_v2_apply (F := Ideal) x1 (ix2 k j)).trans ?_
  refine (Cert.Reference6Ideal.Read.val_main_v1_apply (F := Ideal) x1 _).trans ?_
  refine congrArg x1 ?_
  funext a
  refine Fin.ext ?_
  fin_cases a
  · show (k.val * 5632 + j.val) / 1408 % 4 = j.val / 1408
    omega
  · show (k.val * 5632 + j.val) / 5632 = k.val
    omega
  · show (k.val * 5632 + j.val) % 1408 = j.val % 1408
    omega

theorem product_at (r : Fin 2176) (j : Fin 5632) :
    Cert.Reference6Ideal.Read.val_main_v4 (F := Ideal) x0 x1 (ix2 r j) = ∑ k, term x0 x1 r j k := by
  refine (Cert.Reference6Ideal.Read.val_main_v4_apply x0 x1 (ix2 r j)).trans ?_
  refine sum_congr rfl fun k _ => ?_
  refine congrArg₂ (· * ·) ?_ ((congrArg (Cert.Reference6Ideal.Read.val_main_v3 (F := Ideal) x1) ?_).trans (joined_at x1 k j))
  · show x0 (Cert.Reference6Ideal.Read.lidx_main_v4 (ix2 r j) k) = x0 (ix2 r k)
    refine congrArg x0 ?_
    funext a
    fin_cases a <;> rfl
  · funext a
    fin_cases a <;> rfl

theorem ref_at (r : Fin 2176) (j : Fin 5632) :
    Cert.Reference6Ideal.Read.val_main_v5 (F := Ideal) x0 x1 (ix2 r j) = ∑ k, term x0 x1 r j k :=
  (Cert.Reference6Ideal.Read.val_main_v5_apply (F := Ideal) x0 x1 (ix2 r j)).trans (product_at x0 x1 r j)

end

/-! ### The cases of a point -/

section
variable (c : Dev nD) (i : grid0.Coords)
  (a3 : Memref sig .tc .vmem S1088x1024 .bf16) (h3 : a3.IsWhole)
  (a4 : Memref sig .tc .vmem S1x1024x1408 .bf16) (h4 : a4.IsWhole)
  (a5 : Memref sig .tc .vmem S1088x1408 .bf16) (h5 : a5.IsWhole)
  (a6 : Memref sig .tc .vmem S1088x1408 .f32) (h6 : a6.IsWhole)
  (x0 : Vec Ideal S1088x1024 .bf16) (x1 : Vec Ideal S1x1024x1408 .bf16)
  (xs : Vec Ideal S1088x1408 .f32)

/-- The first point of a tile leaves in the scratch buffer zero plus its product. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1088x1408) hz, View.readCov_unit_zero (S := S1088x1408) _ hz]
  simp only [View.readAt_eq_ld, h3.read_unread, h4.read_unread,
    View.ld_unit_zero (S := S1088x1024) hz, View.ld_unit_zero (S := S1x1024x1408) hz3, View.ld_unit_zero (S := S1088x1408) hz]

/-- The last point adds its product and writes the tile. -/
theorem out_B_2 (hc0 : ¬cond0_0 i) (hc1 : cond0_1 i) :
    out0_B_2 c i a3 h3 a4 h4 a5 h5 a6 h6 hc0 hc1 x0 x1 xs = k0_pay3 (k0_pay2 xs x0 x1) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1088x1408) hz, View.readCov_unit_zero (S := S1088x1408) _ hz]
  simp only [View.readAt_eq_ld, h3.read_unread, h4.read_unread, h6.read_unread,
    View.ld_unit_zero (S := S1088x1024) hz, View.ld_unit_zero (S := S1x1024x1408) hz3, View.ld_unit_zero (S := S1088x1408) hz]

/-! ### What the payloads compute -/

theorem pay1_at (r : Fin 1088) (l : Fin 1408) : k0_pay1 (F := Ideal) (ix2 r l) = 0 := by
  unfold k0_pay1
  pointwise

theorem pay2_at (r : Fin 1088) (l : Fin 1408) :
    k0_pay2 (F := Ideal) xs x0 x1 (ix2 r l) = xs (ix2 r l) + ∑ k : Fin 1024, x0 (ix2 r k) * x1 (ix3 0 k l) := by
  unfold k0_pay2
  pointwise

end

/-! ### Tiles -/

variable (m : (ℓ : Loc nD τ sig) → Buf (Elt Ideal) ℓ) (c : Dev nD)

theorem lt_N (t : Fin cfg0.N) : t.val < 16 := lt_of_lt_of_eq t.isLt N_0

/-- Row `s` of the row tile of point `t`. -/
def row (t : Fin cfg0.N) (s : Fin 1088) : Fin 2176 := ⟨t.val / 8 * 1088 + s.val, by have := lt_N t; omega⟩

/-- Column `l` of the column tile of point `t`. -/
def col (t : Fin cfg0.N) (l : Fin 1408) : Fin 5632 := ⟨t.val / 2 % 4 * 1408 + l.val, by omega⟩

/-- Term `k` of the part of the sum point `t` takes. -/
def part (t : Fin cfg0.N) (k : Fin 1024) : Fin 2048 := ⟨t.val % 2 * 1024 + k.val, by omega⟩

theorem idx_0 : ∀ t : Fin cfg0.N, win0_0.index t (0 : Fin 2) = t.val / 8 ∧ win0_0.index t (1 : Fin 2) = t.val % 2 :=
  (by decide +kernel : ∀ t : Fin grid0.N, _)

theorem cut_0 (t : Fin cfg0.N) (s : Fin 1088) (k : Fin 1024) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 8 * 1088 + s.val
    blk_simp; rw [e0]; try omega
  · show (((cfg0.win 0).blk t).view.emb (ix2 s k) (1 : Fin 2)).val = t.val % 2 * 1024 + k.val
    blk_simp; rw [e1]; try omega

theorem idx_1 : ∀ t : Fin cfg0.N, win0_1.index t (0 : Fin 3) = t.val / 2 % 4 ∧ win0_1.index t (1 : Fin 3) = t.val % 2 ∧ win0_1.index t (2 : Fin 3) = 0 :=
  (by decide +kernel : ∀ t : Fin grid0.N, _)

theorem cut_1 (t : Fin cfg0.N) (k : Fin 1024) (l : Fin 1408) :
    iblk m c 1 t (ix3 0 k l) = V m c main_arg1 (ix3 ⟨(col t l).val / 1408, by omega⟩ (part t k) ⟨(col t l).val % 1408, by omega⟩) := by
  obtain ⟨e0, e1, e2⟩ := idx_1 t
  show V m c main_arg1 (((cfg0.win 1).blk t).view.emb (ix3 0 k l)) = _
  refine congrArg (V m c main_arg1) ?_
  funext a
  refine Fin.ext ?_
  fin_cases a
  · show (((cfg0.win 1).blk t).view.emb (ix3 0 k l) (0 : Fin 3)).val = (t.val / 2 % 4 * 1408 + l.val) / 1408
    blk_simp; rw [e0]; try omega
  · show (((cfg0.win 1).blk t).view.emb (ix3 0 k l) (1 : Fin 3)).val = t.val % 2 * 1024 + k.val
    blk_simp; rw [e1]; try omega
  · show (((cfg0.win 1).blk t).view.emb (ix3 0 k l) (2 : Fin 3)).val = (t.val / 2 % 4 * 1408 + l.val) % 1408
    blk_simp; rw [e2]; try omega

/-- The terms of one point, from its two blocks. -/
theorem terms (t : Fin cfg0.N) (s : Fin 1088) (l : Fin 1408) (k : Fin 1024) :
    @HMul.hMul EReal EReal EReal _ (iblk m c 0 t (ix2 s k)) (iblk m c 1 t (ix3 0 k l)) = term (V m c main_arg0) (V m c main_arg1) (row t s) (col t l) (part t k) := by
  rw [cut_0, cut_1]
  rfl

/-- The point before, in the same tile. -/
theorem prev_row (t : Fin cfg0.N) (h : t.val % 2 ≠ 0) (s : Fin 1088) : row ⟨t.val - 1, (Nat.lt_of_le_of_lt (Nat.sub_le _ _) t.isLt)⟩ s = row t s := Fin.ext (by
  show (t.val - 1) / 8 * 1088 + s.val = t.val / 8 * 1088 + s.val; omega)

theorem prev_col (t : Fin cfg0.N) (h : t.val % 2 ≠ 0) (l : Fin 1408) : col ⟨t.val - 1, (Nat.lt_of_le_of_lt (Nat.sub_le _ _) t.isLt)⟩ l = col t l := Fin.ext (by
  show (t.val - 1) / 2 % 4 * 1408 + l.val = t.val / 2 % 4 * 1408 + l.val; omega)

/-- After the first point of a tile the scratch buffer holds the first part of the sum. -/
theorem scratch_0 (t : Fin cfg0.N) (h : t.val % 2 = 0) (s : Fin 1088) (l : Fin 1408) :
    (outsAt0 m c t.val t.isLt).2 (ix2 s l) = ∑ k : Fin 1024, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 2 * 1024 + k.val = k.val
  omega

/-- At the last point the scratch buffer comes to hold the whole sum. -/
theorem whole (t : Fin cfg0.N) (h : t.val % 2 = 1) (s : Fin 1088) (l : Fin 1408) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_0 m c ⟨t.val - 1, (Nat.lt_of_le_of_lt (Nat.sub_le _ _) t.isLt)⟩ (by show (t.val - 1) % 2 = 0; omega) s l
  rw [prev_row t (by omega), prev_col t (by omega)] at e
  rw [← sum_halves]
  refine (pay2_at _ _ _ s l).trans (congrArg₂ (· + ·) e (sum_congr rfl fun k _ => (terms m c t s l k).trans (congrArg _ (Fin.ext ?_))))
  show t.val % 2 * 1024 + k.val = 1024 + k.val
  omega

theorem tile_2 (t : Fin cfg0.N) (h : t.val % 2 = 1) (s : Fin 1088) (l : Fin 1408) :
    (outsAt0 m c t.val t.isLt).1 (ix2 s l) = Cert.Reference6Ideal.Read.val_main_v5 (F := Ideal) (V m c main_arg0) (V m c main_arg1) (ix2 (row t s) (col t l)) := by
  simp only [outsAt0_B m c t (by omega) h]
  rw [out_B_2]
  refine Eq.trans ?_ ((whole m c t h s l).trans (ref_at _ _ _ _).symm)
  unfold k0_pay3
  pointwise

theorem idx_2 : ∀ t : Fin cfg0.N, win0_2.index t (0 : Fin 2) = t.val / 8 ∧ win0_2.index t (1 : Fin 2) = t.val / 2 % 4 :=
  (by decide +kernel : ∀ t : Fin grid0.N, _)

theorem arr_2 : (dats m 0 c).arrAt 2 cfg0.N
    = Cert.Reference6Ideal.Read.val_main_v5 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 8 * 1088 + (y (0 : Fin 2)).val
      blk_simp; rw [e0]
    · show (((cfg0.win 2).blk t).view.emb y (1 : Fin 2)).val = t.val / 2 % 4 * 1408 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t.val t.isLt).1 hy).trans (tile_2 m c t ((flush0_2 t).mp hf) _ _)

/-! ### The two programs -/

theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem equal_results : Cert.algebraic_Kernel6Ideal_Reference6Ideal := by
  intro m g m' g' hpre hagree
  refine ⟨fun c => (dats m 0 c).arrAt 2 cfg0.N,
    Cert.Kernel6Ideal.Value.run_blocks m g, ?_⟩
  refine (θ_run Cert.Reference6Ideal.defs _ _).mono (fun r h c => ?_) (Cert.Reference6Ideal.Value.run (F := Ideal) m' g')
  obtain ⟨e0, e1⟩ := hagree c
  obtain ⟨r0, k⟩ := h c
  refine ⟨(r0.trans (Cert.Reference6Ideal.Read.val_main_v5_eq _ _)).trans ?_, k⟩
  · rw [e0, e1]
    exact (arr_2 m c).symm

end Cert.FfnGate

end
-- ==== Proof.FfnOut.lean ====
/- The down product of a SwiGLU block: half of the activations times the weight, added to the block's input. -/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Sums
public import Idealize.ShloMosaic.Lib.Pointwise
public import Idealize.ShloMosaic.Lib.Pipeline.ValueKit

@[expose] public section

noncomputable section

namespace Cert.FfnOut

open Idealize.ShloMosaic Idealize.ShloMosaic.TcCoe Idealize.SL.Sem Finset Cert.Ffn
open Cert.Kernel7Ideal Cert.Kernel7Ideal.Gen

/-! ### The reference -/

/-- Term `k` of the product's entry at row `r` and column `j`. -/
def term (x0 : FVec Ideal Cert.Reference7Ideal.S2176x5632 .bf16) (x1 : FVec Ideal Cert.Reference7Ideal.S5632x2048 .bf16)
    (r : Fin 2176) (j : Fin 2048) (k : Fin 5632) : EReal :=
  x0 (ix2 r k) * x1 (ix2 k j)

section
variable (x0 : FVec Ideal Cert.Reference7Ideal.S2176x5632 .bf16) (x1 : FVec Ideal Cert.Reference7Ideal.S5632x2048 .bf16) (x2 : FVec Ideal Cert.Reference7Ideal.S2176x2048 .f32)

theorem ref_at (r : Fin 2176) (j : Fin 2048) :
    Cert.Reference7Ideal.Read.val_main_v5 (F := Ideal) x0 x1 x2 (ix2 r j)
      = x2 (ix2 r j) + (∑ k, term x0 x1 r j k) * ((1 / 2 : ℝ) : EReal) := by
  open Cert.Reference7Ideal.Read in
  pointwise [val_main_v5, val_main_v4, val_main_v3, val_main_cst, val_main_v2, val_main_v1, val_main_v0]
  rw [bits_half, mul_comm]
  rfl

end

/-! ### The cases of a point -/

section
variable (c : Dev nD) (i : grid0.Coords)
  (a3 : Memref sig .tc .vmem S1088x1408 .bf16) (h3 : a3.IsWhole)
  (a4 : Memref sig .tc .vmem S1408x1024 .bf16) (h4 : a4.IsWhole)
  (a5 : Memref sig .tc .vmem S1088x1024 .f32) (h5 : a5.IsWhole)
  (a6 : Memref sig .tc .vmem S1088x1024 .f32) (h6 : a6.IsWhole)
  (a7 : Memref sig .tc .vmem S1088x1024 .f32) (h7 : a7.IsWhole)
  (x0 : Vec Ideal S1088x1408 .bf16) (x1 : Vec Ideal S1408x1024 .bf16) (x2 : Vec Ideal S1088x1024 .f32)
  (xs : Vec Ideal S1088x1024 .f32)

/-- The first point of a tile leaves in the scratch buffer zero plus its product. -/
theorem sout_A (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1088x1024) hz, View.readCov_unit_zero (S := S1088x1024) _ hz]
  simp only [View.readAt_eq_ld, h3.read_unread, h4.read_unread,
    View.ld_unit_zero (S := S1088x1408) hz, View.ld_unit_zero (S := S1408x1024) hz, View.ld_unit_zero (S := S1088x1024) hz]

/-- A middle point adds its product. -/
theorem sout_B (hc0 : ¬cond0_0 i) (hc1 : ¬cond0_1 i) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero (S := S1088x1024) hz]
  simp only [View.readAt_eq_ld, h3.read_unread, h4.read_unread, h7.read_unread,
    View.ld_unit_zero (S := S1088x1408) hz, View.ld_unit_zero (S := S1408x1024) hz, View.ld_unit_zero (S := S1088x1024) hz]

/-- The last point adds its product and writes the tile. -/
theorem out_C_3 (hc0 : ¬cond0_0 i) (hc1 : cond0_1 i) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero (S := S1088x1024) hz, View.readCov_unit_zero (S := S1088x1024) _ hz]
  simp only [View.readAt_eq_ld, h3.read_unread, h4.read_unread, h5.read_unread, h7.read_unread,
    View.ld_unit_zero (S := S1088x1408) hz, View.ld_unit_zero (S := S1408x1024) hz, View.ld_unit_zero (S := S1088x1024) hz]

/-! ### What the payloads compute -/

theorem pay1_at (r : Fin 1088) (l : Fin 1024) : k0_pay1 (F := Ideal) (ix2 r l) = 0 := by
  unfold k0_pay1
  pointwise

theorem pay2_at (r : Fin 1088) (l : Fin 1024) :
    k0_pay2 (F := Ideal) xs x0 x1 (ix2 r l) = xs (ix2 r l) + ∑ k : Fin 1408, x0 (ix2 r k) * x1 (ix2 k l) := by
  unfold k0_pay2
  pointwise

theorem pay3_at (r : Fin 1088) (l : Fin 1024) :
    k0_pay3 (F := Ideal) xs x2 (ix2 r l) = xs (ix2 r l) * ((1 / 2 : ℝ) : EReal) + x2 (ix2 r l) := by
  unfold k0_pay3
  pointwise
  rw [bits_half]

end

/-! ### Tiles -/

variable (m : (ℓ : Loc nD τ sig) → Buf (Elt Ideal) ℓ) (c : Dev nD)

theorem lt_N (t : Fin cfg0.N) : t.val < 16 := lt_of_lt_of_eq t.isLt N_0

/-- Row `s` of the row tile of point `t`. -/
def row (t : Fin cfg0.N) (s : Fin 1088) : Fin 2176 := ⟨t.val / 8 * 1088 + s.val, by have := lt_N t; omega⟩

/-- Column `l` of the column tile of point `t`. -/
def col (t : Fin cfg0.N) (l : Fin 1024) : Fin 2048 := ⟨t.val / 4 % 2 * 1024 + l.val, by omega⟩

/-- Term `k` of the part of the sum point `t` takes. -/
def part (t : Fin cfg0.N) (k : Fin 1408) : Fin 5632 := ⟨t.val % 4 * 1408 + k.val, by omega⟩

theorem idx_0 : ∀ t : Fin cfg0.N, win0_0.index t (0 : Fin 2) = t.val / 8 ∧ win0_0.index t (1 : Fin 2) = t.val % 4 :=
  (by decide +kernel : ∀ t : Fin grid0.N, _)

theorem cut_0 (t : Fin cfg0.N) (s : Fin 1088) (k : Fin 1408) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 8 * 1088 + s.val
    blk_simp; rw [e0]; try omega
  · show (((cfg0.win 0).blk t).view.emb (ix2 s k) (1 : Fin 2)).val = t.val % 4 * 1408 + k.val
    blk_simp; rw [e1]; try omega

theorem idx_1 : ∀ t : Fin cfg0.N, win0_1.index t (0 : Fin 2) = t.val % 4 ∧ win0_1.index t (1 : Fin 2) = t.val / 4 % 2 :=
  (by decide +kernel : ∀ t : Fin grid0.N, _)

theorem cut_1 (t : Fin cfg0.N) (k : Fin 1408) (l : Fin 1024) :
    iblk m c 1 t (ix2 k l) = V m c main_arg1 (ix2 (part t k) (col t l)) := by
  obtain ⟨e0, e1⟩ := idx_1 t
  show V m c main_arg1 (((cfg0.win 1).blk t).view.emb (ix2 k l)) = _
  refine congrArg (V m c main_arg1) ?_
  funext a
  refine Fin.ext ?_
  fin_cases a
  · show (((cfg0.win 1).blk t).view.emb (ix2 k l) (0 : Fin 2)).val = t.val % 4 * 1408 + k.val
    blk_simp; rw [e0]; try omega
  · show (((cfg0.win 1).blk t).view.emb (ix2 k l) (1 : Fin 2)).val = t.val / 4 % 2 * 1024 + l.val
    blk_simp; rw [e1]; try omega

theorem idx_2 : ∀ t : Fin cfg0.N, win0_2.index t (0 : Fin 2) = t.val / 8 ∧ win0_2.index t (1 : Fin 2) = t.val / 4 % 2 :=
  (by decide +kernel : ∀ t : Fin grid0.N, _)

theorem cut_2 (t : Fin cfg0.N) (s : Fin 1088) (l : Fin 1024) :
    iblk m c 2 t (ix2 s l) = V m c main_arg2 (ix2 (row t s) (col t l)) := by
  obtain ⟨e0, e1⟩ := idx_2 t
  show V m c main_arg2 (((cfg0.win 2).blk t).view.emb (ix2 s l)) = _
  refine congrArg (V m c main_arg2) ?_
  funext a
  refine Fin.ext ?_
  fin_cases a
  · show (((cfg0.win 2).blk t).view.emb (ix2 s l) (0 : Fin 2)).val = t.val / 8 * 1088 + s.val
    blk_simp; rw [e0]; try omega
  · show (((cfg0.win 2).blk t).view.emb (ix2 s l) (1 : Fin 2)).val = t.val / 4 % 2 * 1024 + l.val
    blk_simp; rw [e1]; try omega

/-- The terms of one point, from its two blocks. -/
theorem terms (t : Fin cfg0.N) (s : Fin 1088) (l : Fin 1024) (k : Fin 1408) :
    @HMul.hMul EReal EReal EReal _ (iblk m c 0 t (ix2 s k)) (iblk m c 1 t (ix2 k l)) = term (V m c main_arg0) (V m c main_arg1) (row t s) (col t l) (part t k) := by
  rw [cut_0, cut_1]
  rfl

/-- The point before, in the same tile. -/
theorem prev_row (t : Fin cfg0.N) (h : t.val % 4 ≠ 0) (s : Fin 1088) : row ⟨t.val - 1, (Nat.lt_of_le_of_lt (Nat.sub_le _ _) t.isLt)⟩ s = row t s := Fin.ext (by
  show (t.val - 1) / 8 * 1088 + s.val = t.val / 8 * 1088 + s.val; omega)

theorem prev_col (t : Fin cfg0.N) (h : t.val % 4 ≠ 0) (l : Fin 1024) : col ⟨t.val - 1, (Nat.lt_of_le_of_lt (Nat.sub_le _ _) t.isLt)⟩ l = col t l := Fin.ext (by
  show (t.val - 1) / 4 % 2 * 1024 + l.val = t.val / 4 % 2 * 1024 + l.val; omega)

/-- After the first point of a tile the scratch buffer holds the first part of the sum. -/
theorem scratch_0 (t : Fin cfg0.N) (h : t.val % 4 = 0) (s : Fin 1088) (l : Fin 1024) :
    (outsAt0 m c t.val t.isLt).2 (ix2 s l) = ∑ k : Fin 1408, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 4 * 1408 + k.val = k.val
  omega

theorem scratch_1 (t : Fin cfg0.N) (h : t.val % 4 = 1) (s : Fin 1088) (l : Fin 1024) :
    (outsAt0 m c t.val t.isLt).2 (ix2 s l) = ((∑ k : Fin 1408, term (V m c main_arg0) (V m c main_arg1) (row t s) (col t l) ⟨k.val, by omega⟩) + ∑ k : Fin 1408, term (V m c main_arg0) (V m c main_arg1) (row t s) (col t l) ⟨1408 + k.val, by omega⟩) := by
  have e := scratch_0 m c ⟨t.val - 1, (Nat.lt_of_le_of_lt (Nat.sub_le _ _) t.isLt)⟩ (by show (t.val - 1) % 4 = 0; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 4 * 1408 + k.val = 1408 + k.val
  omega

theorem scratch_2 (t : Fin cfg0.N) (h : t.val % 4 = 2) (s : Fin 1088) (l : Fin 1024) :
    (outsAt0 m c t.val t.isLt).2 (ix2 s l) = (((∑ k : Fin 1408, term (V m c main_arg0) (V m c main_arg1) (row t s) (col t l) ⟨k.val, by omega⟩) + ∑ k : Fin 1408, term (V m c main_arg0) (V m c main_arg1) (row t s) (col t l) ⟨1408 + k.val, by omega⟩) + ∑ k : Fin 1408, term (V m c main_arg0) (V m c main_arg1) (row t s) (col t l) ⟨2816 + k.val, by omega⟩) := by
  have e := scratch_1 m c ⟨t.val - 1, (Nat.lt_of_le_of_lt (Nat.sub_le _ _) t.isLt)⟩ (by show (t.val - 1) % 4 = 1; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 4 * 1408 + k.val = 2816 + k.val
  omega

/-- At the last point the scratch buffer comes to hold the whole sum. -/
theorem whole (t : Fin cfg0.N) (h : t.val % 4 = 3) (s : Fin 1088) (l : Fin 1024) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_2 m c ⟨t.val - 1, (Nat.lt_of_le_of_lt (Nat.sub_le _ _) t.isLt)⟩ (by show (t.val - 1) % 4 = 2; omega) s l
  rw [prev_row t (by omega), prev_col t (by omega)] at e
  rw [← sum_quarters]
  refine (pay2_at _ _ _ s l).trans (congrArg₂ (· + ·) e (sum_congr rfl fun k _ => (terms m c t s l k).trans (congrArg _ (Fin.ext ?_))))
  show t.val % 4 * 1408 + k.val = 4224 + k.val
  omega

theorem tile_3 (t : Fin cfg0.N) (h : t.val % 4 = 3) (s : Fin 1088) (l : Fin 1024) :
    (outsAt0 m c t.val t.isLt).1 (ix2 s l) = Cert.Reference7Ideal.Read.val_main_v5 (F := Ideal) (V m c main_arg0) (V m c main_arg1) (V m c main_arg2) (ix2 (row t s) (col t l)) := by
  simp only [outsAt0_C m c t (by omega) h]
  rw [out_C_3]
  refine (pay3_at _ _ s l).trans ?_
  rw [ref_at, whole m c t h, cut_2, add_comm]

theorem idx_3 : ∀ t : Fin cfg0.N, win0_3.index t (0 : Fin 2) = t.val / 8 ∧ win0_3.index t (1 : Fin 2) = t.val / 4 % 2 :=
  (by decide +kernel : ∀ t : Fin grid0.N, _)

theorem arr_3 : (dats m 0 c).arrAt 3 cfg0.N
    = Cert.Reference7Ideal.Read.val_main_v5 (F := Ideal) (V m c main_arg0) (V m c main_arg1) (V m c main_arg2) := by
  refine (dats m 0 c).arrAt_eq_of_covers 3 _ (by decide +kernel) fun t hf y => ?_
  obtain ⟨e0, e1⟩ := idx_3 t
  have he : ((cfg0.win 3).blk t).view.emb y = ix2 (row t (y (0 : Fin 2))) (col t (y (1 : Fin 2))) := by
    funext a
    refine Fin.ext ?_
    fin_cases a
    · show (((cfg0.win 3).blk t).view.emb y (0 : Fin 2)).val = t.val / 8 * 1088 + (y (0 : Fin 2)).val
      blk_simp; rw [e0]
    · show (((cfg0.win 3).blk t).view.emb y (1 : Fin 2)).val = t.val / 4 % 2 * 1024 + (y (1 : Fin 2)).val
      blk_simp; rw [e1]
  have hy : y = ix2 (y (0 : Fin 2)) (y (1 : Fin 2)) := by funext a; fin_cases a <;> rfl
  show (dats m 0 c).after 3 t y = _
  rw [after0_3, he]
  exact (congrArg (outsAt0 m c t.val t.isLt).1 hy).trans (tile_3 m c t ((flush0_3 t).mp hf) _ _)

/-! ### The two programs -/

theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem equal_results : Cert.algebraic_Kernel7Ideal_Reference7Ideal := by
  intro m g m' g' hpre hagree
  refine ⟨fun c => (dats m 0 c).arrAt 3 cfg0.N,
    Cert.Kernel7Ideal.Value.run_blocks m g, ?_⟩
  refine (θ_run Cert.Reference7Ideal.defs _ _).mono (fun r h c => ?_) (Cert.Reference7Ideal.Value.run (F := Ideal) m' g')
  obtain ⟨e0, e1, e2⟩ := hagree c
  obtain ⟨r0, k⟩ := h c
  refine ⟨(r0.trans (Cert.Reference7Ideal.Read.val_main_v5_eq _ _ _)).trans ?_, k⟩
  · rw [e0, e1, e2]
    exact (arr_3 m c).symm

end Cert.FfnOut

end
-- ==== Proof.FfnBackGate.lean ====
/- The gradient of a SwiGLU block's normalised input through the gate product. -/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Sums
public import Idealize.ShloMosaic.Lib.Pointwise
public import Idealize.ShloMosaic.Lib.Pipeline.ValueKit

@[expose] public section

noncomputable section

namespace Cert.FfnBackGate

open Idealize.ShloMosaic Idealize.ShloMosaic.TcCoe Idealize.SL.Sem Finset Cert.Ffn
open Cert.Kernel8Ideal Cert.Kernel8Ideal.Gen

/-! ### The reference -/

/-- Term `k` of the product's entry at row `r` and column `j`; the weight's columns lie in four parts. -/
def term (x0 : FVec Ideal Cert.Reference8Ideal.S2176x5632 .bf16) (x1 : FVec Ideal Cert.Reference8Ideal.S4x2048x1408 .bf16)
    (r : Fin 2176) (j : Fin 2048) (k : Fin 5632) : EReal :=
  x0 (ix2 r k) * x1 (ix3 ⟨k.val / 1408, by omega⟩ j ⟨k.val % 1408, by omega⟩)

section
variable (x0 : FVec Ideal Cert.Reference8Ideal.S2176x5632 .bf16) (x1 : FVec Ideal Cert.Reference8Ideal.S4x2048x1408 .bf16)

theorem joined_at (k : Fin 2048) (j : Fin 5632) :
    Cert.Reference8Ideal.Read.val_main_v3 (F := Ideal) x1 (ix2 k j) = x1 (ix3 ⟨j.val / 1408, by omega⟩ k ⟨j.val % 1408, by omega⟩) := by
  refine (Cert.Reference8Ideal.Read.val_main_v3_apply (F := Ideal) x1 (ix2 k j)).trans ?_
  refine (Cert.Reference8Ideal.Read.val_main_v2_apply (F := Ideal) x1 (ix2 k j)).trans ?_
  refine (Cert.Reference8Ideal.Read.val_main_v1_apply (F := Ideal) x1 _).trans ?_
  refine congrArg x1 ?_
  funext a
  refine Fin.ext ?_
  fin_cases a
  · show (k.val * 5632 + j.val) / 1408 % 4 = j.val / 1408
    omega
  · show (k.val * 5632 + j.val) / 5632 = k.val
    omega
  · show (k.val * 5632 + j.val) % 1408 = j.val % 1408
    omega

theorem product_at (r : Fin 2176) (j : Fin 2048) :
    Cert.Reference8Ideal.Read.val_main_v6 (F := Ideal) x0 x1 (ix2 r j) = ∑ k, term x0 x1 r j k := by
  refine (Cert.Reference8Ideal.Read.val_main_v6_apply x0 x1 (ix2 r j)).trans ?_
  refine sum_congr rfl fun k _ => ?_
  refine congrArg₂ (· * ·) ?_ ((congrArg (Cert.Reference8Ideal.Read.val_main_v3 (F := Ideal) x1) ?_).trans (joined_at x1 j k))
  · show x0 (Cert.Reference8Ideal.Read.lidx_main_v6 (ix2 r j) k) = x0 (ix2 r k)
    refine congrArg x0 ?_
    funext a
    fin_cases a <;> rfl
  · funext a
    fin_cases a <;> rfl

end

/-! ### The cases of a point -/

section
variable (c : Dev nD) (i : grid0.Coords)
  (a3 : Memref sig .tc .vmem S1088x1408 .bf16) (h3 : a3.IsWhole)
  (a4 : Memref sig .tc .vmem S1x1024x1408 .bf16) (h4 : a4.IsWhole)
  (a5 : Memref sig .tc .vmem S1088x1024 .f32) (h5 : a5.IsWhole)
  (a6 : Memref sig .tc .vmem S1088x1024 .f32) (h6 : a6.IsWhole)
  (x0 : Vec Ideal S1088x1408 .bf16) (x1 : Vec Ideal S1x1024x1408 .bf16)
  (xs : Vec Ideal S1088x1024 .f32)

/-- The first point of a tile leaves in the scratch buffer zero plus its product. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1088x1024) hz, View.readCov_unit_zero (S := S1088x1024) _ hz]
  simp only [View.readAt_eq_ld, h3.read_unread, h4.read_unread,
    View.ld_unit_zero (S := S1088x1408) hz, View.ld_unit_zero (S := S1x1024x1408) hz3, View.ld_unit_zero (S := S1088x1024) hz]

/-- A middle point adds its product. -/
theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1088x1024) hz]
  simp only [View.readAt_eq_ld, h3.read_unread, h4.read_unread, h6.read_unread,
    View.ld_unit_zero (S := S1088x1408) hz, View.ld_unit_zero (S := S1x1024x1408) hz3, View.ld_unit_zero (S := S1088x1024) hz]

/-- The last point adds its product and writes the tile. -/
theorem out_C_2 (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1088x1024) hz, View.readCov_unit_zero (S := S1088x1024) _ hz]
  simp only [View.readAt_eq_ld, h3.read_unread, h4.read_unread, h6.read_unread,
    View.ld_unit_zero (S := S1088x1408) hz, View.ld_unit_zero (S := S1x1024x1408) hz3, View.ld_unit_zero (S := S1088x1024) hz]

/-! ### What the payloads compute -/

theorem pay1_at (r : Fin 1088) (l : Fin 1024) : k0_pay1 (F := Ideal) (ix2 r l) = 0 := by
  unfold k0_pay1
  pointwise

theorem pay2_at (r : Fin 1088) (l : Fin 1024) :
    k0_pay2 (F := Ideal) xs x0 x1 (ix2 r l) = xs (ix2 r l) + ∑ k : Fin 1408, x0 (ix2 r k) * x1 (ix3 0 l k) := by
  unfold k0_pay2
  pointwise

end

/-! ### Tiles -/

variable (m : (ℓ : Loc nD τ sig) → Buf (Elt Ideal) ℓ) (c : Dev nD)

theorem lt_N (t : Fin cfg0.N) : t.val < 16 := lt_of_lt_of_eq t.isLt N_0

/-- Row `s` of the row tile of point `t`. -/
def row (t : Fin cfg0.N) (s : Fin 1088) : Fin 2176 := ⟨t.val / 8 * 1088 + s.val, by have := lt_N t; omega⟩

/-- Column `l` of the column tile of point `t`. -/
def col (t : Fin cfg0.N) (l : Fin 1024) : Fin 2048 := ⟨t.val / 4 % 2 * 1024 + l.val, by omega⟩

/-- Term `k` of the part of the sum point `t` takes. -/
def part (t : Fin cfg0.N) (k : Fin 1408) : Fin 5632 := ⟨t.val % 4 * 1408 + k.val, by omega⟩

theorem idx_0 : ∀ t : Fin cfg0.N, win0_0.index t (0 : Fin 2) = t.val / 8 ∧ win0_0.index t (1 : Fin 2) = t.val % 4 :=
  (by decide +kernel : ∀ t : Fin grid0.N, _)

theorem cut_0 (t : Fin cfg0.N) (s : Fin 1088) (k : Fin 1408) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 8 * 1088 + s.val
    blk_simp; rw [e0]; try omega
  · show (((cfg0.win 0).blk t).view.emb (ix2 s k) (1 : Fin 2)).val = t.val % 4 * 1408 + k.val
    blk_simp; rw [e1]; try omega

theorem idx_1 : ∀ t : Fin cfg0.N, win0_1.index t (0 : Fin 3) = t.val % 4 ∧ win0_1.index t (1 : Fin 3) = t.val / 4 % 2 ∧ win0_1.index t (2 : Fin 3) = 0 :=
  (by decide +kernel : ∀ t : Fin grid0.N, _)

theorem cut_1 (t : Fin cfg0.N) (l : Fin 1024) (k : Fin 1408) :
    iblk m c 1 t (ix3 0 l k) = V m c main_arg1 (ix3 ⟨(part t k).val / 1408, by omega⟩ (col t l) ⟨(part t k).val % 1408, by omega⟩) := by
  obtain ⟨e0, e1, e2⟩ := idx_1 t
  show V m c main_arg1 (((cfg0.win 1).blk t).view.emb (ix3 0 l k)) = _
  refine congrArg (V m c main_arg1) ?_
  funext a
  refine Fin.ext ?_
  fin_cases a
  · show (((cfg0.win 1).blk t).view.emb (ix3 0 l k) (0 : Fin 3)).val = (t.val % 4 * 1408 + k.val) / 1408
    blk_simp; rw [e0]; try omega
  · show (((cfg0.win 1).blk t).view.emb (ix3 0 l k) (1 : Fin 3)).val = t.val / 4 % 2 * 1024 + l.val
    blk_simp; rw [e1]; try omega
  · show (((cfg0.win 1).blk t).view.emb (ix3 0 l k) (2 : Fin 3)).val = (t.val % 4 * 1408 + k.val) % 1408
    blk_simp; rw [e2]; try omega

/-- The terms of one point, from its two blocks. -/
theorem terms (t : Fin cfg0.N) (s : Fin 1088) (l : Fin 1024) (k : Fin 1408) :
    @HMul.hMul EReal EReal EReal _ (iblk m c 0 t (ix2 s k)) (iblk m c 1 t (ix3 0 l k)) = term (V m c main_arg0) (V m c main_arg1) (row t s) (col t l) (part t k) := by
  rw [cut_0, cut_1]
  rfl

/-- The point before, in the same tile. -/
theorem prev_row (t : Fin cfg0.N) (h : t.val % 4 ≠ 0) (s : Fin 1088) : row ⟨t.val - 1, (Nat.lt_of_le_of_lt (Nat.sub_le _ _) t.isLt)⟩ s = row t s := Fin.ext (by
  show (t.val - 1) / 8 * 1088 + s.val = t.val / 8 * 1088 + s.val; omega)

theorem prev_col (t : Fin cfg0.N) (h : t.val % 4 ≠ 0) (l : Fin 1024) : col ⟨t.val - 1, (Nat.lt_of_le_of_lt (Nat.sub_le _ _) t.isLt)⟩ l = col t l := Fin.ext (by
  show (t.val - 1) / 4 % 2 * 1024 + l.val = t.val / 4 % 2 * 1024 + l.val; omega)

/-- After the first point of a tile the scratch buffer holds the first part of the sum. -/
theorem scratch_0 (t : Fin cfg0.N) (h : t.val % 4 = 0) (s : Fin 1088) (l : Fin 1024) :
    (outsAt0 m c t.val t.isLt).2 (ix2 s l) = ∑ k : Fin 1408, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 4 * 1408 + k.val = k.val
  omega

theorem scratch_1 (t : Fin cfg0.N) (h : t.val % 4 = 1) (s : Fin 1088) (l : Fin 1024) :
    (outsAt0 m c t.val t.isLt).2 (ix2 s l) = ((∑ k : Fin 1408, term (V m c main_arg0) (V m c main_arg1) (row t s) (col t l) ⟨k.val, by omega⟩) + ∑ k : Fin 1408, term (V m c main_arg0) (V m c main_arg1) (row t s) (col t l) ⟨1408 + k.val, by omega⟩) := by
  have e := scratch_0 m c ⟨t.val - 1, (Nat.lt_of_le_of_lt (Nat.sub_le _ _) t.isLt)⟩ (by show (t.val - 1) % 4 = 0; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 4 * 1408 + k.val = 1408 + k.val
  omega

theorem scratch_2 (t : Fin cfg0.N) (h : t.val % 4 = 2) (s : Fin 1088) (l : Fin 1024) :
    (outsAt0 m c t.val t.isLt).2 (ix2 s l) = (((∑ k : Fin 1408, term (V m c main_arg0) (V m c main_arg1) (row t s) (col t l) ⟨k.val, by omega⟩) + ∑ k : Fin 1408, term (V m c main_arg0) (V m c main_arg1) (row t s) (col t l) ⟨1408 + k.val, by omega⟩) + ∑ k : Fin 1408, term (V m c main_arg0) (V m c main_arg1) (row t s) (col t l) ⟨2816 + k.val, by omega⟩) := by
  have e := scratch_1 m c ⟨t.val - 1, (Nat.lt_of_le_of_lt (Nat.sub_le _ _) t.isLt)⟩ (by show (t.val - 1) % 4 = 1; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 4 * 1408 + k.val = 2816 + k.val
  omega

/-- At the last point the scratch buffer comes to hold the whole sum. -/
theorem whole (t : Fin cfg0.N) (h : t.val % 4 = 3) (s : Fin 1088) (l : Fin 1024) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_2 m c ⟨t.val - 1, (Nat.lt_of_le_of_lt (Nat.sub_le _ _) t.isLt)⟩ (by show (t.val - 1) % 4 = 2; omega) s l
  rw [prev_row t (by omega), prev_col t (by omega)] at e
  rw [← sum_quarters]
  refine (pay2_at _ _ _ s l).trans (congrArg₂ (· + ·) e (sum_congr rfl fun k _ => (terms m c t s l k).trans (congrArg _ (Fin.ext ?_))))
  show t.val % 4 * 1408 + k.val = 4224 + k.val
  omega

theorem tile_2 (t : Fin cfg0.N) (h : t.val % 4 = 3) (s : Fin 1088) (l : Fin 1024) :
    (outsAt0 m c t.val t.isLt).1 (ix2 s l) = Cert.Reference8Ideal.Read.val_main_v6 (F := Ideal) (V m c main_arg0) (V m c main_arg1) (ix2 (row t s) (col t l)) := by
  simp only [outsAt0_C m c t (by omega) h]
  rw [out_C_2]
  exact (whole m c t h s l).trans (product_at _ _ _ _).symm

theorem idx_2 : ∀ t : Fin cfg0.N, win0_2.index t (0 : Fin 2) = t.val / 8 ∧ win0_2.index t (1 : Fin 2) = t.val / 4 % 2 :=
  (by decide +kernel : ∀ t : Fin grid0.N, _)

theorem arr_2 : (dats m 0 c).arrAt 2 cfg0.N
    = Cert.Reference8Ideal.Read.val_main_v6 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 8 * 1088 + (y (0 : Fin 2)).val
      blk_simp; rw [e0]
    · show (((cfg0.win 2).blk t).view.emb y (1 : Fin 2)).val = t.val / 4 % 2 * 1024 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t.val t.isLt).1 hy).trans (tile_2 m c t ((flush0_2 t).mp hf) _ _)

/-! ### The two programs -/

theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

theorem equal_results : Cert.algebraic_Kernel8Ideal_Reference8Ideal := by
  intro m g m' g' hpre hagree
  refine ⟨fun c => (dats m 0 c).arrAt 2 cfg0.N,
    Cert.Kernel8Ideal.Value.run_blocks m g, ?_⟩
  refine (θ_run Cert.Reference8Ideal.defs _ _).mono (fun r h c => ?_) (Cert.Reference8Ideal.Value.run (F := Ideal) m' g')
  obtain ⟨e0, e1⟩ := hagree c
  obtain ⟨r0, k⟩ := h c
  refine ⟨(r0.trans (Cert.Reference8Ideal.Read.val_main_v6_eq _ _)).trans ?_, k⟩
  · rw [e0, e1]
    exact (arr_2 m c).symm

end Cert.FfnBackGate

end
-- ==== Proof.FfnBackUp.lean ====
/- The gradient of a SwiGLU block's normalised input through the up product, added to the gate's. -/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Sums
public import Idealize.ShloMosaic.Lib.Pointwise
public import Idealize.ShloMosaic.Lib.Pipeline.ValueKit

@[expose] public section

noncomputable section

namespace Cert.FfnBackUp

open Idealize.ShloMosaic Idealize.ShloMosaic.TcCoe Idealize.SL.Sem Finset Cert.Ffn
open Cert.Kernel9Ideal Cert.Kernel9Ideal.Gen

/-! ### The reference -/

/-- Term `k` of the product's entry at row `r` and column `j`; the weight's columns lie in four parts. -/
def term (x0 : FVec Ideal Cert.Reference9Ideal.S2176x5632 .bf16) (x1 : FVec Ideal Cert.Reference9Ideal.S4x2048x1408 .bf16)
    (r : Fin 2176) (j : Fin 2048) (k : Fin 5632) : EReal :=
  x0 (ix2 r k) * x1 (ix3 ⟨k.val / 1408, by omega⟩ j ⟨k.val % 1408, by omega⟩)

section
variable (x0 : FVec Ideal Cert.Reference9Ideal.S2176x5632 .bf16) (x1 : FVec Ideal Cert.Reference9Ideal.S4x2048x1408 .bf16) (x2 : FVec Ideal Cert.Reference9Ideal.S2176x2048 .f32)

theorem joined_at (k : Fin 2048) (j : Fin 5632) :
    Cert.Reference9Ideal.Read.val_main_v3 (F := Ideal) x1 (ix2 k j) = x1 (ix3 ⟨j.val / 1408, by omega⟩ k ⟨j.val % 1408, by omega⟩) := by
  refine (Cert.Reference9Ideal.Read.val_main_v3_apply (F := Ideal) x1 (ix2 k j)).trans ?_
  refine (Cert.Reference9Ideal.Read.val_main_v2_apply (F := Ideal) x1 (ix2 k j)).trans ?_
  refine (Cert.Reference9Ideal.Read.val_main_v1_apply (F := Ideal) x1 _).trans ?_
  refine congrArg x1 ?_
  funext a
  refine Fin.ext ?_
  fin_cases a
  · show (k.val * 5632 + j.val) / 1408 % 4 = j.val / 1408
    omega
  · show (k.val * 5632 + j.val) / 5632 = k.val
    omega
  · show (k.val * 5632 + j.val) % 1408 = j.val % 1408
    omega

theorem product_at (r : Fin 2176) (j : Fin 2048) :
    Cert.Reference9Ideal.Read.val_main_v6 (F := Ideal) x0 x1 (ix2 r j) = ∑ k, term x0 x1 r j k := by
  refine (Cert.Reference9Ideal.Read.val_main_v6_apply x0 x1 (ix2 r j)).trans ?_
  refine sum_congr rfl fun k _ => ?_
  refine congrArg₂ (· * ·) ?_ ((congrArg (Cert.Reference9Ideal.Read.val_main_v3 (F := Ideal) x1) ?_).trans (joined_at x1 j k))
  · show x0 (Cert.Reference9Ideal.Read.lidx_main_v6 (ix2 r j) k) = x0 (ix2 r k)
    refine congrArg x0 ?_
    funext a
    fin_cases a <;> rfl
  · funext a
    fin_cases a <;> rfl

theorem ref_at (r : Fin 2176) (j : Fin 2048) :
    Cert.Reference9Ideal.Read.val_main_v7 (F := Ideal) x0 x1 x2 (ix2 r j) = x2 (ix2 r j) + ∑ k, term x0 x1 r j k :=
  (Cert.Reference9Ideal.Read.val_main_v7_apply (F := Ideal) x0 x1 x2 (ix2 r j)).trans (congrArg (x2 (ix2 r j) + ·) (product_at x0 x1 r j))

end

/-! ### The cases of a point -/

section
variable (c : Dev nD) (i : grid0.Coords)
  (a3 : Memref sig .tc .vmem S1088x1408 .bf16) (h3 : a3.IsWhole)
  (a4 : Memref sig .tc .vmem S1x1024x1408 .bf16) (h4 : a4.IsWhole)
  (a5 : Memref sig .tc .vmem S1088x1024 .f32) (h5 : a5.IsWhole)
  (a6 : Memref sig .tc .vmem S1088x1024 .f32) (h6 : a6.IsWhole)
  (a7 : Memref sig .tc .vmem S1088x1024 .f32) (h7 : a7.IsWhole)
  (x0 : Vec Ideal S1088x1408 .bf16) (x1 : Vec Ideal S1x1024x1408 .bf16) (x2 : Vec Ideal S1088x1024 .f32)
  (xs : Vec Ideal S1088x1024 .f32)

/-- The first point of a tile leaves in the scratch buffer zero plus its product. -/
theorem sout_A (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1088x1024) hz, View.readCov_unit_zero (S := S1088x1024) _ hz]
  simp only [View.readAt_eq_ld, h3.read_unread, h4.read_unread,
    View.ld_unit_zero (S := S1088x1408) hz, View.ld_unit_zero (S := S1x1024x1408) hz3, View.ld_unit_zero (S := S1088x1024) hz]

/-- A middle point adds its product. -/
theorem sout_B (hc0 : ¬cond0_0 i) (hc1 : ¬cond0_1 i) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero (S := S1088x1024) hz]
  simp only [View.readAt_eq_ld, h3.read_unread, h4.read_unread, h7.read_unread,
    View.ld_unit_zero (S := S1088x1408) hz, View.ld_unit_zero (S := S1x1024x1408) hz3, View.ld_unit_zero (S := S1088x1024) hz]

/-- The last point adds its product and writes the tile. -/
theorem out_C_3 (hc0 : ¬cond0_0 i) (hc1 : cond0_1 i) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero (S := S1088x1024) hz, View.readCov_unit_zero (S := S1088x1024) _ hz]
  simp only [View.readAt_eq_ld, h3.read_unread, h4.read_unread, h5.read_unread, h7.read_unread,
    View.ld_unit_zero (S := S1088x1408) hz, View.ld_unit_zero (S := S1x1024x1408) hz3, View.ld_unit_zero (S := S1088x1024) hz]

/-! ### What the payloads compute -/

theorem pay1_at (r : Fin 1088) (l : Fin 1024) : k0_pay1 (F := Ideal) (ix2 r l) = 0 := by
  unfold k0_pay1
  pointwise

theorem pay2_at (r : Fin 1088) (l : Fin 1024) :
    k0_pay2 (F := Ideal) xs x0 x1 (ix2 r l) = xs (ix2 r l) + ∑ k : Fin 1408, x0 (ix2 r k) * x1 (ix3 0 l k) := by
  unfold k0_pay2
  pointwise

theorem pay3_at (r : Fin 1088) (l : Fin 1024) :
    k0_pay3 (F := Ideal) xs x2 (ix2 r l) = xs (ix2 r l) + x2 (ix2 r l) := by
  unfold k0_pay3
  pointwise

end

/-! ### Tiles -/

variable (m : (ℓ : Loc nD τ sig) → Buf (Elt Ideal) ℓ) (c : Dev nD)

theorem lt_N (t : Fin cfg0.N) : t.val < 16 := lt_of_lt_of_eq t.isLt N_0

/-- Row `s` of the row tile of point `t`. -/
def row (t : Fin cfg0.N) (s : Fin 1088) : Fin 2176 := ⟨t.val / 8 * 1088 + s.val, by have := lt_N t; omega⟩

/-- Column `l` of the column tile of point `t`. -/
def col (t : Fin cfg0.N) (l : Fin 1024) : Fin 2048 := ⟨t.val / 4 % 2 * 1024 + l.val, by omega⟩

/-- Term `k` of the part of the sum point `t` takes. -/
def part (t : Fin cfg0.N) (k : Fin 1408) : Fin 5632 := ⟨t.val % 4 * 1408 + k.val, by omega⟩

theorem idx_0 : ∀ t : Fin cfg0.N, win0_0.index t (0 : Fin 2) = t.val / 8 ∧ win0_0.index t (1 : Fin 2) = t.val % 4 :=
  (by decide +kernel : ∀ t : Fin grid0.N, _)

theorem cut_0 (t : Fin cfg0.N) (s : Fin 1088) (k : Fin 1408) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 8 * 1088 + s.val
    blk_simp; rw [e0]; try omega
  · show (((cfg0.win 0).blk t).view.emb (ix2 s k) (1 : Fin 2)).val = t.val % 4 * 1408 + k.val
    blk_simp; rw [e1]; try omega

theorem idx_1 : ∀ t : Fin cfg0.N, win0_1.index t (0 : Fin 3) = t.val % 4 ∧ win0_1.index t (1 : Fin 3) = t.val / 4 % 2 ∧ win0_1.index t (2 : Fin 3) = 0 :=
  (by decide +kernel : ∀ t : Fin grid0.N, _)

theorem cut_1 (t : Fin cfg0.N) (l : Fin 1024) (k : Fin 1408) :
    iblk m c 1 t (ix3 0 l k) = V m c main_arg1 (ix3 ⟨(part t k).val / 1408, by omega⟩ (col t l) ⟨(part t k).val % 1408, by omega⟩) := by
  obtain ⟨e0, e1, e2⟩ := idx_1 t
  show V m c main_arg1 (((cfg0.win 1).blk t).view.emb (ix3 0 l k)) = _
  refine congrArg (V m c main_arg1) ?_
  funext a
  refine Fin.ext ?_
  fin_cases a
  · show (((cfg0.win 1).blk t).view.emb (ix3 0 l k) (0 : Fin 3)).val = (t.val % 4 * 1408 + k.val) / 1408
    blk_simp; rw [e0]; try omega
  · show (((cfg0.win 1).blk t).view.emb (ix3 0 l k) (1 : Fin 3)).val = t.val / 4 % 2 * 1024 + l.val
    blk_simp; rw [e1]; try omega
  · show (((cfg0.win 1).blk t).view.emb (ix3 0 l k) (2 : Fin 3)).val = (t.val % 4 * 1408 + k.val) % 1408
    blk_simp; rw [e2]; try omega

theorem idx_2 : ∀ t : Fin cfg0.N, win0_2.index t (0 : Fin 2) = t.val / 8 ∧ win0_2.index t (1 : Fin 2) = t.val / 4 % 2 :=
  (by decide +kernel : ∀ t : Fin grid0.N, _)

theorem cut_2 (t : Fin cfg0.N) (s : Fin 1088) (l : Fin 1024) :
    iblk m c 2 t (ix2 s l) = V m c main_arg2 (ix2 (row t s) (col t l)) := by
  obtain ⟨e0, e1⟩ := idx_2 t
  show V m c main_arg2 (((cfg0.win 2).blk t).view.emb (ix2 s l)) = _
  refine congrArg (V m c main_arg2) ?_
  funext a
  refine Fin.ext ?_
  fin_cases a
  · show (((cfg0.win 2).blk t).view.emb (ix2 s l) (0 : Fin 2)).val = t.val / 8 * 1088 + s.val
    blk_simp; rw [e0]; try omega
  · show (((cfg0.win 2).blk t).view.emb (ix2 s l) (1 : Fin 2)).val = t.val / 4 % 2 * 1024 + l.val
    blk_simp; rw [e1]; try omega

/-- The terms of one point, from its two blocks. -/
theorem terms (t : Fin cfg0.N) (s : Fin 1088) (l : Fin 1024) (k : Fin 1408) :
    @HMul.hMul EReal EReal EReal _ (iblk m c 0 t (ix2 s k)) (iblk m c 1 t (ix3 0 l k)) = term (V m c main_arg0) (V m c main_arg1) (row t s) (col t l) (part t k) := by
  rw [cut_0, cut_1]
  rfl

/-- The point before, in the same tile. -/
theorem prev_row (t : Fin cfg0.N) (h : t.val % 4 ≠ 0) (s : Fin 1088) : row ⟨t.val - 1, (Nat.lt_of_le_of_lt (Nat.sub_le _ _) t.isLt)⟩ s = row t s := Fin.ext (by
  show (t.val - 1) / 8 * 1088 + s.val = t.val / 8 * 1088 + s.val; omega)

theorem prev_col (t : Fin cfg0.N) (h : t.val % 4 ≠ 0) (l : Fin 1024) : col ⟨t.val - 1, (Nat.lt_of_le_of_lt (Nat.sub_le _ _) t.isLt)⟩ l = col t l := Fin.ext (by
  show (t.val - 1) / 4 % 2 * 1024 + l.val = t.val / 4 % 2 * 1024 + l.val; omega)

/-- After the first point of a tile the scratch buffer holds the first part of the sum. -/
theorem scratch_0 (t : Fin cfg0.N) (h : t.val % 4 = 0) (s : Fin 1088) (l : Fin 1024) :
    (outsAt0 m c t.val t.isLt).2 (ix2 s l) = ∑ k : Fin 1408, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 4 * 1408 + k.val = k.val
  omega

theorem scratch_1 (t : Fin cfg0.N) (h : t.val % 4 = 1) (s : Fin 1088) (l : Fin 1024) :
    (outsAt0 m c t.val t.isLt).2 (ix2 s l) = ((∑ k : Fin 1408, term (V m c main_arg0) (V m c main_arg1) (row t s) (col t l) ⟨k.val, by omega⟩) + ∑ k : Fin 1408, term (V m c main_arg0) (V m c main_arg1) (row t s) (col t l) ⟨1408 + k.val, by omega⟩) := by
  have e := scratch_0 m c ⟨t.val - 1, (Nat.lt_of_le_of_lt (Nat.sub_le _ _) t.isLt)⟩ (by show (t.val - 1) % 4 = 0; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 4 * 1408 + k.val = 1408 + k.val
  omega

theorem scratch_2 (t : Fin cfg0.N) (h : t.val % 4 = 2) (s : Fin 1088) (l : Fin 1024) :
    (outsAt0 m c t.val t.isLt).2 (ix2 s l) = (((∑ k : Fin 1408, term (V m c main_arg0) (V m c main_arg1) (row t s) (col t l) ⟨k.val, by omega⟩) + ∑ k : Fin 1408, term (V m c main_arg0) (V m c main_arg1) (row t s) (col t l) ⟨1408 + k.val, by omega⟩) + ∑ k : Fin 1408, term (V m c main_arg0) (V m c main_arg1) (row t s) (col t l) ⟨2816 + k.val, by omega⟩) := by
  have e := scratch_1 m c ⟨t.val - 1, (Nat.lt_of_le_of_lt (Nat.sub_le _ _) t.isLt)⟩ (by show (t.val - 1) % 4 = 1; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 4 * 1408 + k.val = 2816 + k.val
  omega

/-- At the last point the scratch buffer comes to hold the whole sum. -/
theorem whole (t : Fin cfg0.N) (h : t.val % 4 = 3) (s : Fin 1088) (l : Fin 1024) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_2 m c ⟨t.val - 1, (Nat.lt_of_le_of_lt (Nat.sub_le _ _) t.isLt)⟩ (by show (t.val - 1) % 4 = 2; omega) s l
  rw [prev_row t (by omega), prev_col t (by omega)] at e
  rw [← sum_quarters]
  refine (pay2_at _ _ _ s l).trans (congrArg₂ (· + ·) e (sum_congr rfl fun k _ => (terms m c t s l k).trans (congrArg _ (Fin.ext ?_))))
  show t.val % 4 * 1408 + k.val = 4224 + k.val
  omega

theorem tile_3 (t : Fin cfg0.N) (h : t.val % 4 = 3) (s : Fin 1088) (l : Fin 1024) :
    (outsAt0 m c t.val t.isLt).1 (ix2 s l) = Cert.Reference9Ideal.Read.val_main_v7 (F := Ideal) (V m c main_arg0) (V m c main_arg1) (V m c main_arg2) (ix2 (row t s) (col t l)) := by
  simp only [outsAt0_C m c t (by omega) h]
  rw [out_C_3]
  refine (pay3_at _ _ s l).trans ?_
  rw [ref_at, whole m c t h, cut_2, add_comm]

theorem idx_3 : ∀ t : Fin cfg0.N, win0_3.index t (0 : Fin 2) = t.val / 8 ∧ win0_3.index t (1 : Fin 2) = t.val / 4 % 2 :=
  (by decide +kernel : ∀ t : Fin grid0.N, _)

theorem arr_3 : (dats m 0 c).arrAt 3 cfg0.N
    = Cert.Reference9Ideal.Read.val_main_v7 (F := Ideal) (V m c main_arg0) (V m c main_arg1) (V m c main_arg2) := by
  refine (dats m 0 c).arrAt_eq_of_covers 3 _ (by decide +kernel) fun t hf y => ?_
  obtain ⟨e0, e1⟩ := idx_3 t
  have he : ((cfg0.win 3).blk t).view.emb y = ix2 (row t (y (0 : Fin 2))) (col t (y (1 : Fin 2))) := by
    funext a
    refine Fin.ext ?_
    fin_cases a
    · show (((cfg0.win 3).blk t).view.emb y (0 : Fin 2)).val = t.val / 8 * 1088 + (y (0 : Fin 2)).val
      blk_simp; rw [e0]
    · show (((cfg0.win 3).blk t).view.emb y (1 : Fin 2)).val = t.val / 4 % 2 * 1024 + (y (1 : Fin 2)).val
      blk_simp; rw [e1]
  have hy : y = ix2 (y (0 : Fin 2)) (y (1 : Fin 2)) := by funext a; fin_cases a <;> rfl
  show (dats m 0 c).after 3 t y = _
  rw [after0_3, he]
  exact (congrArg (outsAt0 m c t.val t.isLt).1 hy).trans (tile_3 m c t ((flush0_3 t).mp hf) _ _)

/-! ### The two programs -/

theorem frame_reference : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

theorem equal_results : Cert.algebraic_Kernel9Ideal_Reference9Ideal := by
  intro m g m' g' hpre hagree
  refine ⟨fun c => (dats m 0 c).arrAt 3 cfg0.N,
    Cert.Kernel9Ideal.Value.run_blocks m g, ?_⟩
  refine (θ_run Cert.Reference9Ideal.defs _ _).mono (fun r h c => ?_) (Cert.Reference9Ideal.Value.run (F := Ideal) m' g')
  obtain ⟨e0, e1, e2⟩ := hagree c
  obtain ⟨r0, k⟩ := h c
  refine ⟨(r0.trans (Cert.Reference9Ideal.Read.val_main_v7_eq _ _ _)).trans ?_, k⟩
  · rw [e0, e1, e2]
    exact (arr_3 m c).symm

end Cert.FfnBackUp

end
-- ==== Proof.MixOut.lean ====
/- The output projection of the mixer, added to the layer's input. -/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Sums
public import Idealize.ShloMosaic.Lib.Pointwise
public import Idealize.ShloMosaic.Lib.Pipeline.ValueKit

@[expose] public section

noncomputable section

namespace Cert.MixOut

open Idealize.ShloMosaic Idealize.ShloMosaic.TcCoe Idealize.SL.Sem Finset Cert.Ffn
open Cert.Kernel10Ideal Cert.Kernel10Ideal.Gen

/-! ### The reference -/

/-- Term `k` of the product's entry at row `r` and column `j`. -/
def term (x0 : FVec Ideal Cert.Reference10Ideal.S2176x2048 .bf16) (x1 : FVec Ideal Cert.Reference10Ideal.S2048x2048 .bf16)
    (r : Fin 2176) (j : Fin 2048) (k : Fin 2048) : EReal :=
  x0 (ix2 r k) * x1 (ix2 k j)

section
variable (x0 : FVec Ideal Cert.Reference10Ideal.S2176x2048 .bf16) (x1 : FVec Ideal Cert.Reference10Ideal.S2048x2048 .bf16) (x2 : FVec Ideal Cert.Reference10Ideal.S2176x2048 .f32)

theorem ref_at (r : Fin 2176) (j : Fin 2048) :
    Cert.Reference10Ideal.Read.val_main_v3 (F := Ideal) x0 x1 x2 (ix2 r j) = x2 (ix2 r j) + ∑ k, term x0 x1 r j k := by
  open Cert.Reference10Ideal.Read in
  pointwise [val_main_v3, val_main_v2, val_main_v1, val_main_v0]
  rfl

end

/-! ### The cases of a point -/

section
variable (c : Dev nD) (i : grid0.Coords)
  (a3 : Memref sig .tc .vmem S1088x1024 .bf16) (h3 : a3.IsWhole)
  (a4 : Memref sig .tc .vmem S1024x1024 .bf16) (h4 : a4.IsWhole)
  (a5 : Memref sig .tc .vmem S1088x1024 .f32) (h5 : a5.IsWhole)
  (a6 : Memref sig .tc .vmem S1088x1024 .f32) (h6 : a6.IsWhole)
  (a7 : Memref sig .tc .vmem S1088x1024 .f32) (h7 : a7.IsWhole)
  (x0 : Vec Ideal S1088x1024 .bf16) (x1 : Vec Ideal S1024x1024 .bf16) (x2 : Vec Ideal S1088x1024 .f32)
  (xs : Vec Ideal S1088x1024 .f32)

/-- The first point of a tile leaves in the scratch buffer zero plus its product. -/
theorem sout_A (hc0 : cond0_0 i) (hc1 : ¬cond0_1 i) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1088x1024) hz, View.readCov_unit_zero (S := S1088x1024) _ hz]
  simp only [View.readAt_eq_ld, h3.read_unread, h4.read_unread,
    View.ld_unit_zero (S := S1088x1024) hz, View.ld_unit_zero (S := S1024x1024) hz]

/-- The last point adds its product and writes the tile. -/
theorem out_B_3 (hc0 : ¬cond0_0 i) (hc1 : cond0_1 i) :
    out0_B_3 c i a3 h3 a4 h4 a5 h5 a6 h6 a7 h7 hc0 hc1 x0 x1 x2 xs = k0_pay3 (k0_pay2 xs x0 x1) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero (S := S1088x1024) hz, View.readCov_unit_zero (S := S1088x1024) _ hz]
  simp only [View.readAt_eq_ld, h3.read_unread, h4.read_unread, h5.read_unread, h7.read_unread,
    View.ld_unit_zero (S := S1088x1024) hz, View.ld_unit_zero (S := S1024x1024) hz]

/-! ### What the payloads compute -/

theorem pay1_at (r : Fin 1088) (l : Fin 1024) : k0_pay1 (F := Ideal) (ix2 r l) = 0 := by
  unfold k0_pay1
  pointwise

theorem pay2_at (r : Fin 1088) (l : Fin 1024) :
    k0_pay2 (F := Ideal) xs x0 x1 (ix2 r l) = xs (ix2 r l) + ∑ k : Fin 1024, x0 (ix2 r k) * x1 (ix2 k l) := by
  unfold k0_pay2
  pointwise

theorem pay3_at (r : Fin 1088) (l : Fin 1024) :
    k0_pay3 (F := Ideal) xs x2 (ix2 r l) = xs (ix2 r l) + x2 (ix2 r l) := by
  unfold k0_pay3
  pointwise

end

/-! ### Tiles -/

variable (m : (ℓ : Loc nD τ sig) → Buf (Elt Ideal) ℓ) (c : Dev nD)

theorem lt_N (t : Fin cfg0.N) : t.val < 8 := lt_of_lt_of_eq t.isLt N_0

/-- Row `s` of the row tile of point `t`. -/
def row (t : Fin cfg0.N) (s : Fin 1088) : Fin 2176 := ⟨t.val / 4 * 1088 + s.val, by have := lt_N t; omega⟩

/-- Column `l` of the column tile of point `t`. -/
def col (t : Fin cfg0.N) (l : Fin 1024) : Fin 2048 := ⟨t.val / 2 % 2 * 1024 + l.val, by omega⟩

/-- Term `k` of the part of the sum point `t` takes. -/
def part (t : Fin cfg0.N) (k : Fin 1024) : Fin 2048 := ⟨t.val % 2 * 1024 + k.val, by omega⟩

theorem idx_0 : ∀ t : Fin cfg0.N, win0_0.index t (0 : Fin 2) = t.val / 4 ∧ win0_0.index t (1 : Fin 2) = t.val % 2 :=
  (by decide +kernel : ∀ t : Fin grid0.N, _)

theorem cut_0 (t : Fin cfg0.N) (s : Fin 1088) (k : Fin 1024) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 4 * 1088 + s.val
    blk_simp; rw [e0]; try omega
  · show (((cfg0.win 0).blk t).view.emb (ix2 s k) (1 : Fin 2)).val = t.val % 2 * 1024 + k.val
    blk_simp; rw [e1]; try omega

theorem idx_1 : ∀ t : Fin cfg0.N, win0_1.index t (0 : Fin 2) = t.val % 2 ∧ win0_1.index t (1 : Fin 2) = t.val / 2 % 2 :=
  (by decide +kernel : ∀ t : Fin grid0.N, _)

theorem cut_1 (t : Fin cfg0.N) (k : Fin 1024) (l : Fin 1024) :
    iblk m c 1 t (ix2 k l) = V m c main_arg1 (ix2 (part t k) (col t l)) := by
  obtain ⟨e0, e1⟩ := idx_1 t
  show V m c main_arg1 (((cfg0.win 1).blk t).view.emb (ix2 k l)) = _
  refine congrArg (V m c main_arg1) ?_
  funext a
  refine Fin.ext ?_
  fin_cases a
  · show (((cfg0.win 1).blk t).view.emb (ix2 k l) (0 : Fin 2)).val = t.val % 2 * 1024 + k.val
    blk_simp; rw [e0]; try omega
  · show (((cfg0.win 1).blk t).view.emb (ix2 k l) (1 : Fin 2)).val = t.val / 2 % 2 * 1024 + l.val
    blk_simp; rw [e1]; try omega

theorem idx_2 : ∀ t : Fin cfg0.N, win0_2.index t (0 : Fin 2) = t.val / 4 ∧ win0_2.index t (1 : Fin 2) = t.val / 2 % 2 :=
  (by decide +kernel : ∀ t : Fin grid0.N, _)

theorem cut_2 (t : Fin cfg0.N) (s : Fin 1088) (l : Fin 1024) :
    iblk m c 2 t (ix2 s l) = V m c main_arg2 (ix2 (row t s) (col t l)) := by
  obtain ⟨e0, e1⟩ := idx_2 t
  show V m c main_arg2 (((cfg0.win 2).blk t).view.emb (ix2 s l)) = _
  refine congrArg (V m c main_arg2) ?_
  funext a
  refine Fin.ext ?_
  fin_cases a
  · show (((cfg0.win 2).blk t).view.emb (ix2 s l) (0 : Fin 2)).val = t.val / 4 * 1088 + s.val
    blk_simp; rw [e0]; try omega
  · show (((cfg0.win 2).blk t).view.emb (ix2 s l) (1 : Fin 2)).val = t.val / 2 % 2 * 1024 + l.val
    blk_simp; rw [e1]; try omega

/-- The terms of one point, from its two blocks. -/
theorem terms (t : Fin cfg0.N) (s : Fin 1088) (l : Fin 1024) (k : Fin 1024) :
    @HMul.hMul EReal EReal EReal _ (iblk m c 0 t (ix2 s k)) (iblk m c 1 t (ix2 k l)) = term (V m c main_arg0) (V m c main_arg1) (row t s) (col t l) (part t k) := by
  rw [cut_0, cut_1]
  rfl

/-- The point before, in the same tile. -/
theorem prev_row (t : Fin cfg0.N) (h : t.val % 2 ≠ 0) (s : Fin 1088) : row ⟨t.val - 1, (Nat.lt_of_le_of_lt (Nat.sub_le _ _) t.isLt)⟩ s = row t s := Fin.ext (by
  show (t.val - 1) / 4 * 1088 + s.val = t.val / 4 * 1088 + s.val; omega)

theorem prev_col (t : Fin cfg0.N) (h : t.val % 2 ≠ 0) (l : Fin 1024) : col ⟨t.val - 1, (Nat.lt_of_le_of_lt (Nat.sub_le _ _) t.isLt)⟩ l = col t l := Fin.ext (by
  show (t.val - 1) / 2 % 2 * 1024 + l.val = t.val / 2 % 2 * 1024 + l.val; omega)

/-- After the first point of a tile the scratch buffer holds the first part of the sum. -/
theorem scratch_0 (t : Fin cfg0.N) (h : t.val % 2 = 0) (s : Fin 1088) (l : Fin 1024) :
    (outsAt0 m c t.val t.isLt).2 (ix2 s l) = ∑ k : Fin 1024, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 2 * 1024 + k.val = k.val
  omega

/-- At the last point the scratch buffer comes to hold the whole sum. -/
theorem whole (t : Fin cfg0.N) (h : t.val % 2 = 1) (s : Fin 1088) (l : Fin 1024) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_0 m c ⟨t.val - 1, (Nat.lt_of_le_of_lt (Nat.sub_le _ _) t.isLt)⟩ (by show (t.val - 1) % 2 = 0; omega) s l
  rw [prev_row t (by omega), prev_col t (by omega)] at e
  rw [← sum_halves]
  refine (pay2_at _ _ _ s l).trans (congrArg₂ (· + ·) e (sum_congr rfl fun k _ => (terms m c t s l k).trans (congrArg _ (Fin.ext ?_))))
  show t.val % 2 * 1024 + k.val = 1024 + k.val
  omega

theorem tile_3 (t : Fin cfg0.N) (h : t.val % 2 = 1) (s : Fin 1088) (l : Fin 1024) :
    (outsAt0 m c t.val t.isLt).1 (ix2 s l) = Cert.Reference10Ideal.Read.val_main_v3 (F := Ideal) (V m c main_arg0) (V m c main_arg1) (V m c main_arg2) (ix2 (row t s) (col t l)) := by
  simp only [outsAt0_B m c t (by omega) h]
  rw [out_B_3]
  refine (pay3_at _ _ s l).trans ?_
  rw [ref_at, whole m c t h, cut_2, add_comm]

theorem idx_3 : ∀ t : Fin cfg0.N, win0_3.index t (0 : Fin 2) = t.val / 4 ∧ win0_3.index t (1 : Fin 2) = t.val / 2 % 2 :=
  (by decide +kernel : ∀ t : Fin grid0.N, _)

theorem arr_3 : (dats m 0 c).arrAt 3 cfg0.N
    = Cert.Reference10Ideal.Read.val_main_v3 (F := Ideal) (V m c main_arg0) (V m c main_arg1) (V m c main_arg2) := by
  refine (dats m 0 c).arrAt_eq_of_covers 3 _ (by decide +kernel) fun t hf y => ?_
  obtain ⟨e0, e1⟩ := idx_3 t
  have he : ((cfg0.win 3).blk t).view.emb y = ix2 (row t (y (0 : Fin 2))) (col t (y (1 : Fin 2))) := by
    funext a
    refine Fin.ext ?_
    fin_cases a
    · show (((cfg0.win 3).blk t).view.emb y (0 : Fin 2)).val = t.val / 4 * 1088 + (y (0 : Fin 2)).val
      blk_simp; rw [e0]
    · show (((cfg0.win 3).blk t).view.emb y (1 : Fin 2)).val = t.val / 2 % 2 * 1024 + (y (1 : Fin 2)).val
      blk_simp; rw [e1]
  have hy : y = ix2 (y (0 : Fin 2)) (y (1 : Fin 2)) := by funext a; fin_cases a <;> rfl
  show (dats m 0 c).after 3 t y = _
  rw [after0_3, he]
  exact (congrArg (outsAt0 m c t.val t.isLt).1 hy).trans (tile_3 m c t ((flush0_3 t).mp hf) _ _)

/-! ### The two programs -/

theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

theorem equal_results : Cert.algebraic_Kernel10Ideal_Reference10Ideal := by
  intro m g m' g' hpre hagree
  refine ⟨fun c => (dats m 0 c).arrAt 3 cfg0.N,
    Cert.Kernel10Ideal.Value.run_blocks m g, ?_⟩
  refine (θ_run Cert.Reference10Ideal.defs _ _).mono (fun r h c => ?_) (Cert.Reference10Ideal.Value.run (F := Ideal) m' g')
  obtain ⟨e0, e1, e2⟩ := hagree c
  obtain ⟨r0, k⟩ := h c
  refine ⟨(r0.trans (Cert.Reference10Ideal.Read.val_main_v3_eq _ _ _)).trans ?_, k⟩
  · rw [e0, e1, e2]
    exact (arr_3 m c).symm

end Cert.MixOut

end
-- ==== Proof.MixBackOut.lean ====
/- The gradient of the mixer's output through its projection. -/
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Sums
public import Idealize.ShloMosaic.Lib.Pointwise
public import Idealize.ShloMosaic.Lib.Pipeline.ValueKit

@[expose] public section

noncomputable section

namespace Cert.MixBackOut

open Idealize.ShloMosaic Idealize.ShloMosaic.TcCoe Idealize.SL.Sem Finset Cert.Ffn
open Cert.Kernel11Ideal Cert.Kernel11Ideal.Gen

/-! ### The reference -/

/-- Term `k` of the product's entry at row `r` and column `j`. -/
def term (x0 : FVec Ideal Cert.Reference11Ideal.S2176x2048 .bf16) (x1 : FVec Ideal Cert.Reference11Ideal.S2048x2048 .bf16)
    (r : Fin 2176) (j : Fin 2048) (k : Fin 2048) : EReal :=
  x0 (ix2 r k) * x1 (ix2 j k)

section
variable (x0 : FVec Ideal Cert.Reference11Ideal.S2176x2048 .bf16) (x1 : FVec Ideal Cert.Reference11Ideal.S2048x2048 .bf16)

theorem ref_at (r : Fin 2176) (j : Fin 2048) :
    Cert.Reference11Ideal.Read.val_main_v4 (F := Ideal) x0 x1 (ix2 r j) = ∑ k, term x0 x1 r j k := by
  open Cert.Reference11Ideal.Read in
  pointwise [val_main_v4, val_main_v3, val_main_v1]
  rfl

end

/-! ### The cases of a point -/

section
variable (c : Dev nD) (i : grid0.Coords)
  (a3 : Memref sig .tc .vmem S1088x1024 .bf16) (h3 : a3.IsWhole)
  (a4 : Memref sig .tc .vmem S1024x1024 .bf16) (h4 : a4.IsWhole)
  (a5 : Memref sig .tc .vmem S1088x1024 .f32) (h5 : a5.IsWhole)
  (a6 : Memref sig .tc .vmem S1088x1024 .f32) (h6 : a6.IsWhole)
  (x0 : Vec Ideal S1088x1024 .bf16) (x1 : Vec Ideal S1024x1024 .bf16)
  (xs : Vec Ideal S1088x1024 .f32)

/-- The first point of a tile leaves in the scratch buffer zero plus its product. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1088x1024) hz, View.readCov_unit_zero (S := S1088x1024) _ hz]
  simp only [View.readAt_eq_ld, h3.read_unread, h4.read_unread,
    View.ld_unit_zero (S := S1088x1024) hz, View.ld_unit_zero (S := S1024x1024) hz]

/-- The last point adds its product and writes the tile. -/
theorem out_B_2 (hc0 : ¬cond0_0 i) (hc1 : cond0_1 i) :
    out0_B_2 c i a3 h3 a4 h4 a5 h5 a6 h6 hc0 hc1 x0 x1 xs = k0_pay2 xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1088x1024) hz, View.readCov_unit_zero (S := S1088x1024) _ hz]
  simp only [View.readAt_eq_ld, h3.read_unread, h4.read_unread, h6.read_unread,
    View.ld_unit_zero (S := S1088x1024) hz, View.ld_unit_zero (S := S1024x1024) hz]

/-! ### What the payloads compute -/

theorem pay1_at (r : Fin 1088) (l : Fin 1024) : k0_pay1 (F := Ideal) (ix2 r l) = 0 := by
  unfold k0_pay1
  pointwise

theorem pay2_at (r : Fin 1088) (l : Fin 1024) :
    k0_pay2 (F := Ideal) xs x0 x1 (ix2 r l) = xs (ix2 r l) + ∑ k : Fin 1024, x0 (ix2 r k) * x1 (ix2 l k) := by
  unfold k0_pay2
  pointwise

end

/-! ### Tiles -/

variable (m : (ℓ : Loc nD τ sig) → Buf (Elt Ideal) ℓ) (c : Dev nD)

theorem lt_N (t : Fin cfg0.N) : t.val < 8 := lt_of_lt_of_eq t.isLt N_0

/-- Row `s` of the row tile of point `t`. -/
def row (t : Fin cfg0.N) (s : Fin 1088) : Fin 2176 := ⟨t.val / 4 * 1088 + s.val, by have := lt_N t; omega⟩

/-- Column `l` of the column tile of point `t`. -/
def col (t : Fin cfg0.N) (l : Fin 1024) : Fin 2048 := ⟨t.val / 2 % 2 * 1024 + l.val, by omega⟩

/-- Term `k` of the part of the sum point `t` takes. -/
def part (t : Fin cfg0.N) (k : Fin 1024) : Fin 2048 := ⟨t.val % 2 * 1024 + k.val, by omega⟩

theorem idx_0 : ∀ t : Fin cfg0.N, win0_0.index t (0 : Fin 2) = t.val / 4 ∧ win0_0.index t (1 : Fin 2) = t.val % 2 :=
  (by decide +kernel : ∀ t : Fin grid0.N, _)

theorem cut_0 (t : Fin cfg0.N) (s : Fin 1088) (k : Fin 1024) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 4 * 1088 + s.val
    blk_simp; rw [e0]; try omega
  · show (((cfg0.win 0).blk t).view.emb (ix2 s k) (1 : Fin 2)).val = t.val % 2 * 1024 + k.val
    blk_simp; rw [e1]; try omega

theorem idx_1 : ∀ t : Fin cfg0.N, win0_1.index t (0 : Fin 2) = t.val / 2 % 2 ∧ win0_1.index t (1 : Fin 2) = t.val % 2 :=
  (by decide +kernel : ∀ t : Fin grid0.N, _)

theorem cut_1 (t : Fin cfg0.N) (l : Fin 1024) (k : Fin 1024) :
    iblk m c 1 t (ix2 l k) = V m c main_arg1 (ix2 (col t l) (part t k)) := by
  obtain ⟨e0, e1⟩ := idx_1 t
  show V m c main_arg1 (((cfg0.win 1).blk t).view.emb (ix2 l k)) = _
  refine congrArg (V m c main_arg1) ?_
  funext a
  refine Fin.ext ?_
  fin_cases a
  · show (((cfg0.win 1).blk t).view.emb (ix2 l k) (0 : Fin 2)).val = t.val / 2 % 2 * 1024 + l.val
    blk_simp; rw [e0]; try omega
  · show (((cfg0.win 1).blk t).view.emb (ix2 l k) (1 : Fin 2)).val = t.val % 2 * 1024 + k.val
    blk_simp; rw [e1]; try omega

/-- The terms of one point, from its two blocks. -/
theorem terms (t : Fin cfg0.N) (s : Fin 1088) (l : Fin 1024) (k : Fin 1024) :
    @HMul.hMul EReal EReal EReal _ (iblk m c 0 t (ix2 s k)) (iblk m c 1 t (ix2 l k)) = term (V m c main_arg0) (V m c main_arg1) (row t s) (col t l) (part t k) := by
  rw [cut_0, cut_1]
  rfl

/-- The point before, in the same tile. -/
theorem prev_row (t : Fin cfg0.N) (h : t.val % 2 ≠ 0) (s : Fin 1088) : row ⟨t.val - 1, (Nat.lt_of_le_of_lt (Nat.sub_le _ _) t.isLt)⟩ s = row t s := Fin.ext (by
  show (t.val - 1) / 4 * 1088 + s.val = t.val / 4 * 1088 + s.val; omega)

theorem prev_col (t : Fin cfg0.N) (h : t.val % 2 ≠ 0) (l : Fin 1024) : col ⟨t.val - 1, (Nat.lt_of_le_of_lt (Nat.sub_le _ _) t.isLt)⟩ l = col t l := Fin.ext (by
  show (t.val - 1) / 2 % 2 * 1024 + l.val = t.val / 2 % 2 * 1024 + l.val; omega)

/-- After the first point of a tile the scratch buffer holds the first part of the sum. -/
theorem scratch_0 (t : Fin cfg0.N) (h : t.val % 2 = 0) (s : Fin 1088) (l : Fin 1024) :
    (outsAt0 m c t.val t.isLt).2 (ix2 s l) = ∑ k : Fin 1024, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 2 * 1024 + k.val = k.val
  omega

/-- At the last point the scratch buffer comes to hold the whole sum. -/
theorem whole (t : Fin cfg0.N) (h : t.val % 2 = 1) (s : Fin 1088) (l : Fin 1024) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_0 m c ⟨t.val - 1, (Nat.lt_of_le_of_lt (Nat.sub_le _ _) t.isLt)⟩ (by show (t.val - 1) % 2 = 0; omega) s l
  rw [prev_row t (by omega), prev_col t (by omega)] at e
  rw [← sum_halves]
  refine (pay2_at _ _ _ s l).trans (congrArg₂ (· + ·) e (sum_congr rfl fun k _ => (terms m c t s l k).trans (congrArg _ (Fin.ext ?_))))
  show t.val % 2 * 1024 + k.val = 1024 + k.val
  omega

theorem tile_2 (t : Fin cfg0.N) (h : t.val % 2 = 1) (s : Fin 1088) (l : Fin 1024) :
    (outsAt0 m c t.val t.isLt).1 (ix2 s l) = Cert.Reference11Ideal.Read.val_main_v4 (F := Ideal) (V m c main_arg0) (V m c main_arg1) (ix2 (row t s) (col t l)) := by
  simp only [outsAt0_B m c t (by omega) h]
  rw [out_B_2]
  exact (whole m c t h s l).trans (ref_at _ _ _ _).symm

theorem idx_2 : ∀ t : Fin cfg0.N, win0_2.index t (0 : Fin 2) = t.val / 4 ∧ win0_2.index t (1 : Fin 2) = t.val / 2 % 2 :=
  (by decide +kernel : ∀ t : Fin grid0.N, _)

theorem arr_2 : (dats m 0 c).arrAt 2 cfg0.N
    = Cert.Reference11Ideal.Read.val_main_v4 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 4 * 1088 + (y (0 : Fin 2)).val
      blk_simp; rw [e0]
    · show (((cfg0.win 2).blk t).view.emb y (1 : Fin 2)).val = t.val / 2 % 2 * 1024 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t.val t.isLt).1 hy).trans (tile_2 m c t ((flush0_2 t).mp hf) _ _)

/-! ### The two programs -/

theorem frame_reference : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem equal_results : Cert.algebraic_Kernel11Ideal_Reference11Ideal := by
  intro m g m' g' hpre hagree
  refine ⟨fun c => (dats m 0 c).arrAt 2 cfg0.N,
    Cert.Kernel11Ideal.Value.run_blocks m g, ?_⟩
  refine (θ_run Cert.Reference11Ideal.defs _ _).mono (fun r h c => ?_) (Cert.Reference11Ideal.Value.run (F := Ideal) m' g')
  obtain ⟨e0, e1⟩ := hagree c
  obtain ⟨r0, k⟩ := h c
  refine ⟨(r0.trans (Cert.Reference11Ideal.Read.val_main_v4_eq _ _)).trans ?_, k⟩
  · rw [e0, e1]
    exact (arr_2 m c).symm

end Cert.MixBackOut

end
-- ==== Proof.MixOutWeight.lean ====
/- The gradient of the output projection: the product of the transposed mixer output and the layer's gradient. -/
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Sums
public import Idealize.ShloMosaic.Lib.Pointwise
public import Idealize.ShloMosaic.Lib.Pipeline.ValueKit

@[expose] public section

noncomputable section

namespace Cert.MixOutWeight

open Idealize.ShloMosaic Idealize.ShloMosaic.TcCoe Idealize.SL.Sem Finset Cert.Ffn

/-- The reference's entry: the sum over the rows. -/
theorem ref_at (x0 : FVec Ideal Cert.Reference12Ideal.S2176x2048 .bf16) (x1 : FVec Ideal Cert.Reference12Ideal.S2176x2048 .bf16)
    (r : Fin 2048) (l : Fin 2048) :
    Cert.Reference12Ideal.Read.val_main_v7 (F := Ideal) x0 x1 (ix2 r l) = ∑ k : Fin 2176, x0 (ix2 k r) * x1 (ix2 k l) := by
  open Cert.Reference12Ideal.Read in
  pointwise [val_main_v7, val_main_v6, val_main_v5, val_main_v4, val_main_v1]
  exact sum_congr rfl fun k _ => mul_comm (x1 _) (x0 _)

open Cert.Kernel12Ideal Cert.Kernel12Ideal.Gen

section
variable (c : Dev nD) (i : grid0.Coords)
  (a3 : Memref sig .tc .vmem S2176x1024 .bf16) (h3 : a3.IsWhole)
  (a4 : Memref sig .tc .vmem S2176x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S2176x1024 .bf16) (x1 : Vec Ideal S2176x1024 .bf16)

/-- A point writes the product of its two blocks. -/
theorem out_A (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero (S := S1024x1024) hz]
  rw [View.readCov_cons_unit_lit' (S := S1024x1024) _ _ _ _ _ hz' hz', View.readCov_unit_zero (S := S1024x1024) _ hz]
  simp only [View.readAt_eq_ld, h3.read_unread, h4.read_unread, View.ld_unit_zero (S := S2176x1024) hz,
    View.ld_unit_zero (S := S2176x1024) hz]

theorem pay_at (r : Fin 1024) (l : Fin 1024) :
    k0_pay3 (F := Ideal) (k0_pay2 k0_pay1 x0 x1) (ix2 r l)
      = ∑ k : Fin 2176, x0 (ix2 k r) * x1 (ix2 k l) := by
  unfold k0_pay3 k0_pay2 k0_pay1
  pointwise

end

variable (m : (ℓ : Loc nD τ sig) → Buf (Elt Ideal) ℓ) (c : Dev nD)

theorem lt_N (t : Fin cfg0.N) : t.val < 4 := lt_of_lt_of_eq t.isLt N_0

/-- Row `s` of the row tile of point `t`. -/
def row (t : Fin cfg0.N) (s : Fin 1024) : Fin 2048 := ⟨t.val / 2 * 1024 + s.val, by have := lt_N t; omega⟩

/-- Column `l` of the column tile of point `t`. -/
def col (t : Fin cfg0.N) (l : Fin 1024) : Fin 2048 := ⟨t.val % 2 * 1024 + l.val, by omega⟩

theorem idx_0 : ∀ t : Fin cfg0.N, win0_0.index t (0 : Fin 2) = 0 ∧ win0_0.index t (1 : Fin 2) = t.val / 2 :=
  (by decide +kernel : ∀ t : Fin grid0.N, _)

theorem cut_0 (t : Fin cfg0.N) (k : Fin 2176) (s : Fin 1024) :
    iblk m c 0 t (ix2 k s) = V m c main_arg0 (ix2 k (row t s)) := by
  obtain ⟨e0, e1⟩ := idx_0 t
  show V m c main_arg0 (((cfg0.win 0).blk t).view.emb (ix2 k s)) = _
  refine congrArg (V m c main_arg0) ?_
  funext a
  refine Fin.ext ?_
  fin_cases a
  · show (((cfg0.win 0).blk t).view.emb (ix2 k s) (0 : Fin 2)).val = k.val
    blk_simp; rw [e0]; omega
  · show (((cfg0.win 0).blk t).view.emb (ix2 k s) (1 : Fin 2)).val = t.val / 2 * 1024 + s.val
    blk_simp; rw [e1]

theorem idx_1 : ∀ t : Fin cfg0.N, win0_1.index t (0 : Fin 2) = 0 ∧ win0_1.index t (1 : Fin 2) = t.val % 2 :=
  (by decide +kernel : ∀ t : Fin grid0.N, _)

theorem cut_1 (t : Fin cfg0.N) (k : Fin 2176) (l : Fin 1024) :
    iblk m c 1 t (ix2 k l) = V m c main_arg1 (ix2 k (col t l)) := by
  obtain ⟨e0, e1⟩ := idx_1 t
  show V m c main_arg1 (((cfg0.win 1).blk t).view.emb (ix2 k l)) = _
  refine congrArg (V m c main_arg1) ?_
  funext a
  refine Fin.ext ?_
  fin_cases a
  · show (((cfg0.win 1).blk t).view.emb (ix2 k l) (0 : Fin 2)).val = k.val
    blk_simp; rw [e0]; omega
  · show (((cfg0.win 1).blk t).view.emb (ix2 k l) (1 : Fin 2)).val = t.val % 2 * 1024 + l.val
    blk_simp; rw [e1]

theorem tile (t : Fin cfg0.N) (s : Fin 1024) (l : Fin 1024) :
    outsAt0 m c t (ix2 s l) = Cert.Reference12Ideal.Read.val_main_v7 (F := Ideal) (V m c main_arg0) (V m c main_arg1) (ix2 (row t s) (col t l)) := by
  unfold outsAt0
  rw [out_A]
  refine (pay_at _ _ s l).trans ?_
  rw [ref_at]
  refine sum_congr rfl fun k _ => ?_
  rw [cut_0, cut_1]

theorem idx_2 : ∀ t : Fin cfg0.N, win0_2.index t (0 : Fin 2) = t.val / 2 ∧ win0_2.index t (1 : Fin 2) = t.val % 2 :=
  (by decide +kernel : ∀ t : Fin grid0.N, _)

theorem arr : (dats m 0 c).arrAt 2 cfg0.N
    = Cert.Reference12Ideal.Read.val_main_v7 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 2 * 1024 + (y (0 : Fin 2)).val
      blk_simp; rw [e0]
    · show (((cfg0.win 2).blk t).view.emb y (1 : Fin 2)).val = t.val % 2 * 1024 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t) hy).trans (tile m c t _ _)

theorem frame_reference : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

theorem equal_results : Cert.algebraic_Kernel12Ideal_Reference12Ideal := by
  intro m g m' g' hpre hagree
  refine ⟨fun c => (Cert.Kernel12Ideal.Gen.dats m 0 c).arrAt 2 Cert.Kernel12Ideal.cfg0.N,
    Cert.Kernel12Ideal.Value.run_blocks m g, ?_⟩
  refine (θ_run Cert.Reference12Ideal.defs _ _).mono (fun r h c => ?_) (Cert.Reference12Ideal.Value.run (F := Ideal) m' g')
  obtain ⟨e0, e1⟩ := hagree c
  obtain ⟨r0, k⟩ := h c
  refine ⟨(r0.trans (Cert.Reference12Ideal.Read.val_main_v7_eq _ _)).trans ?_, k⟩
  rw [e0, e1]
  exact (arr m c).symm

end Cert.MixOutWeight

end
-- ==== Proof.MixIn.lean ====
/- The input projection of the mixer. -/
module

public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Sums
public import Idealize.ShloMosaic.Lib.Pointwise
public import Idealize.ShloMosaic.Lib.Pipeline.ValueKit

@[expose] public section

noncomputable section

namespace Cert.MixIn

open Idealize.ShloMosaic Idealize.ShloMosaic.TcCoe Idealize.SL.Sem Finset Cert.Ffn
open Cert.Kernel13Ideal Cert.Kernel13Ideal.Gen

/-! ### The reference -/

/-- Term `k` of the product's entry at row `r` and column `j`. -/
def term (x0 : FVec Ideal Cert.Reference13Ideal.S2176x2048 .bf16) (x1 : FVec Ideal Cert.Reference13Ideal.S2048x5120 .bf16)
    (r : Fin 2176) (j : Fin 5120) (k : Fin 2048) : EReal :=
  x0 (ix2 r k) * x1 (ix2 k j)

section
variable (x0 : FVec Ideal Cert.Reference13Ideal.S2176x2048 .bf16) (x1 : FVec Ideal Cert.Reference13Ideal.S2048x5120 .bf16)

theorem ref_at (r : Fin 2176) (j : Fin 5120) :
    Cert.Reference13Ideal.Read.val_main_v2 (F := Ideal) x0 x1 (ix2 r j) = ∑ k, term x0 x1 r j k := by
  open Cert.Reference13Ideal.Read in
  pointwise [val_main_v2, val_main_v1, val_main_v0]
  rfl

end

/-! ### The cases of a point -/

section
variable (c : Dev nD) (i : grid0.Coords)
  (a3 : Memref sig .tc .vmem S1088x1024 .bf16) (h3 : a3.IsWhole)
  (a4 : Memref sig .tc .vmem S1024x1024 .bf16) (h4 : a4.IsWhole)
  (a5 : Memref sig .tc .vmem S1088x1024 .f32) (h5 : a5.IsWhole)
  (a6 : Memref sig .tc .vmem S1088x1024 .f32) (h6 : a6.IsWhole)
  (x0 : Vec Ideal S1088x1024 .bf16) (x1 : Vec Ideal S1024x1024 .bf16)
  (xs : Vec Ideal S1088x1024 .f32)

/-- The first point of a tile leaves in the scratch buffer zero plus its product. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1088x1024) hz, View.readCov_unit_zero (S := S1088x1024) _ hz]
  simp only [View.readAt_eq_ld, h3.read_unread, h4.read_unread,
    View.ld_unit_zero (S := S1088x1024) hz, View.ld_unit_zero (S := S1024x1024) hz]

/-- The last point adds its product and writes the tile. -/
theorem out_B_2 (hc0 : ¬cond0_0 i) (hc1 : cond0_1 i) :
    out0_B_2 c i a3 h3 a4 h4 a5 h5 a6 h6 hc0 hc1 x0 x1 xs = k0_pay2 xs x0 x1 := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero (S := S1088x1024) hz, View.readCov_unit_zero (S := S1088x1024) _ hz]
  simp only [View.readAt_eq_ld, h3.read_unread, h4.read_unread, h6.read_unread,
    View.ld_unit_zero (S := S1088x1024) hz, View.ld_unit_zero (S := S1024x1024) hz]

/-! ### What the payloads compute -/

theorem pay1_at (r : Fin 1088) (l : Fin 1024) : k0_pay1 (F := Ideal) (ix2 r l) = 0 := by
  unfold k0_pay1
  pointwise

theorem pay2_at (r : Fin 1088) (l : Fin 1024) :
    k0_pay2 (F := Ideal) xs x0 x1 (ix2 r l) = xs (ix2 r l) + ∑ k : Fin 1024, x0 (ix2 r k) * x1 (ix2 k l) := by
  unfold k0_pay2
  pointwise

end

/-! ### Tiles -/

variable (m : (ℓ : Loc nD τ sig) → Buf (Elt Ideal) ℓ) (c : Dev nD)

theorem lt_N (t : Fin cfg0.N) : t.val < 20 := lt_of_lt_of_eq t.isLt N_0

/-- Row `s` of the row tile of point `t`. -/
def row (t : Fin cfg0.N) (s : Fin 1088) : Fin 2176 := ⟨t.val / 10 * 1088 + s.val, by have := lt_N t; omega⟩

/-- Column `l` of the column tile of point `t`. -/
def col (t : Fin cfg0.N) (l : Fin 1024) : Fin 5120 := ⟨t.val / 2 % 5 * 1024 + l.val, by omega⟩

/-- Term `k` of the part of the sum point `t` takes. -/
def part (t : Fin cfg0.N) (k : Fin 1024) : Fin 2048 := ⟨t.val % 2 * 1024 + k.val, by omega⟩

theorem idx_0 : ∀ t : Fin cfg0.N, win0_0.index t (0 : Fin 2) = t.val / 10 ∧ win0_0.index t (1 : Fin 2) = t.val % 2 :=
  (by decide +kernel : ∀ t : Fin grid0.N, _)

theorem cut_0 (t : Fin cfg0.N) (s : Fin 1088) (k : Fin 1024) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 10 * 1088 + s.val
    blk_simp; rw [e0]; try omega
  · show (((cfg0.win 0).blk t).view.emb (ix2 s k) (1 : Fin 2)).val = t.val % 2 * 1024 + k.val
    blk_simp; rw [e1]; try omega

theorem idx_1 : ∀ t : Fin cfg0.N, win0_1.index t (0 : Fin 2) = t.val % 2 ∧ win0_1.index t (1 : Fin 2) = t.val / 2 % 5 :=
  (by decide +kernel : ∀ t : Fin grid0.N, _)

theorem cut_1 (t : Fin cfg0.N) (k : Fin 1024) (l : Fin 1024) :
    iblk m c 1 t (ix2 k l) = V m c main_arg1 (ix2 (part t k) (col t l)) := by
  obtain ⟨e0, e1⟩ := idx_1 t
  show V m c main_arg1 (((cfg0.win 1).blk t).view.emb (ix2 k l)) = _
  refine congrArg (V m c main_arg1) ?_
  funext a
  refine Fin.ext ?_
  fin_cases a
  · show (((cfg0.win 1).blk t).view.emb (ix2 k l) (0 : Fin 2)).val = t.val % 2 * 1024 + k.val
    blk_simp; rw [e0]; try omega
  · show (((cfg0.win 1).blk t).view.emb (ix2 k l) (1 : Fin 2)).val = t.val / 2 % 5 * 1024 + l.val
    blk_simp; rw [e1]; try omega

/-- The terms of one point, from its two blocks. -/
theorem terms (t : Fin cfg0.N) (s : Fin 1088) (l : Fin 1024) (k : Fin 1024) :
    @HMul.hMul EReal EReal EReal _ (iblk m c 0 t (ix2 s k)) (iblk m c 1 t (ix2 k l)) = term (V m c main_arg0) (V m c main_arg1) (row t s) (col t l) (part t k) := by
  rw [cut_0, cut_1]
  rfl

/-- The point before, in the same tile. -/
theorem prev_row (t : Fin cfg0.N) (h : t.val % 2 ≠ 0) (s : Fin 1088) : row ⟨t.val - 1, (Nat.lt_of_le_of_lt (Nat.sub_le _ _) t.isLt)⟩ s = row t s := Fin.ext (by
  show (t.val - 1) / 10 * 1088 + s.val = t.val / 10 * 1088 + s.val; omega)

theorem prev_col (t : Fin cfg0.N) (h : t.val % 2 ≠ 0) (l : Fin 1024) : col ⟨t.val - 1, (Nat.lt_of_le_of_lt (Nat.sub_le _ _) t.isLt)⟩ l = col t l := Fin.ext (by
  show (t.val - 1) / 2 % 5 * 1024 + l.val = t.val / 2 % 5 * 1024 + l.val; omega)

/-- After the first point of a tile the scratch buffer holds the first part of the sum. -/
theorem scratch_0 (t : Fin cfg0.N) (h : t.val % 2 = 0) (s : Fin 1088) (l : Fin 1024) :
    (outsAt0 m c t.val t.isLt).2 (ix2 s l) = ∑ k : Fin 1024, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 2 * 1024 + k.val = k.val
  omega

/-- At the last point the scratch buffer comes to hold the whole sum. -/
theorem whole (t : Fin cfg0.N) (h : t.val % 2 = 1) (s : Fin 1088) (l : Fin 1024) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_0 m c ⟨t.val - 1, (Nat.lt_of_le_of_lt (Nat.sub_le _ _) t.isLt)⟩ (by show (t.val - 1) % 2 = 0; omega) s l
  rw [prev_row t (by omega), prev_col t (by omega)] at e
  rw [← sum_halves]
  refine (pay2_at _ _ _ s l).trans (congrArg₂ (· + ·) e (sum_congr rfl fun k _ => (terms m c t s l k).trans (congrArg _ (Fin.ext ?_))))
  show t.val % 2 * 1024 + k.val = 1024 + k.val
  omega

theorem tile_2 (t : Fin cfg0.N) (h : t.val % 2 = 1) (s : Fin 1088) (l : Fin 1024) :
    (outsAt0 m c t.val t.isLt).1 (ix2 s l) = Cert.Reference13Ideal.Read.val_main_v2 (F := Ideal) (V m c main_arg0) (V m c main_arg1) (ix2 (row t s) (col t l)) := by
  simp only [outsAt0_B m c t (by omega) h]
  rw [out_B_2]
  exact (whole m c t h s l).trans (ref_at _ _ _ _).symm

theorem idx_2 : ∀ t : Fin cfg0.N, win0_2.index t (0 : Fin 2) = t.val / 10 ∧ win0_2.index t (1 : Fin 2) = t.val / 2 % 5 :=
  (by decide +kernel : ∀ t : Fin grid0.N, _)

theorem arr_2 : (dats m 0 c).arrAt 2 cfg0.N
    = Cert.Reference13Ideal.Read.val_main_v2 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 10 * 1088 + (y (0 : Fin 2)).val
      blk_simp; rw [e0]
    · show (((cfg0.win 2).blk t).view.emb y (1 : Fin 2)).val = t.val / 2 % 5 * 1024 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t.val t.isLt).1 hy).trans (tile_2 m c t ((flush0_2 t).mp hf) _ _)

/-! ### The two programs -/

theorem frame_reference : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

theorem equal_results : Cert.algebraic_Kernel13Ideal_Reference13Ideal := by
  intro m g m' g' hpre hagree
  refine ⟨fun c => (dats m 0 c).arrAt 2 cfg0.N,
    Cert.Kernel13Ideal.Value.run_blocks m g, ?_⟩
  refine (θ_run Cert.Reference13Ideal.defs _ _).mono (fun r h c => ?_) (Cert.Reference13Ideal.Value.run (F := Ideal) m' g')
  obtain ⟨e0, e1⟩ := hagree c
  obtain ⟨r0, k⟩ := h c
  refine ⟨(r0.trans (Cert.Reference13Ideal.Read.val_main_v2_eq _ _)).trans ?_, k⟩
  · rw [e0, e1]
    exact (arr_2 m c).symm

end Cert.MixIn

end
-- ==== Proof.MixBackIn.lean ====
/- The gradient of the mixer's normalised input through its projection. -/
module

public import proofs.«01_k».proof.Defs
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Sums
public import Idealize.ShloMosaic.Lib.Pointwise
public import Idealize.ShloMosaic.Lib.Pipeline.ValueKit

@[expose] public section

noncomputable section

namespace Cert.MixBackIn

open Idealize.ShloMosaic Idealize.ShloMosaic.TcCoe Idealize.SL.Sem Finset Cert.Ffn
open Cert.Kernel14Ideal Cert.Kernel14Ideal.Gen

/-! ### The reference -/

/-- Term `k` of the product's entry at row `r` and column `j`. -/
def term (x0 : FVec Ideal Cert.Reference14Ideal.S2176x5120 .bf16) (x1 : FVec Ideal Cert.Reference14Ideal.S2048x5120 .bf16)
    (r : Fin 2176) (j : Fin 2048) (k : Fin 5120) : EReal :=
  x0 (ix2 r k) * x1 (ix2 j k)

section
variable (x0 : FVec Ideal Cert.Reference14Ideal.S2176x5120 .bf16) (x1 : FVec Ideal Cert.Reference14Ideal.S2048x5120 .bf16)

theorem ref_at (r : Fin 2176) (j : Fin 2048) :
    Cert.Reference14Ideal.Read.val_main_v4 (F := Ideal) x0 x1 (ix2 r j) = ∑ k, term x0 x1 r j k := by
  open Cert.Reference14Ideal.Read in
  pointwise [val_main_v4, val_main_v3, val_main_v1]
  rfl

end

/-! ### The cases of a point -/

section
variable (c : Dev nD) (i : grid0.Coords)
  (a3 : Memref sig .tc .vmem S1088x1024 .bf16) (h3 : a3.IsWhole)
  (a4 : Memref sig .tc .vmem S1024x1024 .bf16) (h4 : a4.IsWhole)
  (a5 : Memref sig .tc .vmem S1088x1024 .f32) (h5 : a5.IsWhole)
  (a6 : Memref sig .tc .vmem S1088x1024 .f32) (h6 : a6.IsWhole)
  (x0 : Vec Ideal S1088x1024 .bf16) (x1 : Vec Ideal S1024x1024 .bf16)
  (xs : Vec Ideal S1088x1024 .f32)

/-- The first point of a tile leaves in the scratch buffer zero plus its product. -/
theorem sout_A (hc0 : cond0_0 i) (hc1 : ¬cond0_1 i) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1088x1024) hz, View.readCov_unit_zero (S := S1088x1024) _ hz]
  simp only [View.readAt_eq_ld, h3.read_unread, h4.read_unread,
    View.ld_unit_zero (S := S1088x1024) hz, View.ld_unit_zero (S := S1024x1024) hz]

/-- A middle point adds its product. -/
theorem sout_B (hc0 : ¬cond0_0 i) (hc1 : ¬cond0_1 i) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1088x1024) hz]
  simp only [View.readAt_eq_ld, h3.read_unread, h4.read_unread, h6.read_unread,
    View.ld_unit_zero (S := S1088x1024) hz, View.ld_unit_zero (S := S1024x1024) hz]

/-- The last point adds its product and writes the tile. -/
theorem out_C_2 (hc0 : ¬cond0_0 i) (hc1 : cond0_1 i) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1088x1024) hz, View.readCov_unit_zero (S := S1088x1024) _ hz]
  simp only [View.readAt_eq_ld, h3.read_unread, h4.read_unread, h6.read_unread,
    View.ld_unit_zero (S := S1088x1024) hz, View.ld_unit_zero (S := S1024x1024) hz]

/-! ### What the payloads compute -/

theorem pay1_at (r : Fin 1088) (l : Fin 1024) : k0_pay1 (F := Ideal) (ix2 r l) = 0 := by
  unfold k0_pay1
  pointwise

theorem pay2_at (r : Fin 1088) (l : Fin 1024) :
    k0_pay2 (F := Ideal) xs x0 x1 (ix2 r l) = xs (ix2 r l) + ∑ k : Fin 1024, x0 (ix2 r k) * x1 (ix2 l k) := by
  unfold k0_pay2
  pointwise

end

/-! ### Tiles -/

variable (m : (ℓ : Loc nD τ sig) → Buf (Elt Ideal) ℓ) (c : Dev nD)

theorem lt_N (t : Fin cfg0.N) : t.val < 20 := lt_of_lt_of_eq t.isLt N_0

/-- Row `s` of the row tile of point `t`. -/
def row (t : Fin cfg0.N) (s : Fin 1088) : Fin 2176 := ⟨t.val / 10 * 1088 + s.val, by have := lt_N t; omega⟩

/-- Column `l` of the column tile of point `t`. -/
def col (t : Fin cfg0.N) (l : Fin 1024) : Fin 2048 := ⟨t.val / 5 % 2 * 1024 + l.val, by omega⟩

/-- Term `k` of the part of the sum point `t` takes. -/
def part (t : Fin cfg0.N) (k : Fin 1024) : Fin 5120 := ⟨t.val % 5 * 1024 + k.val, by omega⟩

theorem idx_0 : ∀ t : Fin cfg0.N, win0_0.index t (0 : Fin 2) = t.val / 10 ∧ win0_0.index t (1 : Fin 2) = t.val % 5 :=
  (by decide +kernel : ∀ t : Fin grid0.N, _)

theorem cut_0 (t : Fin cfg0.N) (s : Fin 1088) (k : Fin 1024) :
    iblk m c 0 t (ix2 s k) = V m c main_arg0 (ix2 (row t s) (part t k)) := by
  obtain ⟨e0, e1⟩ := idx_0 t
  show V m c main_arg0 (((cfg0.win 0).blk t).view.emb (ix2 s k)) = _
  refine congrArg (V m c main_arg0) ?_
  funext a
  refine Fin.ext ?_
  fin_cases a
  · show (((cfg0.win 0).blk t).view.emb (ix2 s k) (0 : Fin 2)).val = t.val / 10 * 1088 + s.val
    blk_simp; rw [e0]; try omega
  · show (((cfg0.win 0).blk t).view.emb (ix2 s k) (1 : Fin 2)).val = t.val % 5 * 1024 + k.val
    blk_simp; rw [e1]; try omega

theorem idx_1 : ∀ t : Fin cfg0.N, win0_1.index t (0 : Fin 2) = t.val / 5 % 2 ∧ win0_1.index t (1 : Fin 2) = t.val % 5 :=
  (by decide +kernel : ∀ t : Fin grid0.N, _)

theorem cut_1 (t : Fin cfg0.N) (l : Fin 1024) (k : Fin 1024) :
    iblk m c 1 t (ix2 l k) = V m c main_arg1 (ix2 (col t l) (part t k)) := by
  obtain ⟨e0, e1⟩ := idx_1 t
  show V m c main_arg1 (((cfg0.win 1).blk t).view.emb (ix2 l k)) = _
  refine congrArg (V m c main_arg1) ?_
  funext a
  refine Fin.ext ?_
  fin_cases a
  · show (((cfg0.win 1).blk t).view.emb (ix2 l k) (0 : Fin 2)).val = t.val / 5 % 2 * 1024 + l.val
    blk_simp; rw [e0]; try omega
  · show (((cfg0.win 1).blk t).view.emb (ix2 l k) (1 : Fin 2)).val = t.val % 5 * 1024 + k.val
    blk_simp; rw [e1]; try omega

/-- The terms of one point, from its two blocks. -/
theorem terms (t : Fin cfg0.N) (s : Fin 1088) (l : Fin 1024) (k : Fin 1024) :
    @HMul.hMul EReal EReal EReal _ (iblk m c 0 t (ix2 s k)) (iblk m c 1 t (ix2 l k)) = term (V m c main_arg0) (V m c main_arg1) (row t s) (col t l) (part t k) := by
  rw [cut_0, cut_1]
  rfl

/-- The point before, in the same tile. -/
theorem prev_row (t : Fin cfg0.N) (h : t.val % 5 ≠ 0) (s : Fin 1088) : row ⟨t.val - 1, (Nat.lt_of_le_of_lt (Nat.sub_le _ _) t.isLt)⟩ s = row t s := Fin.ext (by
  show (t.val - 1) / 10 * 1088 + s.val = t.val / 10 * 1088 + s.val; omega)

theorem prev_col (t : Fin cfg0.N) (h : t.val % 5 ≠ 0) (l : Fin 1024) : col ⟨t.val - 1, (Nat.lt_of_le_of_lt (Nat.sub_le _ _) t.isLt)⟩ l = col t l := Fin.ext (by
  show (t.val - 1) / 5 % 2 * 1024 + l.val = t.val / 5 % 2 * 1024 + l.val; omega)

/-- After the first point of a tile the scratch buffer holds the first part of the sum. -/
theorem scratch_0 (t : Fin cfg0.N) (h : t.val % 5 = 0) (s : Fin 1088) (l : Fin 1024) :
    (outsAt0 m c t.val t.isLt).2 (ix2 s l) = ∑ k : Fin 1024, term (V m c main_arg0) (V m c main_arg1) (row t s) (col t l) ⟨k.val, by omega⟩ := by
  simp only [outsAt0_A m c t h (by omega)]
  rw [sout_A]
  refine (pay2_at _ _ _ s l).trans ?_
  rw [pay1_at, zero_add]
  refine sum_congr rfl fun k _ => (terms m c t s l k).trans (congrArg _ (Fin.ext ?_))
  show t.val % 5 * 1024 + k.val = k.val
  omega

theorem scratch_1 (t : Fin cfg0.N) (h : t.val % 5 = 1) (s : Fin 1088) (l : Fin 1024) :
    (outsAt0 m c t.val t.isLt).2 (ix2 s l) = ((∑ k : Fin 1024, term (V m c main_arg0) (V m c main_arg1) (row t s) (col t l) ⟨k.val, by omega⟩) + ∑ k : Fin 1024, term (V m c main_arg0) (V m c main_arg1) (row t s) (col t l) ⟨1024 + k.val, by omega⟩) := by
  have e := scratch_0 m c ⟨t.val - 1, (Nat.lt_of_le_of_lt (Nat.sub_le _ _) t.isLt)⟩ (by show (t.val - 1) % 5 = 0; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 5 * 1024 + k.val = 1024 + k.val
  omega

theorem scratch_2 (t : Fin cfg0.N) (h : t.val % 5 = 2) (s : Fin 1088) (l : Fin 1024) :
    (outsAt0 m c t.val t.isLt).2 (ix2 s l) = (((∑ k : Fin 1024, term (V m c main_arg0) (V m c main_arg1) (row t s) (col t l) ⟨k.val, by omega⟩) + ∑ k : Fin 1024, term (V m c main_arg0) (V m c main_arg1) (row t s) (col t l) ⟨1024 + k.val, by omega⟩) + ∑ k : Fin 1024, term (V m c main_arg0) (V m c main_arg1) (row t s) (col t l) ⟨2048 + k.val, by omega⟩) := by
  have e := scratch_1 m c ⟨t.val - 1, (Nat.lt_of_le_of_lt (Nat.sub_le _ _) t.isLt)⟩ (by show (t.val - 1) % 5 = 1; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 5 * 1024 + k.val = 2048 + k.val
  omega

theorem scratch_3 (t : Fin cfg0.N) (h : t.val % 5 = 3) (s : Fin 1088) (l : Fin 1024) :
    (outsAt0 m c t.val t.isLt).2 (ix2 s l) = ((((∑ k : Fin 1024, term (V m c main_arg0) (V m c main_arg1) (row t s) (col t l) ⟨k.val, by omega⟩) + ∑ k : Fin 1024, term (V m c main_arg0) (V m c main_arg1) (row t s) (col t l) ⟨1024 + k.val, by omega⟩) + ∑ k : Fin 1024, term (V m c main_arg0) (V m c main_arg1) (row t s) (col t l) ⟨2048 + k.val, by omega⟩) + ∑ k : Fin 1024, term (V m c main_arg0) (V m c main_arg1) (row t s) (col t l) ⟨3072 + k.val, by omega⟩) := by
  have e := scratch_2 m c ⟨t.val - 1, (Nat.lt_of_le_of_lt (Nat.sub_le _ _) t.isLt)⟩ (by show (t.val - 1) % 5 = 2; omega) s l
  rw [prev_row t (by omega), prev_col t (by omega)] at e
  simp only [outsAt0_B m c t (by omega) (by omega)]
  rw [sout_B]
  refine (pay2_at _ _ _ s l).trans (congrArg₂ (· + ·) e (sum_congr rfl fun k _ => (terms m c t s l k).trans (congrArg _ (Fin.ext ?_))))
  show t.val % 5 * 1024 + k.val = 3072 + k.val
  omega

/-- At the last point the scratch buffer comes to hold the whole sum. -/
theorem whole (t : Fin cfg0.N) (h : t.val % 5 = 4) (s : Fin 1088) (l : Fin 1024) :
    k0_pay2 (F := Ideal) (outsAt0 m c (t.val - 1) (Nat.lt_of_le_of_lt (Nat.sub_le _ _) t.isLt)).2 (iblk m c 0 t) (iblk m c 1 t) (ix2 s l)
      = ∑ k, term (V m c main_arg0) (V m c main_arg1) (row t s) (col t l) k := by
  have e := scratch_3 m c ⟨t.val - 1, (Nat.lt_of_le_of_lt (Nat.sub_le _ _) t.isLt)⟩ (by show (t.val - 1) % 5 = 3; omega) s l
  rw [prev_row t (by omega), prev_col t (by omega)] at e
  rw [← sum_fifths]
  refine (pay2_at _ _ _ s l).trans (congrArg₂ (· + ·) e (sum_congr rfl fun k _ => (terms m c t s l k).trans (congrArg _ (Fin.ext ?_))))
  show t.val % 5 * 1024 + k.val = 4096 + k.val
  omega

theorem tile_2 (t : Fin cfg0.N) (h : t.val % 5 = 4) (s : Fin 1088) (l : Fin 1024) :
    (outsAt0 m c t.val t.isLt).1 (ix2 s l) = Cert.Reference14Ideal.Read.val_main_v4 (F := Ideal) (V m c main_arg0) (V m c main_arg1) (ix2 (row t s) (col t l)) := by
  simp only [outsAt0_C m c t (by omega) h]
  rw [out_C_2]
  exact (whole m c t h s l).trans (ref_at _ _ _ _).symm

theorem idx_2 : ∀ t : Fin cfg0.N, win0_2.index t (0 : Fin 2) = t.val / 10 ∧ win0_2.index t (1 : Fin 2) = t.val / 5 % 2 :=
  (by decide +kernel : ∀ t : Fin grid0.N, _)

theorem arr_2 : (dats m 0 c).arrAt 2 cfg0.N
    = Cert.Reference14Ideal.Read.val_main_v4 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 10 * 1088 + (y (0 : Fin 2)).val
      blk_simp; rw [e0]
    · show (((cfg0.win 2).blk t).view.emb y (1 : Fin 2)).val = t.val / 5 % 2 * 1024 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t.val t.isLt).1 hy).trans (tile_2 m c t ((flush0_2 t).mp hf) _ _)

/-! ### The two programs -/

theorem frame_reference : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

theorem equal_results : Cert.algebraic_Kernel14Ideal_Reference14Ideal := by
  intro m g m' g' hpre hagree
  refine ⟨fun c => (dats m 0 c).arrAt 2 cfg0.N,
    Cert.Kernel14Ideal.Value.run_blocks m g, ?_⟩
  refine (θ_run Cert.Reference14Ideal.defs _ _).mono (fun r h c => ?_) (Cert.Reference14Ideal.Value.run (F := Ideal) m' g')
  obtain ⟨e0, e1⟩ := hagree c
  obtain ⟨r0, k⟩ := h c
  refine ⟨(r0.trans (Cert.Reference14Ideal.Read.val_main_v4_eq _ _)).trans ?_, k⟩
  · rw [e0, e1]
    exact (arr_2 m c).symm

end Cert.MixBackIn

end
-- ==== Proof.MixInWeight.lean ====
/- The gradient of the input projection: the product of the transposed normalised input and the projection's gradient. -/
module

public import proofs.«01_k».proof.Defs
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Sums
public import Idealize.ShloMosaic.Lib.Pointwise
public import Idealize.ShloMosaic.Lib.Pipeline.ValueKit

@[expose] public section

noncomputable section

namespace Cert.MixInWeight

open Idealize.ShloMosaic Idealize.ShloMosaic.TcCoe Idealize.SL.Sem Finset Cert.Ffn

/-- The reference's entry: the sum over the rows. -/
theorem ref_at (x0 : FVec Ideal Cert.Reference15Ideal.S2176x2048 .bf16) (x1 : FVec Ideal Cert.Reference15Ideal.S2176x5120 .bf16)
    (r : Fin 2048) (l : Fin 5120) :
    Cert.Reference15Ideal.Read.val_main_v7 (F := Ideal) x0 x1 (ix2 r l) = ∑ k : Fin 2176, x0 (ix2 k r) * x1 (ix2 k l) := by
  open Cert.Reference15Ideal.Read in
  pointwise [val_main_v7, val_main_v6, val_main_v5, val_main_v4, val_main_v1]
  exact sum_congr rfl fun k _ => mul_comm (x1 _) (x0 _)

open Cert.Kernel15Ideal Cert.Kernel15Ideal.Gen

section
variable (c : Dev nD) (i : grid0.Coords)
  (a3 : Memref sig .tc .vmem S2176x1024 .bf16) (h3 : a3.IsWhole)
  (a4 : Memref sig .tc .vmem S2176x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S2176x1024 .bf16) (x1 : Vec Ideal S2176x1024 .bf16)

/-- A point writes the product of its two blocks. -/
theorem out_A (hc0 : cond0_0 i) (hc1 : cond0_1 i) :
    out0_A_2 c i a3 h3 a4 h4 a5 h5 a6 h6 hc0 hc1 x0 x1 = k0_pay3 (k0_pay2 k0_pay1 x0 x1) := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero (S := S1024x1024) hz]
  rw [View.readCov_cons_unit_lit' (S := S1024x1024) _ _ _ _ _ hz' hz', View.readCov_unit_zero (S := S1024x1024) _ hz]
  simp only [View.readAt_eq_ld, h3.read_unread, h4.read_unread, View.ld_unit_zero (S := S2176x1024) hz,
    View.ld_unit_zero (S := S2176x1024) hz]

theorem pay_at (r : Fin 1024) (l : Fin 1024) :
    k0_pay3 (F := Ideal) (k0_pay2 k0_pay1 x0 x1) (ix2 r l)
      = ∑ k : Fin 2176, x0 (ix2 k r) * x1 (ix2 k l) := by
  unfold k0_pay3 k0_pay2 k0_pay1
  pointwise

end

variable (m : (ℓ : Loc nD τ sig) → Buf (Elt Ideal) ℓ) (c : Dev nD)

theorem lt_N (t : Fin cfg0.N) : t.val < 10 := lt_of_lt_of_eq t.isLt N_0

/-- Row `s` of the row tile of point `t`. -/
def row (t : Fin cfg0.N) (s : Fin 1024) : Fin 2048 := ⟨t.val / 5 * 1024 + s.val, by have := lt_N t; omega⟩

/-- Column `l` of the column tile of point `t`. -/
def col (t : Fin cfg0.N) (l : Fin 1024) : Fin 5120 := ⟨t.val % 5 * 1024 + l.val, by omega⟩

theorem idx_0 : ∀ t : Fin cfg0.N, win0_0.index t (0 : Fin 2) = 0 ∧ win0_0.index t (1 : Fin 2) = t.val / 5 :=
  (by decide +kernel : ∀ t : Fin grid0.N, _)

theorem cut_0 (t : Fin cfg0.N) (k : Fin 2176) (s : Fin 1024) :
    iblk m c 0 t (ix2 k s) = V m c main_arg0 (ix2 k (row t s)) := by
  obtain ⟨e0, e1⟩ := idx_0 t
  show V m c main_arg0 (((cfg0.win 0).blk t).view.emb (ix2 k s)) = _
  refine congrArg (V m c main_arg0) ?_
  funext a
  refine Fin.ext ?_
  fin_cases a
  · show (((cfg0.win 0).blk t).view.emb (ix2 k s) (0 : Fin 2)).val = k.val
    blk_simp; rw [e0]; omega
  · show (((cfg0.win 0).blk t).view.emb (ix2 k s) (1 : Fin 2)).val = t.val / 5 * 1024 + s.val
    blk_simp; rw [e1]

theorem idx_1 : ∀ t : Fin cfg0.N, win0_1.index t (0 : Fin 2) = 0 ∧ win0_1.index t (1 : Fin 2) = t.val % 5 :=
  (by decide +kernel : ∀ t : Fin grid0.N, _)

theorem cut_1 (t : Fin cfg0.N) (k : Fin 2176) (l : Fin 1024) :
    iblk m c 1 t (ix2 k l) = V m c main_arg1 (ix2 k (col t l)) := by
  obtain ⟨e0, e1⟩ := idx_1 t
  show V m c main_arg1 (((cfg0.win 1).blk t).view.emb (ix2 k l)) = _
  refine congrArg (V m c main_arg1) ?_
  funext a
  refine Fin.ext ?_
  fin_cases a
  · show (((cfg0.win 1).blk t).view.emb (ix2 k l) (0 : Fin 2)).val = k.val
    blk_simp; rw [e0]; omega
  · show (((cfg0.win 1).blk t).view.emb (ix2 k l) (1 : Fin 2)).val = t.val % 5 * 1024 + l.val
    blk_simp; rw [e1]

theorem tile (t : Fin cfg0.N) (s : Fin 1024) (l : Fin 1024) :
    outsAt0 m c t (ix2 s l) = Cert.Reference15Ideal.Read.val_main_v7 (F := Ideal) (V m c main_arg0) (V m c main_arg1) (ix2 (row t s) (col t l)) := by
  unfold outsAt0
  rw [out_A]
  refine (pay_at _ _ s l).trans ?_
  rw [ref_at]
  refine sum_congr rfl fun k _ => ?_
  rw [cut_0, cut_1]

theorem idx_2 : ∀ t : Fin cfg0.N, win0_2.index t (0 : Fin 2) = t.val / 5 ∧ win0_2.index t (1 : Fin 2) = t.val % 5 :=
  (by decide +kernel : ∀ t : Fin grid0.N, _)

theorem arr : (dats m 0 c).arrAt 2 cfg0.N
    = Cert.Reference15Ideal.Read.val_main_v7 (F := Ideal) (V m c main_arg0) (V m c main_arg1) := by
  refine (dats m 0 c).arrAt_eq_of_covers 2 _ (by decide +kernel) fun t hf y => ?_
  obtain ⟨e0, e1⟩ := idx_2 t
  have he : ((cfg0.win 2).blk t).view.emb y = ix2 (row t (y (0 : Fin 2))) (col t (y (1 : Fin 2))) := by
    funext a
    refine Fin.ext ?_
    fin_cases a
    · show (((cfg0.win 2).blk t).view.emb y (0 : Fin 2)).val = t.val / 5 * 1024 + (y (0 : Fin 2)).val
      blk_simp; rw [e0]
    · show (((cfg0.win 2).blk t).view.emb y (1 : Fin 2)).val = t.val % 5 * 1024 + (y (1 : Fin 2)).val
      blk_simp; rw [e1]
  have hy : y = ix2 (y (0 : Fin 2)) (y (1 : Fin 2)) := by funext a; fin_cases a <;> rfl
  show (dats m 0 c).after 2 t y = _
  rw [after0_2, he]
  exact (congrArg (outsAt0 m c t) hy).trans (tile m c t _ _)

theorem frame_reference : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

theorem equal_results : Cert.algebraic_Kernel15Ideal_Reference15Ideal := by
  intro m g m' g' hpre hagree
  refine ⟨fun c => (Cert.Kernel15Ideal.Gen.dats m 0 c).arrAt 2 Cert.Kernel15Ideal.cfg0.N,
    Cert.Kernel15Ideal.Value.run_blocks m g, ?_⟩
  refine (θ_run Cert.Reference15Ideal.defs _ _).mono (fun r h c => ?_) (Cert.Reference15Ideal.Value.run (F := Ideal) m' g')
  obtain ⟨e0, e1⟩ := hagree c
  obtain ⟨r0, k⟩ := h c
  refine ⟨(r0.trans (Cert.Reference15Ideal.Read.val_main_v7_eq _ _)).trans ?_, k⟩
  rw [e0, e1]
  exact (arr m c).symm

end Cert.MixInWeight

end
-- ==== Proof.lean ====
/-
  The gradient of the forgetting attention's call: the frames of the kernel, of its ideal and of the reference, the ideal's
  named constant, and the equality of the six results over the real numbers. The last theorem adds the claims about the
  products of the SwiGLU networks and of the mixer, which have modules of their own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Pre
public import proofs.«01_k».proof.Proof.RefC
public import proofs.«01_k».proof.Proof.Stage
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Pre_finite2
public import proofs.«01_k».proof.Proof.SwigluClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9Ideal.Value
public import proofs.«01_k».proof.Proof.FfnWeights
public import proofs.«01_k».proof.Proof.FfnDown
public import proofs.«01_k».proof.Proof.FfnUp
public import proofs.«01_k».proof.Proof.FfnGate
public import proofs.«01_k».proof.Proof.FfnOut
public import proofs.«01_k».proof.Proof.FfnBackGate
public import proofs.«01_k».proof.Proof.FfnBackUp
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10Ideal.Value
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel11Ideal.Value
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel12Ideal.Value
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel13Ideal.Value
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel14Ideal.Value
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel15Ideal.Value
public import proofs.«01_k».proof.Proof.MixOut
public import proofs.«01_k».proof.Proof.MixBackOut
public import proofs.«01_k».proof.Proof.MixOutWeight
public import proofs.«01_k».proof.Proof.MixIn
public import proofs.«01_k».proof.Proof.MixBackIn
public import proofs.«01_k».proof.Proof.MixInWeight
public import Idealize.ShloMosaic.Adequacy
public import Idealize.ShloMosaic.Init

@[expose] public section

noncomputable section

namespace Cert.Proof

open Idealize.ShloMosaic Idealize.SL.Sem

/-! ### The frames -/

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-! ### The results -/

section
variable {m : (ℓ : Loc Cert.KernelIdeal.nD Cert.KernelIdeal.τ Cert.KernelIdeal.sig) → Buf (Elt Ideal) ℓ}
  {c : Dev Cert.KernelIdeal.nD} {I : Cert.Fox.Inputs}
  {x0 : FVec Ideal Cert.ReferenceIdeal.S2176x5120 .f32} {x1 : FVec Ideal Cert.ReferenceIdeal.S2176x16 .f32}
  {x2 x3 : FVec Ideal Cert.ReferenceIdeal.S64 .f32} {x4 : FVec Ideal Cert.ReferenceIdeal.S2064x1024 .f32}

open Cert.Fox Cert.KernelIdeal Cert.KernelIdeal.Gen Cert.ReferenceIdeal.Read

theorem same_0 (H : Ref.Holds I x0 x1 x2 x3 x4) (HB : Ker.Stage m I (Ker.lses I) c) :
    val_main_v166 (F := Ideal) x0 x1 x2 x3 x4 = (dats m 0 c).arrAt 11 cfg0.N := by
  funext i
  obtain ⟨t, j, rfl⟩ : ∃ (t : Fin 2176) (j : Fin 1024), i = ix2 t j :=
    ⟨i 0, i 1, by funext a; fin_cases a <;> rfl⟩
  exact (Ref.v166 H t j).trans (Ker.arr_11 HB t j).symm

theorem same_1 (H : Ref.Holds I x0 x1 x2 x3 x4) (HB : Ker.Stage m I (Ker.lses I) c) :
    val_main_v145 (F := Ideal) x0 x1 x2 x3 x4 = (dats m 0 c).arrAt 12 cfg0.N := by
  funext i
  obtain ⟨t, j, rfl⟩ : ∃ (t : Fin 2176) (j : Fin 1024), i = ix2 t j :=
    ⟨i 0, i 1, by funext a; fin_cases a <;> rfl⟩
  exact (Ref.v145 H t j).trans (Ker.arr_12 HB t j).symm

theorem same_2 (H : Ref.Holds I x0 x1 x2 x3 x4) (HB : Ker.Stage m I (Ker.lses I) c) :
    val_main_v167 (F := Ideal) x0 x1 x2 x3 x4 = (dats m 0 c).arrAt 13 cfg0.N := by
  funext i
  obtain ⟨t, j, rfl⟩ : ∃ (t : Fin 2176) (j : Fin 1024), i = ix2 t j :=
    ⟨i 0, i 1, by funext a; fin_cases a <;> rfl⟩
  exact (Ref.v167 H t j).trans (Ker.arr_13 HB t j).symm

theorem same_3 (H : Ref.Holds I x0 x1 x2 x3 x4) (HB : Ker.Stage m I (Ker.lses I) c) :
    val_main_v171 (F := Ideal) x0 x1 x2 x3 x4 = (dats m 0 c).arrAt 14 cfg0.N := by
  funext i
  obtain ⟨j, r, k, rfl⟩ : ∃ (j r : Fin 8) (k : Fin 2176), i = ix3 j r k :=
    ⟨i 0, i 1, i 2, by funext a; fin_cases a <;> rfl⟩
  exact (Ref.v171 H j r k).trans (Ker.arr_14 HB j r k).symm

theorem same_4 (H : Ref.Holds I x0 x1 x2 x3 x4) (HB : Ker.Stage m I (Ker.lses I) c) :
    val_main_v175 (F := Ideal) x0 x1 x2 x3 x4 = (dats m 0 c).arrAt 15 cfg0.N := by
  funext i
  obtain ⟨l, rfl⟩ : ∃ l : Fin 128, i = ix2 0 l :=
    ⟨i 1, by funext a; fin_cases a <;> first | rfl | exact Subsingleton.elim (α := Fin 1) _ _⟩
  exact (Ref.v175 H l).trans (Ker.arr_15 HB l).symm

theorem same_5 (H : Ref.Holds I x0 x1 x2 x3 x4) (HB : Ker.Stage m I (Ker.lses I) c) :
    val_main_v179 (F := Ideal) x0 x1 x2 x3 x4 = (dats m 0 c).arrAt 16 cfg0.N := by
  funext i
  obtain ⟨l, rfl⟩ : ∃ l : Fin 128, i = ix2 0 l :=
    ⟨i 1, by funext a; fin_cases a <;> first | rfl | exact Subsingleton.elim (α := Fin 1) _ _⟩
  exact (Ref.v179 H l).trans (Ker.arr_16 HB l).symm

end

/-- The reference's run, each result at its stage of the arguments. -/
theorem run_reference (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v166) = Cert.ReferenceIdeal.Read.val_main_v166 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v145) = Cert.ReferenceIdeal.Read.val_main_v145 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v167) = Cert.ReferenceIdeal.Read.val_main_v167 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v171) = Cert.ReferenceIdeal.Read.val_main_v171 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v175) = Cert.ReferenceIdeal.Read.val_main_v175 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v179) = Cert.ReferenceIdeal.Read.val_main_v179 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun _ h c =>
    ⟨(h c).1.trans (Cert.ReferenceIdeal.Read.val_main_v166_eq (StableHlo.launchContents m' c)),
      (h c).2.1.trans (Cert.ReferenceIdeal.Read.val_main_v145_eq (StableHlo.launchContents m' c)),
      (h c).2.2.1.trans (Cert.ReferenceIdeal.Read.val_main_v167_eq (StableHlo.launchContents m' c)),
      (h c).2.2.2.1.trans (Cert.ReferenceIdeal.Read.val_main_v171_eq (StableHlo.launchContents m' c)),
      (h c).2.2.2.2.1.trans (Cert.ReferenceIdeal.Read.val_main_v175_eq (StableHlo.launchContents m' c)),
      (h c).2.2.2.2.2.1.trans (Cert.ReferenceIdeal.Read.val_main_v179_eq (StableHlo.launchContents m' c)), (h c).2.2.2.2.2.2⟩)
    (Cert.ReferenceIdeal.Value.run (F := Ideal) m' g')

/-- The arguments of a finite memory hold real numbers. -/
theorem holds_of_pre [Cert.Pre_finite.Facts] (m : (ℓ : Loc Cert.KernelIdeal.nD Cert.KernelIdeal.τ Cert.KernelIdeal.sig) → Buf (Elt Ideal) ℓ)
    (hpre : Cert.Pre_KernelIdeal_finite m) (c : Dev Cert.KernelIdeal.nD) : ∃ I, Cert.Fox.Ref.Holds I (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  obtain ⟨p0, p1, p2, p3, p4⟩ := hpre c
  exact ⟨_, Cert.Fox.holds_of_finite _ _ _ _ _ p0 p1 p2 p3 p4⟩

set_option maxHeartbeats 2000000 in
theorem equal_results [Cert.Pre_finite.Facts] : Cert.algebraic_KernelIdeal_ReferenceIdeal_pre_finite := by
  intro m g m' g' hpre hagree
  refine ⟨fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    Cert.KernelIdeal.Value.run_blocks m g, ?_⟩
  refine (θ_run Cert.ReferenceIdeal.defs _ _).mono (fun r h c => ?_) (run_reference m' g')
  obtain ⟨I, H⟩ := holds_of_pre m hpre c
  have HB := Cert.Fox.Ker.stage (m := m) (c := c) H
  obtain ⟨e0, e1, e2, e3, e4⟩ := hagree c
  rw [← e0, ← e1, ← e2, ← e3, ← e4] at H
  obtain ⟨r0, r1, r2, r3, r4, r5, k⟩ := h c
  exact ⟨r0.trans (same_0 H HB), r1.trans (same_1 H HB), r2.trans (same_2 H HB), r3.trans (same_3 H HB),
    r4.trans (same_4 H HB), r5.trans (same_5 H HB), k⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Fox.preFacts, Cert.Pre_finite2.Gen.facts,
    frame_kernel, frame_kernelIdeal, fun m ρ _ => Cert.KernelIdeal.Gen.frame m ρ, frame_referenceIdeal,
    fun m ρ _ => frame_referenceIdeal m ρ trivial,
    fun m ρ _ => Cert.Kernel2.Gen.frame m ρ, fun m ρ _ => Cert.Kernel2Ideal.Gen.frame m ρ, fun m ρ _ => Cert.Kernel2Ideal.Gen.frame m ρ,
    Cert.Swiglu.frame_reference, fun m ρ _ => Cert.Swiglu.frame_reference m ρ trivial,
    fun m ρ _ => Cert.Kernel3.Gen.frame m ρ, fun m ρ _ => Cert.Kernel3Ideal.Gen.frame m ρ, Cert.FfnWeights.frame_reference,
    fun m ρ _ => Cert.Kernel4.Gen.frame m ρ, fun m ρ _ => Cert.Kernel4Ideal.Gen.frame m ρ, Cert.FfnDown.frame_reference,
    fun m ρ _ => Cert.Kernel5.Gen.frame m ρ, fun m ρ _ => Cert.Kernel5Ideal.Gen.frame m ρ, Cert.FfnUp.frame_reference,
    fun m ρ _ => Cert.Kernel6.Gen.frame m ρ, fun m ρ _ => Cert.Kernel6Ideal.Gen.frame m ρ, Cert.FfnGate.frame_reference,
    fun m ρ _ => Cert.Kernel7.Gen.frame m ρ, fun m ρ _ => Cert.Kernel7Ideal.Gen.frame m ρ, Cert.FfnOut.frame_reference,
    fun m ρ _ => Cert.Kernel8.Gen.frame m ρ, fun m ρ _ => Cert.Kernel8Ideal.Gen.frame m ρ, Cert.FfnBackGate.frame_reference,
    fun m ρ _ => Cert.Kernel9.Gen.frame m ρ, fun m ρ _ => Cert.Kernel9Ideal.Gen.frame m ρ, Cert.FfnBackUp.frame_reference,
    fun m ρ _ => Cert.Kernel10.Gen.frame m ρ, fun m ρ _ => Cert.Kernel10Ideal.Gen.frame m ρ, Cert.MixOut.frame_reference,
    fun m ρ _ => Cert.Kernel11.Gen.frame m ρ, fun m ρ _ => Cert.Kernel11Ideal.Gen.frame m ρ, Cert.MixBackOut.frame_reference,
    fun m ρ _ => Cert.Kernel12.Gen.frame m ρ, fun m ρ _ => Cert.Kernel12Ideal.Gen.frame m ρ, Cert.MixOutWeight.frame_reference,
    fun m ρ _ => Cert.Kernel13.Gen.frame m ρ, fun m ρ _ => Cert.Kernel13Ideal.Gen.frame m ρ, Cert.MixIn.frame_reference,
    fun m ρ _ => Cert.Kernel14.Gen.frame m ρ, fun m ρ _ => Cert.Kernel14Ideal.Gen.frame m ρ, Cert.MixBackIn.frame_reference,
    fun m ρ _ => Cert.Kernel15.Gen.frame m ρ, fun m ρ _ => Cert.Kernel15Ideal.Gen.frame m ρ, Cert.MixInWeight.frame_reference,
    IdealRules.named_const.statement Cert.KernelIdeal.κ "mask" .f32 0xF149F2CA#32 ⊥ rfl, @equal_results Cert.Fox.preFacts,
    trivial, Cert.Swiglu.equal_results,
    trivial, Cert.FfnWeights.equal_results,
    trivial, Cert.FfnDown.equal_results,
    trivial, Cert.FfnUp.equal_results,
    trivial, Cert.FfnGate.equal_results,
    trivial, Cert.FfnOut.equal_results,
    trivial, Cert.FfnBackGate.equal_results,
    trivial, Cert.FfnBackUp.equal_results,
    trivial, Cert.MixOut.equal_results,
    trivial, Cert.MixBackOut.equal_results,
    trivial, Cert.MixOutWeight.equal_results,
    trivial, Cert.MixIn.equal_results,
    trivial, Cert.MixBackIn.equal_results,
    trivial, Cert.MixInWeight.equal_results⟩

end Cert.Proof

end
